-- ==== Defs.lean ====
def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActIdeal_act_finite [hPre_act_finite : Cert.Pre_act_finite.Facts] (m : (ℓ : Loc Cert.ActIdeal.nD Cert.ActIdeal.τ Cert.ActIdeal.sig) → Buf (Elt Ideal) ℓ) : Prop :=
  ∀ c : Dev Cert.ActIdeal.nD,
    (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.1 = (fun _ => 1#1)
    ∧ (Cert.Pre_act_finite.fn (F := Ideal) (m ((c.tc : Thread Cert.ActIdeal.nD Cert.ActIdeal.τ).loc Cert.ActIdeal.main_arg0)) (m ((c.tc : Thread Cert.ActIdeal.nD Cert.ActIdeal.τ).loc Cert.ActIdeal.main_arg1)) (m ((c.tc : Thread Cert.ActIdeal.nD Cert.ActIdeal.τ).loc Cert.ActIdeal.main_arg2)) (m ((c.tc : Thread Cert.ActIdeal.nD Cert.ActIdeal.τ).loc Cert.ActIdeal.main_arg3))).2.2.2 = (fun _ => 1#1)

def Pre_ActRefIdeal (m : (ℓ : Loc Cert.ActRefIdeal.nD Cert.ActRefIdeal.τ Cert.ActRefIdeal.sig) → Buf (Elt Ideal) ℓ) : Prop :=
  True

def Pre_ActRefIdeal_act_finite [hPre_act_finite : Cert.Pre_act_finite.Facts] (m : (ℓ : Loc Cert.ActRefIdeal.nD Cert.ActRefIdeal.τ Cert.ActRefIdeal.sig) → Buf (Elt Ideal) ℓ) : Prop :=
  ∀ c : Dev Cert.ActRefIdeal.nD,
    (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.1 = (fun _ => 1#1)
    ∧ (Cert.Pre_act_finite.fn (F := Ideal) (m ((c.tc : Thread Cert.ActRefIdeal.nD Cert.ActRefIdeal.τ).loc Cert.ActRefIdeal.main_arg0)) (m ((c.tc : Thread Cert.ActRefIdeal.nD Cert.ActRefIdeal.τ).loc Cert.ActRefIdeal.main_arg1)) (m ((c.tc : Thread Cert.ActRefIdeal.nD Cert.ActRefIdeal.τ).loc Cert.ActRefIdeal.main_arg2)) (m ((c.tc : Thread Cert.ActRefIdeal.nD Cert.ActRefIdeal.τ).loc Cert.ActRefIdeal.main_arg3))).2.2.2 = (fun _ => 1#1)

def Pre_Wgrad (m : (ℓ : Loc Cert.Wgrad.nD Cert.Wgrad.τ Cert.Wgrad.sig) → Buf (Elt Bits) ℓ) : Prop :=
  True

def Pre_WgradIdeal (m : (ℓ : Loc Cert.WgradIdeal.nD Cert.WgradIdeal.τ Cert.WgradIdeal.sig) → Buf (Elt Ideal) ℓ) : Prop :=
  True

def Pre_WgradRefIdeal (m : (ℓ : Loc Cert.WgradRefIdeal.nD Cert.WgradRefIdeal.τ Cert.WgradRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdIdeal_pre_finite [hPre_pre_finite : Cert.Pre_pre_finite.Facts] (m : (ℓ : Loc Cert.NormBwdIdeal.nD Cert.NormBwdIdeal.τ Cert.NormBwdIdeal.sig) → Buf (Elt Ideal) ℓ) : Prop :=
  ∀ c : Dev Cert.NormBwdIdeal.nD,
    (Cert.Pre_pre_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).1 = (fun _ => 1#1)
    ∧ (Cert.Pre_pre_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.1 = (fun _ => 1#1)
    ∧ (Cert.Pre_pre_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.1 = (fun _ => 1#1)
    ∧ (Cert.Pre_pre_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.1 = (fun _ => 1#1)
    ∧ (Cert.Pre_pre_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.2.1 = (fun _ => 1#1)
    ∧ (Cert.Pre_pre_finite.fn (F := Ideal) (m ((c.tc : Thread Cert.NormBwdIdeal.nD Cert.NormBwdIdeal.τ).loc Cert.NormBwdIdeal.main_arg0)) (m ((c.tc : Thread Cert.NormBwdIdeal.nD Cert.NormBwdIdeal.τ).loc Cert.NormBwdIdeal.main_arg1)) (m ((c.tc : Thread Cert.NormBwdIdeal.nD Cert.NormBwdIdeal.τ).loc Cert.NormBwdIdeal.main_arg2)) (m ((c.tc : Thread Cert.NormBwdIdeal.nD Cert.NormBwdIdeal.τ).loc Cert.NormBwdIdeal.main_arg3)) (m ((c.tc : Thread Cert.NormBwdIdeal.nD Cert.NormBwdIdeal.τ).loc Cert.NormBwdIdeal.main_arg4)) (m ((c.tc : Thread Cert.NormBwdIdeal.nD Cert.NormBwdIdeal.τ).loc Cert.NormBwdIdeal.main_arg5))).2.2.2.2.2 = (fun _ => 1#1)

def Pre_NormBwdRefIdeal (m : (ℓ : Loc Cert.NormBwdRefIdeal.nD Cert.NormBwdRefIdeal.τ Cert.NormBwdRefIdeal.sig) → Buf (Elt Ideal) ℓ) : Prop :=
  True

def Pre_NormBwdRefIdeal_pre_finite [hPre_pre_finite : Cert.Pre_pre_finite.Facts] (m : (ℓ : Loc Cert.NormBwdRefIdeal.nD Cert.NormBwdRefIdeal.τ Cert.NormBwdRefIdeal.sig) → Buf (Elt Ideal) ℓ) : Prop :=
  ∀ c : Dev Cert.NormBwdRefIdeal.nD,
    (Cert.Pre_pre_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).1 = (fun _ => 1#1)
    ∧ (Cert.Pre_pre_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.1 = (fun _ => 1#1)
    ∧ (Cert.Pre_pre_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.1 = (fun _ => 1#1)
    ∧ (Cert.Pre_pre_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.2.1 = (fun _ => 1#1)
    ∧ (Cert.Pre_pre_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.2.2.1 = (fun _ => 1#1)
    ∧ (Cert.Pre_pre_finite.fn (F := Ideal) (m ((c.tc : Thread Cert.NormBwdRefIdeal.nD Cert.NormBwdRefIdeal.τ).loc Cert.NormBwdRefIdeal.main_arg0)) (m ((c.tc : Thread Cert.NormBwdRefIdeal.nD Cert.NormBwdRefIdeal.τ).loc Cert.NormBwdRefIdeal.main_arg1)) (m ((c.tc : Thread Cert.NormBwdRefIdeal.nD Cert.NormBwdRefIdeal.τ).loc Cert.NormBwdRefIdeal.main_arg2)) (m ((c.tc : Thread Cert.NormBwdRefIdeal.nD Cert.NormBwdRefIdeal.τ).loc Cert.NormBwdRefIdeal.main_arg3)) (m ((c.tc : Thread Cert.NormBwdRefIdeal.nD Cert.NormBwdRefIdeal.τ).loc Cert.NormBwdRefIdeal.main_arg4)) (m ((c.tc : Thread Cert.NormBwdRefIdeal.nD Cert.NormBwdRefIdeal.τ).loc Cert.NormBwdRefIdeal.main_arg5))).2.2.2.2.2 = (fun _ => 1#1)

def Pre_UpBwd (m : (ℓ : Loc Cert.UpBwd.nD Cert.UpBwd.τ Cert.UpBwd.sig) → Buf (Elt Bits) ℓ) : Prop :=
  True

def Pre_UpBwdIdeal (m : (ℓ : Loc Cert.UpBwdIdeal.nD Cert.UpBwdIdeal.τ Cert.UpBwdIdeal.sig) → Buf (Elt Ideal) ℓ) : Prop :=
  True

def Pre_UpBwdRefIdeal (m : (ℓ : Loc Cert.UpBwdRefIdeal.nD Cert.UpBwdRefIdeal.τ Cert.UpBwdRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_ffn_up_finite [hPre_ffn_up_finite : Cert.Pre_ffn_up_finite.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))).1 = (fun _ => 1#1)
    ∧ (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))).2.1 = (fun _ => 1#1)
    ∧ (Cert.Pre_ffn_up_finite.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))).2.2 = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_ffn_up_finite [hPre_ffn_up_finite : Cert.Pre_ffn_up_finite.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))).1 = (fun _ => 1#1)
    ∧ (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))).2.1 = (fun _ => 1#1)
    ∧ (Cert.Pre_ffn_up_finite.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))).2.2 = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_FirstBwd (m : (ℓ : Loc Cert.FirstBwd.nD Cert.FirstBwd.τ Cert.FirstBwd.sig) → Buf (Elt Bits) ℓ) : Prop :=
  True

def Pre_FirstBwdIdeal (m : (ℓ : Loc Cert.FirstBwdIdeal.nD Cert.FirstBwdIdeal.τ Cert.FirstBwdIdeal.sig) → Buf (Elt Ideal) ℓ) : Prop :=
  True

def Pre_FirstBwdIdeal_first_finite [hPre_first_finite : Cert.Pre_first_finite.Facts] (m : (ℓ : Loc Cert.FirstBwdIdeal.nD Cert.FirstBwdIdeal.τ Cert.FirstBwdIdeal.sig) → Buf (Elt Ideal) ℓ) : Prop :=
  ∀ c : Dev Cert.FirstBwdIdeal.nD,
    (Cert.Pre_first_finite.fn (F := Ideal) (m ((c.tc : Thread Cert.FirstBwdIdeal.nD Cert.FirstBwdIdeal.τ).loc Cert.FirstBwdIdeal.main_arg0)) (m ((c.tc : Thread Cert.FirstBwdIdeal.nD Cert.FirstBwdIdeal.τ).loc Cert.FirstBwdIdeal.main_arg1)) (m ((c.tc : Thread Cert.FirstBwdIdeal.nD Cert.FirstBwdIdeal.τ).loc Cert.FirstBwdIdeal.main_arg2)) (m ((c.tc : Thread Cert.FirstBwdIdeal.nD Cert.FirstBwdIdeal.τ).loc Cert.FirstBwdIdeal.main_arg3))).1 = (fun _ => 1#1)
    ∧ (Cert.Pre_first_finite.fn (F := Ideal) (m ((c.tc : Thread Cert.FirstBwdIdeal.nD Cert.FirstBwdIdeal.τ).loc Cert.FirstBwdIdeal.main_arg0)) (m ((c.tc : Thread Cert.FirstBwdIdeal.nD Cert.FirstBwdIdeal.τ).loc Cert.FirstBwdIdeal.main_arg1)) (m ((c.tc : Thread Cert.FirstBwdIdeal.nD Cert.FirstBwdIdeal.τ).loc Cert.FirstBwdIdeal.main_arg2)) (m ((c.tc : Thread Cert.FirstBwdIdeal.nD Cert.FirstBwdIdeal.τ).loc Cert.FirstBwdIdeal.main_arg3))).2.1 = (fun _ => 1#1)
    ∧ (Cert.Pre_first_finite.fn (F := Ideal) (m ((c.tc : Thread Cert.FirstBwdIdeal.nD Cert.FirstBwdIdeal.τ).loc Cert.FirstBwdIdeal.main_arg0)) (m ((c.tc : Thread Cert.FirstBwdIdeal.nD Cert.FirstBwdIdeal.τ).loc Cert.FirstBwdIdeal.main_arg1)) (m ((c.tc : Thread Cert.FirstBwdIdeal.nD Cert.FirstBwdIdeal.τ).loc Cert.FirstBwdIdeal.main_arg2)) (m ((c.tc : Thread Cert.FirstBwdIdeal.nD Cert.FirstBwdIdeal.τ).loc Cert.FirstBwdIdeal.main_arg3))).2.2.1 = (fun _ => 1#1)
    ∧ (Cert.Pre_first_finite.fn (F := Ideal) (m ((c.tc : Thread Cert.FirstBwdIdeal.nD Cert.FirstBwdIdeal.τ).loc Cert.FirstBwdIdeal.main_arg0)) (m ((c.tc : Thread Cert.FirstBwdIdeal.nD Cert.FirstBwdIdeal.τ).loc Cert.FirstBwdIdeal.main_arg1)) (m ((c.tc : Thread Cert.FirstBwdIdeal.nD Cert.FirstBwdIdeal.τ).loc Cert.FirstBwdIdeal.main_arg2)) (m ((c.tc : Thread Cert.FirstBwdIdeal.nD Cert.FirstBwdIdeal.τ).loc Cert.FirstBwdIdeal.main_arg3))).2.2.2 = (fun _ => 1#1)

def Pre_FirstBwdRefIdeal (m : (ℓ : Loc Cert.FirstBwdRefIdeal.nD Cert.FirstBwdRefIdeal.τ Cert.FirstBwdRefIdeal.sig) → Buf (Elt Ideal) ℓ) : Prop :=
  True

def Pre_FirstBwdRefIdeal_first_finite [hPre_first_finite : Cert.Pre_first_finite.Facts] (m : (ℓ : Loc Cert.FirstBwdRefIdeal.nD Cert.FirstBwdRefIdeal.τ Cert.FirstBwdRefIdeal.sig) → Buf (Elt Ideal) ℓ) : Prop :=
  ∀ c : Dev Cert.FirstBwdRefIdeal.nD,
    (Cert.Pre_first_finite.fn (F := Ideal) (m ((c.tc : Thread Cert.FirstBwdRefIdeal.nD Cert.FirstBwdRefIdeal.τ).loc Cert.FirstBwdRefIdeal.main_arg0)) (m ((c.tc : Thread Cert.FirstBwdRefIdeal.nD Cert.FirstBwdRefIdeal.τ).loc Cert.FirstBwdRefIdeal.main_arg1)) (m ((c.tc : Thread Cert.FirstBwdRefIdeal.nD Cert.FirstBwdRefIdeal.τ).loc Cert.FirstBwdRefIdeal.main_arg2)) (m ((c.tc : Thread Cert.FirstBwdRefIdeal.nD Cert.FirstBwdRefIdeal.τ).loc Cert.FirstBwdRefIdeal.main_arg3))).1 = (fun _ => 1#1)
    ∧ (Cert.Pre_first_finite.fn (F := Ideal) (m ((c.tc : Thread Cert.FirstBwdRefIdeal.nD Cert.FirstBwdRefIdeal.τ).loc Cert.FirstBwdRefIdeal.main_arg0)) (m ((c.tc : Thread Cert.FirstBwdRefIdeal.nD Cert.FirstBwdRefIdeal.τ).loc Cert.FirstBwdRefIdeal.main_arg1)) (m ((c.tc : Thread Cert.FirstBwdRefIdeal.nD Cert.FirstBwdRefIdeal.τ).loc Cert.FirstBwdRefIdeal.main_arg2)) (m ((c.tc : Thread Cert.FirstBwdRefIdeal.nD Cert.FirstBwdRefIdeal.τ).loc Cert.FirstBwdRefIdeal.main_arg3))).2.1 = (fun _ => 1#1)
    ∧ (Cert.Pre_first_finite.fn (F := Ideal) (m ((c.tc : Thread Cert.FirstBwdRefIdeal.nD Cert.FirstBwdRefIdeal.τ).loc Cert.FirstBwdRefIdeal.main_arg0)) (m ((c.tc : Thread Cert.FirstBwdRefIdeal.nD Cert.FirstBwdRefIdeal.τ).loc Cert.FirstBwdRefIdeal.main_arg1)) (m ((c.tc : Thread Cert.FirstBwdRefIdeal.nD Cert.FirstBwdRefIdeal.τ).loc Cert.FirstBwdRefIdeal.main_arg2)) (m ((c.tc : Thread Cert.FirstBwdRefIdeal.nD Cert.FirstBwdRefIdeal.τ).loc Cert.FirstBwdRefIdeal.main_arg3))).2.2.1 = (fun _ => 1#1)
    ∧ (Cert.Pre_first_finite.fn (F := Ideal) (m ((c.tc : Thread Cert.FirstBwdRefIdeal.nD Cert.FirstBwdRefIdeal.τ).loc Cert.FirstBwdRefIdeal.main_arg0)) (m ((c.tc : Thread Cert.FirstBwdRefIdeal.nD Cert.FirstBwdRefIdeal.τ).loc Cert.FirstBwdRefIdeal.main_arg1)) (m ((c.tc : Thread Cert.FirstBwdRefIdeal.nD Cert.FirstBwdRefIdeal.τ).loc Cert.FirstBwdRefIdeal.main_arg2)) (m ((c.tc : Thread Cert.FirstBwdRefIdeal.nD Cert.FirstBwdRefIdeal.τ).loc Cert.FirstBwdRefIdeal.main_arg3))).2.2.2 = (fun _ => 1#1)

def Pre_PostFwd (m : (ℓ : Loc Cert.PostFwd.nD Cert.PostFwd.τ Cert.PostFwd.sig) → Buf (Elt Bits) ℓ) : Prop :=
  True

def Pre_PostFwdIdeal (m : (ℓ : Loc Cert.PostFwdIdeal.nD Cert.PostFwdIdeal.τ Cert.PostFwdIdeal.sig) → Buf (Elt Ideal) ℓ) : Prop :=
  True

def Pre_PostFwdRefIdeal (m : (ℓ : Loc Cert.PostFwdRefIdeal.nD Cert.PostFwdRefIdeal.τ Cert.PostFwdRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3))).1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3))).2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3))).2.2.1 = (fun _ => 1#1)
    ∧ (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3))).2.2.2 = (fun _ => 1#1)

def Pre_LossHeadRefIdeal (m : (ℓ : Loc Cert.LossHeadRefIdeal.nD Cert.LossHeadRefIdeal.τ Cert.LossHeadRefIdeal.sig) → Buf (Elt Ideal) ℓ) : Prop :=
  True

def Pre_LossHeadRefIdeal_loss_finite [hPre_loss_finite : Cert.Pre_loss_finite.Facts] (m : (ℓ : Loc Cert.LossHeadRefIdeal.nD Cert.LossHeadRefIdeal.τ Cert.LossHeadRefIdeal.sig) → Buf (Elt Ideal) ℓ) : Prop :=
  ∀ c : Dev Cert.LossHeadRefIdeal.nD,
    (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3))).1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3))).2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3))).2.2.1 = (fun _ => 1#1)
    ∧ (Cert.Pre_loss_finite.fn (F := Ideal) (m ((c.tc : Thread Cert.LossHeadRefIdeal.nD Cert.LossHeadRefIdeal.τ).loc Cert.LossHeadRefIdeal.main_arg0)) (m ((c.tc : Thread Cert.LossHeadRefIdeal.nD Cert.LossHeadRefIdeal.τ).loc Cert.LossHeadRefIdeal.main_arg1)) (m ((c.tc : Thread Cert.LossHeadRefIdeal.nD Cert.LossHeadRefIdeal.τ).loc Cert.LossHeadRefIdeal.main_arg2)) (m ((c.tc : Thread Cert.LossHeadRefIdeal.nD Cert.LossHeadRefIdeal.τ).loc Cert.LossHeadRefIdeal.main_arg3))).2.2.2 = (fun _ => 1#1)

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_MidBwd (m : (ℓ : Loc Cert.MidBwd.nD Cert.MidBwd.τ Cert.MidBwd.sig) → Buf (Elt Bits) ℓ) : Prop :=
  True

def Pre_MidBwdIdeal (m : (ℓ : Loc Cert.MidBwdIdeal.nD Cert.MidBwdIdeal.τ Cert.MidBwdIdeal.sig) → Buf (Elt Ideal) ℓ) : Prop :=
  True

def Pre_MidBwdIdeal_mid_finite [hPre_mid_finite : Cert.Pre_mid_finite.Facts] (m : (ℓ : Loc Cert.MidBwdIdeal.nD Cert.MidBwdIdeal.τ Cert.MidBwdIdeal.sig) → Buf (Elt Ideal) ℓ) : Prop :=
  ∀ c : Dev Cert.MidBwdIdeal.nD,
    (Cert.Pre_mid_finite.fn (F := Ideal) (m ((c.tc : Thread Cert.MidBwdIdeal.nD Cert.MidBwdIdeal.τ).loc Cert.MidBwdIdeal.main_arg0)) (m ((c.tc : Thread Cert.MidBwdIdeal.nD Cert.MidBwdIdeal.τ).loc Cert.MidBwdIdeal.main_arg1)) (m ((c.tc : Thread Cert.MidBwdIdeal.nD Cert.MidBwdIdeal.τ).loc Cert.MidBwdIdeal.main_arg2)) (m ((c.tc : Thread Cert.MidBwdIdeal.nD Cert.MidBwdIdeal.τ).loc Cert.MidBwdIdeal.main_arg3)) (m ((c.tc : Thread Cert.MidBwdIdeal.nD Cert.MidBwdIdeal.τ).loc Cert.MidBwdIdeal.main_arg4)) (m ((c.tc : Thread Cert.MidBwdIdeal.nD Cert.MidBwdIdeal.τ).loc Cert.MidBwdIdeal.main_arg5))).1 = (fun _ => 1#1)
    ∧ (Cert.Pre_mid_finite.fn (F := Ideal) (m ((c.tc : Thread Cert.MidBwdIdeal.nD Cert.MidBwdIdeal.τ).loc Cert.MidBwdIdeal.main_arg0)) (m ((c.tc : Thread Cert.MidBwdIdeal.nD Cert.MidBwdIdeal.τ).loc Cert.MidBwdIdeal.main_arg1)) (m ((c.tc : Thread Cert.MidBwdIdeal.nD Cert.MidBwdIdeal.τ).loc Cert.MidBwdIdeal.main_arg2)) (m ((c.tc : Thread Cert.MidBwdIdeal.nD Cert.MidBwdIdeal.τ).loc Cert.MidBwdIdeal.main_arg3)) (m ((c.tc : Thread Cert.MidBwdIdeal.nD Cert.MidBwdIdeal.τ).loc Cert.MidBwdIdeal.main_arg4)) (m ((c.tc : Thread Cert.MidBwdIdeal.nD Cert.MidBwdIdeal.τ).loc Cert.MidBwdIdeal.main_arg5))).2.1 = (fun _ => 1#1)
    ∧ (Cert.Pre_mid_finite.fn (F := Ideal) (m ((c.tc : Thread Cert.MidBwdIdeal.nD Cert.MidBwdIdeal.τ).loc Cert.MidBwdIdeal.main_arg0)) (m ((c.tc : Thread Cert.MidBwdIdeal.nD Cert.MidBwdIdeal.τ).loc Cert.MidBwdIdeal.main_arg1)) (m ((c.tc : Thread Cert.MidBwdIdeal.nD Cert.MidBwdIdeal.τ).loc Cert.MidBwdIdeal.main_arg2)) (m ((c.tc : Thread Cert.MidBwdIdeal.nD Cert.MidBwdIdeal.τ).loc Cert.MidBwdIdeal.main_arg3)) (m ((c.tc : Thread Cert.MidBwdIdeal.nD Cert.MidBwdIdeal.τ).loc Cert.MidBwdIdeal.main_arg4)) (m ((c.tc : Thread Cert.MidBwdIdeal.nD Cert.MidBwdIdeal.τ).loc Cert.MidBwdIdeal.main_arg5))).2.2.1 = (fun _ => 1#1)
    ∧ (Cert.Pre_mid_finite.fn (F := Ideal) (m ((c.tc : Thread Cert.MidBwdIdeal.nD Cert.MidBwdIdeal.τ).loc Cert.MidBwdIdeal.main_arg0)) (m ((c.tc : Thread Cert.MidBwdIdeal.nD Cert.MidBwdIdeal.τ).loc Cert.MidBwdIdeal.main_arg1)) (m ((c.tc : Thread Cert.MidBwdIdeal.nD Cert.MidBwdIdeal.τ).loc Cert.MidBwdIdeal.main_arg2)) (m ((c.tc : Thread Cert.MidBwdIdeal.nD Cert.MidBwdIdeal.τ).loc Cert.MidBwdIdeal.main_arg3)) (m ((c.tc : Thread Cert.MidBwdIdeal.nD Cert.MidBwdIdeal.τ).loc Cert.MidBwdIdeal.main_arg4)) (m ((c.tc : Thread Cert.MidBwdIdeal.nD Cert.MidBwdIdeal.τ).loc Cert.MidBwdIdeal.main_arg5))).2.2.2.1 = (fun _ => 1#1)
    ∧ (Cert.Pre_mid_finite.fn (F := Ideal) (m ((c.tc : Thread Cert.MidBwdIdeal.nD Cert.MidBwdIdeal.τ).loc Cert.MidBwdIdeal.main_arg0)) (m ((c.tc : Thread Cert.MidBwdIdeal.nD Cert.MidBwdIdeal.τ).loc Cert.MidBwdIdeal.main_arg1)) (m ((c.tc : Thread Cert.MidBwdIdeal.nD Cert.MidBwdIdeal.τ).loc Cert.MidBwdIdeal.main_arg2)) (m ((c.tc : Thread Cert.MidBwdIdeal.nD Cert.MidBwdIdeal.τ).loc Cert.MidBwdIdeal.main_arg3)) (m ((c.tc : Thread Cert.MidBwdIdeal.nD Cert.MidBwdIdeal.τ).loc Cert.MidBwdIdeal.main_arg4)) (m ((c.tc : Thread Cert.MidBwdIdeal.nD Cert.MidBwdIdeal.τ).loc Cert.MidBwdIdeal.main_arg5))).2.2.2.2.1 = (fun _ => 1#1)
    ∧ (Cert.Pre_mid_finite.fn (F := Ideal) (m ((c.tc : Thread Cert.MidBwdIdeal.nD Cert.MidBwdIdeal.τ).loc Cert.MidBwdIdeal.main_arg0)) (m ((c.tc : Thread Cert.MidBwdIdeal.nD Cert.MidBwdIdeal.τ).loc Cert.MidBwdIdeal.main_arg1)) (m ((c.tc : Thread Cert.MidBwdIdeal.nD Cert.MidBwdIdeal.τ).loc Cert.MidBwdIdeal.main_arg2)) (m ((c.tc : Thread Cert.MidBwdIdeal.nD Cert.MidBwdIdeal.τ).loc Cert.MidBwdIdeal.main_arg3)) (m ((c.tc : Thread Cert.MidBwdIdeal.nD Cert.MidBwdIdeal.τ).loc Cert.MidBwdIdeal.main_arg4)) (m ((c.tc : Thread Cert.MidBwdIdeal.nD Cert.MidBwdIdeal.τ).loc Cert.MidBwdIdeal.main_arg5))).2.2.2.2.2 = (fun _ => 1#1)

def Pre_MidBwdRefIdeal (m : (ℓ : Loc Cert.MidBwdRefIdeal.nD Cert.MidBwdRefIdeal.τ Cert.MidBwdRefIdeal.sig) → Buf (Elt Ideal) ℓ) : Prop :=
  True

def Pre_MidBwdRefIdeal_mid_finite [hPre_mid_finite : Cert.Pre_mid_finite.Facts] (m : (ℓ : Loc Cert.MidBwdRefIdeal.nD Cert.MidBwdRefIdeal.τ Cert.MidBwdRefIdeal.sig) → Buf (Elt Ideal) ℓ) : Prop :=
  ∀ c : Dev Cert.MidBwdRefIdeal.nD,
    (Cert.Pre_mid_finite.fn (F := Ideal) (m ((c.tc : Thread Cert.MidBwdRefIdeal.nD Cert.MidBwdRefIdeal.τ).loc Cert.MidBwdRefIdeal.main_arg0)) (m ((c.tc : Thread Cert.MidBwdRefIdeal.nD Cert.MidBwdRefIdeal.τ).loc Cert.MidBwdRefIdeal.main_arg1)) (m ((c.tc : Thread Cert.MidBwdRefIdeal.nD Cert.MidBwdRefIdeal.τ).loc Cert.MidBwdRefIdeal.main_arg2)) (m ((c.tc : Thread Cert.MidBwdRefIdeal.nD Cert.MidBwdRefIdeal.τ).loc Cert.MidBwdRefIdeal.main_arg3)) (m ((c.tc : Thread Cert.MidBwdRefIdeal.nD Cert.MidBwdRefIdeal.τ).loc Cert.MidBwdRefIdeal.main_arg4)) (m ((c.tc : Thread Cert.MidBwdRefIdeal.nD Cert.MidBwdRefIdeal.τ).loc Cert.MidBwdRefIdeal.main_arg5))).1 = (fun _ => 1#1)
    ∧ (Cert.Pre_mid_finite.fn (F := Ideal) (m ((c.tc : Thread Cert.MidBwdRefIdeal.nD Cert.MidBwdRefIdeal.τ).loc Cert.MidBwdRefIdeal.main_arg0)) (m ((c.tc : Thread Cert.MidBwdRefIdeal.nD Cert.MidBwdRefIdeal.τ).loc Cert.MidBwdRefIdeal.main_arg1)) (m ((c.tc : Thread Cert.MidBwdRefIdeal.nD Cert.MidBwdRefIdeal.τ).loc Cert.MidBwdRefIdeal.main_arg2)) (m ((c.tc : Thread Cert.MidBwdRefIdeal.nD Cert.MidBwdRefIdeal.τ).loc Cert.MidBwdRefIdeal.main_arg3)) (m ((c.tc : Thread Cert.MidBwdRefIdeal.nD Cert.MidBwdRefIdeal.τ).loc Cert.MidBwdRefIdeal.main_arg4)) (m ((c.tc : Thread Cert.MidBwdRefIdeal.nD Cert.MidBwdRefIdeal.τ).loc Cert.MidBwdRefIdeal.main_arg5))).2.1 = (fun _ => 1#1)
    ∧ (Cert.Pre_mid_finite.fn (F := Ideal) (m ((c.tc : Thread Cert.MidBwdRefIdeal.nD Cert.MidBwdRefIdeal.τ).loc Cert.MidBwdRefIdeal.main_arg0)) (m ((c.tc : Thread Cert.MidBwdRefIdeal.nD Cert.MidBwdRefIdeal.τ).loc Cert.MidBwdRefIdeal.main_arg1)) (m ((c.tc : Thread Cert.MidBwdRefIdeal.nD Cert.MidBwdRefIdeal.τ).loc Cert.MidBwdRefIdeal.main_arg2)) (m ((c.tc : Thread Cert.MidBwdRefIdeal.nD Cert.MidBwdRefIdeal.τ).loc Cert.MidBwdRefIdeal.main_arg3)) (m ((c.tc : Thread Cert.MidBwdRefIdeal.nD Cert.MidBwdRefIdeal.τ).loc Cert.MidBwdRefIdeal.main_arg4)) (m ((c.tc : Thread Cert.MidBwdRefIdeal.nD Cert.MidBwdRefIdeal.τ).loc Cert.MidBwdRefIdeal.main_arg5))).2.2.1 = (fun _ => 1#1)
    ∧ (Cert.Pre_mid_finite.fn (F := Ideal) (m ((c.tc : Thread Cert.MidBwdRefIdeal.nD Cert.MidBwdRefIdeal.τ).loc Cert.MidBwdRefIdeal.main_arg0)) (m ((c.tc : Thread Cert.MidBwdRefIdeal.nD Cert.MidBwdRefIdeal.τ).loc Cert.MidBwdRefIdeal.main_arg1)) (m ((c.tc : Thread Cert.MidBwdRefIdeal.nD Cert.MidBwdRefIdeal.τ).loc Cert.MidBwdRefIdeal.main_arg2)) (m ((c.tc : Thread Cert.MidBwdRefIdeal.nD Cert.MidBwdRefIdeal.τ).loc Cert.MidBwdRefIdeal.main_arg3)) (m ((c.tc : Thread Cert.MidBwdRefIdeal.nD Cert.MidBwdRefIdeal.τ).loc Cert.MidBwdRefIdeal.main_arg4)) (m ((c.tc : Thread Cert.MidBwdRefIdeal.nD Cert.MidBwdRefIdeal.τ).loc Cert.MidBwdRefIdeal.main_arg5))).2.2.2.1 = (fun _ => 1#1)
    ∧ (Cert.Pre_mid_finite.fn (F := Ideal) (m ((c.tc : Thread Cert.MidBwdRefIdeal.nD Cert.MidBwdRefIdeal.τ).loc Cert.MidBwdRefIdeal.main_arg0)) (m ((c.tc : Thread Cert.MidBwdRefIdeal.nD Cert.MidBwdRefIdeal.τ).loc Cert.MidBwdRefIdeal.main_arg1)) (m ((c.tc : Thread Cert.MidBwdRefIdeal.nD Cert.MidBwdRefIdeal.τ).loc Cert.MidBwdRefIdeal.main_arg2)) (m ((c.tc : Thread Cert.MidBwdRefIdeal.nD Cert.MidBwdRefIdeal.τ).loc Cert.MidBwdRefIdeal.main_arg3)) (m ((c.tc : Thread Cert.MidBwdRefIdeal.nD Cert.MidBwdRefIdeal.τ).loc Cert.MidBwdRefIdeal.main_arg4)) (m ((c.tc : Thread Cert.MidBwdRefIdeal.nD Cert.MidBwdRefIdeal.τ).loc Cert.MidBwdRefIdeal.main_arg5))).2.2.2.2.1 = (fun _ => 1#1)
    ∧ (Cert.Pre_mid_finite.fn (F := Ideal) (m ((c.tc : Thread Cert.MidBwdRefIdeal.nD Cert.MidBwdRefIdeal.τ).loc Cert.MidBwdRefIdeal.main_arg0)) (m ((c.tc : Thread Cert.MidBwdRefIdeal.nD Cert.MidBwdRefIdeal.τ).loc Cert.MidBwdRefIdeal.main_arg1)) (m ((c.tc : Thread Cert.MidBwdRefIdeal.nD Cert.MidBwdRefIdeal.τ).loc Cert.MidBwdRefIdeal.main_arg2)) (m ((c.tc : Thread Cert.MidBwdRefIdeal.nD Cert.MidBwdRefIdeal.τ).loc Cert.MidBwdRefIdeal.main_arg3)) (m ((c.tc : Thread Cert.MidBwdRefIdeal.nD Cert.MidBwdRefIdeal.τ).loc Cert.MidBwdRefIdeal.main_arg4)) (m ((c.tc : Thread Cert.MidBwdRefIdeal.nD Cert.MidBwdRefIdeal.τ).loc Cert.MidBwdRefIdeal.main_arg5))).2.2.2.2.2 = (fun _ => 1#1)

def Pre_MixPost (m : (ℓ : Loc Cert.MixPost.nD Cert.MixPost.τ Cert.MixPost.sig) → Buf (Elt Bits) ℓ) : Prop :=
  True

def Pre_MixPostIdeal (m : (ℓ : Loc Cert.MixPostIdeal.nD Cert.MixPostIdeal.τ Cert.MixPostIdeal.sig) → Buf (Elt Ideal) ℓ) : Prop :=
  True

def Pre_MixPostRefIdeal (m : (ℓ : Loc Cert.MixPostRefIdeal.nD Cert.MixPostRefIdeal.τ Cert.MixPostRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdIdeal_conv_finite [hPre_conv_finite : Cert.Pre_conv_finite.Facts] (m : (ℓ : Loc Cert.ConvFwdIdeal.nD Cert.ConvFwdIdeal.τ Cert.ConvFwdIdeal.sig) → Buf (Elt Ideal) ℓ) : Prop :=
  ∀ c : Dev Cert.ConvFwdIdeal.nD,
    (Cert.Pre_conv_finite.fn (F := Ideal) (m ((c.tc : Thread Cert.ConvFwdIdeal.nD Cert.ConvFwdIdeal.τ).loc Cert.ConvFwdIdeal.main_arg0)) (m ((c.tc : Thread Cert.ConvFwdIdeal.nD Cert.ConvFwdIdeal.τ).loc Cert.ConvFwdIdeal.main_arg1)) (m ((c.tc : Thread Cert.ConvFwdIdeal.nD Cert.ConvFwdIdeal.τ).loc Cert.ConvFwdIdeal.main_arg2))).1 = (fun _ => 1#1)
    ∧ (Cert.Pre_conv_finite.fn (F := Ideal) (m ((c.tc : Thread Cert.ConvFwdIdeal.nD Cert.ConvFwdIdeal.τ).loc Cert.ConvFwdIdeal.main_arg0)) (m ((c.tc : Thread Cert.ConvFwdIdeal.nD Cert.ConvFwdIdeal.τ).loc Cert.ConvFwdIdeal.main_arg1)) (m ((c.tc : Thread Cert.ConvFwdIdeal.nD Cert.ConvFwdIdeal.τ).loc Cert.ConvFwdIdeal.main_arg2))).2 = (fun _ => 1#1)

def Pre_ConvFwdRefIdeal (m : (ℓ : Loc Cert.ConvFwdRefIdeal.nD Cert.ConvFwdRefIdeal.τ Cert.ConvFwdRefIdeal.sig) → Buf (Elt Ideal) ℓ) : Prop :=
  True

def Pre_ConvFwdRefIdeal_conv_finite [hPre_conv_finite : Cert.Pre_conv_finite.Facts] (m : (ℓ : Loc Cert.ConvFwdRefIdeal.nD Cert.ConvFwdRefIdeal.τ Cert.ConvFwdRefIdeal.sig) → Buf (Elt Ideal) ℓ) : Prop :=
  ∀ c : Dev Cert.ConvFwdRefIdeal.nD,
    (Cert.Pre_conv_finite.fn (F := Ideal) (m ((c.tc : Thread Cert.ConvFwdRefIdeal.nD Cert.ConvFwdRefIdeal.τ).loc Cert.ConvFwdRefIdeal.main_arg0)) (m ((c.tc : Thread Cert.ConvFwdRefIdeal.nD Cert.ConvFwdRefIdeal.τ).loc Cert.ConvFwdRefIdeal.main_arg1)) (m ((c.tc : Thread Cert.ConvFwdRefIdeal.nD Cert.ConvFwdRefIdeal.τ).loc Cert.ConvFwdRefIdeal.main_arg2))).1 = (fun _ => 1#1)
    ∧ (Cert.Pre_conv_finite.fn (F := Ideal) (m ((c.tc : Thread Cert.ConvFwdRefIdeal.nD Cert.ConvFwdRefIdeal.τ).loc Cert.ConvFwdRefIdeal.main_arg0)) (m ((c.tc : Thread Cert.ConvFwdRefIdeal.nD Cert.ConvFwdRefIdeal.τ).loc Cert.ConvFwdRefIdeal.main_arg1)) (m ((c.tc : Thread Cert.ConvFwdRefIdeal.nD Cert.ConvFwdRefIdeal.τ).loc Cert.ConvFwdRefIdeal.main_arg2))).2 = (fun _ => 1#1)

def Pre_CastPad (m : (ℓ : Loc Cert.CastPad.nD Cert.CastPad.τ Cert.CastPad.sig) → Buf (Elt Bits) ℓ) : Prop :=
  True

def Pre_CastPadIdeal (m : (ℓ : Loc Cert.CastPadIdeal.nD Cert.CastPadIdeal.τ Cert.CastPadIdeal.sig) → Buf (Elt Ideal) ℓ) : Prop :=
  True

def Pre_CastPadRefIdeal (m : (ℓ : Loc Cert.CastPadRefIdeal.nD Cert.CastPadRefIdeal.τ Cert.CastPadRefIdeal.sig) → Buf (Elt Ideal) ℓ) : Prop :=
  True

def Pre_CastIn [hPre_slot_in_range : Cert.Pre_slot_in_range.Facts] (m : (ℓ : Loc Cert.CastIn.nD Cert.CastIn.τ Cert.CastIn.sig) → Buf (Elt Bits) ℓ) : Prop :=
  ∀ c : Dev Cert.CastIn.nD,
    (Cert.Pre_slot_in_range.fn (F := Bits) (m ((c.tc : Thread Cert.CastIn.nD Cert.CastIn.τ).loc Cert.CastIn.main_arg0)) (m ((c.tc : Thread Cert.CastIn.nD Cert.CastIn.τ).loc Cert.CastIn.main_arg1))) = (fun _ => 1#1)

def Pre_CastInIdeal [hPre_slot_in_range : Cert.Pre_slot_in_range.Facts] (m : (ℓ : Loc Cert.CastInIdeal.nD Cert.CastInIdeal.τ Cert.CastInIdeal.sig) → Buf (Elt Ideal) ℓ) : Prop :=
  ∀ c : Dev Cert.CastInIdeal.nD,
    (Cert.Pre_slot_in_range.fn (F := Ideal) (m ((c.tc : Thread Cert.CastInIdeal.nD Cert.CastInIdeal.τ).loc Cert.CastInIdeal.main_arg0)) (m ((c.tc : Thread Cert.CastInIdeal.nD Cert.CastInIdeal.τ).loc Cert.CastInIdeal.main_arg1))) = (fun _ => 1#1)

def Pre_CastInRefIdeal (m : (ℓ : Loc Cert.CastInRefIdeal.nD Cert.CastInRefIdeal.τ Cert.CastInRefIdeal.sig) → Buf (Elt Ideal) ℓ) : Prop :=
  True

def Pre_CastInRefIdeal_slot_in_range [hPre_slot_in_range : Cert.Pre_slot_in_range.Facts] (m : (ℓ : Loc Cert.CastInRefIdeal.nD Cert.CastInRefIdeal.τ Cert.CastInRefIdeal.sig) → Buf (Elt Ideal) ℓ) : Prop :=
  ∀ c : Dev Cert.CastInRefIdeal.nD,
    (Cert.Pre_slot_in_range.fn (F := Ideal) (m ((c.tc : Thread Cert.CastInRefIdeal.nD Cert.CastInRefIdeal.τ).loc Cert.CastInRefIdeal.main_arg0)) (m ((c.tc : Thread Cert.CastInRefIdeal.nD Cert.CastInRefIdeal.τ).loc Cert.CastInRefIdeal.main_arg1))) = (fun _ => 1#1)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2)
      ∧ r.2.mem ((c.tc : Thread Cert.Act.nD Cert.Act.τ).loc Cert.Act.main_arg3) = m ((c.tc : Thread Cert.Act.nD Cert.Act.τ).loc Cert.Act.main_arg3))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActIdeal_pre_act_finite [hActIdeal : Cert.ActIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg), Pre_ActIdeal_act_finite m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
      ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_ActRefIdeal_pre_act_finite [hActRefIdeal : Cert.ActRefIdeal.Facts] [hPre_act_finite : Cert.Pre_act_finite.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal_act_finite m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2)
      ∧ r.2.mem ((c.tc : Thread Cert.ActRefIdeal.nD Cert.ActRefIdeal.τ).loc Cert.ActRefIdeal.main_arg3) = m ((c.tc : Thread Cert.ActRefIdeal.nD Cert.ActRefIdeal.τ).loc Cert.ActRefIdeal.main_arg3))
      ∧ r.2.sem = fun _ => 0)

def quiescent_Wgrad [hWgrad : Cert.Wgrad.Facts] : Prop :=
  ∀ (m : (ℓ : Loc Cert.Wgrad.nD Cert.Wgrad.τ Cert.Wgrad.sig) → Buf (Elt Bits) ℓ) (g : Dev Cert.Wgrad.nD → PrngReg), Pre_Wgrad m →
    θ_run (Cert.Wgrad.defs (F := Bits)) (onTc (τ := Cert.Wgrad.τ) (Cert.Wgrad.main (F := Bits))) ⟨m, fun _ => 0, g⟩ (fun r => (∀ c : Dev Cert.Wgrad.nD,
      r.2.mem ((c.tc : Thread Cert.Wgrad.nD Cert.Wgrad.τ).loc Cert.Wgrad.main_arg0) = m ((c.tc : Thread Cert.Wgrad.nD Cert.Wgrad.τ).loc Cert.Wgrad.main_arg0)
      ∧ r.2.mem ((c.tc : Thread Cert.Wgrad.nD Cert.Wgrad.τ).loc Cert.Wgrad.main_arg1) = m ((c.tc : Thread Cert.Wgrad.nD Cert.Wgrad.τ).loc Cert.Wgrad.main_arg1))
      ∧ r.2.sem = fun _ => 0)

def quiescent_WgradIdeal [hWgradIdeal : Cert.WgradIdeal.Facts] : Prop :=
  ∀ (m : (ℓ : Loc Cert.WgradIdeal.nD Cert.WgradIdeal.τ Cert.WgradIdeal.sig) → Buf (Elt Ideal) ℓ) (g : Dev Cert.WgradIdeal.nD → PrngReg), Pre_WgradIdeal m →
    θ_run (Cert.WgradIdeal.defs (F := Ideal)) (onTc (τ := Cert.WgradIdeal.τ) (Cert.WgradIdeal.main (F := Ideal))) ⟨m, fun _ => 0, g⟩ (fun r => (∀ c : Dev Cert.WgradIdeal.nD,
      r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
      ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ r.2.sem = fun _ => 0)

def quiescent_WgradRefIdeal [hWgradRefIdeal : Cert.WgradRefIdeal.Facts] : Prop :=
  ∀ (m : (ℓ : Loc Cert.WgradRefIdeal.nD Cert.WgradRefIdeal.τ Cert.WgradRefIdeal.sig) → Buf (Elt Ideal) ℓ) (g : Dev Cert.WgradRefIdeal.nD → PrngReg), Pre_WgradRefIdeal m →
    θ_run (Cert.WgradRefIdeal.defs (F := Ideal)) (onTc (τ := Cert.WgradRefIdeal.τ) (Cert.WgradRefIdeal.main (F := Ideal))) ⟨m, fun _ => 0, g⟩ (fun r => (∀ c : Dev Cert.WgradRefIdeal.nD,
      r.2.mem ((c.tc : Thread Cert.WgradRefIdeal.nD Cert.WgradRefIdeal.τ).loc Cert.WgradRefIdeal.main_arg0) = m ((c.tc : Thread Cert.WgradRefIdeal.nD Cert.WgradRefIdeal.τ).loc Cert.WgradRefIdeal.main_arg0)
      ∧ r.2.mem ((c.tc : Thread Cert.WgradRefIdeal.nD Cert.WgradRefIdeal.τ).loc Cert.WgradRefIdeal.main_arg1) = m ((c.tc : Thread Cert.WgradRefIdeal.nD Cert.WgradRefIdeal.τ).loc Cert.WgradRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdIdeal_pre_pre_finite [hNormBwdIdeal : Cert.NormBwdIdeal.Facts] [hPre_pre_finite : Cert.Pre_pre_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal_pre_finite m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_NormBwdRefIdeal_pre_pre_finite [hNormBwdRefIdeal : Cert.NormBwdRefIdeal.Facts] [hPre_pre_finite : Cert.Pre_pre_finite.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal_pre_finite m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_UpBwd [hUpBwd : Cert.UpBwd.Facts] : Prop :=
  ∀ (m : (ℓ : Loc Cert.UpBwd.nD Cert.UpBwd.τ Cert.UpBwd.sig) → Buf (Elt Bits) ℓ) (g : Dev Cert.UpBwd.nD → PrngReg), Pre_UpBwd m →
    θ_run (Cert.UpBwd.defs (F := Bits)) (onTc (τ := Cert.UpBwd.τ) (Cert.UpBwd.main (F := Bits))) ⟨m, fun _ => 0, g⟩ (fun r => (∀ c : Dev Cert.UpBwd.nD,
      r.2.mem ((c.tc : Thread Cert.UpBwd.nD Cert.UpBwd.τ).loc Cert.UpBwd.main_arg0) = m ((c.tc : Thread Cert.UpBwd.nD Cert.UpBwd.τ).loc Cert.UpBwd.main_arg0)
      ∧ r.2.mem ((c.tc : Thread Cert.UpBwd.nD Cert.UpBwd.τ).loc Cert.UpBwd.main_arg1) = m ((c.tc : Thread Cert.UpBwd.nD Cert.UpBwd.τ).loc Cert.UpBwd.main_arg1)
      ∧ r.2.mem ((c.tc : Thread Cert.UpBwd.nD Cert.UpBwd.τ).loc Cert.UpBwd.main_arg2) = m ((c.tc : Thread Cert.UpBwd.nD Cert.UpBwd.τ).loc Cert.UpBwd.main_arg2)
      ∧ r.2.mem ((c.tc : Thread Cert.UpBwd.nD Cert.UpBwd.τ).loc Cert.UpBwd.main_arg3) = m ((c.tc : Thread Cert.UpBwd.nD Cert.UpBwd.τ).loc Cert.UpBwd.main_arg3))
      ∧ r.2.sem = fun _ => 0)

def quiescent_UpBwdIdeal [hUpBwdIdeal : Cert.UpBwdIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg), Pre_UpBwdIdeal m →
    θ_run (Cert.UpBwdIdeal.defs (F := Ideal)) (onTc (τ := Cert.UpBwdIdeal.τ) (Cert.UpBwdIdeal.main (F := Ideal))) ⟨m, fun _ => 0, g⟩ (fun r => (∀ c : Dev Cert.UpBwdIdeal.nD,
      r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
      ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
      ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
      ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3))
      ∧ r.2.sem = fun _ => 0)

def quiescent_UpBwdRefIdeal [hUpBwdRefIdeal : Cert.UpBwdRefIdeal.Facts] : Prop :=
  ∀ (m : (ℓ : Loc Cert.UpBwdRefIdeal.nD Cert.UpBwdRefIdeal.τ Cert.UpBwdRefIdeal.sig) → Buf (Elt Ideal) ℓ) (g : Dev Cert.UpBwdRefIdeal.nD → PrngReg), Pre_UpBwdRefIdeal m →
    θ_run (Cert.UpBwdRefIdeal.defs (F := Ideal)) (onTc (τ := Cert.UpBwdRefIdeal.τ) (Cert.UpBwdRefIdeal.main (F := Ideal))) ⟨m, fun _ => 0, g⟩ (fun r => (∀ c : Dev Cert.UpBwdRefIdeal.nD,
      r.2.mem ((c.tc : Thread Cert.UpBwdRefIdeal.nD Cert.UpBwdRefIdeal.τ).loc Cert.UpBwdRefIdeal.main_arg0) = m ((c.tc : Thread Cert.UpBwdRefIdeal.nD Cert.UpBwdRefIdeal.τ).loc Cert.UpBwdRefIdeal.main_arg0)
      ∧ r.2.mem ((c.tc : Thread Cert.UpBwdRefIdeal.nD Cert.UpBwdRefIdeal.τ).loc Cert.UpBwdRefIdeal.main_arg1) = m ((c.tc : Thread Cert.UpBwdRefIdeal.nD Cert.UpBwdRefIdeal.τ).loc Cert.UpBwdRefIdeal.main_arg1)
      ∧ r.2.mem ((c.tc : Thread Cert.UpBwdRefIdeal.nD Cert.UpBwdRefIdeal.τ).loc Cert.UpBwdRefIdeal.main_arg2) = m ((c.tc : Thread Cert.UpBwdRefIdeal.nD Cert.UpBwdRefIdeal.τ).loc Cert.UpBwdRefIdeal.main_arg2)
      ∧ r.2.mem ((c.tc : Thread Cert.UpBwdRefIdeal.nD Cert.UpBwdRefIdeal.τ).loc Cert.UpBwdRefIdeal.main_arg3) = m ((c.tc : Thread Cert.UpBwdRefIdeal.nD Cert.UpBwdRefIdeal.τ).loc Cert.UpBwdRefIdeal.main_arg3))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1))
      ∧ r.2.sem = fun _ => 0)

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpIdeal_pre_ffn_up_finite [hFfnUpIdeal : Cert.FfnUpIdeal.Facts] [hPre_ffn_up_finite : Cert.Pre_ffn_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_ffn_up_finite m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnUpRefIdeal_pre_ffn_up_finite [hFfnUpRefIdeal : Cert.FfnUpRefIdeal.Facts] [hPre_ffn_up_finite : Cert.Pre_ffn_up_finite.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_ffn_up_finite m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_FirstBwd [hFirstBwd : Cert.FirstBwd.Facts] : Prop :=
  ∀ (m : (ℓ : Loc Cert.FirstBwd.nD Cert.FirstBwd.τ Cert.FirstBwd.sig) → Buf (Elt Bits) ℓ) (g : Dev Cert.FirstBwd.nD → PrngReg), Pre_FirstBwd m →
    θ_run (Cert.FirstBwd.defs (F := Bits)) (onTc (τ := Cert.FirstBwd.τ) (Cert.FirstBwd.main (F := Bits))) ⟨m, fun _ => 0, g⟩ (fun r => (∀ c : Dev Cert.FirstBwd.nD,
      r.2.mem ((c.tc : Thread Cert.FirstBwd.nD Cert.FirstBwd.τ).loc Cert.FirstBwd.main_arg0) = m ((c.tc : Thread Cert.FirstBwd.nD Cert.FirstBwd.τ).loc Cert.FirstBwd.main_arg0)
      ∧ r.2.mem ((c.tc : Thread Cert.FirstBwd.nD Cert.FirstBwd.τ).loc Cert.FirstBwd.main_arg1) = m ((c.tc : Thread Cert.FirstBwd.nD Cert.FirstBwd.τ).loc Cert.FirstBwd.main_arg1)
      ∧ r.2.mem ((c.tc : Thread Cert.FirstBwd.nD Cert.FirstBwd.τ).loc Cert.FirstBwd.main_arg2) = m ((c.tc : Thread Cert.FirstBwd.nD Cert.FirstBwd.τ).loc Cert.FirstBwd.main_arg2)
      ∧ r.2.mem ((c.tc : Thread Cert.FirstBwd.nD Cert.FirstBwd.τ).loc Cert.FirstBwd.main_arg3) = m ((c.tc : Thread Cert.FirstBwd.nD Cert.FirstBwd.τ).loc Cert.FirstBwd.main_arg3))
      ∧ r.2.sem = fun _ => 0)

def quiescent_FirstBwdIdeal [hFirstBwdIdeal : Cert.FirstBwdIdeal.Facts] : Prop :=
  ∀ (m : (ℓ : Loc Cert.FirstBwdIdeal.nD Cert.FirstBwdIdeal.τ Cert.FirstBwdIdeal.sig) → Buf (Elt Ideal) ℓ) (g : Dev Cert.FirstBwdIdeal.nD → PrngReg), Pre_FirstBwdIdeal m →
    θ_run (Cert.FirstBwdIdeal.defs (F := Ideal)) (onTc (τ := Cert.FirstBwdIdeal.τ) (Cert.FirstBwdIdeal.main (F := Ideal))) ⟨m, fun _ => 0, g⟩ (fun r => (∀ c : Dev Cert.FirstBwdIdeal.nD,
      r.2.mem ((c.tc : Thread Cert.FirstBwdIdeal.nD Cert.FirstBwdIdeal.τ).loc Cert.FirstBwdIdeal.main_arg0) = m ((c.tc : Thread Cert.FirstBwdIdeal.nD Cert.FirstBwdIdeal.τ).loc Cert.FirstBwdIdeal.main_arg0)
      ∧ r.2.mem ((c.tc : Thread Cert.FirstBwdIdeal.nD Cert.FirstBwdIdeal.τ).loc Cert.FirstBwdIdeal.main_arg1) = m ((c.tc : Thread Cert.FirstBwdIdeal.nD Cert.FirstBwdIdeal.τ).loc Cert.FirstBwdIdeal.main_arg1)
      ∧ r.2.mem ((c.tc : Thread Cert.FirstBwdIdeal.nD Cert.FirstBwdIdeal.τ).loc Cert.FirstBwdIdeal.main_arg2) = m ((c.tc : Thread Cert.FirstBwdIdeal.nD Cert.FirstBwdIdeal.τ).loc Cert.FirstBwdIdeal.main_arg2)
      ∧ r.2.mem ((c.tc : Thread Cert.FirstBwdIdeal.nD Cert.FirstBwdIdeal.τ).loc Cert.FirstBwdIdeal.main_arg3) = m ((c.tc : Thread Cert.FirstBwdIdeal.nD Cert.FirstBwdIdeal.τ).loc Cert.FirstBwdIdeal.main_arg3))
      ∧ r.2.sem = fun _ => 0)

def quiescent_FirstBwdIdeal_pre_first_finite [hFirstBwdIdeal : Cert.FirstBwdIdeal.Facts] [hPre_first_finite : Cert.Pre_first_finite.Facts] : Prop :=
  ∀ (m : (ℓ : Loc Cert.FirstBwdIdeal.nD Cert.FirstBwdIdeal.τ Cert.FirstBwdIdeal.sig) → Buf (Elt Ideal) ℓ) (g : Dev Cert.FirstBwdIdeal.nD → PrngReg), Pre_FirstBwdIdeal_first_finite m →
    θ_run (Cert.FirstBwdIdeal.defs (F := Ideal)) (onTc (τ := Cert.FirstBwdIdeal.τ) (Cert.FirstBwdIdeal.main (F := Ideal))) ⟨m, fun _ => 0, g⟩ (fun r => (∀ c : Dev Cert.FirstBwdIdeal.nD,
      r.2.mem ((c.tc : Thread Cert.FirstBwdIdeal.nD Cert.FirstBwdIdeal.τ).loc Cert.FirstBwdIdeal.main_arg0) = m ((c.tc : Thread Cert.FirstBwdIdeal.nD Cert.FirstBwdIdeal.τ).loc Cert.FirstBwdIdeal.main_arg0)
      ∧ r.2.mem ((c.tc : Thread Cert.FirstBwdIdeal.nD Cert.FirstBwdIdeal.τ).loc Cert.FirstBwdIdeal.main_arg1) = m ((c.tc : Thread Cert.FirstBwdIdeal.nD Cert.FirstBwdIdeal.τ).loc Cert.FirstBwdIdeal.main_arg1)
      ∧ r.2.mem ((c.tc : Thread Cert.FirstBwdIdeal.nD Cert.FirstBwdIdeal.τ).loc Cert.FirstBwdIdeal.main_arg2) = m ((c.tc : Thread Cert.FirstBwdIdeal.nD Cert.FirstBwdIdeal.τ).loc Cert.FirstBwdIdeal.main_arg2)
      ∧ r.2.mem ((c.tc : Thread Cert.FirstBwdIdeal.nD Cert.FirstBwdIdeal.τ).loc Cert.FirstBwdIdeal.main_arg3) = m ((c.tc : Thread Cert.FirstBwdIdeal.nD Cert.FirstBwdIdeal.τ).loc Cert.FirstBwdIdeal.main_arg3))
      ∧ r.2.sem = fun _ => 0)

def quiescent_FirstBwdRefIdeal [hFirstBwdRefIdeal : Cert.FirstBwdRefIdeal.Facts] : Prop :=
  ∀ (m : (ℓ : Loc Cert.FirstBwdRefIdeal.nD Cert.FirstBwdRefIdeal.τ Cert.FirstBwdRefIdeal.sig) → Buf (Elt Ideal) ℓ) (g : Dev Cert.FirstBwdRefIdeal.nD → PrngReg), Pre_FirstBwdRefIdeal m →
    θ_run (Cert.FirstBwdRefIdeal.defs (F := Ideal)) (onTc (τ := Cert.FirstBwdRefIdeal.τ) (Cert.FirstBwdRefIdeal.main (F := Ideal))) ⟨m, fun _ => 0, g⟩ (fun r => (∀ c : Dev Cert.FirstBwdRefIdeal.nD,
      r.2.mem ((c.tc : Thread Cert.FirstBwdRefIdeal.nD Cert.FirstBwdRefIdeal.τ).loc Cert.FirstBwdRefIdeal.main_arg0) = m ((c.tc : Thread Cert.FirstBwdRefIdeal.nD Cert.FirstBwdRefIdeal.τ).loc Cert.FirstBwdRefIdeal.main_arg0)
      ∧ r.2.mem ((c.tc : Thread Cert.FirstBwdRefIdeal.nD Cert.FirstBwdRefIdeal.τ).loc Cert.FirstBwdRefIdeal.main_arg1) = m ((c.tc : Thread Cert.FirstBwdRefIdeal.nD Cert.FirstBwdRefIdeal.τ).loc Cert.FirstBwdRefIdeal.main_arg1)
      ∧ r.2.mem ((c.tc : Thread Cert.FirstBwdRefIdeal.nD Cert.FirstBwdRefIdeal.τ).loc Cert.FirstBwdRefIdeal.main_arg2) = m ((c.tc : Thread Cert.FirstBwdRefIdeal.nD Cert.FirstBwdRefIdeal.τ).loc Cert.FirstBwdRefIdeal.main_arg2)
      ∧ r.2.mem ((c.tc : Thread Cert.FirstBwdRefIdeal.nD Cert.FirstBwdRefIdeal.τ).loc Cert.FirstBwdRefIdeal.main_arg3) = m ((c.tc : Thread Cert.FirstBwdRefIdeal.nD Cert.FirstBwdRefIdeal.τ).loc Cert.FirstBwdRefIdeal.main_arg3))
      ∧ r.2.sem = fun _ => 0)

def quiescent_FirstBwdRefIdeal_pre_first_finite [hFirstBwdRefIdeal : Cert.FirstBwdRefIdeal.Facts] [hPre_first_finite : Cert.Pre_first_finite.Facts] : Prop :=
  ∀ (m : (ℓ : Loc Cert.FirstBwdRefIdeal.nD Cert.FirstBwdRefIdeal.τ Cert.FirstBwdRefIdeal.sig) → Buf (Elt Ideal) ℓ) (g : Dev Cert.FirstBwdRefIdeal.nD → PrngReg), Pre_FirstBwdRefIdeal_first_finite m →
    θ_run (Cert.FirstBwdRefIdeal.defs (F := Ideal)) (onTc (τ := Cert.FirstBwdRefIdeal.τ) (Cert.FirstBwdRefIdeal.main (F := Ideal))) ⟨m, fun _ => 0, g⟩ (fun r => (∀ c : Dev Cert.FirstBwdRefIdeal.nD,
      r.2.mem ((c.tc : Thread Cert.FirstBwdRefIdeal.nD Cert.FirstBwdRefIdeal.τ).loc Cert.FirstBwdRefIdeal.main_arg0) = m ((c.tc : Thread Cert.FirstBwdRefIdeal.nD Cert.FirstBwdRefIdeal.τ).loc Cert.FirstBwdRefIdeal.main_arg0)
      ∧ r.2.mem ((c.tc : Thread Cert.FirstBwdRefIdeal.nD Cert.FirstBwdRefIdeal.τ).loc Cert.FirstBwdRefIdeal.main_arg1) = m ((c.tc : Thread Cert.FirstBwdRefIdeal.nD Cert.FirstBwdRefIdeal.τ).loc Cert.FirstBwdRefIdeal.main_arg1)
      ∧ r.2.mem ((c.tc : Thread Cert.FirstBwdRefIdeal.nD Cert.FirstBwdRefIdeal.τ).loc Cert.FirstBwdRefIdeal.main_arg2) = m ((c.tc : Thread Cert.FirstBwdRefIdeal.nD Cert.FirstBwdRefIdeal.τ).loc Cert.FirstBwdRefIdeal.main_arg2)
      ∧ r.2.mem ((c.tc : Thread Cert.FirstBwdRefIdeal.nD Cert.FirstBwdRefIdeal.τ).loc Cert.FirstBwdRefIdeal.main_arg3) = m ((c.tc : Thread Cert.FirstBwdRefIdeal.nD Cert.FirstBwdRefIdeal.τ).loc Cert.FirstBwdRefIdeal.main_arg3))
      ∧ r.2.sem = fun _ => 0)

def quiescent_PostFwd [hPostFwd : Cert.PostFwd.Facts] : Prop :=
  ∀ (m : (ℓ : Loc Cert.PostFwd.nD Cert.PostFwd.τ Cert.PostFwd.sig) → Buf (Elt Bits) ℓ) (g : Dev Cert.PostFwd.nD → PrngReg), Pre_PostFwd m →
    θ_run (Cert.PostFwd.defs (F := Bits)) (onTc (τ := Cert.PostFwd.τ) (Cert.PostFwd.main (F := Bits))) ⟨m, fun _ => 0, g⟩ (fun r => (∀ c : Dev Cert.PostFwd.nD,
      r.2.mem ((c.tc : Thread Cert.PostFwd.nD Cert.PostFwd.τ).loc Cert.PostFwd.main_arg0) = m ((c.tc : Thread Cert.PostFwd.nD Cert.PostFwd.τ).loc Cert.PostFwd.main_arg0)
      ∧ r.2.mem ((c.tc : Thread Cert.PostFwd.nD Cert.PostFwd.τ).loc Cert.PostFwd.main_arg1) = m ((c.tc : Thread Cert.PostFwd.nD Cert.PostFwd.τ).loc Cert.PostFwd.main_arg1)
      ∧ r.2.mem ((c.tc : Thread Cert.PostFwd.nD Cert.PostFwd.τ).loc Cert.PostFwd.main_arg2) = m ((c.tc : Thread Cert.PostFwd.nD Cert.PostFwd.τ).loc Cert.PostFwd.main_arg2)
      ∧ r.2.mem ((c.tc : Thread Cert.PostFwd.nD Cert.PostFwd.τ).loc Cert.PostFwd.main_arg3) = m ((c.tc : Thread Cert.PostFwd.nD Cert.PostFwd.τ).loc Cert.PostFwd.main_arg3))
      ∧ r.2.sem = fun _ => 0)

def quiescent_PostFwdIdeal [hPostFwdIdeal : Cert.PostFwdIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg), Pre_PostFwdIdeal m →
    θ_run (Cert.PostFwdIdeal.defs (F := Ideal)) (onTc (τ := Cert.PostFwdIdeal.τ) (Cert.PostFwdIdeal.main (F := Ideal))) ⟨m, fun _ => 0, g⟩ (fun r => (∀ c : Dev Cert.PostFwdIdeal.nD,
      r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
      ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
      ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
      ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3))
      ∧ r.2.sem = fun _ => 0)

def quiescent_PostFwdRefIdeal [hPostFwdRefIdeal : Cert.PostFwdRefIdeal.Facts] : Prop :=
  ∀ (m : (ℓ : Loc Cert.PostFwdRefIdeal.nD Cert.PostFwdRefIdeal.τ Cert.PostFwdRefIdeal.sig) → Buf (Elt Ideal) ℓ) (g : Dev Cert.PostFwdRefIdeal.nD → PrngReg), Pre_PostFwdRefIdeal m →
    θ_run (Cert.PostFwdRefIdeal.defs (F := Ideal)) (onTc (τ := Cert.PostFwdRefIdeal.τ) (Cert.PostFwdRefIdeal.main (F := Ideal))) ⟨m, fun _ => 0, g⟩ (fun r => (∀ c : Dev Cert.PostFwdRefIdeal.nD,
      r.2.mem ((c.tc : Thread Cert.PostFwdRefIdeal.nD Cert.PostFwdRefIdeal.τ).loc Cert.PostFwdRefIdeal.main_arg0) = m ((c.tc : Thread Cert.PostFwdRefIdeal.nD Cert.PostFwdRefIdeal.τ).loc Cert.PostFwdRefIdeal.main_arg0)
      ∧ r.2.mem ((c.tc : Thread Cert.PostFwdRefIdeal.nD Cert.PostFwdRefIdeal.τ).loc Cert.PostFwdRefIdeal.main_arg1) = m ((c.tc : Thread Cert.PostFwdRefIdeal.nD Cert.PostFwdRefIdeal.τ).loc Cert.PostFwdRefIdeal.main_arg1)
      ∧ r.2.mem ((c.tc : Thread Cert.PostFwdRefIdeal.nD Cert.PostFwdRefIdeal.τ).loc Cert.PostFwdRefIdeal.main_arg2) = m ((c.tc : Thread Cert.PostFwdRefIdeal.nD Cert.PostFwdRefIdeal.τ).loc Cert.PostFwdRefIdeal.main_arg2)
      ∧ r.2.mem ((c.tc : Thread Cert.PostFwdRefIdeal.nD Cert.PostFwdRefIdeal.τ).loc Cert.PostFwdRefIdeal.main_arg3) = m ((c.tc : Thread Cert.PostFwdRefIdeal.nD Cert.PostFwdRefIdeal.τ).loc Cert.PostFwdRefIdeal.main_arg3))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_LossHeadRefIdeal_pre_loss_finite [hLossHeadRefIdeal : Cert.LossHeadRefIdeal.Facts] [hPre_loss_finite : Cert.Pre_loss_finite.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal_loss_finite m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2)
      ∧ r.2.mem ((c.tc : Thread Cert.LossHeadRefIdeal.nD Cert.LossHeadRefIdeal.τ).loc Cert.LossHeadRefIdeal.main_arg3) = m ((c.tc : Thread Cert.LossHeadRefIdeal.nD Cert.LossHeadRefIdeal.τ).loc Cert.LossHeadRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4))
      ∧ r.2.sem = fun _ => 0)

def quiescent_MidBwd [hMidBwd : Cert.MidBwd.Facts] : Prop :=
  ∀ (m : (ℓ : Loc Cert.MidBwd.nD Cert.MidBwd.τ Cert.MidBwd.sig) → Buf (Elt Bits) ℓ) (g : Dev Cert.MidBwd.nD → PrngReg), Pre_MidBwd m →
    θ_run (Cert.MidBwd.defs (F := Bits)) (onTc (τ := Cert.MidBwd.τ) (Cert.MidBwd.main (F := Bits))) ⟨m, fun _ => 0, g⟩ (fun r => (∀ c : Dev Cert.MidBwd.nD,
      r.2.mem ((c.tc : Thread Cert.MidBwd.nD Cert.MidBwd.τ).loc Cert.MidBwd.main_arg0) = m ((c.tc : Thread Cert.MidBwd.nD Cert.MidBwd.τ).loc Cert.MidBwd.main_arg0)
      ∧ r.2.mem ((c.tc : Thread Cert.MidBwd.nD Cert.MidBwd.τ).loc Cert.MidBwd.main_arg1) = m ((c.tc : Thread Cert.MidBwd.nD Cert.MidBwd.τ).loc Cert.MidBwd.main_arg1)
      ∧ r.2.mem ((c.tc : Thread Cert.MidBwd.nD Cert.MidBwd.τ).loc Cert.MidBwd.main_arg2) = m ((c.tc : Thread Cert.MidBwd.nD Cert.MidBwd.τ).loc Cert.MidBwd.main_arg2)
      ∧ r.2.mem ((c.tc : Thread Cert.MidBwd.nD Cert.MidBwd.τ).loc Cert.MidBwd.main_arg3) = m ((c.tc : Thread Cert.MidBwd.nD Cert.MidBwd.τ).loc Cert.MidBwd.main_arg3)
      ∧ r.2.mem ((c.tc : Thread Cert.MidBwd.nD Cert.MidBwd.τ).loc Cert.MidBwd.main_arg4) = m ((c.tc : Thread Cert.MidBwd.nD Cert.MidBwd.τ).loc Cert.MidBwd.main_arg4)
      ∧ r.2.mem ((c.tc : Thread Cert.MidBwd.nD Cert.MidBwd.τ).loc Cert.MidBwd.main_arg5) = m ((c.tc : Thread Cert.MidBwd.nD Cert.MidBwd.τ).loc Cert.MidBwd.main_arg5))
      ∧ r.2.sem = fun _ => 0)

def quiescent_MidBwdIdeal [hMidBwdIdeal : Cert.MidBwdIdeal.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
      ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ r.2.sem = fun _ => 0)

def quiescent_MidBwdIdeal_pre_mid_finite [hMidBwdIdeal : Cert.MidBwdIdeal.Facts] [hPre_mid_finite : Cert.Pre_mid_finite.Facts] : Prop :=
  ∀ (m : (ℓ : Loc Cert.MidBwdIdeal.nD Cert.MidBwdIdeal.τ Cert.MidBwdIdeal.sig) → Buf (Elt Ideal) ℓ) (g : Dev Cert.MidBwdIdeal.nD → PrngReg), Pre_MidBwdIdeal_mid_finite m →
    θ_run (Cert.MidBwdIdeal.defs (F := Ideal)) (onTc (τ := Cert.MidBwdIdeal.τ) (Cert.MidBwdIdeal.main (F := Ideal))) ⟨m, fun _ => 0, g⟩ (fun r => (∀ c : Dev Cert.MidBwdIdeal.nD,
      r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
      ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
      ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
      ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
      ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
      ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ r.2.sem = fun _ => 0)

def quiescent_MidBwdRefIdeal [hMidBwdRefIdeal : Cert.MidBwdRefIdeal.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4)
      ∧ r.2.mem ((c.tc : Thread Cert.MidBwdRefIdeal.nD Cert.MidBwdRefIdeal.τ).loc Cert.MidBwdRefIdeal.main_arg5) = m ((c.tc : Thread Cert.MidBwdRefIdeal.nD Cert.MidBwdRefIdeal.τ).loc Cert.MidBwdRefIdeal.main_arg5))
      ∧ r.2.sem = fun _ => 0)

def quiescent_MidBwdRefIdeal_pre_mid_finite [hMidBwdRefIdeal : Cert.MidBwdRefIdeal.Facts] [hPre_mid_finite : Cert.Pre_mid_finite.Facts] : Prop :=
  ∀ (m : (ℓ : Loc Cert.MidBwdRefIdeal.nD Cert.MidBwdRefIdeal.τ Cert.MidBwdRefIdeal.sig) → Buf (Elt Ideal) ℓ) (g : Dev Cert.MidBwdRefIdeal.nD → PrngReg), Pre_MidBwdRefIdeal_mid_finite m →
    θ_run (Cert.MidBwdRefIdeal.defs (F := Ideal)) (onTc (τ := Cert.MidBwdRefIdeal.τ) (Cert.MidBwdRefIdeal.main (F := Ideal))) ⟨m, fun _ => 0, g⟩ (fun r => (∀ c : Dev Cert.MidBwdRefIdeal.nD,
      r.2.mem ((c.tc : Thread Cert.MidBwdRefIdeal.nD Cert.MidBwdRefIdeal.τ).loc Cert.MidBwdRefIdeal.main_arg0) = m ((c.tc : Thread Cert.MidBwdRefIdeal.nD Cert.MidBwdRefIdeal.τ).loc Cert.MidBwdRefIdeal.main_arg0)
      ∧ r.2.mem ((c.tc : Thread Cert.MidBwdRefIdeal.nD Cert.MidBwdRefIdeal.τ).loc Cert.MidBwdRefIdeal.main_arg1) = m ((c.tc : Thread Cert.MidBwdRefIdeal.nD Cert.MidBwdRefIdeal.τ).loc Cert.MidBwdRefIdeal.main_arg1)
      ∧ r.2.mem ((c.tc : Thread Cert.MidBwdRefIdeal.nD Cert.MidBwdRefIdeal.τ).loc Cert.MidBwdRefIdeal.main_arg2) = m ((c.tc : Thread Cert.MidBwdRefIdeal.nD Cert.MidBwdRefIdeal.τ).loc Cert.MidBwdRefIdeal.main_arg2)
      ∧ r.2.mem ((c.tc : Thread Cert.MidBwdRefIdeal.nD Cert.MidBwdRefIdeal.τ).loc Cert.MidBwdRefIdeal.main_arg3) = m ((c.tc : Thread Cert.MidBwdRefIdeal.nD Cert.MidBwdRefIdeal.τ).loc Cert.MidBwdRefIdeal.main_arg3)
      ∧ r.2.mem ((c.tc : Thread Cert.MidBwdRefIdeal.nD Cert.MidBwdRefIdeal.τ).loc Cert.MidBwdRefIdeal.main_arg4) = m ((c.tc : Thread Cert.MidBwdRefIdeal.nD Cert.MidBwdRefIdeal.τ).loc Cert.MidBwdRefIdeal.main_arg4)
      ∧ r.2.mem ((c.tc : Thread Cert.MidBwdRefIdeal.nD Cert.MidBwdRefIdeal.τ).loc Cert.MidBwdRefIdeal.main_arg5) = m ((c.tc : Thread Cert.MidBwdRefIdeal.nD Cert.MidBwdRefIdeal.τ).loc Cert.MidBwdRefIdeal.main_arg5))
      ∧ r.2.sem = fun _ => 0)

def quiescent_MixPost [hMixPost : Cert.MixPost.Facts] : Prop :=
  ∀ (m : (ℓ : Loc Cert.MixPost.nD Cert.MixPost.τ Cert.MixPost.sig) → Buf (Elt Bits) ℓ) (g : Dev Cert.MixPost.nD → PrngReg), Pre_MixPost m →
    θ_run (Cert.MixPost.defs (F := Bits)) (onTc (τ := Cert.MixPost.τ) (Cert.MixPost.main (F := Bits))) ⟨m, fun _ => 0, g⟩ (fun r => (∀ c : Dev Cert.MixPost.nD,
      r.2.mem ((c.tc : Thread Cert.MixPost.nD Cert.MixPost.τ).loc Cert.MixPost.main_arg0) = m ((c.tc : Thread Cert.MixPost.nD Cert.MixPost.τ).loc Cert.MixPost.main_arg0)
      ∧ r.2.mem ((c.tc : Thread Cert.MixPost.nD Cert.MixPost.τ).loc Cert.MixPost.main_arg1) = m ((c.tc : Thread Cert.MixPost.nD Cert.MixPost.τ).loc Cert.MixPost.main_arg1)
      ∧ r.2.mem ((c.tc : Thread Cert.MixPost.nD Cert.MixPost.τ).loc Cert.MixPost.main_arg2) = m ((c.tc : Thread Cert.MixPost.nD Cert.MixPost.τ).loc Cert.MixPost.main_arg2)
      ∧ r.2.mem ((c.tc : Thread Cert.MixPost.nD Cert.MixPost.τ).loc Cert.MixPost.main_arg3) = m ((c.tc : Thread Cert.MixPost.nD Cert.MixPost.τ).loc Cert.MixPost.main_arg3))
      ∧ r.2.sem = fun _ => 0)

def quiescent_MixPostIdeal [hMixPostIdeal : Cert.MixPostIdeal.Facts] : Prop :=
  ∀ (m : (ℓ : Loc Cert.MixPostIdeal.nD Cert.MixPostIdeal.τ Cert.MixPostIdeal.sig) → Buf (Elt Ideal) ℓ) (g : Dev Cert.MixPostIdeal.nD → PrngReg), Pre_MixPostIdeal m →
    θ_run (Cert.MixPostIdeal.defs (F := Ideal)) (onTc (τ := Cert.MixPostIdeal.τ) (Cert.MixPostIdeal.main (F := Ideal))) ⟨m, fun _ => 0, g⟩ (fun r => (∀ c : Dev Cert.MixPostIdeal.nD,
      r.2.mem ((c.tc : Thread Cert.MixPostIdeal.nD Cert.MixPostIdeal.τ).loc Cert.MixPostIdeal.main_arg0) = m ((c.tc : Thread Cert.MixPostIdeal.nD Cert.MixPostIdeal.τ).loc Cert.MixPostIdeal.main_arg0)
      ∧ r.2.mem ((c.tc : Thread Cert.MixPostIdeal.nD Cert.MixPostIdeal.τ).loc Cert.MixPostIdeal.main_arg1) = m ((c.tc : Thread Cert.MixPostIdeal.nD Cert.MixPostIdeal.τ).loc Cert.MixPostIdeal.main_arg1)
      ∧ r.2.mem ((c.tc : Thread Cert.MixPostIdeal.nD Cert.MixPostIdeal.τ).loc Cert.MixPostIdeal.main_arg2) = m ((c.tc : Thread Cert.MixPostIdeal.nD Cert.MixPostIdeal.τ).loc Cert.MixPostIdeal.main_arg2)
      ∧ r.2.mem ((c.tc : Thread Cert.MixPostIdeal.nD Cert.MixPostIdeal.τ).loc Cert.MixPostIdeal.main_arg3) = m ((c.tc : Thread Cert.MixPostIdeal.nD Cert.MixPostIdeal.τ).loc Cert.MixPostIdeal.main_arg3))
      ∧ r.2.sem = fun _ => 0)

def quiescent_MixPostRefIdeal [hMixPostRefIdeal : Cert.MixPostRefIdeal.Facts] : Prop :=
  ∀ (m : (ℓ : Loc Cert.MixPostRefIdeal.nD Cert.MixPostRefIdeal.τ Cert.MixPostRefIdeal.sig) → Buf (Elt Ideal) ℓ) (g : Dev Cert.MixPostRefIdeal.nD → PrngReg), Pre_MixPostRefIdeal m →
    θ_run (Cert.MixPostRefIdeal.defs (F := Ideal)) (onTc (τ := Cert.MixPostRefIdeal.τ) (Cert.MixPostRefIdeal.main (F := Ideal))) ⟨m, fun _ => 0, g⟩ (fun r => (∀ c : Dev Cert.MixPostRefIdeal.nD,
      r.2.mem ((c.tc : Thread Cert.MixPostRefIdeal.nD Cert.MixPostRefIdeal.τ).loc Cert.MixPostRefIdeal.main_arg0) = m ((c.tc : Thread Cert.MixPostRefIdeal.nD Cert.MixPostRefIdeal.τ).loc Cert.MixPostRefIdeal.main_arg0)
      ∧ r.2.mem ((c.tc : Thread Cert.MixPostRefIdeal.nD Cert.MixPostRefIdeal.τ).loc Cert.MixPostRefIdeal.main_arg1) = m ((c.tc : Thread Cert.MixPostRefIdeal.nD Cert.MixPostRefIdeal.τ).loc Cert.MixPostRefIdeal.main_arg1)
      ∧ r.2.mem ((c.tc : Thread Cert.MixPostRefIdeal.nD Cert.MixPostRefIdeal.τ).loc Cert.MixPostRefIdeal.main_arg2) = m ((c.tc : Thread Cert.MixPostRefIdeal.nD Cert.MixPostRefIdeal.τ).loc Cert.MixPostRefIdeal.main_arg2)
      ∧ r.2.mem ((c.tc : Thread Cert.MixPostRefIdeal.nD Cert.MixPostRefIdeal.τ).loc Cert.MixPostRefIdeal.main_arg3) = m ((c.tc : Thread Cert.MixPostRefIdeal.nD Cert.MixPostRefIdeal.τ).loc Cert.MixPostRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdIdeal_pre_conv_finite [hConvFwdIdeal : Cert.ConvFwdIdeal.Facts] [hPre_conv_finite : Cert.Pre_conv_finite.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal_conv_finite m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_ConvFwdRefIdeal_pre_conv_finite [hConvFwdRefIdeal : Cert.ConvFwdRefIdeal.Facts] [hPre_conv_finite : Cert.Pre_conv_finite.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal_conv_finite m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_CastPad [hCastPad : Cert.CastPad.Facts] : Prop :=
  ∀ (m : (ℓ : Loc Cert.CastPad.nD Cert.CastPad.τ Cert.CastPad.sig) → Buf (Elt Bits) ℓ) (g : Dev Cert.CastPad.nD → PrngReg), Pre_CastPad m →
    θ_run (Cert.CastPad.defs (F := Bits)) (onTc (τ := Cert.CastPad.τ) (Cert.CastPad.main (F := Bits))) ⟨m, fun _ => 0, g⟩ (fun r => (∀ c : Dev Cert.CastPad.nD,
      r.2.mem ((c.tc : Thread Cert.CastPad.nD Cert.CastPad.τ).loc Cert.CastPad.main_arg0) = m ((c.tc : Thread Cert.CastPad.nD Cert.CastPad.τ).loc Cert.CastPad.main_arg0))
      ∧ r.2.sem = fun _ => 0)

def quiescent_CastPadIdeal [hCastPadIdeal : Cert.CastPadIdeal.Facts] : Prop :=
  ∀ (m : (ℓ : Loc Cert.CastPadIdeal.nD Cert.CastPadIdeal.τ Cert.CastPadIdeal.sig) → Buf (Elt Ideal) ℓ) (g : Dev Cert.CastPadIdeal.nD → PrngReg), Pre_CastPadIdeal m →
    θ_run (Cert.CastPadIdeal.defs (F := Ideal)) (onTc (τ := Cert.CastPadIdeal.τ) (Cert.CastPadIdeal.main (F := Ideal))) ⟨m, fun _ => 0, g⟩ (fun r => (∀ c : Dev Cert.CastPadIdeal.nD,
      r.2.mem ((c.tc : Thread Cert.CastPadIdeal.nD Cert.CastPadIdeal.τ).loc Cert.CastPadIdeal.main_arg0) = m ((c.tc : Thread Cert.CastPadIdeal.nD Cert.CastPadIdeal.τ).loc Cert.CastPadIdeal.main_arg0))
      ∧ r.2.sem = fun _ => 0)

def quiescent_CastPadRefIdeal [hCastPadRefIdeal : Cert.CastPadRefIdeal.Facts] : Prop :=
  ∀ (m : (ℓ : Loc Cert.CastPadRefIdeal.nD Cert.CastPadRefIdeal.τ Cert.CastPadRefIdeal.sig) → Buf (Elt Ideal) ℓ) (g : Dev Cert.CastPadRefIdeal.nD → PrngReg), Pre_CastPadRefIdeal m →
    θ_run (Cert.CastPadRefIdeal.defs (F := Ideal)) (onTc (τ := Cert.CastPadRefIdeal.τ) (Cert.CastPadRefIdeal.main (F := Ideal))) ⟨m, fun _ => 0, g⟩ (fun r => (∀ c : Dev Cert.CastPadRefIdeal.nD,
      r.2.mem ((c.tc : Thread Cert.CastPadRefIdeal.nD Cert.CastPadRefIdeal.τ).loc Cert.CastPadRefIdeal.main_arg0) = m ((c.tc : Thread Cert.CastPadRefIdeal.nD Cert.CastPadRefIdeal.τ).loc Cert.CastPadRefIdeal.main_arg0))
      ∧ r.2.sem = fun _ => 0)

def quiescent_CastIn [hCastIn : Cert.CastIn.Facts] [hPre_slot_in_range : Cert.Pre_slot_in_range.Facts] : Prop :=
  ∀ (m : (ℓ : Loc Cert.CastIn.nD Cert.CastIn.τ Cert.CastIn.sig) → Buf (Elt Bits) ℓ) (g : Dev Cert.CastIn.nD → PrngReg), Pre_CastIn m →
    θ_run (Cert.CastIn.defs (F := Bits)) (onTc (τ := Cert.CastIn.τ) (Cert.CastIn.main (F := Bits))) ⟨m, fun _ => 0, g⟩ (fun r => (∀ c : Dev Cert.CastIn.nD,
      r.2.mem ((c.tc : Thread Cert.CastIn.nD Cert.CastIn.τ).loc Cert.CastIn.main_arg0) = m ((c.tc : Thread Cert.CastIn.nD Cert.CastIn.τ).loc Cert.CastIn.main_arg0)
      ∧ r.2.mem ((c.tc : Thread Cert.CastIn.nD Cert.CastIn.τ).loc Cert.CastIn.main_arg1) = m ((c.tc : Thread Cert.CastIn.nD Cert.CastIn.τ).loc Cert.CastIn.main_arg1))
      ∧ r.2.sem = fun _ => 0)

def quiescent_CastInIdeal [hCastInIdeal : Cert.CastInIdeal.Facts] [hPre_slot_in_range : Cert.Pre_slot_in_range.Facts] : Prop :=
  ∀ (m : (ℓ : Loc Cert.CastInIdeal.nD Cert.CastInIdeal.τ Cert.CastInIdeal.sig) → Buf (Elt Ideal) ℓ) (g : Dev Cert.CastInIdeal.nD → PrngReg), Pre_CastInIdeal m →
    θ_run (Cert.CastInIdeal.defs (F := Ideal)) (onTc (τ := Cert.CastInIdeal.τ) (Cert.CastInIdeal.main (F := Ideal))) ⟨m, fun _ => 0, g⟩ (fun r => (∀ c : Dev Cert.CastInIdeal.nD,
      r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0)
      ∧ r.2.mem ((c.tc : Thread Cert.CastInIdeal.nD Cert.CastInIdeal.τ).loc Cert.CastInIdeal.main_arg1) = m ((c.tc : Thread Cert.CastInIdeal.nD Cert.CastInIdeal.τ).loc Cert.CastInIdeal.main_arg1))
      ∧ r.2.sem = fun _ => 0)

def quiescent_CastInRefIdeal [hCastInRefIdeal : Cert.CastInRefIdeal.Facts] : Prop :=
  ∀ (m : (ℓ : Loc Cert.CastInRefIdeal.nD Cert.CastInRefIdeal.τ Cert.CastInRefIdeal.sig) → Buf (Elt Ideal) ℓ) (g : Dev Cert.CastInRefIdeal.nD → PrngReg), Pre_CastInRefIdeal m →
    θ_run (Cert.CastInRefIdeal.defs (F := Ideal)) (onTc (τ := Cert.CastInRefIdeal.τ) (Cert.CastInRefIdeal.main (F := Ideal))) ⟨m, fun _ => 0, g⟩ (fun r => (∀ c : Dev Cert.CastInRefIdeal.nD,
      r.2.mem ((c.tc : Thread Cert.CastInRefIdeal.nD Cert.CastInRefIdeal.τ).loc Cert.CastInRefIdeal.main_arg0) = m ((c.tc : Thread Cert.CastInRefIdeal.nD Cert.CastInRefIdeal.τ).loc Cert.CastInRefIdeal.main_arg0)
      ∧ r.2.mem ((c.tc : Thread Cert.CastInRefIdeal.nD Cert.CastInRefIdeal.τ).loc Cert.CastInRefIdeal.main_arg1) = m ((c.tc : Thread Cert.CastInRefIdeal.nD Cert.CastInRefIdeal.τ).loc Cert.CastInRefIdeal.main_arg1))
      ∧ r.2.sem = fun _ => 0)

def quiescent_CastInRefIdeal_pre_slot_in_range [hCastInRefIdeal : Cert.CastInRefIdeal.Facts] [hPre_slot_in_range : Cert.Pre_slot_in_range.Facts] : Prop :=
  ∀ (m : (ℓ : Loc Cert.CastInRefIdeal.nD Cert.CastInRefIdeal.τ Cert.CastInRefIdeal.sig) → Buf (Elt Ideal) ℓ) (g : Dev Cert.CastInRefIdeal.nD → PrngReg), Pre_CastInRefIdeal_slot_in_range m →
    θ_run (Cert.CastInRefIdeal.defs (F := Ideal)) (onTc (τ := Cert.CastInRefIdeal.τ) (Cert.CastInRefIdeal.main (F := Ideal))) ⟨m, fun _ => 0, g⟩ (fun r => (∀ c : Dev Cert.CastInRefIdeal.nD,
      r.2.mem ((c.tc : Thread Cert.CastInRefIdeal.nD Cert.CastInRefIdeal.τ).loc Cert.CastInRefIdeal.main_arg0) = m ((c.tc : Thread Cert.CastInRefIdeal.nD Cert.CastInRefIdeal.τ).loc Cert.CastInRefIdeal.main_arg0)
      ∧ r.2.mem ((c.tc : Thread Cert.CastInRefIdeal.nD Cert.CastInRefIdeal.τ).loc Cert.CastInRefIdeal.main_arg1) = m ((c.tc : Thread Cert.CastInRefIdeal.nD Cert.CastInRefIdeal.τ).loc Cert.CastInRefIdeal.main_arg1))
      ∧ r.2.sem = fun _ => 0)

def preserves_Act_ActIdeal : Prop :=
  True

def algebraic_ActIdeal_ActRefIdeal_pre_act_finite [hActIdeal : Cert.ActIdeal.Facts] [hActRefIdeal : Cert.ActRefIdeal.Facts] [hPre_act_finite : Cert.Pre_act_finite.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal_act_finite m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)
      ∧ m' ((c.tc : Thread Cert.ActRefIdeal.nD Cert.ActRefIdeal.τ).loc Cert.ActRefIdeal.main_arg3) = m ((c.tc : Thread Cert.ActIdeal.nD Cert.ActIdeal.τ).loc Cert.ActIdeal.main_arg3)) →
    ∃ (v0 : (c : Dev Cert.ActIdeal.nD) → Buf (Elt Ideal) ((c.tc : Thread Cert.ActIdeal.nD Cert.ActIdeal.τ).loc Cert.ActIdeal.main_v0_0)) (v1 : (c : Dev Cert.ActIdeal.nD) → Buf (Elt Ideal) ((c.tc : Thread Cert.ActIdeal.nD Cert.ActIdeal.τ).loc Cert.ActIdeal.main_v0_1)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0_0) = v0 c
          ∧ r.2.mem ((c.tc : Thread Cert.ActIdeal.nD Cert.ActIdeal.τ).loc Cert.ActIdeal.main_v0_1) = v1 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2)
          ∧ r.2.mem ((c.tc : Thread Cert.ActIdeal.nD Cert.ActIdeal.τ).loc Cert.ActIdeal.main_arg3) = m ((c.tc : Thread Cert.ActIdeal.nD Cert.ActIdeal.τ).loc Cert.ActIdeal.main_arg3))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v12) = v0 c
          ∧ r.2.mem ((c.tc : Thread Cert.ActRefIdeal.nD Cert.ActRefIdeal.τ).loc Cert.ActRefIdeal.main_v13) = v1 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2)
          ∧ r.2.mem ((c.tc : Thread Cert.ActRefIdeal.nD Cert.ActRefIdeal.τ).loc Cert.ActRefIdeal.main_arg3) = m' ((c.tc : Thread Cert.ActRefIdeal.nD Cert.ActRefIdeal.τ).loc Cert.ActRefIdeal.main_arg3))

def preserves_Wgrad_WgradIdeal : Prop :=
  True

def algebraic_WgradIdeal_WgradRefIdeal [hWgradIdeal : Cert.WgradIdeal.Facts] [hWgradRefIdeal : Cert.WgradRefIdeal.Facts] : Prop :=
  ∀ (m : (ℓ : Loc Cert.WgradIdeal.nD Cert.WgradIdeal.τ Cert.WgradIdeal.sig) → Buf (Elt Ideal) ℓ) (g : Dev Cert.WgradIdeal.nD → PrngReg)
    (m' : (ℓ : Loc Cert.WgradRefIdeal.nD Cert.WgradRefIdeal.τ Cert.WgradRefIdeal.sig) → Buf (Elt Ideal) ℓ) (g' : Dev Cert.WgradRefIdeal.nD → PrngReg), Pre_WgradIdeal m →
    (∀ c : Dev Cert.WgradIdeal.nD,
      m' ((c.tc : Thread Cert.WgradRefIdeal.nD Cert.WgradRefIdeal.τ).loc Cert.WgradRefIdeal.main_arg0) = m ((c.tc : Thread Cert.WgradIdeal.nD Cert.WgradIdeal.τ).loc Cert.WgradIdeal.main_arg0)
      ∧ m' ((c.tc : Thread Cert.WgradRefIdeal.nD Cert.WgradRefIdeal.τ).loc Cert.WgradRefIdeal.main_arg1) = m ((c.tc : Thread Cert.WgradIdeal.nD Cert.WgradIdeal.τ).loc Cert.WgradIdeal.main_arg1)) →
    ∃ (v0 : (c : Dev Cert.WgradIdeal.nD) → Buf (Elt Ideal) ((c.tc : Thread Cert.WgradIdeal.nD Cert.WgradIdeal.τ).loc Cert.WgradIdeal.main_v0)),
      θ_run (Cert.WgradIdeal.defs (F := Ideal)) (onTc (τ := Cert.WgradIdeal.τ) (Cert.WgradIdeal.main (F := Ideal))) ⟨m, fun _ => 0, g⟩ (fun r => ∀ c : Dev Cert.WgradIdeal.nD,
          r.2.mem ((c.tc : Thread Cert.WgradIdeal.nD Cert.WgradIdeal.τ).loc Cert.WgradIdeal.main_v0) = v0 c
          ∧ r.2.mem ((c.tc : Thread Cert.WgradIdeal.nD Cert.WgradIdeal.τ).loc Cert.WgradIdeal.main_arg0) = m ((c.tc : Thread Cert.WgradIdeal.nD Cert.WgradIdeal.τ).loc Cert.WgradIdeal.main_arg0)
          ∧ r.2.mem ((c.tc : Thread Cert.WgradIdeal.nD Cert.WgradIdeal.τ).loc Cert.WgradIdeal.main_arg1) = m ((c.tc : Thread Cert.WgradIdeal.nD Cert.WgradIdeal.τ).loc Cert.WgradIdeal.main_arg1))
      ∧ θ_run (Cert.WgradRefIdeal.defs (F := Ideal)) (onTc (τ := Cert.WgradRefIdeal.τ) (Cert.WgradRefIdeal.main (F := Ideal))) ⟨m', fun _ => 0, g'⟩ (fun r => ∀ c : Dev Cert.WgradRefIdeal.nD,
          r.2.mem ((c.tc : Thread Cert.WgradRefIdeal.nD Cert.WgradRefIdeal.τ).loc Cert.WgradRefIdeal.main_v7) = v0 c
          ∧ r.2.mem ((c.tc : Thread Cert.WgradRefIdeal.nD Cert.WgradRefIdeal.τ).loc Cert.WgradRefIdeal.main_arg0) = m' ((c.tc : Thread Cert.WgradRefIdeal.nD Cert.WgradRefIdeal.τ).loc Cert.WgradRefIdeal.main_arg0)
          ∧ r.2.mem ((c.tc : Thread Cert.WgradRefIdeal.nD Cert.WgradRefIdeal.τ).loc Cert.WgradRefIdeal.main_arg1) = m' ((c.tc : Thread Cert.WgradRefIdeal.nD Cert.WgradRefIdeal.τ).loc Cert.WgradRefIdeal.main_arg1))

def preserves_NormBwd_NormBwdIdeal : Prop :=
  True

def algebraic_NormBwdIdeal_NormBwdRefIdeal_pre_pre_finite [hNormBwdIdeal : Cert.NormBwdIdeal.Facts] [hNormBwdRefIdeal : Cert.NormBwdRefIdeal.Facts] [hPre_pre_finite : Cert.Pre_pre_finite.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal_pre_finite m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v34) = v0 c
          ∧ r.2.mem ((c.tc : Thread Cert.NormBwdRefIdeal.nD Cert.NormBwdRefIdeal.τ).loc Cert.NormBwdRefIdeal.main_v69) = v1 c
          ∧ r.2.mem ((c.tc : Thread Cert.NormBwdRefIdeal.nD Cert.NormBwdRefIdeal.τ).loc Cert.NormBwdRefIdeal.main_v17) = v2 c
          ∧ r.2.mem ((c.tc : Thread Cert.NormBwdRefIdeal.nD Cert.NormBwdRefIdeal.τ).loc Cert.NormBwdRefIdeal.main_v52) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_UpBwd_UpBwdIdeal : Prop :=
  True

def algebraic_UpBwdIdeal_UpBwdRefIdeal [hUpBwdIdeal : Cert.UpBwdIdeal.Facts] [hUpBwdRefIdeal : Cert.UpBwdRefIdeal.Facts] : Prop :=
  ∀ (m : (ℓ : Loc Cert.UpBwdIdeal.nD Cert.UpBwdIdeal.τ Cert.UpBwdIdeal.sig) → Buf (Elt Ideal) ℓ) (g : Dev Cert.UpBwdIdeal.nD → PrngReg)
    (m' : (ℓ : Loc Cert.UpBwdRefIdeal.nD Cert.UpBwdRefIdeal.τ Cert.UpBwdRefIdeal.sig) → Buf (Elt Ideal) ℓ) (g' : Dev Cert.UpBwdRefIdeal.nD → PrngReg), Pre_UpBwdIdeal m →
    (∀ c : Dev Cert.UpBwdIdeal.nD,
      m' ((c.tc : Thread Cert.UpBwdRefIdeal.nD Cert.UpBwdRefIdeal.τ).loc Cert.UpBwdRefIdeal.main_arg0) = m ((c.tc : Thread Cert.UpBwdIdeal.nD Cert.UpBwdIdeal.τ).loc Cert.UpBwdIdeal.main_arg0)
      ∧ m' ((c.tc : Thread Cert.UpBwdRefIdeal.nD Cert.UpBwdRefIdeal.τ).loc Cert.UpBwdRefIdeal.main_arg1) = m ((c.tc : Thread Cert.UpBwdIdeal.nD Cert.UpBwdIdeal.τ).loc Cert.UpBwdIdeal.main_arg1)
      ∧ m' ((c.tc : Thread Cert.UpBwdRefIdeal.nD Cert.UpBwdRefIdeal.τ).loc Cert.UpBwdRefIdeal.main_arg2) = m ((c.tc : Thread Cert.UpBwdIdeal.nD Cert.UpBwdIdeal.τ).loc Cert.UpBwdIdeal.main_arg2)
      ∧ m' ((c.tc : Thread Cert.UpBwdRefIdeal.nD Cert.UpBwdRefIdeal.τ).loc Cert.UpBwdRefIdeal.main_arg3) = m ((c.tc : Thread Cert.UpBwdIdeal.nD Cert.UpBwdIdeal.τ).loc Cert.UpBwdIdeal.main_arg3)) →
    ∃ (v0 : (c : Dev Cert.UpBwdIdeal.nD) → Buf (Elt Ideal) ((c.tc : Thread Cert.UpBwdIdeal.nD Cert.UpBwdIdeal.τ).loc Cert.UpBwdIdeal.main_v0)),
      θ_run (Cert.UpBwdIdeal.defs (F := Ideal)) (onTc (τ := Cert.UpBwdIdeal.τ) (Cert.UpBwdIdeal.main (F := Ideal))) ⟨m, fun _ => 0, g⟩ (fun r => ∀ c : Dev Cert.UpBwdIdeal.nD,
          r.2.mem ((c.tc : Thread Cert.UpBwdIdeal.nD Cert.UpBwdIdeal.τ).loc Cert.UpBwdIdeal.main_v0) = v0 c
          ∧ r.2.mem ((c.tc : Thread Cert.UpBwdIdeal.nD Cert.UpBwdIdeal.τ).loc Cert.UpBwdIdeal.main_arg0) = m ((c.tc : Thread Cert.UpBwdIdeal.nD Cert.UpBwdIdeal.τ).loc Cert.UpBwdIdeal.main_arg0)
          ∧ r.2.mem ((c.tc : Thread Cert.UpBwdIdeal.nD Cert.UpBwdIdeal.τ).loc Cert.UpBwdIdeal.main_arg1) = m ((c.tc : Thread Cert.UpBwdIdeal.nD Cert.UpBwdIdeal.τ).loc Cert.UpBwdIdeal.main_arg1)
          ∧ r.2.mem ((c.tc : Thread Cert.UpBwdIdeal.nD Cert.UpBwdIdeal.τ).loc Cert.UpBwdIdeal.main_arg2) = m ((c.tc : Thread Cert.UpBwdIdeal.nD Cert.UpBwdIdeal.τ).loc Cert.UpBwdIdeal.main_arg2)
          ∧ r.2.mem ((c.tc : Thread Cert.UpBwdIdeal.nD Cert.UpBwdIdeal.τ).loc Cert.UpBwdIdeal.main_arg3) = m ((c.tc : Thread Cert.UpBwdIdeal.nD Cert.UpBwdIdeal.τ).loc Cert.UpBwdIdeal.main_arg3))
      ∧ θ_run (Cert.UpBwdRefIdeal.defs (F := Ideal)) (onTc (τ := Cert.UpBwdRefIdeal.τ) (Cert.UpBwdRefIdeal.main (F := Ideal))) ⟨m', fun _ => 0, g'⟩ (fun r => ∀ c : Dev Cert.UpBwdRefIdeal.nD,
          r.2.mem ((c.tc : Thread Cert.UpBwdRefIdeal.nD Cert.UpBwdRefIdeal.τ).loc Cert.UpBwdRefIdeal.main_v13) = v0 c
          ∧ r.2.mem ((c.tc : Thread Cert.UpBwdRefIdeal.nD Cert.UpBwdRefIdeal.τ).loc Cert.UpBwdRefIdeal.main_arg0) = m' ((c.tc : Thread Cert.UpBwdRefIdeal.nD Cert.UpBwdRefIdeal.τ).loc Cert.UpBwdRefIdeal.main_arg0)
          ∧ r.2.mem ((c.tc : Thread Cert.UpBwdRefIdeal.nD Cert.UpBwdRefIdeal.τ).loc Cert.UpBwdRefIdeal.main_arg1) = m' ((c.tc : Thread Cert.UpBwdRefIdeal.nD Cert.UpBwdRefIdeal.τ).loc Cert.UpBwdRefIdeal.main_arg1)
          ∧ r.2.mem ((c.tc : Thread Cert.UpBwdRefIdeal.nD Cert.UpBwdRefIdeal.τ).loc Cert.UpBwdRefIdeal.main_arg2) = m' ((c.tc : Thread Cert.UpBwdRefIdeal.nD Cert.UpBwdRefIdeal.τ).loc Cert.UpBwdRefIdeal.main_arg2)
          ∧ r.2.mem ((c.tc : Thread Cert.UpBwdRefIdeal.nD Cert.UpBwdRefIdeal.τ).loc Cert.UpBwdRefIdeal.main_arg3) = m' ((c.tc : Thread Cert.UpBwdRefIdeal.nD Cert.UpBwdRefIdeal.τ).loc Cert.UpBwdRefIdeal.main_arg3))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)) →
    ∃ (v0 : (c : Dev Cert.InBwdIdeal.nD) → Buf (Elt Ideal) ((c.tc : Thread Cert.InBwdIdeal.nD Cert.InBwdIdeal.τ).loc Cert.InBwdIdeal.main_v0)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v0) = v0 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v6) = v0 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)) →
    ∃ (v0 : (c : Dev Cert.InWgradIdeal.nD) → Buf (Elt Ideal) ((c.tc : Thread Cert.InWgradIdeal.nD Cert.InWgradIdeal.τ).loc Cert.InWgradIdeal.main_v0)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v0) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v8) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1))

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)) →
    ∃ (v0 : (c : Dev Cert.OutBwdIdeal.nD) → Buf (Elt Ideal) ((c.tc : Thread Cert.OutBwdIdeal.nD Cert.OutBwdIdeal.τ).loc Cert.OutBwdIdeal.main_v0)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v0) = v0 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v5) = v0 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)) →
    ∃ (v0 : (c : Dev Cert.OutWgradIdeal.nD) → Buf (Elt Ideal) ((c.tc : Thread Cert.OutWgradIdeal.nD Cert.OutWgradIdeal.τ).loc Cert.OutWgradIdeal.main_v0)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v0) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v7) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1))

def preserves_FfnUp_FfnUpIdeal : Prop :=
  True

def algebraic_FfnUpIdeal_FfnUpRefIdeal_pre_ffn_up_finite [hFfnUpIdeal : Cert.FfnUpIdeal.Facts] [hFfnUpRefIdeal : Cert.FfnUpRefIdeal.Facts] [hPre_ffn_up_finite : Cert.Pre_ffn_up_finite.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_ffn_up_finite m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v9) = v0 c
          ∧ r.2.mem ((c.tc : Thread Cert.FfnUpRefIdeal.nD Cert.FfnUpRefIdeal.τ).loc Cert.FfnUpRefIdeal.main_v10) = v1 c
          ∧ r.2.mem ((c.tc : Thread Cert.FfnUpRefIdeal.nD Cert.FfnUpRefIdeal.τ).loc Cert.FfnUpRefIdeal.main_v13) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v1) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_AdamFfn_AdamFfnIdeal : Prop :=
  True

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v0) = v0 c
          ∧ r.2.mem ((c.tc : Thread Cert.AdamFfnRefIdeal.nD Cert.AdamFfnRefIdeal.τ).loc Cert.AdamFfnRefIdeal.main_v24) = v1 c
          ∧ r.2.mem ((c.tc : Thread Cert.AdamFfnRefIdeal.nD Cert.AdamFfnRefIdeal.τ).loc Cert.AdamFfnRefIdeal.main_v5) = v2 c
          ∧ r.2.mem ((c.tc : Thread Cert.AdamFfnRefIdeal.nD Cert.AdamFfnRefIdeal.τ).loc Cert.AdamFfnRefIdeal.main_v11) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_arg1) = v0 c
          ∧ r.2.mem ((c.tc : Thread Cert.AdamInRefIdeal.nD Cert.AdamInRefIdeal.τ).loc Cert.AdamInRefIdeal.main_v23) = v1 c
          ∧ r.2.mem ((c.tc : Thread Cert.AdamInRefIdeal.nD Cert.AdamInRefIdeal.τ).loc Cert.AdamInRefIdeal.main_v4) = v2 c
          ∧ r.2.mem ((c.tc : Thread Cert.AdamInRefIdeal.nD Cert.AdamInRefIdeal.τ).loc Cert.AdamInRefIdeal.main_v10) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_arg1) = v0 c
          ∧ r.2.mem ((c.tc : Thread Cert.AdamOutRefIdeal.nD Cert.AdamOutRefIdeal.τ).loc Cert.AdamOutRefIdeal.main_v23) = v1 c
          ∧ r.2.mem ((c.tc : Thread Cert.AdamOutRefIdeal.nD Cert.AdamOutRefIdeal.τ).loc Cert.AdamOutRefIdeal.main_v4) = v2 c
          ∧ r.2.mem ((c.tc : Thread Cert.AdamOutRefIdeal.nD Cert.AdamOutRefIdeal.τ).loc Cert.AdamOutRefIdeal.main_v10) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_FirstBwd_FirstBwdIdeal : Prop :=
  True

def algebraic_FirstBwdIdeal_FirstBwdRefIdeal_pre_first_finite [hFirstBwdIdeal : Cert.FirstBwdIdeal.Facts] [hFirstBwdRefIdeal : Cert.FirstBwdRefIdeal.Facts] [hPre_first_finite : Cert.Pre_first_finite.Facts] : Prop :=
  ∀ (m : (ℓ : Loc Cert.FirstBwdIdeal.nD Cert.FirstBwdIdeal.τ Cert.FirstBwdIdeal.sig) → Buf (Elt Ideal) ℓ) (g : Dev Cert.FirstBwdIdeal.nD → PrngReg)
    (m' : (ℓ : Loc Cert.FirstBwdRefIdeal.nD Cert.FirstBwdRefIdeal.τ Cert.FirstBwdRefIdeal.sig) → Buf (Elt Ideal) ℓ) (g' : Dev Cert.FirstBwdRefIdeal.nD → PrngReg), Pre_FirstBwdIdeal_first_finite m →
    (∀ c : Dev Cert.FirstBwdIdeal.nD,
      m' ((c.tc : Thread Cert.FirstBwdRefIdeal.nD Cert.FirstBwdRefIdeal.τ).loc Cert.FirstBwdRefIdeal.main_arg0) = m ((c.tc : Thread Cert.FirstBwdIdeal.nD Cert.FirstBwdIdeal.τ).loc Cert.FirstBwdIdeal.main_arg0)
      ∧ m' ((c.tc : Thread Cert.FirstBwdRefIdeal.nD Cert.FirstBwdRefIdeal.τ).loc Cert.FirstBwdRefIdeal.main_arg1) = m ((c.tc : Thread Cert.FirstBwdIdeal.nD Cert.FirstBwdIdeal.τ).loc Cert.FirstBwdIdeal.main_arg1)
      ∧ m' ((c.tc : Thread Cert.FirstBwdRefIdeal.nD Cert.FirstBwdRefIdeal.τ).loc Cert.FirstBwdRefIdeal.main_arg2) = m ((c.tc : Thread Cert.FirstBwdIdeal.nD Cert.FirstBwdIdeal.τ).loc Cert.FirstBwdIdeal.main_arg2)
      ∧ m' ((c.tc : Thread Cert.FirstBwdRefIdeal.nD Cert.FirstBwdRefIdeal.τ).loc Cert.FirstBwdRefIdeal.main_arg3) = m ((c.tc : Thread Cert.FirstBwdIdeal.nD Cert.FirstBwdIdeal.τ).loc Cert.FirstBwdIdeal.main_arg3)) →
    ∃ (v0 : (c : Dev Cert.FirstBwdIdeal.nD) → Buf (Elt Ideal) ((c.tc : Thread Cert.FirstBwdIdeal.nD Cert.FirstBwdIdeal.τ).loc Cert.FirstBwdIdeal.main_v0_0)) (v1 : (c : Dev Cert.FirstBwdIdeal.nD) → Buf (Elt Ideal) ((c.tc : Thread Cert.FirstBwdIdeal.nD Cert.FirstBwdIdeal.τ).loc Cert.FirstBwdIdeal.main_v0_1)),
      θ_run (Cert.FirstBwdIdeal.defs (F := Ideal)) (onTc (τ := Cert.FirstBwdIdeal.τ) (Cert.FirstBwdIdeal.main (F := Ideal))) ⟨m, fun _ => 0, g⟩ (fun r => ∀ c : Dev Cert.FirstBwdIdeal.nD,
          r.2.mem ((c.tc : Thread Cert.FirstBwdIdeal.nD Cert.FirstBwdIdeal.τ).loc Cert.FirstBwdIdeal.main_v0_0) = v0 c
          ∧ r.2.mem ((c.tc : Thread Cert.FirstBwdIdeal.nD Cert.FirstBwdIdeal.τ).loc Cert.FirstBwdIdeal.main_v0_1) = v1 c
          ∧ r.2.mem ((c.tc : Thread Cert.FirstBwdIdeal.nD Cert.FirstBwdIdeal.τ).loc Cert.FirstBwdIdeal.main_arg0) = m ((c.tc : Thread Cert.FirstBwdIdeal.nD Cert.FirstBwdIdeal.τ).loc Cert.FirstBwdIdeal.main_arg0)
          ∧ r.2.mem ((c.tc : Thread Cert.FirstBwdIdeal.nD Cert.FirstBwdIdeal.τ).loc Cert.FirstBwdIdeal.main_arg1) = m ((c.tc : Thread Cert.FirstBwdIdeal.nD Cert.FirstBwdIdeal.τ).loc Cert.FirstBwdIdeal.main_arg1)
          ∧ r.2.mem ((c.tc : Thread Cert.FirstBwdIdeal.nD Cert.FirstBwdIdeal.τ).loc Cert.FirstBwdIdeal.main_arg2) = m ((c.tc : Thread Cert.FirstBwdIdeal.nD Cert.FirstBwdIdeal.τ).loc Cert.FirstBwdIdeal.main_arg2)
          ∧ r.2.mem ((c.tc : Thread Cert.FirstBwdIdeal.nD Cert.FirstBwdIdeal.τ).loc Cert.FirstBwdIdeal.main_arg3) = m ((c.tc : Thread Cert.FirstBwdIdeal.nD Cert.FirstBwdIdeal.τ).loc Cert.FirstBwdIdeal.main_arg3))
      ∧ θ_run (Cert.FirstBwdRefIdeal.defs (F := Ideal)) (onTc (τ := Cert.FirstBwdRefIdeal.τ) (Cert.FirstBwdRefIdeal.main (F := Ideal))) ⟨m', fun _ => 0, g'⟩ (fun r => ∀ c : Dev Cert.FirstBwdRefIdeal.nD,
          r.2.mem ((c.tc : Thread Cert.FirstBwdRefIdeal.nD Cert.FirstBwdRefIdeal.τ).loc Cert.FirstBwdRefIdeal.main_v34) = v0 c
          ∧ r.2.mem ((c.tc : Thread Cert.FirstBwdRefIdeal.nD Cert.FirstBwdRefIdeal.τ).loc Cert.FirstBwdRefIdeal.main_v17) = v1 c
          ∧ r.2.mem ((c.tc : Thread Cert.FirstBwdRefIdeal.nD Cert.FirstBwdRefIdeal.τ).loc Cert.FirstBwdRefIdeal.main_arg0) = m' ((c.tc : Thread Cert.FirstBwdRefIdeal.nD Cert.FirstBwdRefIdeal.τ).loc Cert.FirstBwdRefIdeal.main_arg0)
          ∧ r.2.mem ((c.tc : Thread Cert.FirstBwdRefIdeal.nD Cert.FirstBwdRefIdeal.τ).loc Cert.FirstBwdRefIdeal.main_arg1) = m' ((c.tc : Thread Cert.FirstBwdRefIdeal.nD Cert.FirstBwdRefIdeal.τ).loc Cert.FirstBwdRefIdeal.main_arg1)
          ∧ r.2.mem ((c.tc : Thread Cert.FirstBwdRefIdeal.nD Cert.FirstBwdRefIdeal.τ).loc Cert.FirstBwdRefIdeal.main_arg2) = m' ((c.tc : Thread Cert.FirstBwdRefIdeal.nD Cert.FirstBwdRefIdeal.τ).loc Cert.FirstBwdRefIdeal.main_arg2)
          ∧ r.2.mem ((c.tc : Thread Cert.FirstBwdRefIdeal.nD Cert.FirstBwdRefIdeal.τ).loc Cert.FirstBwdRefIdeal.main_arg3) = m' ((c.tc : Thread Cert.FirstBwdRefIdeal.nD Cert.FirstBwdRefIdeal.τ).loc Cert.FirstBwdRefIdeal.main_arg3))

def preserves_PostFwd_PostFwdIdeal : Prop :=
  True

def algebraic_PostFwdIdeal_PostFwdRefIdeal [hPostFwdIdeal : Cert.PostFwdIdeal.Facts] [hPostFwdRefIdeal : Cert.PostFwdRefIdeal.Facts] : Prop :=
  ∀ (m : (ℓ : Loc Cert.PostFwdIdeal.nD Cert.PostFwdIdeal.τ Cert.PostFwdIdeal.sig) → Buf (Elt Ideal) ℓ) (g : Dev Cert.PostFwdIdeal.nD → PrngReg)
    (m' : (ℓ : Loc Cert.PostFwdRefIdeal.nD Cert.PostFwdRefIdeal.τ Cert.PostFwdRefIdeal.sig) → Buf (Elt Ideal) ℓ) (g' : Dev Cert.PostFwdRefIdeal.nD → PrngReg), Pre_PostFwdIdeal m →
    (∀ c : Dev Cert.PostFwdIdeal.nD,
      m' ((c.tc : Thread Cert.PostFwdRefIdeal.nD Cert.PostFwdRefIdeal.τ).loc Cert.PostFwdRefIdeal.main_arg0) = m ((c.tc : Thread Cert.PostFwdIdeal.nD Cert.PostFwdIdeal.τ).loc Cert.PostFwdIdeal.main_arg0)
      ∧ m' ((c.tc : Thread Cert.PostFwdRefIdeal.nD Cert.PostFwdRefIdeal.τ).loc Cert.PostFwdRefIdeal.main_arg1) = m ((c.tc : Thread Cert.PostFwdIdeal.nD Cert.PostFwdIdeal.τ).loc Cert.PostFwdIdeal.main_arg1)
      ∧ m' ((c.tc : Thread Cert.PostFwdRefIdeal.nD Cert.PostFwdRefIdeal.τ).loc Cert.PostFwdRefIdeal.main_arg2) = m ((c.tc : Thread Cert.PostFwdIdeal.nD Cert.PostFwdIdeal.τ).loc Cert.PostFwdIdeal.main_arg2)
      ∧ m' ((c.tc : Thread Cert.PostFwdRefIdeal.nD Cert.PostFwdRefIdeal.τ).loc Cert.PostFwdRefIdeal.main_arg3) = m ((c.tc : Thread Cert.PostFwdIdeal.nD Cert.PostFwdIdeal.τ).loc Cert.PostFwdIdeal.main_arg3)) →
    ∃ (v0 : (c : Dev Cert.PostFwdIdeal.nD) → Buf (Elt Ideal) ((c.tc : Thread Cert.PostFwdIdeal.nD Cert.PostFwdIdeal.τ).loc Cert.PostFwdIdeal.main_v0_0)) (v1 : (c : Dev Cert.PostFwdIdeal.nD) → Buf (Elt Ideal) ((c.tc : Thread Cert.PostFwdIdeal.nD Cert.PostFwdIdeal.τ).loc Cert.PostFwdIdeal.main_v0_1)),
      θ_run (Cert.PostFwdIdeal.defs (F := Ideal)) (onTc (τ := Cert.PostFwdIdeal.τ) (Cert.PostFwdIdeal.main (F := Ideal))) ⟨m, fun _ => 0, g⟩ (fun r => ∀ c : Dev Cert.PostFwdIdeal.nD,
          r.2.mem ((c.tc : Thread Cert.PostFwdIdeal.nD Cert.PostFwdIdeal.τ).loc Cert.PostFwdIdeal.main_v0_0) = v0 c
          ∧ r.2.mem ((c.tc : Thread Cert.PostFwdIdeal.nD Cert.PostFwdIdeal.τ).loc Cert.PostFwdIdeal.main_v0_1) = v1 c
          ∧ r.2.mem ((c.tc : Thread Cert.PostFwdIdeal.nD Cert.PostFwdIdeal.τ).loc Cert.PostFwdIdeal.main_arg0) = m ((c.tc : Thread Cert.PostFwdIdeal.nD Cert.PostFwdIdeal.τ).loc Cert.PostFwdIdeal.main_arg0)
          ∧ r.2.mem ((c.tc : Thread Cert.PostFwdIdeal.nD Cert.PostFwdIdeal.τ).loc Cert.PostFwdIdeal.main_arg1) = m ((c.tc : Thread Cert.PostFwdIdeal.nD Cert.PostFwdIdeal.τ).loc Cert.PostFwdIdeal.main_arg1)
          ∧ r.2.mem ((c.tc : Thread Cert.PostFwdIdeal.nD Cert.PostFwdIdeal.τ).loc Cert.PostFwdIdeal.main_arg2) = m ((c.tc : Thread Cert.PostFwdIdeal.nD Cert.PostFwdIdeal.τ).loc Cert.PostFwdIdeal.main_arg2)
          ∧ r.2.mem ((c.tc : Thread Cert.PostFwdIdeal.nD Cert.PostFwdIdeal.τ).loc Cert.PostFwdIdeal.main_arg3) = m ((c.tc : Thread Cert.PostFwdIdeal.nD Cert.PostFwdIdeal.τ).loc Cert.PostFwdIdeal.main_arg3))
      ∧ θ_run (Cert.PostFwdRefIdeal.defs (F := Ideal)) (onTc (τ := Cert.PostFwdRefIdeal.τ) (Cert.PostFwdRefIdeal.main (F := Ideal))) ⟨m', fun _ => 0, g'⟩ (fun r => ∀ c : Dev Cert.PostFwdRefIdeal.nD,
          r.2.mem ((c.tc : Thread Cert.PostFwdRefIdeal.nD Cert.PostFwdRefIdeal.τ).loc Cert.PostFwdRefIdeal.main_v14) = v0 c
          ∧ r.2.mem ((c.tc : Thread Cert.PostFwdRefIdeal.nD Cert.PostFwdRefIdeal.τ).loc Cert.PostFwdRefIdeal.main_v27) = v1 c
          ∧ r.2.mem ((c.tc : Thread Cert.PostFwdRefIdeal.nD Cert.PostFwdRefIdeal.τ).loc Cert.PostFwdRefIdeal.main_arg0) = m' ((c.tc : Thread Cert.PostFwdRefIdeal.nD Cert.PostFwdRefIdeal.τ).loc Cert.PostFwdRefIdeal.main_arg0)
          ∧ r.2.mem ((c.tc : Thread Cert.PostFwdRefIdeal.nD Cert.PostFwdRefIdeal.τ).loc Cert.PostFwdRefIdeal.main_arg1) = m' ((c.tc : Thread Cert.PostFwdRefIdeal.nD Cert.PostFwdRefIdeal.τ).loc Cert.PostFwdRefIdeal.main_arg1)
          ∧ r.2.mem ((c.tc : Thread Cert.PostFwdRefIdeal.nD Cert.PostFwdRefIdeal.τ).loc Cert.PostFwdRefIdeal.main_arg2) = m' ((c.tc : Thread Cert.PostFwdRefIdeal.nD Cert.PostFwdRefIdeal.τ).loc Cert.PostFwdRefIdeal.main_arg2)
          ∧ r.2.mem ((c.tc : Thread Cert.PostFwdRefIdeal.nD Cert.PostFwdRefIdeal.τ).loc Cert.PostFwdRefIdeal.main_arg3) = m' ((c.tc : Thread Cert.PostFwdRefIdeal.nD Cert.PostFwdRefIdeal.τ).loc Cert.PostFwdRefIdeal.main_arg3))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v12) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_LossHead_LossHeadIdeal : Prop :=
  True

def algebraic_LossHeadIdeal_LossHeadRefIdeal_pre_loss_finite [hLossHeadIdeal : Cert.LossHeadIdeal.Facts] [hLossHeadRefIdeal : Cert.LossHeadRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal_loss_finite m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)
      ∧ m' ((c.tc : Thread Cert.LossHeadRefIdeal.nD Cert.LossHeadRefIdeal.τ).loc Cert.LossHeadRefIdeal.main_arg3) = m ((c.tc : Thread Cert.LossHeadIdeal.nD Cert.LossHeadIdeal.τ).loc Cert.LossHeadIdeal.main_arg3)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v35) = v0 c
          ∧ r.2.mem ((c.tc : Thread Cert.LossHeadRefIdeal.nD Cert.LossHeadRefIdeal.τ).loc Cert.LossHeadRefIdeal.main_v57) = v1 c
          ∧ r.2.mem ((c.tc : Thread Cert.LossHeadRefIdeal.nD Cert.LossHeadRefIdeal.τ).loc Cert.LossHeadRefIdeal.main_v40) = v2 c
          ∧ r.2.mem ((c.tc : Thread Cert.LossHeadRefIdeal.nD Cert.LossHeadRefIdeal.τ).loc Cert.LossHeadRefIdeal.main_v58) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2)
          ∧ r.2.mem ((c.tc : Thread Cert.LossHeadRefIdeal.nD Cert.LossHeadRefIdeal.τ).loc Cert.LossHeadRefIdeal.main_arg3) = m' ((c.tc : Thread Cert.LossHeadRefIdeal.nD Cert.LossHeadRefIdeal.τ).loc Cert.LossHeadRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4))

def preserves_MidBwd_MidBwdIdeal : Prop :=
  True

def algebraic_MidBwdIdeal_MidBwdRefIdeal_pre_mid_finite [hMidBwdIdeal : Cert.MidBwdIdeal.Facts] [hMidBwdRefIdeal : Cert.MidBwdRefIdeal.Facts] [hPre_mid_finite : Cert.Pre_mid_finite.Facts] : Prop :=
  ∀ (m : (ℓ : Loc Cert.MidBwdIdeal.nD Cert.MidBwdIdeal.τ Cert.MidBwdIdeal.sig) → Buf (Elt Ideal) ℓ) (g : Dev Cert.MidBwdIdeal.nD → PrngReg)
    (m' : (ℓ : Loc Cert.MidBwdRefIdeal.nD Cert.MidBwdRefIdeal.τ Cert.MidBwdRefIdeal.sig) → Buf (Elt Ideal) ℓ) (g' : Dev Cert.MidBwdRefIdeal.nD → PrngReg), Pre_MidBwdIdeal_mid_finite m →
    (∀ c : Dev Cert.MidBwdIdeal.nD,
      m' ((c.tc : Thread Cert.MidBwdRefIdeal.nD Cert.MidBwdRefIdeal.τ).loc Cert.MidBwdRefIdeal.main_arg0) = m ((c.tc : Thread Cert.MidBwdIdeal.nD Cert.MidBwdIdeal.τ).loc Cert.MidBwdIdeal.main_arg0)
      ∧ m' ((c.tc : Thread Cert.MidBwdRefIdeal.nD Cert.MidBwdRefIdeal.τ).loc Cert.MidBwdRefIdeal.main_arg1) = m ((c.tc : Thread Cert.MidBwdIdeal.nD Cert.MidBwdIdeal.τ).loc Cert.MidBwdIdeal.main_arg1)
      ∧ m' ((c.tc : Thread Cert.MidBwdRefIdeal.nD Cert.MidBwdRefIdeal.τ).loc Cert.MidBwdRefIdeal.main_arg2) = m ((c.tc : Thread Cert.MidBwdIdeal.nD Cert.MidBwdIdeal.τ).loc Cert.MidBwdIdeal.main_arg2)
      ∧ m' ((c.tc : Thread Cert.MidBwdRefIdeal.nD Cert.MidBwdRefIdeal.τ).loc Cert.MidBwdRefIdeal.main_arg3) = m ((c.tc : Thread Cert.MidBwdIdeal.nD Cert.MidBwdIdeal.τ).loc Cert.MidBwdIdeal.main_arg3)
      ∧ m' ((c.tc : Thread Cert.MidBwdRefIdeal.nD Cert.MidBwdRefIdeal.τ).loc Cert.MidBwdRefIdeal.main_arg4) = m ((c.tc : Thread Cert.MidBwdIdeal.nD Cert.MidBwdIdeal.τ).loc Cert.MidBwdIdeal.main_arg4)
      ∧ m' ((c.tc : Thread Cert.MidBwdRefIdeal.nD Cert.MidBwdRefIdeal.τ).loc Cert.MidBwdRefIdeal.main_arg5) = m ((c.tc : Thread Cert.MidBwdIdeal.nD Cert.MidBwdIdeal.τ).loc Cert.MidBwdIdeal.main_arg5)) →
    ∃ (v0 : (c : Dev Cert.MidBwdIdeal.nD) → Buf (Elt Ideal) ((c.tc : Thread Cert.MidBwdIdeal.nD Cert.MidBwdIdeal.τ).loc Cert.MidBwdIdeal.main_v0_0)) (v1 : (c : Dev Cert.MidBwdIdeal.nD) → Buf (Elt Ideal) ((c.tc : Thread Cert.MidBwdIdeal.nD Cert.MidBwdIdeal.τ).loc Cert.MidBwdIdeal.main_v0_1)) (v2 : (c : Dev Cert.MidBwdIdeal.nD) → Buf (Elt Ideal) ((c.tc : Thread Cert.MidBwdIdeal.nD Cert.MidBwdIdeal.τ).loc Cert.MidBwdIdeal.main_v0_2)) (v3 : (c : Dev Cert.MidBwdIdeal.nD) → Buf (Elt Ideal) ((c.tc : Thread Cert.MidBwdIdeal.nD Cert.MidBwdIdeal.τ).loc Cert.MidBwdIdeal.main_v0_3)),
      θ_run (Cert.MidBwdIdeal.defs (F := Ideal)) (onTc (τ := Cert.MidBwdIdeal.τ) (Cert.MidBwdIdeal.main (F := Ideal))) ⟨m, fun _ => 0, g⟩ (fun r => ∀ c : Dev Cert.MidBwdIdeal.nD,
          r.2.mem ((c.tc : Thread Cert.MidBwdIdeal.nD Cert.MidBwdIdeal.τ).loc Cert.MidBwdIdeal.main_v0_0) = v0 c
          ∧ r.2.mem ((c.tc : Thread Cert.MidBwdIdeal.nD Cert.MidBwdIdeal.τ).loc Cert.MidBwdIdeal.main_v0_1) = v1 c
          ∧ r.2.mem ((c.tc : Thread Cert.MidBwdIdeal.nD Cert.MidBwdIdeal.τ).loc Cert.MidBwdIdeal.main_v0_2) = v2 c
          ∧ r.2.mem ((c.tc : Thread Cert.MidBwdIdeal.nD Cert.MidBwdIdeal.τ).loc Cert.MidBwdIdeal.main_v0_3) = v3 c
          ∧ r.2.mem ((c.tc : Thread Cert.MidBwdIdeal.nD Cert.MidBwdIdeal.τ).loc Cert.MidBwdIdeal.main_arg0) = m ((c.tc : Thread Cert.MidBwdIdeal.nD Cert.MidBwdIdeal.τ).loc Cert.MidBwdIdeal.main_arg0)
          ∧ r.2.mem ((c.tc : Thread Cert.MidBwdIdeal.nD Cert.MidBwdIdeal.τ).loc Cert.MidBwdIdeal.main_arg1) = m ((c.tc : Thread Cert.MidBwdIdeal.nD Cert.MidBwdIdeal.τ).loc Cert.MidBwdIdeal.main_arg1)
          ∧ r.2.mem ((c.tc : Thread Cert.MidBwdIdeal.nD Cert.MidBwdIdeal.τ).loc Cert.MidBwdIdeal.main_arg2) = m ((c.tc : Thread Cert.MidBwdIdeal.nD Cert.MidBwdIdeal.τ).loc Cert.MidBwdIdeal.main_arg2)
          ∧ r.2.mem ((c.tc : Thread Cert.MidBwdIdeal.nD Cert.MidBwdIdeal.τ).loc Cert.MidBwdIdeal.main_arg3) = m ((c.tc : Thread Cert.MidBwdIdeal.nD Cert.MidBwdIdeal.τ).loc Cert.MidBwdIdeal.main_arg3)
          ∧ r.2.mem ((c.tc : Thread Cert.MidBwdIdeal.nD Cert.MidBwdIdeal.τ).loc Cert.MidBwdIdeal.main_arg4) = m ((c.tc : Thread Cert.MidBwdIdeal.nD Cert.MidBwdIdeal.τ).loc Cert.MidBwdIdeal.main_arg4)
          ∧ r.2.mem ((c.tc : Thread Cert.MidBwdIdeal.nD Cert.MidBwdIdeal.τ).loc Cert.MidBwdIdeal.main_arg5) = m ((c.tc : Thread Cert.MidBwdIdeal.nD Cert.MidBwdIdeal.τ).loc Cert.MidBwdIdeal.main_arg5))
      ∧ θ_run (Cert.MidBwdRefIdeal.defs (F := Ideal)) (onTc (τ := Cert.MidBwdRefIdeal.τ) (Cert.MidBwdRefIdeal.main (F := Ideal))) ⟨m', fun _ => 0, g'⟩ (fun r => ∀ c : Dev Cert.MidBwdRefIdeal.nD,
          r.2.mem ((c.tc : Thread Cert.MidBwdRefIdeal.nD Cert.MidBwdRefIdeal.τ).loc Cert.MidBwdRefIdeal.main_v34) = v0 c
          ∧ r.2.mem ((c.tc : Thread Cert.MidBwdRefIdeal.nD Cert.MidBwdRefIdeal.τ).loc Cert.MidBwdRefIdeal.main_v73) = v1 c
          ∧ r.2.mem ((c.tc : Thread Cert.MidBwdRefIdeal.nD Cert.MidBwdRefIdeal.τ).loc Cert.MidBwdRefIdeal.main_v17) = v2 c
          ∧ r.2.mem ((c.tc : Thread Cert.MidBwdRefIdeal.nD Cert.MidBwdRefIdeal.τ).loc Cert.MidBwdRefIdeal.main_v56) = v3 c
          ∧ r.2.mem ((c.tc : Thread Cert.MidBwdRefIdeal.nD Cert.MidBwdRefIdeal.τ).loc Cert.MidBwdRefIdeal.main_arg0) = m' ((c.tc : Thread Cert.MidBwdRefIdeal.nD Cert.MidBwdRefIdeal.τ).loc Cert.MidBwdRefIdeal.main_arg0)
          ∧ r.2.mem ((c.tc : Thread Cert.MidBwdRefIdeal.nD Cert.MidBwdRefIdeal.τ).loc Cert.MidBwdRefIdeal.main_arg1) = m' ((c.tc : Thread Cert.MidBwdRefIdeal.nD Cert.MidBwdRefIdeal.τ).loc Cert.MidBwdRefIdeal.main_arg1)
          ∧ r.2.mem ((c.tc : Thread Cert.MidBwdRefIdeal.nD Cert.MidBwdRefIdeal.τ).loc Cert.MidBwdRefIdeal.main_arg2) = m' ((c.tc : Thread Cert.MidBwdRefIdeal.nD Cert.MidBwdRefIdeal.τ).loc Cert.MidBwdRefIdeal.main_arg2)
          ∧ r.2.mem ((c.tc : Thread Cert.MidBwdRefIdeal.nD Cert.MidBwdRefIdeal.τ).loc Cert.MidBwdRefIdeal.main_arg3) = m' ((c.tc : Thread Cert.MidBwdRefIdeal.nD Cert.MidBwdRefIdeal.τ).loc Cert.MidBwdRefIdeal.main_arg3)
          ∧ r.2.mem ((c.tc : Thread Cert.MidBwdRefIdeal.nD Cert.MidBwdRefIdeal.τ).loc Cert.MidBwdRefIdeal.main_arg4) = m' ((c.tc : Thread Cert.MidBwdRefIdeal.nD Cert.MidBwdRefIdeal.τ).loc Cert.MidBwdRefIdeal.main_arg4)
          ∧ r.2.mem ((c.tc : Thread Cert.MidBwdRefIdeal.nD Cert.MidBwdRefIdeal.τ).loc Cert.MidBwdRefIdeal.main_arg5) = m' ((c.tc : Thread Cert.MidBwdRefIdeal.nD Cert.MidBwdRefIdeal.τ).loc Cert.MidBwdRefIdeal.main_arg5))

def preserves_MixPost_MixPostIdeal : Prop :=
  True

def algebraic_MixPostIdeal_MixPostRefIdeal [hMixPostIdeal : Cert.MixPostIdeal.Facts] [hMixPostRefIdeal : Cert.MixPostRefIdeal.Facts] : Prop :=
  ∀ (m : (ℓ : Loc Cert.MixPostIdeal.nD Cert.MixPostIdeal.τ Cert.MixPostIdeal.sig) → Buf (Elt Ideal) ℓ) (g : Dev Cert.MixPostIdeal.nD → PrngReg)
    (m' : (ℓ : Loc Cert.MixPostRefIdeal.nD Cert.MixPostRefIdeal.τ Cert.MixPostRefIdeal.sig) → Buf (Elt Ideal) ℓ) (g' : Dev Cert.MixPostRefIdeal.nD → PrngReg), Pre_MixPostIdeal m →
    (∀ c : Dev Cert.MixPostIdeal.nD,
      m' ((c.tc : Thread Cert.MixPostRefIdeal.nD Cert.MixPostRefIdeal.τ).loc Cert.MixPostRefIdeal.main_arg0) = m ((c.tc : Thread Cert.MixPostIdeal.nD Cert.MixPostIdeal.τ).loc Cert.MixPostIdeal.main_arg0)
      ∧ m' ((c.tc : Thread Cert.MixPostRefIdeal.nD Cert.MixPostRefIdeal.τ).loc Cert.MixPostRefIdeal.main_arg1) = m ((c.tc : Thread Cert.MixPostIdeal.nD Cert.MixPostIdeal.τ).loc Cert.MixPostIdeal.main_arg1)
      ∧ m' ((c.tc : Thread Cert.MixPostRefIdeal.nD Cert.MixPostRefIdeal.τ).loc Cert.MixPostRefIdeal.main_arg2) = m ((c.tc : Thread Cert.MixPostIdeal.nD Cert.MixPostIdeal.τ).loc Cert.MixPostIdeal.main_arg2)
      ∧ m' ((c.tc : Thread Cert.MixPostRefIdeal.nD Cert.MixPostRefIdeal.τ).loc Cert.MixPostRefIdeal.main_arg3) = m ((c.tc : Thread Cert.MixPostIdeal.nD Cert.MixPostIdeal.τ).loc Cert.MixPostIdeal.main_arg3)) →
    ∃ (v0 : (c : Dev Cert.MixPostIdeal.nD) → Buf (Elt Ideal) ((c.tc : Thread Cert.MixPostIdeal.nD Cert.MixPostIdeal.τ).loc Cert.MixPostIdeal.main_v0_0)) (v1 : (c : Dev Cert.MixPostIdeal.nD) → Buf (Elt Ideal) ((c.tc : Thread Cert.MixPostIdeal.nD Cert.MixPostIdeal.τ).loc Cert.MixPostIdeal.main_v0_1)),
      θ_run (Cert.MixPostIdeal.defs (F := Ideal)) (onTc (τ := Cert.MixPostIdeal.τ) (Cert.MixPostIdeal.main (F := Ideal))) ⟨m, fun _ => 0, g⟩ (fun r => ∀ c : Dev Cert.MixPostIdeal.nD,
          r.2.mem ((c.tc : Thread Cert.MixPostIdeal.nD Cert.MixPostIdeal.τ).loc Cert.MixPostIdeal.main_v0_0) = v0 c
          ∧ r.2.mem ((c.tc : Thread Cert.MixPostIdeal.nD Cert.MixPostIdeal.τ).loc Cert.MixPostIdeal.main_v0_1) = v1 c
          ∧ r.2.mem ((c.tc : Thread Cert.MixPostIdeal.nD Cert.MixPostIdeal.τ).loc Cert.MixPostIdeal.main_arg0) = m ((c.tc : Thread Cert.MixPostIdeal.nD Cert.MixPostIdeal.τ).loc Cert.MixPostIdeal.main_arg0)
          ∧ r.2.mem ((c.tc : Thread Cert.MixPostIdeal.nD Cert.MixPostIdeal.τ).loc Cert.MixPostIdeal.main_arg1) = m ((c.tc : Thread Cert.MixPostIdeal.nD Cert.MixPostIdeal.τ).loc Cert.MixPostIdeal.main_arg1)
          ∧ r.2.mem ((c.tc : Thread Cert.MixPostIdeal.nD Cert.MixPostIdeal.τ).loc Cert.MixPostIdeal.main_arg2) = m ((c.tc : Thread Cert.MixPostIdeal.nD Cert.MixPostIdeal.τ).loc Cert.MixPostIdeal.main_arg2)
          ∧ r.2.mem ((c.tc : Thread Cert.MixPostIdeal.nD Cert.MixPostIdeal.τ).loc Cert.MixPostIdeal.main_arg3) = m ((c.tc : Thread Cert.MixPostIdeal.nD Cert.MixPostIdeal.τ).loc Cert.MixPostIdeal.main_arg3))
      ∧ θ_run (Cert.MixPostRefIdeal.defs (F := Ideal)) (onTc (τ := Cert.MixPostRefIdeal.τ) (Cert.MixPostRefIdeal.main (F := Ideal))) ⟨m', fun _ => 0, g'⟩ (fun r => ∀ c : Dev Cert.MixPostRefIdeal.nD,
          r.2.mem ((c.tc : Thread Cert.MixPostRefIdeal.nD Cert.MixPostRefIdeal.τ).loc Cert.MixPostRefIdeal.main_v12) = v0 c
          ∧ r.2.mem ((c.tc : Thread Cert.MixPostRefIdeal.nD Cert.MixPostRefIdeal.τ).loc Cert.MixPostRefIdeal.main_v25) = v1 c
          ∧ r.2.mem ((c.tc : Thread Cert.MixPostRefIdeal.nD Cert.MixPostRefIdeal.τ).loc Cert.MixPostRefIdeal.main_arg0) = m' ((c.tc : Thread Cert.MixPostRefIdeal.nD Cert.MixPostRefIdeal.τ).loc Cert.MixPostRefIdeal.main_arg0)
          ∧ r.2.mem ((c.tc : Thread Cert.MixPostRefIdeal.nD Cert.MixPostRefIdeal.τ).loc Cert.MixPostRefIdeal.main_arg1) = m' ((c.tc : Thread Cert.MixPostRefIdeal.nD Cert.MixPostRefIdeal.τ).loc Cert.MixPostRefIdeal.main_arg1)
          ∧ r.2.mem ((c.tc : Thread Cert.MixPostRefIdeal.nD Cert.MixPostRefIdeal.τ).loc Cert.MixPostRefIdeal.main_arg2) = m' ((c.tc : Thread Cert.MixPostRefIdeal.nD Cert.MixPostRefIdeal.τ).loc Cert.MixPostRefIdeal.main_arg2)
          ∧ r.2.mem ((c.tc : Thread Cert.MixPostRefIdeal.nD Cert.MixPostRefIdeal.τ).loc Cert.MixPostRefIdeal.main_arg3) = m' ((c.tc : Thread Cert.MixPostRefIdeal.nD Cert.MixPostRefIdeal.τ).loc Cert.MixPostRefIdeal.main_arg3))

def preserves_ConvFwd_ConvFwdIdeal : Prop :=
  True

def algebraic_ConvFwdIdeal_ConvFwdRefIdeal_pre_conv_finite [hConvFwdIdeal : Cert.ConvFwdIdeal.Facts] [hConvFwdRefIdeal : Cert.ConvFwdRefIdeal.Facts] [hPre_conv_finite : Cert.Pre_conv_finite.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal_conv_finite m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v11)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v11) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v43) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_CastPad_CastPadIdeal : Prop :=
  True

def algebraic_CastPadIdeal_CastPadRefIdeal [hCastPadIdeal : Cert.CastPadIdeal.Facts] [hCastPadRefIdeal : Cert.CastPadRefIdeal.Facts] : Prop :=
  ∀ (m : (ℓ : Loc Cert.CastPadIdeal.nD Cert.CastPadIdeal.τ Cert.CastPadIdeal.sig) → Buf (Elt Ideal) ℓ) (g : Dev Cert.CastPadIdeal.nD → PrngReg)
    (m' : (ℓ : Loc Cert.CastPadRefIdeal.nD Cert.CastPadRefIdeal.τ Cert.CastPadRefIdeal.sig) → Buf (Elt Ideal) ℓ) (g' : Dev Cert.CastPadRefIdeal.nD → PrngReg), Pre_CastPadIdeal m →
    (∀ c : Dev Cert.CastPadIdeal.nD,
      m' ((c.tc : Thread Cert.CastPadRefIdeal.nD Cert.CastPadRefIdeal.τ).loc Cert.CastPadRefIdeal.main_arg0) = m ((c.tc : Thread Cert.CastPadIdeal.nD Cert.CastPadIdeal.τ).loc Cert.CastPadIdeal.main_arg0)) →
    ∃ (v0 : (c : Dev Cert.CastPadIdeal.nD) → Buf (Elt Ideal) ((c.tc : Thread Cert.CastPadIdeal.nD Cert.CastPadIdeal.τ).loc Cert.CastPadIdeal.main_v3)),
      θ_run (Cert.CastPadIdeal.defs (F := Ideal)) (onTc (τ := Cert.CastPadIdeal.τ) (Cert.CastPadIdeal.main (F := Ideal))) ⟨m, fun _ => 0, g⟩ (fun r => ∀ c : Dev Cert.CastPadIdeal.nD,
          r.2.mem ((c.tc : Thread Cert.CastPadIdeal.nD Cert.CastPadIdeal.τ).loc Cert.CastPadIdeal.main_v3) = v0 c
          ∧ r.2.mem ((c.tc : Thread Cert.CastPadIdeal.nD Cert.CastPadIdeal.τ).loc Cert.CastPadIdeal.main_arg0) = m ((c.tc : Thread Cert.CastPadIdeal.nD Cert.CastPadIdeal.τ).loc Cert.CastPadIdeal.main_arg0))
      ∧ θ_run (Cert.CastPadRefIdeal.defs (F := Ideal)) (onTc (τ := Cert.CastPadRefIdeal.τ) (Cert.CastPadRefIdeal.main (F := Ideal))) ⟨m', fun _ => 0, g'⟩ (fun r => ∀ c : Dev Cert.CastPadRefIdeal.nD,
          r.2.mem ((c.tc : Thread Cert.CastPadRefIdeal.nD Cert.CastPadRefIdeal.τ).loc Cert.CastPadRefIdeal.main_v2) = v0 c
          ∧ r.2.mem ((c.tc : Thread Cert.CastPadRefIdeal.nD Cert.CastPadRefIdeal.τ).loc Cert.CastPadRefIdeal.main_arg0) = m' ((c.tc : Thread Cert.CastPadRefIdeal.nD Cert.CastPadRefIdeal.τ).loc Cert.CastPadRefIdeal.main_arg0))

def preserves_CastIn_CastInIdeal : Prop :=
  True

def algebraic_CastInIdeal_CastInRefIdeal [hCastInIdeal : Cert.CastInIdeal.Facts] [hCastInRefIdeal : Cert.CastInRefIdeal.Facts] [hPre_slot_in_range : Cert.Pre_slot_in_range.Facts] : Prop :=
  ∀ (m : (ℓ : Loc Cert.CastInIdeal.nD Cert.CastInIdeal.τ Cert.CastInIdeal.sig) → Buf (Elt Ideal) ℓ) (g : Dev Cert.CastInIdeal.nD → PrngReg)
    (m' : (ℓ : Loc Cert.CastInRefIdeal.nD Cert.CastInRefIdeal.τ Cert.CastInRefIdeal.sig) → Buf (Elt Ideal) ℓ) (g' : Dev Cert.CastInRefIdeal.nD → PrngReg), Pre_CastInIdeal m →
    (∀ c : Dev Cert.CastInIdeal.nD,
      m' ((c.tc : Thread Cert.CastInRefIdeal.nD Cert.CastInRefIdeal.τ).loc Cert.CastInRefIdeal.main_arg0) = m ((c.tc : Thread Cert.CastInIdeal.nD Cert.CastInIdeal.τ).loc Cert.CastInIdeal.main_arg0)
      ∧ m' ((c.tc : Thread Cert.CastInRefIdeal.nD Cert.CastInRefIdeal.τ).loc Cert.CastInRefIdeal.main_arg1) = m ((c.tc : Thread Cert.CastInIdeal.nD Cert.CastInIdeal.τ).loc Cert.CastInIdeal.main_arg1)) →
    ∃ (v0 : (c : Dev Cert.CastInIdeal.nD) → Buf (Elt Ideal) ((c.tc : Thread Cert.CastInIdeal.nD Cert.CastInIdeal.τ).loc Cert.CastInIdeal.main_v15)),
      θ_run (Cert.CastInIdeal.defs (F := Ideal)) (onTc (τ := Cert.CastInIdeal.τ) (Cert.CastInIdeal.main (F := Ideal))) ⟨m, fun _ => 0, g⟩ (fun r => ∀ c : Dev Cert.CastInIdeal.nD,
          r.2.mem ((c.tc : Thread Cert.CastInIdeal.nD Cert.CastInIdeal.τ).loc Cert.CastInIdeal.main_v15) = v0 c
          ∧ r.2.mem ((c.tc : Thread Cert.CastInIdeal.nD Cert.CastInIdeal.τ).loc Cert.CastInIdeal.main_arg0) = m ((c.tc : Thread Cert.CastInIdeal.nD Cert.CastInIdeal.τ).loc Cert.CastInIdeal.main_arg0)
          ∧ r.2.mem ((c.tc : Thread Cert.CastInIdeal.nD Cert.CastInIdeal.τ).loc Cert.CastInIdeal.main_arg1) = m ((c.tc : Thread Cert.CastInIdeal.nD Cert.CastInIdeal.τ).loc Cert.CastInIdeal.main_arg1))
      ∧ θ_run (Cert.CastInRefIdeal.defs (F := Ideal)) (onTc (τ := Cert.CastInRefIdeal.τ) (Cert.CastInRefIdeal.main (F := Ideal))) ⟨m', fun _ => 0, g'⟩ (fun r => ∀ c : Dev Cert.CastInRefIdeal.nD,
          r.2.mem ((c.tc : Thread Cert.CastInRefIdeal.nD Cert.CastInRefIdeal.τ).loc Cert.CastInRefIdeal.main_v0) = v0 c
          ∧ r.2.mem ((c.tc : Thread Cert.CastInRefIdeal.nD Cert.CastInRefIdeal.τ).loc Cert.CastInRefIdeal.main_arg0) = m' ((c.tc : Thread Cert.CastInRefIdeal.nD Cert.CastInRefIdeal.τ).loc Cert.CastInRefIdeal.main_arg0)
          ∧ r.2.mem ((c.tc : Thread Cert.CastInRefIdeal.nD Cert.CastInRefIdeal.τ).loc Cert.CastInRefIdeal.main_arg1) = m' ((c.tc : Thread Cert.CastInRefIdeal.nD Cert.CastInRefIdeal.τ).loc Cert.CastInRefIdeal.main_arg1))

def Claim : Prop :=
  ∃ (hAct : Cert.Act.Facts) (hActIdeal : Cert.ActIdeal.Facts) (hActRefIdeal : Cert.ActRefIdeal.Facts) (hWgrad : Cert.Wgrad.Facts) (hWgradIdeal : Cert.WgradIdeal.Facts) (hWgradRefIdeal : Cert.WgradRefIdeal.Facts) (hNormBwd : Cert.NormBwd.Facts) (hNormBwdIdeal : Cert.NormBwdIdeal.Facts) (hNormBwdRefIdeal : Cert.NormBwdRefIdeal.Facts) (hUpBwd : Cert.UpBwd.Facts) (hUpBwdIdeal : Cert.UpBwdIdeal.Facts) (hUpBwdRefIdeal : Cert.UpBwdRefIdeal.Facts) (hInBwd : Cert.InBwd.Facts) (hInBwdIdeal : Cert.InBwdIdeal.Facts) (hInBwdRefIdeal : Cert.InBwdRefIdeal.Facts) (hInWgrad : Cert.InWgrad.Facts) (hInWgradIdeal : Cert.InWgradIdeal.Facts) (hInWgradRefIdeal : Cert.InWgradRefIdeal.Facts) (hOutBwd : Cert.OutBwd.Facts) (hOutBwdIdeal : Cert.OutBwdIdeal.Facts) (hOutBwdRefIdeal : Cert.OutBwdRefIdeal.Facts) (hOutWgrad : Cert.OutWgrad.Facts) (hOutWgradIdeal : Cert.OutWgradIdeal.Facts) (hOutWgradRefIdeal : Cert.OutWgradRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hAdamFfn : Cert.AdamFfn.Facts) (hAdamFfnIdeal : Cert.AdamFfnIdeal.Facts) (hAdamFfnRefIdeal : Cert.AdamFfnRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hFirstBwd : Cert.FirstBwd.Facts) (hFirstBwdIdeal : Cert.FirstBwdIdeal.Facts) (hFirstBwdRefIdeal : Cert.FirstBwdRefIdeal.Facts) (hPostFwd : Cert.PostFwd.Facts) (hPostFwdIdeal : Cert.PostFwdIdeal.Facts) (hPostFwdRefIdeal : Cert.PostFwdRefIdeal.Facts) (hNormFwd : Cert.NormFwd.Facts) (hNormFwdIdeal : Cert.NormFwdIdeal.Facts) (hNormFwdRefIdeal : Cert.NormFwdRefIdeal.Facts) (hLossHead : Cert.LossHead.Facts) (hLossHeadIdeal : Cert.LossHeadIdeal.Facts) (hLossHeadRefIdeal : Cert.LossHeadRefIdeal.Facts) (hAdamSmall : Cert.AdamSmall.Facts) (hAdamSmallIdeal : Cert.AdamSmallIdeal.Facts) (hAdamSmallRefIdeal : Cert.AdamSmallRefIdeal.Facts) (hMidBwd : Cert.MidBwd.Facts) (hMidBwdIdeal : Cert.MidBwdIdeal.Facts) (hMidBwdRefIdeal : Cert.MidBwdRefIdeal.Facts) (hMixPost : Cert.MixPost.Facts) (hMixPostIdeal : Cert.MixPostIdeal.Facts) (hMixPostRefIdeal : Cert.MixPostRefIdeal.Facts) (hConvFwd : Cert.ConvFwd.Facts) (hConvFwdIdeal : Cert.ConvFwdIdeal.Facts) (hConvFwdRefIdeal : Cert.ConvFwdRefIdeal.Facts) (hCastPad : Cert.CastPad.Facts) (hCastPadIdeal : Cert.CastPadIdeal.Facts) (hCastPadRefIdeal : Cert.CastPadRefIdeal.Facts) (hCastIn : Cert.CastIn.Facts) (hCastInIdeal : Cert.CastInIdeal.Facts) (hCastInRefIdeal : Cert.CastInRefIdeal.Facts) (hPre_act_finite : Cert.Pre_act_finite.Facts) (hPre_pre_finite : Cert.Pre_pre_finite.Facts) (hPre_ffn_up_finite : Cert.Pre_ffn_up_finite.Facts) (hPre_first_finite : Cert.Pre_first_finite.Facts) (hPre_loss_finite : Cert.Pre_loss_finite.Facts) (hPre_mid_finite : Cert.Pre_mid_finite.Facts) (hPre_conv_finite : Cert.Pre_conv_finite.Facts) (hPre_slot_in_range : Cert.Pre_slot_in_range.Facts),
    quiescent_Act (hAct := hAct)
    ∧ quiescent_ActIdeal (hActIdeal := hActIdeal)
    ∧ quiescent_ActIdeal_pre_act_finite (hActIdeal := hActIdeal) (hPre_act_finite := hPre_act_finite)
    ∧ quiescent_ActRefIdeal (hActRefIdeal := hActRefIdeal)
    ∧ quiescent_ActRefIdeal_pre_act_finite (hActRefIdeal := hActRefIdeal) (hPre_act_finite := hPre_act_finite)
    ∧ quiescent_Wgrad (hWgrad := hWgrad)
    ∧ quiescent_WgradIdeal (hWgradIdeal := hWgradIdeal)
    ∧ quiescent_WgradRefIdeal (hWgradRefIdeal := hWgradRefIdeal)
    ∧ quiescent_NormBwd (hNormBwd := hNormBwd)
    ∧ quiescent_NormBwdIdeal (hNormBwdIdeal := hNormBwdIdeal)
    ∧ quiescent_NormBwdIdeal_pre_pre_finite (hNormBwdIdeal := hNormBwdIdeal) (hPre_pre_finite := hPre_pre_finite)
    ∧ quiescent_NormBwdRefIdeal (hNormBwdRefIdeal := hNormBwdRefIdeal)
    ∧ quiescent_NormBwdRefIdeal_pre_pre_finite (hNormBwdRefIdeal := hNormBwdRefIdeal) (hPre_pre_finite := hPre_pre_finite)
    ∧ quiescent_UpBwd (hUpBwd := hUpBwd)
    ∧ quiescent_UpBwdIdeal (hUpBwdIdeal := hUpBwdIdeal)
    ∧ quiescent_UpBwdRefIdeal (hUpBwdRefIdeal := hUpBwdRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_FfnUp (hFfnUp := hFfnUp)
    ∧ quiescent_FfnUpIdeal (hFfnUpIdeal := hFfnUpIdeal)
    ∧ quiescent_FfnUpIdeal_pre_ffn_up_finite (hFfnUpIdeal := hFfnUpIdeal) (hPre_ffn_up_finite := hPre_ffn_up_finite)
    ∧ quiescent_FfnUpRefIdeal (hFfnUpRefIdeal := hFfnUpRefIdeal)
    ∧ quiescent_FfnUpRefIdeal_pre_ffn_up_finite (hFfnUpRefIdeal := hFfnUpRefIdeal) (hPre_ffn_up_finite := hPre_ffn_up_finite)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_FirstBwd (hFirstBwd := hFirstBwd)
    ∧ quiescent_FirstBwdIdeal (hFirstBwdIdeal := hFirstBwdIdeal)
    ∧ quiescent_FirstBwdIdeal_pre_first_finite (hFirstBwdIdeal := hFirstBwdIdeal) (hPre_first_finite := hPre_first_finite)
    ∧ quiescent_FirstBwdRefIdeal (hFirstBwdRefIdeal := hFirstBwdRefIdeal)
    ∧ quiescent_FirstBwdRefIdeal_pre_first_finite (hFirstBwdRefIdeal := hFirstBwdRefIdeal) (hPre_first_finite := hPre_first_finite)
    ∧ quiescent_PostFwd (hPostFwd := hPostFwd)
    ∧ quiescent_PostFwdIdeal (hPostFwdIdeal := hPostFwdIdeal)
    ∧ quiescent_PostFwdRefIdeal (hPostFwdRefIdeal := hPostFwdRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossHeadRefIdeal (hLossHeadRefIdeal := hLossHeadRefIdeal)
    ∧ quiescent_LossHeadRefIdeal_pre_loss_finite (hLossHeadRefIdeal := hLossHeadRefIdeal) (hPre_loss_finite := hPre_loss_finite)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_MidBwd (hMidBwd := hMidBwd)
    ∧ quiescent_MidBwdIdeal (hMidBwdIdeal := hMidBwdIdeal)
    ∧ quiescent_MidBwdIdeal_pre_mid_finite (hMidBwdIdeal := hMidBwdIdeal) (hPre_mid_finite := hPre_mid_finite)
    ∧ quiescent_MidBwdRefIdeal (hMidBwdRefIdeal := hMidBwdRefIdeal)
    ∧ quiescent_MidBwdRefIdeal_pre_mid_finite (hMidBwdRefIdeal := hMidBwdRefIdeal) (hPre_mid_finite := hPre_mid_finite)
    ∧ quiescent_MixPost (hMixPost := hMixPost)
    ∧ quiescent_MixPostIdeal (hMixPostIdeal := hMixPostIdeal)
    ∧ quiescent_MixPostRefIdeal (hMixPostRefIdeal := hMixPostRefIdeal)
    ∧ quiescent_ConvFwd (hConvFwd := hConvFwd)
    ∧ quiescent_ConvFwdIdeal (hConvFwdIdeal := hConvFwdIdeal)
    ∧ quiescent_ConvFwdIdeal_pre_conv_finite (hConvFwdIdeal := hConvFwdIdeal) (hPre_conv_finite := hPre_conv_finite)
    ∧ quiescent_ConvFwdRefIdeal (hConvFwdRefIdeal := hConvFwdRefIdeal)
    ∧ quiescent_ConvFwdRefIdeal_pre_conv_finite (hConvFwdRefIdeal := hConvFwdRefIdeal) (hPre_conv_finite := hPre_conv_finite)
    ∧ quiescent_CastPad (hCastPad := hCastPad)
    ∧ quiescent_CastPadIdeal (hCastPadIdeal := hCastPadIdeal)
    ∧ quiescent_CastPadRefIdeal (hCastPadRefIdeal := hCastPadRefIdeal)
    ∧ quiescent_CastIn (hCastIn := hCastIn) (hPre_slot_in_range := hPre_slot_in_range)
    ∧ quiescent_CastInIdeal (hCastInIdeal := hCastInIdeal) (hPre_slot_in_range := hPre_slot_in_range)
    ∧ quiescent_CastInRefIdeal (hCastInRefIdeal := hCastInRefIdeal)
    ∧ quiescent_CastInRefIdeal_pre_slot_in_range (hCastInRefIdeal := hCastInRefIdeal) (hPre_slot_in_range := hPre_slot_in_range)
    ∧ preserves_Act_ActIdeal
    ∧ algebraic_ActIdeal_ActRefIdeal_pre_act_finite (hActIdeal := hActIdeal) (hActRefIdeal := hActRefIdeal) (hPre_act_finite := hPre_act_finite)
    ∧ preserves_Wgrad_WgradIdeal
    ∧ algebraic_WgradIdeal_WgradRefIdeal (hWgradIdeal := hWgradIdeal) (hWgradRefIdeal := hWgradRefIdeal)
    ∧ preserves_NormBwd_NormBwdIdeal
    ∧ algebraic_NormBwdIdeal_NormBwdRefIdeal_pre_pre_finite (hNormBwdIdeal := hNormBwdIdeal) (hNormBwdRefIdeal := hNormBwdRefIdeal) (hPre_pre_finite := hPre_pre_finite)
    ∧ preserves_UpBwd_UpBwdIdeal
    ∧ algebraic_UpBwdIdeal_UpBwdRefIdeal (hUpBwdIdeal := hUpBwdIdeal) (hUpBwdRefIdeal := hUpBwdRefIdeal)
    ∧ preserves_InBwd_InBwdIdeal
    ∧ algebraic_InBwdIdeal_InBwdRefIdeal (hInBwdIdeal := hInBwdIdeal) (hInBwdRefIdeal := hInBwdRefIdeal)
    ∧ preserves_InWgrad_InWgradIdeal
    ∧ algebraic_InWgradIdeal_InWgradRefIdeal (hInWgradIdeal := hInWgradIdeal) (hInWgradRefIdeal := hInWgradRefIdeal)
    ∧ preserves_OutBwd_OutBwdIdeal
    ∧ algebraic_OutBwdIdeal_OutBwdRefIdeal (hOutBwdIdeal := hOutBwdIdeal) (hOutBwdRefIdeal := hOutBwdRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_FfnUp_FfnUpIdeal
    ∧ algebraic_FfnUpIdeal_FfnUpRefIdeal_pre_ffn_up_finite (hFfnUpIdeal := hFfnUpIdeal) (hFfnUpRefIdeal := hFfnUpRefIdeal) (hPre_ffn_up_finite := hPre_ffn_up_finite)
    ∧ preserves_FfnDown_FfnDownIdeal
    ∧ algebraic_FfnDownIdeal_FfnDownRefIdeal (hFfnDownIdeal := hFfnDownIdeal) (hFfnDownRefIdeal := hFfnDownRefIdeal)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_FirstBwd_FirstBwdIdeal
    ∧ algebraic_FirstBwdIdeal_FirstBwdRefIdeal_pre_first_finite (hFirstBwdIdeal := hFirstBwdIdeal) (hFirstBwdRefIdeal := hFirstBwdRefIdeal) (hPre_first_finite := hPre_first_finite)
    ∧ preserves_PostFwd_PostFwdIdeal
    ∧ algebraic_PostFwdIdeal_PostFwdRefIdeal (hPostFwdIdeal := hPostFwdIdeal) (hPostFwdRefIdeal := hPostFwdRefIdeal)
    ∧ preserves_NormFwd_NormFwdIdeal
    ∧ algebraic_NormFwdIdeal_NormFwdRefIdeal (hNormFwdIdeal := hNormFwdIdeal) (hNormFwdRefIdeal := hNormFwdRefIdeal)
    ∧ preserves_LossHead_LossHeadIdeal
    ∧ algebraic_LossHeadIdeal_LossHeadRefIdeal_pre_loss_finite (hLossHeadIdeal := hLossHeadIdeal) (hLossHeadRefIdeal := hLossHeadRefIdeal) (hPre_loss_finite := hPre_loss_finite)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_MidBwd_MidBwdIdeal
    ∧ algebraic_MidBwdIdeal_MidBwdRefIdeal_pre_mid_finite (hMidBwdIdeal := hMidBwdIdeal) (hMidBwdRefIdeal := hMidBwdRefIdeal) (hPre_mid_finite := hPre_mid_finite)
    ∧ preserves_MixPost_MixPostIdeal
    ∧ algebraic_MixPostIdeal_MixPostRefIdeal (hMixPostIdeal := hMixPostIdeal) (hMixPostRefIdeal := hMixPostRefIdeal)
    ∧ preserves_ConvFwd_ConvFwdIdeal
    ∧ algebraic_ConvFwdIdeal_ConvFwdRefIdeal_pre_conv_finite (hConvFwdIdeal := hConvFwdIdeal) (hConvFwdRefIdeal := hConvFwdRefIdeal) (hPre_conv_finite := hPre_conv_finite)
    ∧ preserves_CastPad_CastPadIdeal
    ∧ algebraic_CastPadIdeal_CastPadRefIdeal (hCastPadIdeal := hCastPadIdeal) (hCastPadRefIdeal := hCastPadRefIdeal)
    ∧ preserves_CastIn_CastInIdeal
    ∧ algebraic_CastInIdeal_CastInRefIdeal (hCastInIdeal := hCastInIdeal) (hCastInRefIdeal := hCastInRefIdeal) (hPre_slot_in_range := hPre_slot_in_range)
-- ==== Pre_act_finite.lean ====
abbrev S4224x2048 : Shape := ⟨2, ![4224, 2048]⟩
abbrev S4x1408x2048 : Shape := ⟨3, ![4, 1408, 2048]⟩
abbrev S4224x5632 : Shape := ⟨2, ![4224, 5632]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  bcast_S_S4x1408x2048 : S_.BroadcastsInDim S4x1408x2048 (![] : Fin 0 → Fin S4x1408x2048.rank)
  bcast_S_S4224x5632 : S_.BroadcastsInDim S4224x5632 (![] : Fin 0 → Fin S4224x5632.rank)

variable [Facts]

def fn {F : FTy → Type} [FloatOps F] (main_arg0 : FVec F S4224x2048 .bf16) (main_arg1 : FVec F S4x1408x2048 .bf16) (main_arg2 : FVec F S4224x5632 .bf16) (main_arg3 : FVec F S4224x5632 .bf16) : IVec S4224x2048 1 × IVec S4x1408x2048 1 × IVec S4224x5632 1 × IVec S4224x5632 1 :=
  let main_v0 : FVec F S4224x2048 .f32 := (extf .f32 · bitsLt_bf16_f32) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_v4 : FVec F S4x1408x2048 .f32 := (extf .f32 · bitsLt_bf16_f32) main_arg1
  let main_v5 : FVec F S4x1408x2048 .f32 := Host.absf main_v4
  let main_cst_0 : FVec F S_ .f32 := constant S_ .f32 0x7F800000#32
  let main_v6 : FVec F S4x1408x2048 .f32 := broadcastInDim S4x1408x2048 ![] bcast_S_S4x1408x2048 main_cst_0
  let main_v7 : IVec S4x1408x2048 1 := cmpf .olt main_v5 main_v6
  let main_v8 : FVec F S4224x5632 .f32 := (extf .f32 · bitsLt_bf16_f32) main_arg2
  let main_v9 : FVec F S4224x5632 .f32 := Host.absf main_v8
  let main_cst_1 : FVec F S_ .f32 := constant S_ .f32 0x7F800000#32
  let main_v10 : FVec F S4224x5632 .f32 := broadcastInDim S4224x5632 ![] bcast_S_S4224x5632 main_cst_1
  let main_v11 : IVec S4224x5632 1 := cmpf .olt main_v9 main_v10
  let main_v12 : FVec F S4224x5632 .f32 := (extf .f32 · bitsLt_bf16_f32) main_arg3
  let main_v13 : FVec F S4224x5632 .f32 := Host.absf main_v12
  let main_cst_2 : FVec F S_ .f32 := constant S_ .f32 0x7F800000#32
  let main_v14 : FVec F S4224x5632 .f32 := broadcastInDim S4224x5632 ![] bcast_S_S4224x5632 main_cst_2
  let main_v15 : IVec S4224x5632 1 := cmpf .olt main_v13 main_v14
  (main_v3, main_v7, main_v11, main_v15)
-- ==== Pre_conv_finite.lean ====
abbrev S4224x5120 : Shape := ⟨2, ![4224, 5120]⟩
abbrev S3x1024 : Shape := ⟨2, ![3, 1024]⟩
abbrev S1x1024 : Shape := ⟨2, ![1, 1024]⟩
abbrev S_ : Shape := ⟨0, ![]⟩

class Facts : Prop where
  bcast_S_S4224x5120 : S_.BroadcastsInDim S4224x5120 (![] : Fin 0 → Fin S4224x5120.rank)
  bcast_S_S3x1024 : S_.BroadcastsInDim S3x1024 (![] : Fin 0 → Fin S3x1024.rank)

variable [Facts]

def fn {F : FTy → Type} [FloatOps F] (main_arg0 : FVec F S4224x5120 .f32) (main_arg1 : FVec F S3x1024 .f32) (main_arg2 : FVec F S1x1024 .f32) : IVec S4224x5120 1 × IVec S3x1024 1 :=
  let main_v0 : FVec F S4224x5120 .f32 := Host.absf main_arg0
  let main_cst : FVec F S_ .f32 := constant S_ .f32 0x7F800000#32
  let main_v1 : FVec F S4224x5120 .f32 := broadcastInDim S4224x5120 ![] bcast_S_S4224x5120 main_cst
  let main_v2 : IVec S4224x5120 1 := cmpf .olt main_v0 main_v1
  let main_v3 : FVec F S3x1024 .f32 := Host.absf main_arg1
  let main_cst_0 : FVec F S_ .f32 := constant S_ .f32 0x7F800000#32
  let main_v4 : FVec F S3x1024 .f32 := broadcastInDim S3x1024 ![] bcast_S_S3x1024 main_cst_0
  let main_v5 : IVec S3x1024 1 := cmpf .olt main_v3 main_v4
  (main_v2, main_v5)
-- ==== Pre_ffn_up_finite.lean ====
abbrev S4224x2048 : Shape := ⟨2, ![4224, 2048]⟩
abbrev S4x1408x2048 : Shape := ⟨3, ![4, 1408, 2048]⟩
abbrev S_ : Shape := ⟨0, ![]⟩

class Facts : Prop where
  bitsLt_bf16_f32 : FTy.bits .bf16 < FTy.bits .f32
  bcast_S_S4224x2048 : S_.BroadcastsInDim S4224x2048 (![] : Fin 0 → Fin S4224x2048.rank)
  bcast_S_S4x1408x2048 : S_.BroadcastsInDim S4x1408x2048 (![] : Fin 0 → Fin S4x1408x2048.rank)

variable [Facts]

def fn {F : FTy → Type} [FloatOps F] (main_arg0 : FVec F S4224x2048 .bf16) (main_arg1 : FVec F S4x1408x2048 .bf16) (main_arg2 : FVec F S4x1408x2048 .bf16) : IVec S4224x2048 1 × IVec S4x1408x2048 1 × IVec S4x1408x2048 1 :=
  let main_v0 : FVec F S4224x2048 .f32 := (extf .f32 · bitsLt_bf16_f32) main_arg0
  let main_v1 : FVec F S4224x2048 .f32 := Host.absf main_v0
  let main_cst : FVec F S_ .f32 := constant S_ .f32 0x7F800000#32
  let main_v2 : FVec F S4224x2048 .f32 := broadcastInDim S4224x2048 ![] bcast_S_S4224x2048 main_cst
  let main_v3 : IVec S4224x2048 1 := cmpf .olt main_v1 main_v2
  let main_v4 : FVec F S4x1408x2048 .f32 := (extf .f32 · bitsLt_bf16_f32) main_arg1
  let main_v5 : FVec F S4x1408x2048 .f32 := Host.absf main_v4
  let main_cst_0 : FVec F S_ .f32 := constant S_ .f32 0x7F800000#32
  let main_v6 : FVec F S4x1408x2048 .f32 := broadcastInDim S4x1408x2048 ![] bcast_S_S4x1408x2048 main_cst_0
  let main_v7 : IVec S4x1408x2048 1 := cmpf .olt main_v5 main_v6
  let main_v8 : FVec F S4x1408x2048 .f32 := (extf .f32 · bitsLt_bf16_f32) main_arg2
  let main_v9 : FVec F S4x1408x2048 .f32 := Host.absf main_v8
  let main_cst_1 : FVec F S_ .f32 := constant S_ .f32 0x7F800000#32
  let main_v10 : FVec F S4x1408x2048 .f32 := broadcastInDim S4x1408x2048 ![] bcast_S_S4x1408x2048 main_cst_1
  let main_v11 : IVec S4x1408x2048 1 := cmpf .olt main_v9 main_v10
  (main_v3, main_v7, main_v11)
-- ==== Pre_first_finite.lean ====
abbrev S4224x2048 : Shape := ⟨2, ![4224, 2048]⟩
abbrev S1x2048 : Shape := ⟨2, ![1, 2048]⟩
abbrev S_ : Shape := ⟨0, ![]⟩

class Facts : Prop where
  bcast_S_S4224x2048 : S_.BroadcastsInDim S4224x2048 (![] : Fin 0 → Fin S4224x2048.rank)
  bcast_S_S1x2048 : S_.BroadcastsInDim S1x2048 (![] : Fin 0 → Fin S1x2048.rank)

variable [Facts]

def fn {F : FTy → Type} [FloatOps F] (main_arg0 : FVec F S4224x2048 .f32) (main_arg1 : FVec F S4224x2048 .f32) (main_arg2 : FVec F S4224x2048 .f32) (main_arg3 : FVec F S1x2048 .f32) : IVec S4224x2048 1 × IVec S4224x2048 1 × IVec S4224x2048 1 × IVec S1x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S4224x2048 .f32 := Host.absf main_arg1
  let main_cst_0 : FVec F S_ .f32 := constant S_ .f32 0x7F800000#32
  let main_v4 : FVec F S4224x2048 .f32 := broadcastInDim S4224x2048 ![] bcast_S_S4224x2048 main_cst_0
  let main_v5 : IVec S4224x2048 1 := cmpf .olt main_v3 main_v4
  let main_v6 : FVec F S4224x2048 .f32 := Host.absf main_arg2
  let main_cst_1 : FVec F S_ .f32 := constant S_ .f32 0x7F800000#32
  let main_v7 : FVec F S4224x2048 .f32 := broadcastInDim S4224x2048 ![] bcast_S_S4224x2048 main_cst_1
  let main_v8 : IVec S4224x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  (main_v2, main_v5, main_v8, main_v11)
-- ==== Pre_loss_finite.lean ====
abbrev S4224x2048 : Shape := ⟨2, ![4224, 2048]⟩
abbrev S1x2048 : Shape := ⟨2, ![1, 2048]⟩
abbrev S_ : Shape := ⟨0, ![]⟩

class Facts : Prop where
  bcast_S_S4224x2048 : S_.BroadcastsInDim S4224x2048 (![] : Fin 0 → Fin S4224x2048.rank)
  bcast_S_S1x2048 : S_.BroadcastsInDim S1x2048 (![] : Fin 0 → Fin S1x2048.rank)

variable [Facts]

def fn {F : FTy → Type} [FloatOps F] (main_arg0 : FVec F S4224x2048 .f32) (main_arg1 : FVec F S4224x2048 .f32) (main_arg2 : FVec F S4224x2048 .f32) (main_arg3 : FVec F S1x2048 .f32) : IVec S4224x2048 1 × IVec S4224x2048 1 × IVec S4224x2048 1 × IVec S1x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S4224x2048 .f32 := Host.absf main_arg1
  let main_cst_0 : FVec F S_ .f32 := constant S_ .f32 0x7F800000#32
  let main_v4 : FVec F S4224x2048 .f32 := broadcastInDim S4224x2048 ![] bcast_S_S4224x2048 main_cst_0
  let main_v5 : IVec S4224x2048 1 := cmpf .olt main_v3 main_v4
  let main_v6 : FVec F S4224x2048 .f32 := Host.absf main_arg2
  let main_cst_1 : FVec F S_ .f32 := constant S_ .f32 0x7F800000#32
  let main_v7 : FVec F S4224x2048 .f32 := broadcastInDim S4224x2048 ![] bcast_S_S4224x2048 main_cst_1
  let main_v8 : IVec S4224x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  (main_v2, main_v5, main_v8, main_v11)
-- ==== Pre_mid_finite.lean ====
abbrev S4224x2048 : Shape := ⟨2, ![4224, 2048]⟩
abbrev S1x2048 : Shape := ⟨2, ![1, 2048]⟩
abbrev S_ : Shape := ⟨0, ![]⟩

class Facts : Prop where
  bcast_S_S4224x2048 : S_.BroadcastsInDim S4224x2048 (![] : Fin 0 → Fin S4224x2048.rank)
  bcast_S_S1x2048 : S_.BroadcastsInDim S1x2048 (![] : Fin 0 → Fin S1x2048.rank)

variable [Facts]

def fn {F : FTy → Type} [FloatOps F] (main_arg0 : FVec F S4224x2048 .f32) (main_arg1 : FVec F S4224x2048 .f32) (main_arg2 : FVec F S4224x2048 .f32) (main_arg3 : FVec F S1x2048 .f32) (main_arg4 : FVec F S4224x2048 .f32) (main_arg5 : FVec F S1x2048 .f32) : IVec S4224x2048 1 × IVec S4224x2048 1 × IVec S4224x2048 1 × IVec S1x2048 1 × IVec S4224x2048 1 × IVec S1x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S4224x2048 .f32 := Host.absf main_arg1
  let main_cst_0 : FVec F S_ .f32 := constant S_ .f32 0x7F800000#32
  let main_v4 : FVec F S4224x2048 .f32 := broadcastInDim S4224x2048 ![] bcast_S_S4224x2048 main_cst_0
  let main_v5 : IVec S4224x2048 1 := cmpf .olt main_v3 main_v4
  let main_v6 : FVec F S4224x2048 .f32 := Host.absf main_arg2
  let main_cst_1 : FVec F S_ .f32 := constant S_ .f32 0x7F800000#32
  let main_v7 : FVec F S4224x2048 .f32 := broadcastInDim S4224x2048 ![] bcast_S_S4224x2048 main_cst_1
  let main_v8 : IVec S4224x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S4224x2048 .f32 := Host.absf main_arg4
  let main_cst_3 : FVec F S_ .f32 := constant S_ .f32 0x7F800000#32
  let main_v13 : FVec F S4224x2048 .f32 := broadcastInDim S4224x2048 ![] bcast_S_S4224x2048 main_cst_3
  let main_v14 : IVec S4224x2048 1 := cmpf .olt main_v12 main_v13
  let main_v15 : FVec F S1x2048 .f32 := Host.absf main_arg5
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  (main_v2, main_v5, main_v8, main_v11, main_v14, main_v17)
-- ==== Pre_pre_finite.lean ====
abbrev S4224x2048 : Shape := ⟨2, ![4224, 2048]⟩
abbrev S1x2048 : Shape := ⟨2, ![1, 2048]⟩
abbrev S_ : Shape := ⟨0, ![]⟩

class Facts : Prop where
  bcast_S_S4224x2048 : S_.BroadcastsInDim S4224x2048 (![] : Fin 0 → Fin S4224x2048.rank)
  bcast_S_S1x2048 : S_.BroadcastsInDim S1x2048 (![] : Fin 0 → Fin S1x2048.rank)

variable [Facts]

def fn {F : FTy → Type} [FloatOps F] (main_arg0 : FVec F S4224x2048 .f32) (main_arg1 : FVec F S4224x2048 .f32) (main_arg2 : FVec F S4224x2048 .f32) (main_arg3 : FVec F S1x2048 .f32) (main_arg4 : FVec F S4224x2048 .f32) (main_arg5 : FVec F S1x2048 .f32) : IVec S4224x2048 1 × IVec S4224x2048 1 × IVec S4224x2048 1 × IVec S1x2048 1 × IVec S4224x2048 1 × IVec S1x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S4224x2048 .f32 := Host.absf main_arg1
  let main_cst_0 : FVec F S_ .f32 := constant S_ .f32 0x7F800000#32
  let main_v4 : FVec F S4224x2048 .f32 := broadcastInDim S4224x2048 ![] bcast_S_S4224x2048 main_cst_0
  let main_v5 : IVec S4224x2048 1 := cmpf .olt main_v3 main_v4
  let main_v6 : FVec F S4224x2048 .f32 := Host.absf main_arg2
  let main_cst_1 : FVec F S_ .f32 := constant S_ .f32 0x7F800000#32
  let main_v7 : FVec F S4224x2048 .f32 := broadcastInDim S4224x2048 ![] bcast_S_S4224x2048 main_cst_1
  let main_v8 : IVec S4224x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S4224x2048 .f32 := Host.absf main_arg4
  let main_cst_3 : FVec F S_ .f32 := constant S_ .f32 0x7F800000#32
  let main_v13 : FVec F S4224x2048 .f32 := broadcastInDim S4224x2048 ![] bcast_S_S4224x2048 main_cst_3
  let main_v14 : IVec S4224x2048 1 := cmpf .olt main_v12 main_v13
  let main_v15 : FVec F S1x2048 .f32 := Host.absf main_arg5
  let main_cst_4 : FVec F S_ .f32 := constant S_ .f32 0x7F800000#32
  let main_v16 : FVec F S1x2048 .f32 := broadcastInDim S1x2048 ![] bcast_S_S1x2048 main_cst_4
  let main_v17 : IVec S1x2048 1 := cmpf .olt main_v15 main_v16
  (main_v2, main_v5, main_v8, main_v11, main_v14, main_v17)
-- ==== Pre_slot_in_range.lean ====
abbrev S2048x1280 : Shape := ⟨2, ![2048, 1280]⟩
abbrev S_ : Shape := ⟨0, ![]⟩

class Facts : Prop where

variable [Facts]

def fn {F : FTy → Type} [FloatOps F] (main_arg0 : FVec F S2048x1280 .f32) (main_arg1 : IVec S_ 32) : IVec S_ 1 :=
  let main_c : IVec S_ 32 := constantI S_ 32 0#32
  let main_v0 : IVec S_ 1 := cmpi .sge main_arg1 main_c
  let main_c_0 : IVec S_ 32 := constantI S_ 32 4#32
  let main_v1 : IVec S_ 1 := cmpi .slt main_arg1 main_c_0
  let main_v2 : IVec S_ 1 := andi main_v0 main_v1
  main_v2
-- ==== Act.lean ====
abbrev S4224x2048 : Shape := ⟨2, ![4224, 2048]⟩
abbrev S4x1408x2048 : Shape := ⟨3, ![4, 1408, 2048]⟩
abbrev S4224x5632 : Shape := ⟨2, ![4224, 5632]⟩
abbrev S704x2048 : Shape := ⟨2, ![704, 2048]⟩
abbrev S1x1408x2048 : Shape := ⟨3, ![1, 1408, 2048]⟩
abbrev S704x1408 : Shape := ⟨2, ![704, 1408]⟩
abbrev S1x256x2048 : Shape := ⟨3, ![1, 256, 2048]⟩
abbrev S256x2048 : Shape := ⟨2, ![256, 2048]⟩
abbrev S704x256 : Shape := ⟨2, ![704, 256]⟩
abbrev S1x128x2048 : Shape := ⟨3, ![1, 128, 2048]⟩
abbrev S128x2048 : Shape := ⟨2, ![128, 2048]⟩
abbrev S704x128 : Shape := ⟨2, ![704, 128]⟩

abbrev nBuf : Space → Nat
  | .hbm => 6
  | .vmem => 12
  | .smem => 0
  | _ => 0

abbrev bufTy : (tb : Table) → Fin (tcTables nBuf tb) → BufTy
  | .hbm, ⟨0, _⟩ => ⟨S4224x2048, .bf16⟩
  | .hbm, ⟨1, _⟩ => ⟨S4x1408x2048, .bf16⟩
  | .hbm, ⟨2, _⟩ => ⟨S4224x5632, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S704x1408, .bf16⟩
  | .local _ .vmem, ⟨5, _⟩ => ⟨S704x1408, .bf16⟩
  | .local _ .vmem, ⟨6, _⟩ => ⟨S704x1408, .bf16⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S704x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ActRefIdeal.lean ====
abbrev S4224x2048 : Shape := ⟨2, ![4224, 2048]⟩
abbrev S4x1408x2048 : Shape := ⟨3, ![4, 1408, 2048]⟩
abbrev S4224x5632 : Shape := ⟨2, ![4224, 5632]⟩
abbrev S5632x2048 : Shape := ⟨2, ![5632, 2048]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x1408x2048, .bf16⟩
  | .hbm, ⟨2, _⟩ => ⟨S4224x5632, .bf16⟩
  | .hbm, ⟨3, _⟩ => ⟨S4224x5632, .bf16⟩
  | .hbm, ⟨4, _⟩ => ⟨S5632x2048, .bf16⟩
  | .hbm, ⟨5, _⟩ => ⟨S5632x2048, .f32⟩
  | .hbm, ⟨6, _⟩ => ⟨S4224x5632, .f32⟩
  | .hbm, ⟨7, _⟩ => ⟨S4224x5632, .f32⟩
  | .hbm, ⟨8, _⟩ => ⟨S4224x5632, .f32⟩
  | .hbm, ⟨9, _⟩ => ⟨S4224x5632, .f32⟩
  | .hbm, ⟨10, _⟩ => ⟨S_, .f32⟩
  | .hbm, ⟨11, _⟩ => ⟨S4224x5632, .f32⟩
  | .hbm, ⟨12, _⟩ => ⟨S4224x5632, .f32⟩
  | .hbm, ⟨13, _⟩ => ⟨S_, .f32⟩
  | .hbm, ⟨14, _⟩ => ⟨S4224x5632, .f32⟩
  | .hbm, ⟨15, _⟩ => ⟨S4224x5632, .f32⟩
  | .hbm, ⟨16, _⟩ => ⟨S_, .f32⟩
  | .hbm, ⟨17, _⟩ => ⟨S4224x5632, .f32⟩
  | .hbm, ⟨18, _⟩ => ⟨S4224x5632, .f32⟩
  | .hbm, ⟨19, _⟩ => ⟨S4224x5632, .f32⟩
  | .hbm, ⟨20, _⟩ => ⟨S4224x5632, .f32⟩
  | .hbm, ⟨21, _⟩ => ⟨S4224x5632, .f32⟩
  | .hbm, ⟨22, _⟩ => ⟨S4224x2048, .f32⟩
  | .hbm, ⟨23, _⟩ => ⟨S4224x2048, .f32⟩
  | .hbm, ⟨24, _⟩ => ⟨S4224x5632, .f32⟩
  | .hbm, ⟨25, _⟩ => ⟨S4224x5632, .f32⟩
  | .hbm, ⟨26, _⟩ => ⟨S4224x5632, .f32⟩
  | .hbm, ⟨27, _⟩ => ⟨S4224x5632, .f32⟩
  | .hbm, ⟨28, _⟩ => ⟨S4224x5632, .f32⟩
  | .hbm, ⟨29, _⟩ => ⟨S4224x5632, .f32⟩
  | .hbm, ⟨30, _⟩ => ⟨S4224x5632, .f32⟩
  | .hbm, ⟨31, _⟩ => ⟨S4224x5632, .bf16⟩
  | .hbm, ⟨32, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Wgrad.lean ====
abbrev S4224x5632 : Shape := ⟨2, ![4224, 5632]⟩
abbrev S4224x2048 : Shape := ⟨2, ![4224, 2048]⟩
abbrev S4x1408x2048 : Shape := ⟨3, ![4, 1408, 2048]⟩
abbrev S4224x1408 : Shape := ⟨2, ![4224, 1408]⟩
abbrev S4224x512 : Shape := ⟨2, ![4224, 512]⟩
abbrev S1x1408x512 : Shape := ⟨3, ![1, 1408, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S4x1408x2048, .bf16⟩
  | .local _ .vmem, ⟨0, _⟩ => ⟨S4224x1408, .bf16⟩
  | .local _ .vmem, ⟨1, _⟩ => ⟨S4224x1408, .bf16⟩
  | .local _ .vmem, ⟨2, _⟩ => ⟨S4224x512, .bf16⟩
  | .local _ .vmem, ⟨3, _⟩ => ⟨S4224x512, .bf16⟩
  | .local _ .vmem, ⟨4, _⟩ => ⟨S1x1408x512, .bf16⟩
  | .local _ .vmem, ⟨5, _⟩ => ⟨S1x1408x512, .bf16⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4224x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WgradRefIdeal.lean ====
abbrev S4224x5632 : Shape := ⟨2, ![4224, 5632]⟩
abbrev S4224x2048 : Shape := ⟨2, ![4224, 2048]⟩
abbrev S_ : Shape := ⟨0, ![]⟩
abbrev S5632x2048 : Shape := ⟨2, ![5632, 2048]⟩
abbrev S2048x5632 : Shape := ⟨2, ![2048, 5632]⟩
abbrev S4x1408x2048 : Shape := ⟨3, ![4, 1408, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4224x2048, .bf16⟩
  | .hbm, ⟨2, _⟩ => ⟨S_, .f32⟩
  | .hbm, ⟨3, _⟩ => ⟨S5632x2048, .f32⟩
  | .hbm, ⟨4, _⟩ => ⟨S4224x5632, .f32⟩
  | .hbm, ⟨5, _⟩ => ⟨S4224x2048, .f32⟩
  | .hbm, ⟨6, _⟩ => ⟨S4224x2048, .f32⟩
  | .hbm, ⟨7, _⟩ => ⟨S2048x5632, .f32⟩
  | .hbm, ⟨8, _⟩ => ⟨S5632x2048, .f32⟩
  | .hbm, ⟨9, _⟩ => ⟨S4x1408x2048, .f32⟩
  | .hbm, ⟨10, _⟩ => ⟨S4x1408x2048, .bf16⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== NormBwd.lean ====
abbrev S4224x2048 : Shape := ⟨2, ![4224, 2048]⟩
abbrev S1x2048 : Shape := ⟨2, ![1, 2048]⟩
abbrev S352x2048 : Shape := ⟨2, ![352, 2048]⟩
abbrev S352 : Shape := ⟨1, ![352]⟩
abbrev S352x1 : Shape := ⟨2, ![352, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S4224x2048, .bf16⟩
  | .hbm, ⟨8, _⟩ => ⟨S1x2048, .f32⟩
  | .hbm, ⟨9, _⟩ => ⟨S1x2048, .f32⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S352x2048, .f32⟩
  | .local _ .vmem, ⟨5, _⟩ => ⟨S352x2048, .f32⟩
  | .local _ .vmem, ⟨6, _⟩ => ⟨S352x2048, .f32⟩
  | .local _ .vmem, ⟨7, _⟩ => ⟨S352x2048, .f32⟩
  | .local _ .vmem, ⟨8, _⟩ => ⟨S1x2048, .f32⟩
  | .local _ .vmem, ⟨9, _⟩ => ⟨S1x2048, .f32⟩
  | .local _ .vmem, ⟨10, _⟩ => ⟨S352x2048, .f32⟩
  | .local _ .vmem, ⟨11, _⟩ => ⟨S352x2048, .f32⟩
  | .local _ .vmem, ⟨12, _⟩ => ⟨S352x2048, .bf16⟩
  | .local _ .vmem, ⟨13, _⟩ => ⟨S352x2048, .bf16⟩
  | .local _ .vmem, ⟨14, _⟩ => ⟨S1x2048, .f32⟩
  | .local _ .vmem, ⟨15, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 92
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S_, .f32⟩
  | .hbm, ⟨33, _⟩ => ⟨S4224, .f32⟩
  | .hbm, ⟨34, _⟩ => ⟨S4224x1, .f32⟩
  | .hbm, ⟨35, _⟩ => ⟨S4224x2048, .f32⟩
  | .hbm, ⟨36, _⟩ => ⟨S4224x2048, .f32⟩
  | .hbm, ⟨37, _⟩ => ⟨S4224x1, .f32⟩
  | .hbm, ⟨38, _⟩ => ⟨S_, .f32⟩
  | .hbm, ⟨39, _⟩ => ⟨S4224x1, .f32⟩
  | .hbm, ⟨40, _⟩ => ⟨S4224x1, .f32⟩
  | .hbm, ⟨41, _⟩ => ⟨S_, .f32⟩
  | .hbm, ⟨42, _⟩ => ⟨S4224, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S_, .f32⟩
  | .hbm, ⟨51, _⟩ => ⟨S4224, .f32⟩
  | .hbm, ⟨52, _⟩ => ⟨S4224x1, .f32⟩
  | .hbm, ⟨53, _⟩ => ⟨S_, .f32⟩
  | .hbm, ⟨54, _⟩ => ⟨S4224x1, .f32⟩
  | .hbm, ⟨55, _⟩ => ⟨S4224x1, .f32⟩
  | .hbm, ⟨56, _⟩ => ⟨S_, .f32⟩
  | .hbm, ⟨57, _⟩ => ⟨S4224x1, .f32⟩
  | .hbm, ⟨58, _⟩ => ⟨S4224x1, .f32⟩
  | .hbm, ⟨59, _⟩ => ⟨S4224x1, .f32⟩
  | .hbm, ⟨60, _⟩ => ⟨S4224x1, .f32⟩
  | .hbm, ⟨61, _⟩ => ⟨S_, .f32⟩
  | .hbm, ⟨62, _⟩ => ⟨S4224x1, .f32⟩
  | .hbm, ⟨63, _⟩ => ⟨S4224x1, .f32⟩
  | .hbm, ⟨64, _⟩ => ⟨S4224x2048, .f32⟩
  | .hbm, ⟨65, _⟩ => ⟨S4224x2048, .f32⟩
  | .hbm, ⟨66, _⟩ => ⟨S4224x2048, .f32⟩
  | .hbm, ⟨67, _⟩ => ⟨S4224x2048, .f32⟩
  | .hbm, ⟨68, _⟩ => ⟨S4224x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S4224x2048, .f32⟩
  | .hbm, ⟨73, _⟩ => ⟨S4224x2048, .f32⟩
  | .hbm, ⟨74, _⟩ => ⟨S4224x2048, .f32⟩
  | .hbm, ⟨75, _⟩ => ⟨S_, .f32⟩
  | .hbm, ⟨76, _⟩ => ⟨S4224, .f32⟩
  | .hbm, ⟨77, _⟩ => ⟨S4224x1, .f32⟩
  | .hbm, ⟨78, _⟩ => ⟨S4224x2048, .f32⟩
  | .hbm, ⟨79, _⟩ => ⟨S4224x2048, .f32⟩
  | .hbm, ⟨80, _⟩ => ⟨S4224x1, .f32⟩
  | .hbm, ⟨81, _⟩ => ⟨S_, .f32⟩
  | .hbm, ⟨82, _⟩ => ⟨S4224x1, .f32⟩
  | .hbm, ⟨83, _⟩ => ⟨S4224x1, .f32⟩
  | .hbm, ⟨84, _⟩ => ⟨S_, .f32⟩
  | .hbm, ⟨85, _⟩ => ⟨S4224, .f32⟩
  | .hbm, ⟨86, _⟩ => ⟨S4224x2048, .f32⟩
  | .hbm, ⟨87, _⟩ => ⟨S4224x2048, .f32⟩
  | .hbm, ⟨88, _⟩ => ⟨S4224x2048, .f32⟩
  | .hbm, ⟨89, _⟩ => ⟨S4224x2048, .f32⟩
  | .hbm, ⟨90, _⟩ => ⟨S4224x2048, .f32⟩
  | .hbm, ⟨91, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_13 : Ref sig .tc := ⟨.hbm, 81, rfl⟩
abbrev main_v61 : Ref sig .tc := ⟨.hbm, 82, rfl⟩
abbrev main_v62 : Ref sig .tc := ⟨.hbm, 83, rfl⟩
abbrev main_cst_14 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩

abbrev nD : Nat := 1
abbrev τ : Topo := Topo.v7x

variable {F : FTy → Type} [FloatOps F]
-- ==== UpBwd.lean ====
abbrev S4224x5632 : Shape := ⟨2, ![4224, 5632]⟩
abbrev S4x1408x2048 : Shape := ⟨3, ![4, 1408, 2048]⟩
abbrev S4224x2048 : Shape := ⟨2, ![4224, 2048]⟩
abbrev S528x1408 : Shape := ⟨2, ![528, 1408]⟩
abbrev S1x1408x2048 : Shape := ⟨3, ![1, 1408, 2048]⟩
abbrev S528x2048 : Shape := ⟨2, ![528, 2048]⟩
abbrev S1408x2048 : Shape := ⟨2, ![1408, 2048]⟩

abbrev nBuf : Space → Nat
  | .hbm => 5
  | .vmem => 10
  | .smem => 0
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x5632, .bf16⟩
  | .hbm, ⟨3, _⟩ => ⟨S4x1408x2048, .bf16⟩
  | .hbm, ⟨4, _⟩ => ⟨S4224x2048, .f32⟩
  | .local _ .vmem, ⟨0, _⟩ => ⟨S528x1408, .bf16⟩
  | .local _ .vmem, ⟨1, _⟩ => ⟨S528x1408, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S528x1408, .bf16⟩
  | .local _ .vmem, ⟨5, _⟩ => ⟨S528x1408, .bf16⟩
  | .local _ .vmem, ⟨6, _⟩ => ⟨S1x1408x2048, .bf16⟩
  | .local _ .vmem, ⟨7, _⟩ => ⟨S1x1408x2048, .bf16⟩
  | .local _ .vmem, ⟨8, _⟩ => ⟨S528x2048, .f32⟩
  | .local _ .vmem, ⟨9, _⟩ => ⟨S528x2048, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v9 : BitVec 1 := Scalar.cmpi .eq arg1 c0_i32
  let v10 : BitVec 32 := Scalar.extui v9
  let c0_i32_10 : BitVec 32 := 0#32
  let v11 : BitVec 1 := Scalar.cmpi .ne v10 c0_i32_10
  v11

def k0_cond2 (i : grid0.Coords) : BitVec 1 :=
  let arg1 : BitVec 32 := BitVec.ofNat 32 (i 1).val
  let c0_i32_11 : BitVec 32 := 0#32
  let v12 : BitVec 1 := Scalar.cmpi .sgt arg1 c0_i32_11
  let v13 : BitVec 32 := Scalar.extui v12
  let c0_i32_12 : BitVec 32 := 0#32
  let v14 : BitVec 1 := Scalar.cmpi .ne v13 c0_i32_12
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S528x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S528x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S528x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== UpBwdRefIdeal.lean ====
abbrev S4224x5632 : Shape := ⟨2, ![4224, 5632]⟩
abbrev S4x1408x2048 : Shape := ⟨3, ![4, 1408, 2048]⟩
abbrev S5632x2048 : Shape := ⟨2, ![5632, 2048]⟩
abbrev S_ : Shape := ⟨0, ![]⟩
abbrev S4224x2048 : Shape := ⟨2, ![4224, 2048]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x5632, .bf16⟩
  | .hbm, ⟨3, _⟩ => ⟨S4x1408x2048, .bf16⟩
  | .hbm, ⟨4, _⟩ => ⟨S5632x2048, .bf16⟩
  | .hbm, ⟨5, _⟩ => ⟨S5632x2048, .f32⟩
  | .hbm, ⟨6, _⟩ => ⟨S5632x2048, .bf16⟩
  | .hbm, ⟨7, _⟩ => ⟨S5632x2048, .f32⟩
  | .hbm, ⟨8, _⟩ => ⟨S_, .f32⟩
  | .hbm, ⟨9, _⟩ => ⟨S4224x2048, .f32⟩
  | .hbm, ⟨10, _⟩ => ⟨S2048x5632, .f32⟩
  | .hbm, ⟨11, _⟩ => ⟨S4224x5632, .f32⟩
  | .hbm, ⟨12, _⟩ => ⟨S2048x5632, .f32⟩
  | .hbm, ⟨13, _⟩ => ⟨S4224x5632, .f32⟩
  | .hbm, ⟨14, _⟩ => ⟨S4224x5632, .f32⟩
  | .hbm, ⟨15, _⟩ => ⟨S4224x5632, .f32⟩
  | .hbm, ⟨16, _⟩ => ⟨S4224x2048, .f32⟩
  | .hbm, ⟨17, _⟩ => ⟨S4224x2048, .f32⟩
  | .hbm, ⟨18, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== InBwd.lean ====
abbrev S4224x5120 : Shape := ⟨2, ![4224, 5120]⟩
abbrev S4x2048x1280 : Shape := ⟨3, ![4, 2048, 1280]⟩
abbrev S4224x2048 : Shape := ⟨2, ![4224, 2048]⟩
abbrev S1056x1280 : Shape := ⟨2, ![1056, 1280]⟩
abbrev S1x2048x1280 : Shape := ⟨3, ![1, 2048, 1280]⟩
abbrev S1056x2048 : Shape := ⟨2, ![1056, 2048]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4224x5120, .bf16⟩
  | .hbm, ⟨1, _⟩ => ⟨S4x2048x1280, .bf16⟩
  | .hbm, ⟨2, _⟩ => ⟨S4224x2048, .f32⟩
  | .local _ .vmem, ⟨0, _⟩ => ⟨S1056x1280, .bf16⟩
  | .local _ .vmem, ⟨1, _⟩ => ⟨S1056x1280, .bf16⟩
  | .local _ .vmem, ⟨2, _⟩ => ⟨S1x2048x1280, .bf16⟩
  | .local _ .vmem, ⟨3, _⟩ => ⟨S1x2048x1280, .bf16⟩
  | .local _ .vmem, ⟨4, _⟩ => ⟨S1056x2048, .f32⟩
  | .local _ .vmem, ⟨5, _⟩ => ⟨S1056x2048, .f32⟩
  | _, _ => ⟨S4224x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1056x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== InBwdRefIdeal.lean ====
abbrev S4224x5120 : Shape := ⟨2, ![4224, 5120]⟩
abbrev S4x2048x1280 : Shape := ⟨3, ![4, 2048, 1280]⟩
abbrev S2048x4x1280 : Shape := ⟨3, ![2048, 4, 1280]⟩
abbrev S2048x5120 : Shape := ⟨2, ![2048, 5120]⟩
abbrev S_ : Shape := ⟨0, ![]⟩
abbrev S4224x2048 : Shape := ⟨2, ![4224, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4224x5120, .bf16⟩
  | .hbm, ⟨1, _⟩ => ⟨S4x2048x1280, .bf16⟩
  | .hbm, ⟨2, _⟩ => ⟨S4x2048x1280, .f32⟩
  | .hbm, ⟨3, _⟩ => ⟨S2048x4x1280, .f32⟩
  | .hbm, ⟨4, _⟩ => ⟨S2048x5120, .f32⟩
  | .hbm, ⟨5, _⟩ => ⟨S_, .f32⟩
  | .hbm, ⟨6, _⟩ => ⟨S4224x2048, .f32⟩
  | .hbm, ⟨7, _⟩ => ⟨S4224x5120, .f32⟩
  | .hbm, ⟨8, _⟩ => ⟨S4224x5120, .f32⟩
  | .hbm, ⟨9, _⟩ => ⟨S4224x2048, .f32⟩
  | _, _ => ⟨S4224x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InWgrad.lean ====
abbrev S4224x2048 : Shape := ⟨2, ![4224, 2048]⟩
abbrev S4224x5120 : Shape := ⟨2, ![4224, 5120]⟩
abbrev S4x2048x1280 : Shape := ⟨3, ![4, 2048, 1280]⟩
abbrev S4224x512 : Shape := ⟨2, ![4224, 512]⟩
abbrev S4224x1280 : Shape := ⟨2, ![4224, 1280]⟩
abbrev S1x512x1280 : Shape := ⟨3, ![1, 512, 1280]⟩
abbrev S512x1280 : Shape := ⟨2, ![512, 1280]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x5120, .bf16⟩
  | .hbm, ⟨2, _⟩ => ⟨S4x2048x1280, .bf16⟩
  | .local _ .vmem, ⟨0, _⟩ => ⟨S4224x512, .bf16⟩
  | .local _ .vmem, ⟨1, _⟩ => ⟨S4224x512, .bf16⟩
  | .local _ .vmem, ⟨2, _⟩ => ⟨S4224x1280, .bf16⟩
  | .local _ .vmem, ⟨3, _⟩ => ⟨S4224x1280, .bf16⟩
  | .local _ .vmem, ⟨4, _⟩ => ⟨S1x512x1280, .bf16⟩
  | .local _ .vmem, ⟨5, _⟩ => ⟨S1x512x1280, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4224x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InWgradRefIdeal.lean ====
abbrev S4224x2048 : Shape := ⟨2, ![4224, 2048]⟩
abbrev S4224x5120 : Shape := ⟨2, ![4224, 5120]⟩
abbrev S_ : Shape := ⟨0, ![]⟩
abbrev S2048x5120 : Shape := ⟨2, ![2048, 5120]⟩
abbrev S5120x2048 : Shape := ⟨2, ![5120, 2048]⟩
abbrev S2048x4x1280 : Shape := ⟨3, ![2048, 4, 1280]⟩
abbrev S4x2048x1280 : Shape := ⟨3, ![4, 2048, 1280]⟩

abbrev nBuf : Space → Nat
  | .hbm => 12
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x5120, .bf16⟩
  | .hbm, ⟨2, _⟩ => ⟨S_, .f32⟩
  | .hbm, ⟨3, _⟩ => ⟨S2048x5120, .f32⟩
  | .hbm, ⟨4, _⟩ => ⟨S4224x2048, .f32⟩
  | .hbm, ⟨5, _⟩ => ⟨S4224x5120, .f32⟩
  | .hbm, ⟨6, _⟩ => ⟨S4224x5120, .f32⟩
  | .hbm, ⟨7, _⟩ => ⟨S5120x2048, .f32⟩
  | .hbm, ⟨8, _⟩ => ⟨S2048x5120, .f32⟩
  | .hbm, ⟨9, _⟩ => ⟨S2048x4x1280, .f32⟩
  | .hbm, ⟨10, _⟩ => ⟨S4x2048x1280, .f32⟩
  | .hbm, ⟨11, _⟩ => ⟨S4x2048x1280, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutBwd.lean ====
abbrev S4224x2048 : Shape := ⟨2, ![4224, 2048]⟩
abbrev S4x512x2048 : Shape := ⟨3, ![4, 512, 2048]⟩
abbrev S1056x2048 : Shape := ⟨2, ![1056, 2048]⟩
abbrev S1x512x2048 : Shape := ⟨3, ![1, 512, 2048]⟩
abbrev S1056x512 : Shape := ⟨2, ![1056, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .bf16⟩
  | .hbm, ⟨1, _⟩ => ⟨S4x512x2048, .bf16⟩
  | .hbm, ⟨2, _⟩ => ⟨S4224x2048, .f32⟩
  | .local _ .vmem, ⟨0, _⟩ => ⟨S1056x2048, .bf16⟩
  | .local _ .vmem, ⟨1, _⟩ => ⟨S1056x2048, .bf16⟩
  | .local _ .vmem, ⟨2, _⟩ => ⟨S1x512x2048, .bf16⟩
  | .local _ .vmem, ⟨3, _⟩ => ⟨S1056x512, .f32⟩
  | .local _ .vmem, ⟨4, _⟩ => ⟨S1056x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutBwdRefIdeal.lean ====
abbrev S4224x2048 : Shape := ⟨2, ![4224, 2048]⟩
abbrev S4x512x2048 : Shape := ⟨3, ![4, 512, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x512x2048, .bf16⟩
  | .hbm, ⟨2, _⟩ => ⟨S4x512x2048, .f32⟩
  | .hbm, ⟨3, _⟩ => ⟨S2048x2048, .f32⟩
  | .hbm, ⟨4, _⟩ => ⟨S_, .f32⟩
  | .hbm, ⟨5, _⟩ => ⟨S4224x2048, .f32⟩
  | .hbm, ⟨6, _⟩ => ⟨S4224x2048, .f32⟩
  | .hbm, ⟨7, _⟩ => ⟨S4224x2048, .f32⟩
  | .hbm, ⟨8, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OutWgrad.lean ====
abbrev S4224x2048 : Shape := ⟨2, ![4224, 2048]⟩
abbrev S4x512x2048 : Shape := ⟨3, ![4, 512, 2048]⟩
abbrev S4224x512 : Shape := ⟨2, ![4224, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S4x512x2048, .bf16⟩
  | .local _ .vmem, ⟨0, _⟩ => ⟨S4224x512, .bf16⟩
  | .local _ .vmem, ⟨1, _⟩ => ⟨S4224x512, .bf16⟩
  | .local _ .vmem, ⟨2, _⟩ => ⟨S4224x512, .bf16⟩
  | .local _ .vmem, ⟨3, _⟩ => ⟨S4224x512, .bf16⟩
  | .local _ .vmem, ⟨4, _⟩ => ⟨S1x512x512, .bf16⟩
  | .local _ .vmem, ⟨5, _⟩ => ⟨S1x512x512, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c0_i32 : BitVec 32 := 0#32
  let v1 : BitVec 32 := Scalar.addi v0 c0_i32
  let c0_i32_0 : BitVec 32 := 0#32
  let c0_i32_1 : BitVec 32 := 0#32
  ![c0_i32_0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S4224x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutWgradRefIdeal.lean ====
abbrev S4224x2048 : Shape := ⟨2, ![4224, 2048]⟩
abbrev S_ : Shape := ⟨0, ![]⟩
abbrev S2048x2048 : Shape := ⟨2, ![2048, 2048]⟩
abbrev S4x512x2048 : Shape := ⟨3, ![4, 512, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4224x2048, .bf16⟩
  | .hbm, ⟨2, _⟩ => ⟨S_, .f32⟩
  | .hbm, ⟨3, _⟩ => ⟨S2048x2048, .f32⟩
  | .hbm, ⟨4, _⟩ => ⟨S4224x2048, .f32⟩
  | .hbm, ⟨5, _⟩ => ⟨S4224x2048, .f32⟩
  | .hbm, ⟨6, _⟩ => ⟨S4224x2048, .f32⟩
  | .hbm, ⟨7, _⟩ => ⟨S2048x2048, .f32⟩
  | .hbm, ⟨8, _⟩ => ⟨S2048x2048, .f32⟩
  | .hbm, ⟨9, _⟩ => ⟨S4x512x2048, .f32⟩
  | .hbm, ⟨10, _⟩ => ⟨S4x512x2048, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnUp.lean ====
abbrev S4224x2048 : Shape := ⟨2, ![4224, 2048]⟩
abbrev S4x1408x2048 : Shape := ⟨3, ![4, 1408, 2048]⟩
abbrev S4224x5632 : Shape := ⟨2, ![4224, 5632]⟩
abbrev S704x2048 : Shape := ⟨2, ![704, 2048]⟩
abbrev S1x1408x2048 : Shape := ⟨3, ![1, 1408, 2048]⟩
abbrev S704x1408 : Shape := ⟨2, ![704, 1408]⟩
abbrev S1x256x2048 : Shape := ⟨3, ![1, 256, 2048]⟩
abbrev S256x2048 : Shape := ⟨2, ![256, 2048]⟩
abbrev S704x256 : Shape := ⟨2, ![704, 256]⟩
abbrev S1x128x2048 : Shape := ⟨3, ![1, 128, 2048]⟩
abbrev S128x2048 : Shape := ⟨2, ![128, 2048]⟩
abbrev S704x128 : Shape := ⟨2, ![704, 128]⟩

abbrev nBuf : Space → Nat
  | .hbm => 6
  | .vmem => 12
  | .smem => 0
  | _ => 0

abbrev bufTy : (tb : Table) → Fin (tcTables nBuf tb) → BufTy
  | .hbm, ⟨0, _⟩ => ⟨S4224x2048, .bf16⟩
  | .hbm, ⟨1, _⟩ => ⟨S4x1408x2048, .bf16⟩
  | .hbm, ⟨2, _⟩ => ⟨S4x1408x2048, .bf16⟩
  | .hbm, ⟨3, _⟩ => ⟨S4224x5632, .bf16⟩
  | .hbm, ⟨4, _⟩ => ⟨S4224x5632, .bf16⟩
  | .hbm, ⟨5, _⟩ => ⟨S4224x5632, .bf16⟩
  | .local _ .vmem, ⟨0, _⟩ => ⟨S704x2048, .bf16⟩
  | .local _ .vmem, ⟨1, _⟩ => ⟨S704x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S1x1408x2048, .bf16⟩
  | .local _ .vmem, ⟨5, _⟩ => ⟨S1x1408x2048, .bf16⟩
  | .local _ .vmem, ⟨6, _⟩ => ⟨S704x1408, .bf16⟩
  | .local _ .vmem, ⟨7, _⟩ => ⟨S704x1408, .bf16⟩
  | .local _ .vmem, ⟨8, _⟩ => ⟨S704x1408, .bf16⟩
  | .local _ .vmem, ⟨9, _⟩ => ⟨S704x1408, .bf16⟩
  | .local _ .vmem, ⟨10, _⟩ => ⟨S704x1408, .bf16⟩
  | .local _ .vmem, ⟨11, _⟩ => ⟨S704x1408, .bf16⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S704x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S704x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S704x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S704x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnUpRefIdeal.lean ====
abbrev S4224x2048 : Shape := ⟨2, ![4224, 2048]⟩
abbrev S4x1408x2048 : Shape := ⟨3, ![4, 1408, 2048]⟩
abbrev S5632x2048 : Shape := ⟨2, ![5632, 2048]⟩
abbrev S2048x5632 : Shape := ⟨2, ![2048, 5632]⟩
abbrev S4224x5632 : Shape := ⟨2, ![4224, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x1408x2048, .bf16⟩
  | .hbm, ⟨2, _⟩ => ⟨S4x1408x2048, .bf16⟩
  | .hbm, ⟨3, _⟩ => ⟨S4224x2048, .f32⟩
  | .hbm, ⟨4, _⟩ => ⟨S5632x2048, .bf16⟩
  | .hbm, ⟨5, _⟩ => ⟨S5632x2048, .f32⟩
  | .hbm, ⟨6, _⟩ => ⟨S2048x5632, .f32⟩
  | .hbm, ⟨7, _⟩ => ⟨S4224x5632, .f32⟩
  | .hbm, ⟨8, _⟩ => ⟨S5632x2048, .bf16⟩
  | .hbm, ⟨9, _⟩ => ⟨S5632x2048, .f32⟩
  | .hbm, ⟨10, _⟩ => ⟨S2048x5632, .f32⟩
  | .hbm, ⟨11, _⟩ => ⟨S4224x5632, .f32⟩
  | .hbm, ⟨12, _⟩ => ⟨S4224x5632, .bf16⟩
  | .hbm, ⟨13, _⟩ => ⟨S4224x5632, .bf16⟩
  | .hbm, ⟨14, _⟩ => ⟨S4224x5632, .f32⟩
  | .hbm, ⟨15, _⟩ => ⟨S4224x5632, .f32⟩
  | .hbm, ⟨16, _⟩ => ⟨S_, .f32⟩
  | .hbm, ⟨17, _⟩ => ⟨S4224x5632, .f32⟩
  | .hbm, ⟨18, _⟩ => ⟨S4224x5632, .f32⟩
  | .hbm, ⟨19, _⟩ => ⟨S_, .f32⟩
  | .hbm, ⟨20, _⟩ => ⟨S4224x5632, .f32⟩
  | .hbm, ⟨21, _⟩ => ⟨S4224x5632, .f32⟩
  | .hbm, ⟨22, _⟩ => ⟨S4224x5632, .f32⟩
  | .hbm, ⟨23, _⟩ => ⟨S4224x5632, .f32⟩
  | .hbm, ⟨24, _⟩ => ⟨S4224x5632, .bf16⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== FfnDown.lean ====
abbrev S4224x5632 : Shape := ⟨2, ![4224, 5632]⟩
abbrev S4x1408x2048 : Shape := ⟨3, ![4, 1408, 2048]⟩
abbrev S5632x2048 : Shape := ⟨2, ![5632, 2048]⟩
abbrev S4224x2048 : Shape := ⟨2, ![4224, 2048]⟩
abbrev S1056x5632 : Shape := ⟨2, ![1056, 5632]⟩
abbrev S5632x512 : Shape := ⟨2, ![5632, 512]⟩
abbrev S1056x512 : Shape := ⟨2, ![1056, 512]⟩

abbrev nBuf : Space → Nat
  | .hbm => 4
  | .vmem => 6
  | .smem => 0
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S5632x2048, .bf16⟩
  | .hbm, ⟨3, _⟩ => ⟨S4224x2048, .f32⟩
  | .local _ .vmem, ⟨0, _⟩ => ⟨S1056x5632, .bf16⟩
  | .local _ .vmem, ⟨1, _⟩ => ⟨S1056x5632, .bf16⟩
  | .local _ .vmem, ⟨2, _⟩ => ⟨S5632x512, .bf16⟩
  | .local _ .vmem, ⟨3, _⟩ => ⟨S5632x512, .bf16⟩
  | .local _ .vmem, ⟨4, _⟩ => ⟨S1056x512, .f32⟩
  | .local _ .vmem, ⟨5, _⟩ => ⟨S1056x512, .f32⟩
  | _, _ => ⟨S4224x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S4224x5632 : Shape := ⟨2, ![4224, 5632]⟩
abbrev S4x1408x2048 : Shape := ⟨3, ![4, 1408, 2048]⟩
abbrev S5632x2048 : Shape := ⟨2, ![5632, 2048]⟩
abbrev S4224x2048 : Shape := ⟨2, ![4224, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x5632, .bf16⟩
  | .hbm, ⟨1, _⟩ => ⟨S4x1408x2048, .bf16⟩
  | .hbm, ⟨2, _⟩ => ⟨S4224x5632, .f32⟩
  | .hbm, ⟨3, _⟩ => ⟨S5632x2048, .bf16⟩
  | .hbm, ⟨4, _⟩ => ⟨S5632x2048, .f32⟩
  | .hbm, ⟨5, _⟩ => ⟨S4224x2048, .f32⟩
  | _, _ => ⟨S4224x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InProj.lean ====
abbrev S4224x2048 : Shape := ⟨2, ![4224, 2048]⟩
abbrev S4x2048x1280 : Shape := ⟨3, ![4, 2048, 1280]⟩
abbrev S4224x5120 : Shape := ⟨2, ![4224, 5120]⟩
abbrev S1056x2048 : Shape := ⟨2, ![1056, 2048]⟩
abbrev S1x2048x1280 : Shape := ⟨3, ![1, 2048, 1280]⟩
abbrev S1056x1280 : Shape := ⟨2, ![1056, 1280]⟩
abbrev S2048x1280 : Shape := ⟨2, ![2048, 1280]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .bf16⟩
  | .hbm, ⟨1, _⟩ => ⟨S4x2048x1280, .bf16⟩
  | .hbm, ⟨2, _⟩ => ⟨S4224x5120, .f32⟩
  | .local _ .vmem, ⟨0, _⟩ => ⟨S1056x2048, .bf16⟩
  | .local _ .vmem, ⟨1, _⟩ => ⟨S1056x2048, .bf16⟩
  | .local _ .vmem, ⟨2, _⟩ => ⟨S1x2048x1280, .bf16⟩
  | .local _ .vmem, ⟨3, _⟩ => ⟨S1056x1280, .f32⟩
  | .local _ .vmem, ⟨4, _⟩ => ⟨S1056x1280, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1056x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S4224x2048 : Shape := ⟨2, ![4224, 2048]⟩
abbrev S4x2048x1280 : Shape := ⟨3, ![4, 2048, 1280]⟩
abbrev S2048x4x1280 : Shape := ⟨3, ![2048, 4, 1280]⟩
abbrev S2048x5120 : Shape := ⟨2, ![2048, 5120]⟩
abbrev S4224x5120 : Shape := ⟨2, ![4224, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x2048x1280, .bf16⟩
  | .hbm, ⟨2, _⟩ => ⟨S4224x2048, .f32⟩
  | .hbm, ⟨3, _⟩ => ⟨S4x2048x1280, .f32⟩
  | .hbm, ⟨4, _⟩ => ⟨S2048x4x1280, .f32⟩
  | .hbm, ⟨5, _⟩ => ⟨S2048x5120, .f32⟩
  | .hbm, ⟨6, _⟩ => ⟨S4224x5120, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutProj.lean ====
abbrev S4224x2048 : Shape := ⟨2, ![4224, 2048]⟩
abbrev S4x512x2048 : Shape := ⟨3, ![4, 512, 2048]⟩
abbrev S2048x2048 : Shape := ⟨2, ![2048, 2048]⟩
abbrev S1056x2048 : Shape := ⟨2, ![1056, 2048]⟩
abbrev S2048x512 : Shape := ⟨2, ![2048, 512]⟩
abbrev S1056x512 : Shape := ⟨2, ![1056, 512]⟩

abbrev nBuf : Space → Nat
  | .hbm => 4
  | .vmem => 6
  | .smem => 0
  | _ => 0

abbrev bufTy : (tb : Table) → Fin (tcTables nBuf tb) → BufTy
  | .hbm, ⟨0, _⟩ => ⟨S4224x2048, .bf16⟩
  | .hbm, ⟨1, _⟩ => ⟨S4x512x2048, .bf16⟩
  | .hbm, ⟨2, _⟩ => ⟨S2048x2048, .bf16⟩
  | .hbm, ⟨3, _⟩ => ⟨S4224x2048, .f32⟩
  | .local _ .vmem, ⟨0, _⟩ => ⟨S1056x2048, .bf16⟩
  | .local _ .vmem, ⟨1, _⟩ => ⟨S1056x2048, .bf16⟩
  | .local _ .vmem, ⟨2, _⟩ => ⟨S2048x512, .bf16⟩
  | .local _ .vmem, ⟨3, _⟩ => ⟨S2048x512, .bf16⟩
  | .local _ .vmem, ⟨4, _⟩ => ⟨S1056x512, .f32⟩
  | .local _ .vmem, ⟨5, _⟩ => ⟨S1056x512, .f32⟩
  | _, _ => ⟨S4224x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1056x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1056x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutProjRefIdeal.lean ====
abbrev S4224x2048 : Shape := ⟨2, ![4224, 2048]⟩
abbrev S4x512x2048 : Shape := ⟨3, ![4, 512, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4224x2048, .bf16⟩
  | .hbm, ⟨1, _⟩ => ⟨S4x512x2048, .bf16⟩
  | .hbm, ⟨2, _⟩ => ⟨S4224x2048, .f32⟩
  | .hbm, ⟨3, _⟩ => ⟨S2048x2048, .bf16⟩
  | .hbm, ⟨4, _⟩ => ⟨S2048x2048, .f32⟩
  | .hbm, ⟨5, _⟩ => ⟨S4224x2048, .f32⟩
  | _, _ => ⟨S4224x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AdamFfn.lean ====
abbrev S1376x2048 : Shape := ⟨2, ![1376, 2048]⟩
abbrev S1408x2048 : Shape := ⟨2, ![1408, 2048]⟩
abbrev S344x1024 : Shape := ⟨2, ![344, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1376x2048, .f32⟩
  | .hbm, ⟨1, _⟩ => ⟨S1408x2048, .f32⟩
  | .hbm, ⟨2, _⟩ => ⟨S1376x2048, .f32⟩
  | .hbm, ⟨3, _⟩ => ⟨S1376x2048, .f32⟩
  | .hbm, ⟨4, _⟩ => ⟨S1376x2048, .f32⟩
  | .hbm, ⟨5, _⟩ => ⟨S1376x2048, .f32⟩
  | .hbm, ⟨6, _⟩ => ⟨S1376x2048, .f32⟩
  | .hbm, ⟨7, _⟩ => ⟨S1376x2048, .f32⟩
  | .local _ .vmem, ⟨0, _⟩ => ⟨S344x1024, .f32⟩
  | .local _ .vmem, ⟨1, _⟩ => ⟨S344x1024, .f32⟩
  | .local _ .vmem, ⟨2, _⟩ => ⟨S344x1024, .f32⟩
  | .local _ .vmem, ⟨3, _⟩ => ⟨S344x1024, .f32⟩
  | .local _ .vmem, ⟨4, _⟩ => ⟨S344x1024, .f32⟩
  | .local _ .vmem, ⟨5, _⟩ => ⟨S344x1024, .f32⟩
  | .local _ .vmem, ⟨6, _⟩ => ⟨S344x1024, .f32⟩
  | .local _ .vmem, ⟨7, _⟩ => ⟨S344x1024, .f32⟩
  | .local _ .vmem, ⟨8, _⟩ => ⟨S344x1024, .f32⟩
  | .local _ .vmem, ⟨9, _⟩ => ⟨S344x1024, .f32⟩
  | .local _ .vmem, ⟨10, _⟩ => ⟨S344x1024, .f32⟩
  | .local _ .vmem, ⟨11, _⟩ => ⟨S344x1024, .f32⟩
  | .local _ .vmem, ⟨12, _⟩ => ⟨S344x1024, .f32⟩
  | .local _ .vmem, ⟨13, _⟩ => ⟨S344x1024, .f32⟩
  | .local _ .vmem, ⟨14, _⟩ => ⟨S344x1024, .f32⟩
  | .local _ .vmem, ⟨15, _⟩ => ⟨S344x1024, .f32⟩
  | _, _ => ⟨S1376x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S344x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S344x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S344x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S344x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S344x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S344x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S344x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S344x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamFfnRefIdeal.lean ====
abbrev S1376x2048 : Shape := ⟨2, ![1376, 2048]⟩
abbrev S1408x2048 : Shape := ⟨2, ![1408, 2048]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1376x2048, .f32⟩
  | .hbm, ⟨1, _⟩ => ⟨S1408x2048, .f32⟩
  | .hbm, ⟨2, _⟩ => ⟨S1376x2048, .f32⟩
  | .hbm, ⟨3, _⟩ => ⟨S1376x2048, .f32⟩
  | .hbm, ⟨4, _⟩ => ⟨S1376x2048, .f32⟩
  | .hbm, ⟨5, _⟩ => ⟨S_, .f32⟩
  | .hbm, ⟨6, _⟩ => ⟨S1376x2048, .f32⟩
  | .hbm, ⟨7, _⟩ => ⟨S1376x2048, .f32⟩
  | .hbm, ⟨8, _⟩ => ⟨S_, .f32⟩
  | .hbm, ⟨9, _⟩ => ⟨S1376x2048, .f32⟩
  | .hbm, ⟨10, _⟩ => ⟨S1376x2048, .f32⟩
  | .hbm, ⟨11, _⟩ => ⟨S1376x2048, .f32⟩
  | .hbm, ⟨12, _⟩ => ⟨S_, .f32⟩
  | .hbm, ⟨13, _⟩ => ⟨S1376x2048, .f32⟩
  | .hbm, ⟨14, _⟩ => ⟨S1376x2048, .f32⟩
  | .hbm, ⟨15, _⟩ => ⟨S1376x2048, .f32⟩
  | .hbm, ⟨16, _⟩ => ⟨S_, .f32⟩
  | .hbm, ⟨17, _⟩ => ⟨S1376x2048, .f32⟩
  | .hbm, ⟨18, _⟩ => ⟨S1376x2048, .f32⟩
  | .hbm, ⟨19, _⟩ => ⟨S1376x2048, .f32⟩
  | .hbm, ⟨20, _⟩ => ⟨S_, .f32⟩
  | .hbm, ⟨21, _⟩ => ⟨S1376x2048, .f32⟩
  | .hbm, ⟨22, _⟩ => ⟨S1376x2048, .f32⟩
  | .hbm, ⟨23, _⟩ => ⟨S_, .f32⟩
  | .hbm, ⟨24, _⟩ => ⟨S1376x2048, .f32⟩
  | .hbm, ⟨25, _⟩ => ⟨S1376x2048, .f32⟩
  | .hbm, ⟨26, _⟩ => ⟨S1376x2048, .f32⟩
  | .hbm, ⟨27, _⟩ => ⟨S_, .f32⟩
  | .hbm, ⟨28, _⟩ => ⟨S1376x2048, .f32⟩
  | .hbm, ⟨29, _⟩ => ⟨S1376x2048, .f32⟩
  | .hbm, ⟨30, _⟩ => ⟨S1376x2048, .f32⟩
  | .hbm, ⟨31, _⟩ => ⟨S_, .f32⟩
  | .hbm, ⟨32, _⟩ => ⟨S1376x2048, .f32⟩
  | .hbm, ⟨33, _⟩ => ⟨S1376x2048, .f32⟩
  | .hbm, ⟨34, _⟩ => ⟨S1376x2048, .f32⟩
  | .hbm, ⟨35, _⟩ => ⟨S_, .f32⟩
  | .hbm, ⟨36, _⟩ => ⟨S1376x2048, .f32⟩
  | .hbm, ⟨37, _⟩ => ⟨S1376x2048, .f32⟩
  | _, _ => ⟨S1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamIn.lean ====
abbrev S2048x1280 : Shape := ⟨2, ![2048, 1280]⟩
abbrev S256x1280 : Shape := ⟨2, ![256, 1280]⟩

abbrev nBuf : Space → Nat
  | .hbm => 8
  | .vmem => 16
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S2048x1280, .f32⟩
  | .hbm, ⟨5, _⟩ => ⟨S2048x1280, .f32⟩
  | .hbm, ⟨6, _⟩ => ⟨S2048x1280, .f32⟩
  | .hbm, ⟨7, _⟩ => ⟨S2048x1280, .f32⟩
  | .local _ .vmem, ⟨0, _⟩ => ⟨S256x1280, .f32⟩
  | .local _ .vmem, ⟨1, _⟩ => ⟨S256x1280, .f32⟩
  | .local _ .vmem, ⟨2, _⟩ => ⟨S256x1280, .f32⟩
  | .local _ .vmem, ⟨3, _⟩ => ⟨S256x1280, .f32⟩
  | .local _ .vmem, ⟨4, _⟩ => ⟨S256x1280, .f32⟩
  | .local _ .vmem, ⟨5, _⟩ => ⟨S256x1280, .f32⟩
  | .local _ .vmem, ⟨6, _⟩ => ⟨S256x1280, .f32⟩
  | .local _ .vmem, ⟨7, _⟩ => ⟨S256x1280, .f32⟩
  | .local _ .vmem, ⟨8, _⟩ => ⟨S256x1280, .f32⟩
  | .local _ .vmem, ⟨9, _⟩ => ⟨S256x1280, .f32⟩
  | .local _ .vmem, ⟨10, _⟩ => ⟨S256x1280, .f32⟩
  | .local _ .vmem, ⟨11, _⟩ => ⟨S256x1280, .f32⟩
  | .local _ .vmem, ⟨12, _⟩ => ⟨S256x1280, .f32⟩
  | .local _ .vmem, ⟨13, _⟩ => ⟨S256x1280, .f32⟩
  | .local _ .vmem, ⟨14, _⟩ => ⟨S256x1280, .f32⟩
  | .local _ .vmem, ⟨15, _⟩ => ⟨S256x1280, .f32⟩
  | _, _ => ⟨S2048x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1280 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1280 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInRefIdeal.lean ====
abbrev S2048x1280 : Shape := ⟨2, ![2048, 1280]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S2048x1280, .f32⟩
  | .hbm, ⟨2, _⟩ => ⟨S2048x1280, .f32⟩
  | .hbm, ⟨3, _⟩ => ⟨S2048x1280, .f32⟩
  | .hbm, ⟨4, _⟩ => ⟨S_, .f32⟩
  | .hbm, ⟨5, _⟩ => ⟨S2048x1280, .f32⟩
  | .hbm, ⟨6, _⟩ => ⟨S2048x1280, .f32⟩
  | .hbm, ⟨7, _⟩ => ⟨S_, .f32⟩
  | .hbm, ⟨8, _⟩ => ⟨S2048x1280, .f32⟩
  | .hbm, ⟨9, _⟩ => ⟨S2048x1280, .f32⟩
  | .hbm, ⟨10, _⟩ => ⟨S2048x1280, .f32⟩
  | .hbm, ⟨11, _⟩ => ⟨S_, .f32⟩
  | .hbm, ⟨12, _⟩ => ⟨S2048x1280, .f32⟩
  | .hbm, ⟨13, _⟩ => ⟨S2048x1280, .f32⟩
  | .hbm, ⟨14, _⟩ => ⟨S2048x1280, .f32⟩
  | .hbm, ⟨15, _⟩ => ⟨S_, .f32⟩
  | .hbm, ⟨16, _⟩ => ⟨S2048x1280, .f32⟩
  | .hbm, ⟨17, _⟩ => ⟨S2048x1280, .f32⟩
  | .hbm, ⟨18, _⟩ => ⟨S2048x1280, .f32⟩
  | .hbm, ⟨19, _⟩ => ⟨S_, .f32⟩
  | .hbm, ⟨20, _⟩ => ⟨S2048x1280, .f32⟩
  | .hbm, ⟨21, _⟩ => ⟨S2048x1280, .f32⟩
  | .hbm, ⟨22, _⟩ => ⟨S_, .f32⟩
  | .hbm, ⟨23, _⟩ => ⟨S2048x1280, .f32⟩
  | .hbm, ⟨24, _⟩ => ⟨S2048x1280, .f32⟩
  | .hbm, ⟨25, _⟩ => ⟨S2048x1280, .f32⟩
  | .hbm, ⟨26, _⟩ => ⟨S_, .f32⟩
  | .hbm, ⟨27, _⟩ => ⟨S2048x1280, .f32⟩
  | .hbm, ⟨28, _⟩ => ⟨S2048x1280, .f32⟩
  | .hbm, ⟨29, _⟩ => ⟨S2048x1280, .f32⟩
  | .hbm, ⟨30, _⟩ => ⟨S_, .f32⟩
  | .hbm, ⟨31, _⟩ => ⟨S2048x1280, .f32⟩
  | .hbm, ⟨32, _⟩ => ⟨S2048x1280, .f32⟩
  | .hbm, ⟨33, _⟩ => ⟨S2048x1280, .f32⟩
  | .hbm, ⟨34, _⟩ => ⟨S_, .f32⟩
  | .hbm, ⟨35, _⟩ => ⟨S2048x1280, .f32⟩
  | .hbm, ⟨36, _⟩ => ⟨S2048x1280, .f32⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S512x2048 : Shape := ⟨2, ![512, 2048]⟩
abbrev S64x2048 : Shape := ⟨2, ![64, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== FirstBwd.lean ====
abbrev S4224x2048 : Shape := ⟨2, ![4224, 2048]⟩
abbrev S1x2048 : Shape := ⟨2, ![1, 2048]⟩
abbrev S352x2048 : Shape := ⟨2, ![352, 2048]⟩
abbrev S352 : Shape := ⟨1, ![352]⟩
abbrev S352x1 : Shape := ⟨2, ![352, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S1x2048, .f32⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S352x2048, .f32⟩
  | .local _ .vmem, ⟨5, _⟩ => ⟨S352x2048, .f32⟩
  | .local _ .vmem, ⟨6, _⟩ => ⟨S1x2048, .f32⟩
  | .local _ .vmem, ⟨7, _⟩ => ⟨S352x2048, .f32⟩
  | .local _ .vmem, ⟨8, _⟩ => ⟨S352x2048, .f32⟩
  | .local _ .vmem, ⟨9, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== FirstBwdRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 47
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S_, .f32⟩
  | .hbm, ⟨31, _⟩ => ⟨S4224, .f32⟩
  | .hbm, ⟨32, _⟩ => ⟨S4224x1, .f32⟩
  | .hbm, ⟨33, _⟩ => ⟨S4224x2048, .f32⟩
  | .hbm, ⟨34, _⟩ => ⟨S4224x2048, .f32⟩
  | .hbm, ⟨35, _⟩ => ⟨S4224x1, .f32⟩
  | .hbm, ⟨36, _⟩ => ⟨S_, .f32⟩
  | .hbm, ⟨37, _⟩ => ⟨S4224x1, .f32⟩
  | .hbm, ⟨38, _⟩ => ⟨S4224x1, .f32⟩
  | .hbm, ⟨39, _⟩ => ⟨S_, .f32⟩
  | .hbm, ⟨40, _⟩ => ⟨S4224, .f32⟩
  | .hbm, ⟨41, _⟩ => ⟨S4224x2048, .f32⟩
  | .hbm, ⟨42, _⟩ => ⟨S4224x2048, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== PostFwd.lean ====
abbrev S4224x2048 : Shape := ⟨2, ![4224, 2048]⟩
abbrev S1x2048 : Shape := ⟨2, ![1, 2048]⟩
abbrev S352x2048 : Shape := ⟨2, ![352, 2048]⟩
abbrev S352 : Shape := ⟨1, ![352]⟩
abbrev S352x1 : Shape := ⟨2, ![352, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S4224x2048, .bf16⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S1x2048, .f32⟩
  | .local _ .vmem, ⟨5, _⟩ => ⟨S1x2048, .f32⟩
  | .local _ .vmem, ⟨6, _⟩ => ⟨S352x2048, .f32⟩
  | .local _ .vmem, ⟨7, _⟩ => ⟨S352x2048, .f32⟩
  | .local _ .vmem, ⟨8, _⟩ => ⟨S352x2048, .bf16⟩
  | .local _ .vmem, ⟨9, _⟩ => ⟨S352x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PostFwdRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 39
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x2048, .f32⟩
  | .hbm, ⟨16, _⟩ => ⟨S4224x2048, .f32⟩
  | .hbm, ⟨17, _⟩ => ⟨S4224x2048, .f32⟩
  | .hbm, ⟨18, _⟩ => ⟨S4224x2048, .f32⟩
  | .hbm, ⟨19, _⟩ => ⟨S_, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S_, .f32⟩
  | .hbm, ⟨25, _⟩ => ⟨S4224, .f32⟩
  | .hbm, ⟨26, _⟩ => ⟨S4224x1, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S_, .f32⟩
  | .hbm, ⟨31, _⟩ => ⟨S4224x1, .f32⟩
  | .hbm, ⟨32, _⟩ => ⟨S4224x1, .f32⟩
  | .hbm, ⟨33, _⟩ => ⟨S4224x1, .f32⟩
  | .hbm, ⟨34, _⟩ => ⟨S4224x2048, .f32⟩
  | .hbm, ⟨35, _⟩ => ⟨S4224x2048, .f32⟩
  | .hbm, ⟨36, _⟩ => ⟨S4224x2048, .f32⟩
  | .hbm, ⟨37, _⟩ => ⟨S4224x2048, .f32⟩
  | .hbm, ⟨38, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== NormFwd.lean ====
abbrev S4224x2048 : Shape := ⟨2, ![4224, 2048]⟩
abbrev S1x2048 : Shape := ⟨2, ![1, 2048]⟩
abbrev S352x2048 : Shape := ⟨2, ![352, 2048]⟩
abbrev S352 : Shape := ⟨1, ![352]⟩
abbrev S352x1 : Shape := ⟨2, ![352, 1]⟩

abbrev nBuf : Space → Nat
  | .hbm => 3
  | .vmem => 5
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .bf16⟩
  | .local _ .vmem, ⟨0, _⟩ => ⟨S352x2048, .f32⟩
  | .local _ .vmem, ⟨1, _⟩ => ⟨S352x2048, .f32⟩
  | .local _ .vmem, ⟨2, _⟩ => ⟨S1x2048, .f32⟩
  | .local _ .vmem, ⟨3, _⟩ => ⟨S352x2048, .bf16⟩
  | .local _ .vmem, ⟨4, _⟩ => ⟨S352x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S352x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 18
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S1x2048, .f32⟩
  | .hbm, ⟨2, _⟩ => ⟨S4224x2048, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S4224x2048, .f32⟩
  | .hbm, ⟨17, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LossHead.lean ====
abbrev S4224x2048 : Shape := ⟨2, ![4224, 2048]⟩
abbrev S1x2048 : Shape := ⟨2, ![1, 2048]⟩
abbrev S1x1 : Shape := ⟨2, ![1, 1]⟩
abbrev S352x2048 : Shape := ⟨2, ![352, 2048]⟩
abbrev S352 : Shape := ⟨1, ![352]⟩
abbrev S352x1 : Shape := ⟨2, ![352, 1]⟩
abbrev S1 : Shape := ⟨1, ![1]⟩
abbrev S2048 : Shape := ⟨1, ![2048]⟩

abbrev nBuf : Space → Nat
  | .hbm => 8
  | .vmem => 13
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S4224x2048, .bf16⟩
  | .hbm, ⟨6, _⟩ => ⟨S1x2048, .f32⟩
  | .hbm, ⟨7, _⟩ => ⟨S1x1, .f32⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S352x2048, .f32⟩
  | .local _ .vmem, ⟨5, _⟩ => ⟨S352x2048, .f32⟩
  | .local _ .vmem, ⟨6, _⟩ => ⟨S1x2048, .f32⟩
  | .local _ .vmem, ⟨7, _⟩ => ⟨S352x2048, .f32⟩
  | .local _ .vmem, ⟨8, _⟩ => ⟨S352x2048, .f32⟩
  | .local _ .vmem, ⟨9, _⟩ => ⟨S352x2048, .bf16⟩
  | .local _ .vmem, ⟨10, _⟩ => ⟨S352x2048, .bf16⟩
  | .local _ .vmem, ⟨11, _⟩ => ⟨S1x2048, .f32⟩
  | .local _ .vmem, ⟨12, _⟩ => ⟨S1x1, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossHeadRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S4096x2048 : Shape := ⟨2, ![4096, 2048]⟩
abbrev S4096 : Shape := ⟨1, ![4096]⟩
abbrev S2048 : Shape := ⟨1, ![2048]⟩
abbrev S1x1 : Shape := ⟨2, ![1, 1]⟩

abbrev nBuf : Space → Nat
  | .hbm => 82
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x1, .f32⟩
  | .hbm, ⟨16, _⟩ => ⟨S_, .f32⟩
  | .hbm, ⟨17, _⟩ => ⟨S4224x1, .f32⟩
  | .hbm, ⟨18, _⟩ => ⟨S4224x1, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S_, .f32⟩
  | .hbm, ⟨24, _⟩ => ⟨S4224x2048, .f32⟩
  | .hbm, ⟨25, _⟩ => ⟨S4224x2048, .f32⟩
  | .hbm, ⟨26, _⟩ => ⟨S4224x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4224x2048, .f32⟩
  | .hbm, ⟨54, _⟩ => ⟨S_, .f32⟩
  | .hbm, ⟨55, _⟩ => ⟨S4224x2048, .f32⟩
  | .hbm, ⟨56, _⟩ => ⟨S4224x2048, .f32⟩
  | .hbm, ⟨57, _⟩ => ⟨S4224x2048, .f32⟩
  | .hbm, ⟨58, _⟩ => ⟨S_, .f32⟩
  | .hbm, ⟨59, _⟩ => ⟨S2048, .f32⟩
  | .hbm, ⟨60, _⟩ => ⟨S1x2048, .f32⟩
  | .hbm, ⟨61, _⟩ => ⟨S4224x2048, .f32⟩
  | .hbm, ⟨62, _⟩ => ⟨S4224x2048, .f32⟩
  | .hbm, ⟨63, _⟩ => ⟨S4224x2048, .f32⟩
  | .hbm, ⟨64, _⟩ => ⟨S_, .f32⟩
  | .hbm, ⟨65, _⟩ => ⟨S4224, .f32⟩
  | .hbm, ⟨66, _⟩ => ⟨S4224x1, .f32⟩
  | .hbm, ⟨67, _⟩ => ⟨S4224x2048, .f32⟩
  | .hbm, ⟨68, _⟩ => ⟨S4224x2048, .f32⟩
  | .hbm, ⟨69, _⟩ => ⟨S4224x1, .f32⟩
  | .hbm, ⟨70, _⟩ => ⟨S_, .f32⟩
  | .hbm, ⟨71, _⟩ => ⟨S4224x1, .f32⟩
  | .hbm, ⟨72, _⟩ => ⟨S4224x1, .f32⟩
  | .hbm, ⟨73, _⟩ => ⟨S_, .f32⟩
  | .hbm, ⟨74, _⟩ => ⟨S4224, .f32⟩
  | .hbm, ⟨75, _⟩ => ⟨S4224x2048, .f32⟩
  | .hbm, ⟨76, _⟩ => ⟨S4224x2048, .f32⟩
  | .hbm, ⟨77, _⟩ => ⟨S4224x2048, .f32⟩
  | .hbm, ⟨78, _⟩ => ⟨S4224x2048, .f32⟩
  | .hbm, ⟨79, _⟩ => ⟨S4224x2048, .f32⟩
  | .hbm, ⟨80, _⟩ => ⟨S4224x2048, .bf16⟩
  | .hbm, ⟨81, _⟩ => ⟨S1x1, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_cst_7 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_cst_9 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_cst_11 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_12 : Ref sig .tc := ⟨.hbm, 52, rfl⟩
abbrev main_v35 : Ref sig .tc := ⟨.hbm, 53, rfl⟩
abbrev main_cst_13 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_15 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_16 : Ref sig .tc := ⟨.hbm, 70, rfl⟩
abbrev main_v49 : Ref sig .tc := ⟨.hbm, 71, rfl⟩
abbrev main_v50 : Ref sig .tc := ⟨.hbm, 72, rfl⟩
abbrev main_cst_17 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩

abbrev nD : Nat := 1
abbrev τ : Topo := Topo.v7x

variable {F : FTy → Type} [FloatOps F]
-- ==== AdamSmall.lean ====
abbrev S176x2048 : Shape := ⟨2, ![176, 2048]⟩
abbrev S24x2048 : Shape := ⟨2, ![24, 2048]⟩
abbrev S4x152x2048 : Shape := ⟨3, ![4, 152, 2048]⟩
abbrev S1x152x2048 : Shape := ⟨3, ![1, 152, 2048]⟩
abbrev S152x2048 : Shape := ⟨2, ![152, 2048]⟩

abbrev nBuf : Space → Nat
  | .hbm => 9
  | .vmem => 9
  | .smem => 0
  | _ => 0

abbrev bufTy : (tb : Table) → Fin (tcTables nBuf tb) → BufTy
  | .hbm, ⟨0, _⟩ => ⟨S176x2048, .f32⟩
  | .hbm, ⟨1, _⟩ => ⟨S24x2048, .f32⟩
  | .hbm, ⟨2, _⟩ => ⟨S4x152x2048, .f32⟩
  | .hbm, ⟨3, _⟩ => ⟨S176x2048, .f32⟩
  | .hbm, ⟨4, _⟩ => ⟨S176x2048, .f32⟩
  | .hbm, ⟨5, _⟩ => ⟨S176x2048, .f32⟩
  | .hbm, ⟨6, _⟩ => ⟨S176x2048, .f32⟩
  | .hbm, ⟨7, _⟩ => ⟨S176x2048, .f32⟩
  | .hbm, ⟨8, _⟩ => ⟨S176x2048, .f32⟩
  | .local _ .vmem, ⟨0, _⟩ => ⟨S176x2048, .f32⟩
  | .local _ .vmem, ⟨1, _⟩ => ⟨S24x2048, .f32⟩
  | .local _ .vmem, ⟨2, _⟩ => ⟨S4x152x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S176x2048, .f32⟩
  | .local _ .vmem, ⟨7, _⟩ => ⟨S176x2048, .f32⟩
  | .local _ .vmem, ⟨8, _⟩ => ⟨S176x2048, .f32⟩
  | _, _ => ⟨S176x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S176x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x152x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S176x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S176x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S176x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S176x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S176x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S176x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== AdamSmallRefIdeal.lean ====
abbrev S176x2048 : Shape := ⟨2, ![176, 2048]⟩
abbrev S24x2048 : Shape := ⟨2, ![24, 2048]⟩
abbrev S4x152x2048 : Shape := ⟨3, ![4, 152, 2048]⟩
abbrev S_ : Shape := ⟨0, ![]⟩
abbrev S152x2048 : Shape := ⟨2, ![152, 2048]⟩

abbrev nBuf : Space → Nat
  | .hbm => 41
  | .vmem => 0
  | .smem => 0
  | _ => 0

abbrev bufTy : (tb : Table) → Fin (tcTables nBuf tb) → BufTy
  | .hbm, ⟨0, _⟩ => ⟨S176x2048, .f32⟩
  | .hbm, ⟨1, _⟩ => ⟨S24x2048, .f32⟩
  | .hbm, ⟨2, _⟩ => ⟨S4x152x2048, .f32⟩
  | .hbm, ⟨3, _⟩ => ⟨S176x2048, .f32⟩
  | .hbm, ⟨4, _⟩ => ⟨S176x2048, .f32⟩
  | .hbm, ⟨5, _⟩ => ⟨S_, .f32⟩
  | .hbm, ⟨6, _⟩ => ⟨S152x2048, .f32⟩
  | .hbm, ⟨7, _⟩ => ⟨S176x2048, .f32⟩
  | .hbm, ⟨8, _⟩ => ⟨S_, .f32⟩
  | .hbm, ⟨9, _⟩ => ⟨S176x2048, .f32⟩
  | .hbm, ⟨10, _⟩ => ⟨S176x2048, .f32⟩
  | .hbm, ⟨11, _⟩ => ⟨S_, .f32⟩
  | .hbm, ⟨12, _⟩ => ⟨S176x2048, .f32⟩
  | .hbm, ⟨13, _⟩ => ⟨S176x2048, .f32⟩
  | .hbm, ⟨14, _⟩ => ⟨S176x2048, .f32⟩
  | .hbm, ⟨15, _⟩ => ⟨S_, .f32⟩
  | .hbm, ⟨16, _⟩ => ⟨S176x2048, .f32⟩
  | .hbm, ⟨17, _⟩ => ⟨S176x2048, .f32⟩
  | .hbm, ⟨18, _⟩ => ⟨S176x2048, .f32⟩
  | .hbm, ⟨19, _⟩ => ⟨S_, .f32⟩
  | .hbm, ⟨20, _⟩ => ⟨S176x2048, .f32⟩
  | .hbm, ⟨21, _⟩ => ⟨S176x2048, .f32⟩
  | .hbm, ⟨22, _⟩ => ⟨S176x2048, .f32⟩
  | .hbm, ⟨23, _⟩ => ⟨S_, .f32⟩
  | .hbm, ⟨24, _⟩ => ⟨S176x2048, .f32⟩
  | .hbm, ⟨25, _⟩ => ⟨S176x2048, .f32⟩
  | .hbm, ⟨26, _⟩ => ⟨S_, .f32⟩
  | .hbm, ⟨27, _⟩ => ⟨S176x2048, .f32⟩
  | .hbm, ⟨28, _⟩ => ⟨S176x2048, .f32⟩
  | .hbm, ⟨29, _⟩ => ⟨S176x2048, .f32⟩
  | .hbm, ⟨30, _⟩ => ⟨S_, .f32⟩
  | .hbm, ⟨31, _⟩ => ⟨S176x2048, .f32⟩
  | .hbm, ⟨32, _⟩ => ⟨S176x2048, .f32⟩
  | .hbm, ⟨33, _⟩ => ⟨S176x2048, .f32⟩
  | .hbm, ⟨34, _⟩ => ⟨S_, .f32⟩
  | .hbm, ⟨35, _⟩ => ⟨S176x2048, .f32⟩
  | .hbm, ⟨36, _⟩ => ⟨S176x2048, .f32⟩
  | .hbm, ⟨37, _⟩ => ⟨S176x2048, .f32⟩
  | .hbm, ⟨38, _⟩ => ⟨S_, .f32⟩
  | .hbm, ⟨39, _⟩ => ⟨S176x2048, .f32⟩
  | .hbm, ⟨40, _⟩ => ⟨S176x2048, .f32⟩
  | _, _ => ⟨S176x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== MidBwd.lean ====
abbrev S4224x2048 : Shape := ⟨2, ![4224, 2048]⟩
abbrev S1x2048 : Shape := ⟨2, ![1, 2048]⟩
abbrev S352x2048 : Shape := ⟨2, ![352, 2048]⟩
abbrev S352 : Shape := ⟨1, ![352]⟩
abbrev S352x1 : Shape := ⟨2, ![352, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S4224x2048, .bf16⟩
  | .hbm, ⟨8, _⟩ => ⟨S1x2048, .f32⟩
  | .hbm, ⟨9, _⟩ => ⟨S1x2048, .f32⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S352x2048, .f32⟩
  | .local _ .vmem, ⟨5, _⟩ => ⟨S352x2048, .f32⟩
  | .local _ .vmem, ⟨6, _⟩ => ⟨S352x2048, .f32⟩
  | .local _ .vmem, ⟨7, _⟩ => ⟨S352x2048, .f32⟩
  | .local _ .vmem, ⟨8, _⟩ => ⟨S1x2048, .f32⟩
  | .local _ .vmem, ⟨9, _⟩ => ⟨S1x2048, .f32⟩
  | .local _ .vmem, ⟨10, _⟩ => ⟨S352x2048, .f32⟩
  | .local _ .vmem, ⟨11, _⟩ => ⟨S352x2048, .f32⟩
  | .local _ .vmem, ⟨12, _⟩ => ⟨S352x2048, .bf16⟩
  | .local _ .vmem, ⟨13, _⟩ => ⟨S352x2048, .bf16⟩
  | .local _ .vmem, ⟨14, _⟩ => ⟨S1x2048, .f32⟩
  | .local _ .vmem, ⟨15, _⟩ => ⟨S1x2048, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S352x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MidBwdRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩
abbrev S2048 : Shape := ⟨1, ![2048]⟩

abbrev nBuf : Space → Nat
  | .hbm => 98
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x2048, .f32⟩
  | .hbm, ⟨3, _⟩ => ⟨S1x2048, .f32⟩
  | .hbm, ⟨4, _⟩ => ⟨S4224x2048, .f32⟩
  | .hbm, ⟨5, _⟩ => ⟨S1x2048, .f32⟩
  | .hbm, ⟨6, _⟩ => ⟨S4224x2048, .f32⟩
  | .hbm, ⟨7, _⟩ => ⟨S_, .f32⟩
  | .hbm, ⟨8, _⟩ => ⟨S4224, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S_, .f32⟩
  | .hbm, ⟨14, _⟩ => ⟨S4224x1, .f32⟩
  | .hbm, ⟨15, _⟩ => ⟨S4224x1, .f32⟩
  | .hbm, ⟨16, _⟩ => ⟨S4224x1, .f32⟩
  | .hbm, ⟨17, _⟩ => ⟨S4224x1, .f32⟩
  | .hbm, ⟨18, _⟩ => ⟨S_, .f32⟩
  | .hbm, ⟨19, _⟩ => ⟨S4224x1, .f32⟩
  | .hbm, ⟨20, _⟩ => ⟨S4224x1, .f32⟩
  | .hbm, ⟨21, _⟩ => ⟨S4224x2048, .f32⟩
  | .hbm, ⟨22, _⟩ => ⟨S4224x2048, .f32⟩
  | .hbm, ⟨23, _⟩ => ⟨S4224x2048, .f32⟩
  | .hbm, ⟨24, _⟩ => ⟨S4224x2048, .f32⟩
  | .hbm, ⟨25, _⟩ => ⟨S4224x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4224x2048, .f32⟩
  | .hbm, ⟨30, _⟩ => ⟨S4224x2048, .f32⟩
  | .hbm, ⟨31, _⟩ => ⟨S4224x2048, .f32⟩
  | .hbm, ⟨32, _⟩ => ⟨S_, .f32⟩
  | .hbm, ⟨33, _⟩ => ⟨S4224, .f32⟩
  | .hbm, ⟨34, _⟩ => ⟨S4224x1, .f32⟩
  | .hbm, ⟨35, _⟩ => ⟨S4224x2048, .f32⟩
  | .hbm, ⟨36, _⟩ => ⟨S4224x2048, .f32⟩
  | .hbm, ⟨37, _⟩ => ⟨S4224x1, .f32⟩
  | .hbm, ⟨38, _⟩ => ⟨S_, .f32⟩
  | .hbm, ⟨39, _⟩ => ⟨S4224x1, .f32⟩
  | .hbm, ⟨40, _⟩ => ⟨S4224x1, .f32⟩
  | .hbm, ⟨41, _⟩ => ⟨S_, .f32⟩
  | .hbm, ⟨42, _⟩ => ⟨S4224, .f32⟩
  | .hbm, ⟨43, _⟩ => ⟨S4224x2048, .f32⟩
  | .hbm, ⟨44, _⟩ => ⟨S4224x2048, .f32⟩
  | .hbm, ⟨45, _⟩ => ⟨S4224x2048, .f32⟩
  | .hbm, ⟨46, _⟩ => ⟨S4224x2048, .f32⟩
  | .hbm, ⟨47, _⟩ => ⟨S4224x2048, .f32⟩
  | .hbm, ⟨48, _⟩ => ⟨S4224x2048, .f32⟩
  | .hbm, ⟨49, _⟩ => ⟨S4224x2048, .f32⟩
  | .hbm, ⟨50, _⟩ => ⟨S_, .f32⟩
  | .hbm, ⟨51, _⟩ => ⟨S4224, .f32⟩
  | .hbm, ⟨52, _⟩ => ⟨S4224x1, .f32⟩
  | .hbm, ⟨53, _⟩ => ⟨S_, .f32⟩
  | .hbm, ⟨54, _⟩ => ⟨S4224x1, .f32⟩
  | .hbm, ⟨55, _⟩ => ⟨S4224x1, .f32⟩
  | .hbm, ⟨56, _⟩ => ⟨S_, .f32⟩
  | .hbm, ⟨57, _⟩ => ⟨S4224x1, .f32⟩
  | .hbm, ⟨58, _⟩ => ⟨S4224x1, .f32⟩
  | .hbm, ⟨59, _⟩ => ⟨S4224x1, .f32⟩
  | .hbm, ⟨60, _⟩ => ⟨S4224x1, .f32⟩
  | .hbm, ⟨61, _⟩ => ⟨S_, .f32⟩
  | .hbm, ⟨62, _⟩ => ⟨S4224x1, .f32⟩
  | .hbm, ⟨63, _⟩ => ⟨S4224x1, .f32⟩
  | .hbm, ⟨64, _⟩ => ⟨S4224x2048, .f32⟩
  | .hbm, ⟨65, _⟩ => ⟨S4224x2048, .f32⟩
  | .hbm, ⟨66, _⟩ => ⟨S4224x2048, .f32⟩
  | .hbm, ⟨67, _⟩ => ⟨S4224x2048, .f32⟩
  | .hbm, ⟨68, _⟩ => ⟨S_, .f32⟩
  | .hbm, ⟨69, _⟩ => ⟨S4224x2048, .f32⟩
  | .hbm, ⟨70, _⟩ => ⟨S4224x2048, .f32⟩
  | .hbm, ⟨71, _⟩ => ⟨S_, .f32⟩
  | .hbm, ⟨72, _⟩ => ⟨S4224x2048, .f32⟩
  | .hbm, ⟨73, _⟩ => ⟨S4224x2048, .f32⟩
  | .hbm, ⟨74, _⟩ => ⟨S4224x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4224x2048, .f32⟩
  | .hbm, ⟨79, _⟩ => ⟨S4224x2048, .f32⟩
  | .hbm, ⟨80, _⟩ => ⟨S4224x2048, .f32⟩
  | .hbm, ⟨81, _⟩ => ⟨S_, .f32⟩
  | .hbm, ⟨82, _⟩ => ⟨S4224, .f32⟩
  | .hbm, ⟨83, _⟩ => ⟨S4224x1, .f32⟩
  | .hbm, ⟨84, _⟩ => ⟨S4224x2048, .f32⟩
  | .hbm, ⟨85, _⟩ => ⟨S4224x2048, .f32⟩
  | .hbm, ⟨86, _⟩ => ⟨S4224x1, .f32⟩
  | .hbm, ⟨87, _⟩ => ⟨S_, .f32⟩
  | .hbm, ⟨88, _⟩ => ⟨S4224x1, .f32⟩
  | .hbm, ⟨89, _⟩ => ⟨S4224x1, .f32⟩
  | .hbm, ⟨90, _⟩ => ⟨S_, .f32⟩
  | .hbm, ⟨91, _⟩ => ⟨S4224, .f32⟩
  | .hbm, ⟨92, _⟩ => ⟨S4224x2048, .f32⟩
  | .hbm, ⟨93, _⟩ => ⟨S4224x2048, .f32⟩
  | .hbm, ⟨94, _⟩ => ⟨S4224x2048, .f32⟩
  | .hbm, ⟨95, _⟩ => ⟨S4224x2048, .f32⟩
  | .hbm, ⟨96, _⟩ => ⟨S4224x2048, .f32⟩
  | .hbm, ⟨97, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_14 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_15 : Ref sig .tc := ⟨.hbm, 87, rfl⟩
abbrev main_v65 : Ref sig .tc := ⟨.hbm, 88, rfl⟩
abbrev main_v66 : Ref sig .tc := ⟨.hbm, 89, rfl⟩
abbrev main_cst_16 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== MixPost.lean ====
abbrev S4224x2048 : Shape := ⟨2, ![4224, 2048]⟩
abbrev S1x2048 : Shape := ⟨2, ![1, 2048]⟩
abbrev S352x2048 : Shape := ⟨2, ![352, 2048]⟩
abbrev S352 : Shape := ⟨1, ![352]⟩
abbrev S352x1 : Shape := ⟨2, ![352, 1]⟩

abbrev nBuf : Space → Nat
  | .hbm => 6
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S4224x2048, .bf16⟩
  | .local _ .vmem, ⟨0, _⟩ => ⟨S352x2048, .f32⟩
  | .local _ .vmem, ⟨1, _⟩ => ⟨S352x2048, .f32⟩
  | .local _ .vmem, ⟨2, _⟩ => ⟨S352x2048, .f32⟩
  | .local _ .vmem, ⟨3, _⟩ => ⟨S352x2048, .f32⟩
  | .local _ .vmem, ⟨4, _⟩ => ⟨S1x2048, .f32⟩
  | .local _ .vmem, ⟨5, _⟩ => ⟨S1x2048, .f32⟩
  | .local _ .vmem, ⟨6, _⟩ => ⟨S352x2048, .f32⟩
  | .local _ .vmem, ⟨7, _⟩ => ⟨S352x2048, .f32⟩
  | .local _ .vmem, ⟨8, _⟩ => ⟨S352x2048, .bf16⟩
  | .local _ .vmem, ⟨9, _⟩ => ⟨S352x2048, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S352x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MixPostRefIdeal.lean ====
abbrev S4224x2048 : Shape := ⟨2, ![4224, 2048]⟩
abbrev S1x2048 : Shape := ⟨2, ![1, 2048]⟩
abbrev S_ : Shape := ⟨0, ![]⟩
abbrev S4224 : Shape := ⟨1, ![4224]⟩
abbrev S4224x1 : Shape := ⟨2, ![4224, 1]⟩

abbrev nBuf : Space → Nat
  | .hbm => 36
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S1x2048, .f32⟩
  | .hbm, ⟨3, _⟩ => ⟨S1x2048, .f32⟩
  | .hbm, ⟨4, _⟩ => ⟨S4224x2048, .f32⟩
  | .hbm, ⟨5, _⟩ => ⟨S_, .f32⟩
  | .hbm, ⟨6, _⟩ => ⟨S4224, .f32⟩
  | .hbm, ⟨7, _⟩ => ⟨S4224x1, .f32⟩
  | .hbm, ⟨8, _⟩ => ⟨S_, .f32⟩
  | .hbm, ⟨9, _⟩ => ⟨S4224x1, .f32⟩
  | .hbm, ⟨10, _⟩ => ⟨S4224x1, .f32⟩
  | .hbm, ⟨11, _⟩ => ⟨S_, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S4224x2048, .f32⟩
  | .hbm, ⟨16, _⟩ => ⟨S4224x2048, .f32⟩
  | .hbm, ⟨17, _⟩ => ⟨S4224x2048, .f32⟩
  | .hbm, ⟨18, _⟩ => ⟨S4224x2048, .f32⟩
  | .hbm, ⟨19, _⟩ => ⟨S4224x2048, .f32⟩
  | .hbm, ⟨20, _⟩ => ⟨S4224x2048, .f32⟩
  | .hbm, ⟨21, _⟩ => ⟨S_, .f32⟩
  | .hbm, ⟨22, _⟩ => ⟨S4224, .f32⟩
  | .hbm, ⟨23, _⟩ => ⟨S4224x1, .f32⟩
  | .hbm, ⟨24, _⟩ => ⟨S_, .f32⟩
  | .hbm, ⟨25, _⟩ => ⟨S4224x1, .f32⟩
  | .hbm, ⟨26, _⟩ => ⟨S4224x1, .f32⟩
  | .hbm, ⟨27, _⟩ => ⟨S_, .f32⟩
  | .hbm, ⟨28, _⟩ => ⟨S4224x1, .f32⟩
  | .hbm, ⟨29, _⟩ => ⟨S4224x1, .f32⟩
  | .hbm, ⟨30, _⟩ => ⟨S4224x1, .f32⟩
  | .hbm, ⟨31, _⟩ => ⟨S4224x2048, .f32⟩
  | .hbm, ⟨32, _⟩ => ⟨S4224x2048, .f32⟩
  | .hbm, ⟨33, _⟩ => ⟨S4224x2048, .f32⟩
  | .hbm, ⟨34, _⟩ => ⟨S4224x2048, .f32⟩
  | .hbm, ⟨35, _⟩ => ⟨S4224x2048, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== ConvFwd.lean ====
abbrev S4224x5120 : Shape := ⟨2, ![4224, 5120]⟩
abbrev S3x1024 : Shape := ⟨2, ![3, 1024]⟩
abbrev S1x1024 : Shape := ⟨2, ![1, 1024]⟩
abbrev S2x2 : Shape := ⟨2, ![2, 2]⟩
abbrev S_ : Shape := ⟨0, ![]⟩
abbrev S64x64 : Shape := ⟨2, ![64, 64]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S5x1024 : Shape := ⟨2, ![5, 1024]⟩
abbrev S8x1024 : Shape := ⟨2, ![8, 1024]⟩
abbrev S4224x1024 : Shape := ⟨2, ![4224, 1024]⟩
abbrev S4224x128 : Shape := ⟨2, ![4224, 128]⟩
abbrev S8x128 : Shape := ⟨2, ![8, 128]⟩
abbrev S1x128 : Shape := ⟨2, ![1, 128]⟩
abbrev S176x128 : Shape := ⟨2, ![176, 128]⟩
abbrev S184x128 : Shape := ⟨2, ![184, 128]⟩

abbrev nBuf : Space → Nat
  | .hbm => 23
  | .vmem => 13
  | .smem => 0
  | _ => 0

abbrev bufTy : (tb : Table) → Fin (tcTables nBuf tb) → BufTy
  | .hbm, ⟨0, _⟩ => ⟨S4224x5120, .f32⟩
  | .hbm, ⟨1, _⟩ => ⟨S3x1024, .f32⟩
  | .hbm, ⟨2, _⟩ => ⟨S1x1024, .f32⟩
  | .hbm, ⟨3, _⟩ => ⟨S2x2, .i32⟩
  | .hbm, ⟨4, _⟩ => ⟨S2x2, .i32⟩
  | .hbm, ⟨5, _⟩ => ⟨S_, .i32⟩
  | .hbm, ⟨6, _⟩ => ⟨S2x2, .i32⟩
  | .hbm, ⟨7, _⟩ => ⟨S2x2, .i32⟩
  | .hbm, ⟨8, _⟩ => ⟨S2x2, .i1⟩
  | .hbm, ⟨9, _⟩ => ⟨S2x2, .f32⟩
  | .hbm, ⟨10, _⟩ => ⟨S_, .f32⟩
  | .hbm, ⟨11, _⟩ => ⟨S64x64, .f32⟩
  | .hbm, ⟨12, _⟩ => ⟨S2x1x2x1, .f32⟩
  | .hbm, ⟨13, _⟩ => ⟨S1x64x1x64, .f32⟩
  | .hbm, ⟨14, _⟩ => ⟨S2x64x2x64, .f32⟩
  | .hbm, ⟨15, _⟩ => ⟨S2x64x2x64, .f32⟩
  | .hbm, ⟨16, _⟩ => ⟨S2x64x2x64, .f32⟩
  | .hbm, ⟨17, _⟩ => ⟨S128x128, .f32⟩
  | .hbm, ⟨18, _⟩ => ⟨S128x128, .bf16⟩
  | .hbm, ⟨19, _⟩ => ⟨S_, .f32⟩
  | .hbm, ⟨20, _⟩ => ⟨S5x1024, .f32⟩
  | .hbm, ⟨21, _⟩ => ⟨S8x1024, .f32⟩
  | .hbm, ⟨22, _⟩ => ⟨S4224x1024, .bf16⟩
  | .local _ .vmem, ⟨0, _⟩ => ⟨S4224x128, .f32⟩
  | .local _ .vmem, ⟨1, _⟩ => ⟨S4224x128, .f32⟩
  | .local _ .vmem, ⟨2, _⟩ => ⟨S4224x128, .f32⟩
  | .local _ .vmem, ⟨3, _⟩ => ⟨S4224x128, .f32⟩
  | .local _ .vmem, ⟨4, _⟩ => ⟨S4224x128, .f32⟩
  | .local _ .vmem, ⟨5, _⟩ => ⟨S4224x128, .f32⟩
  | .local _ .vmem, ⟨6, _⟩ => ⟨S8x128, .f32⟩
  | .local _ .vmem, ⟨7, _⟩ => ⟨S8x128, .f32⟩
  | .local _ .vmem, ⟨8, _⟩ => ⟨S1x128, .f32⟩
  | .local _ .vmem, ⟨9, _⟩ => ⟨S1x128, .f32⟩
  | .local _ .vmem, ⟨10, _⟩ => ⟨S128x128, .bf16⟩
  | .local _ .vmem, ⟨11, _⟩ => ⟨S4224x128, .bf16⟩
  | .local _ .vmem, ⟨12, _⟩ => ⟨S4224x128, .bf16⟩
  | _, _ => ⟨S4224x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c1_i32_17 : BitVec 32 := 1#32
  let c23_i32 : BitVec 32 := 23#32
  let v46 : BitVec 32 := Scalar.addi c1_i32_17 c23_i32
  let c1_i32_18 : BitVec 32 := 1#32
  ⟨c1_i32_17, v46, c1_i32_18⟩
def k0_mult1 (k0_t1 : Fin k0_t1_loop.trips) : BitVec 32 :=
  let c1_i32_17 : BitVec 32 := 1#32
  let c1_i32_18 : BitVec 32 := 1#32
  let arg8 : BitVec 32 := Scf.iv c1_i32_17 c1_i32_18 k0_t1
  let c176_i32 : BitVec 32 := 176#32
  let v47 : BitVec 32 := Scalar.muli arg8 c176_i32
  v47
def k0_off1 (k0_t1 : Fin k0_t1_loop.trips) : Fin 2 → Nat :=
  let c1_i32_17 : BitVec 32 := 1#32
  let c1_i32_18 : BitVec 32 := 1#32
  let arg8 : BitVec 32 := Scf.iv c1_i32_17 c1_i32_18 k0_t1
  let c176_i32 : BitVec 32 := 176#32
  let v47 : BitVec 32 := Scalar.muli arg8 c176_i32
  let v48 : BitVec 32 := v47
  let c8_i32 : BitVec 32 := 8#32
  let v49 : BitVec 32 := Scalar.subi v48 c8_i32
  let v50 : Index := Scalar.indexCast v49
  let c0_20 : Index := 0#32
  ![v50.toNat, 0]
def k0_off2 (k0_t1 : Fin k0_t1_loop.trips) : Fin 2 → Nat :=
  let c1_i32_17 : BitVec 32 := 1#32
  let c1_i32_18 : BitVec 32 := 1#32
  let arg8 : BitVec 32 := Scf.iv c1_i32_17 c1_i32_18 k0_t1
  let c176_i32 : BitVec 32 := 176#32
  let v47 : BitVec 32 := Scalar.muli arg8 c176_i32
  let v48 : BitVec 32 := v47
  let v56 : Index := Scalar.indexCast v48
  let c0_23 : Index := 0#32
  ![v56.toNat, 0]
def cc0_transform_0 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

abbrev stage0_0 : Fin 2 → Memref sig .tc .vmem S4224x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4224x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4224x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4224x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S4224x5120 : Shape := ⟨2, ![4224, 5120]⟩
abbrev S3x1024 : Shape := ⟨2, ![3, 1024]⟩
abbrev S1x1024 : Shape := ⟨2, ![1, 1024]⟩
abbrev S4224x1024 : Shape := ⟨2, ![4224, 1024]⟩
abbrev S_ : Shape := ⟨0, ![]⟩
abbrev S2x1024 : Shape := ⟨2, ![2, 1024]⟩
abbrev S4226x1024 : Shape := ⟨2, ![4226, 1024]⟩
abbrev S1024 : Shape := ⟨1, ![1024]⟩
abbrev S4224x16x64 : Shape := ⟨3, ![4224, 16, 64]⟩
abbrev S4224x16 : Shape := ⟨2, ![4224, 16]⟩
abbrev S4224x16x1 : Shape := ⟨3, ![4224, 16, 1]⟩

abbrev nBuf : Space → Nat
  | .hbm => 51
  | .vmem => 0
  | .smem => 0
  | _ => 0

abbrev bufTy : (tb : Table) → Fin (tcTables nBuf tb) → BufTy
  | .hbm, ⟨0, _⟩ => ⟨S4224x5120, .f32⟩
  | .hbm, ⟨1, _⟩ => ⟨S3x1024, .f32⟩
  | .hbm, ⟨2, _⟩ => ⟨S1x1024, .f32⟩
  | .hbm, ⟨3, _⟩ => ⟨S4224x1024, .f32⟩
  | .hbm, ⟨4, _⟩ => ⟨S4224x1024, .f32⟩
  | .hbm, ⟨5, _⟩ => ⟨S4224x1024, .f32⟩
  | .hbm, ⟨6, _⟩ => ⟨S_, .f32⟩
  | .hbm, ⟨7, _⟩ => ⟨S2x1024, .f32⟩
  | .hbm, ⟨8, _⟩ => ⟨S4224x1024, .f32⟩
  | .hbm, ⟨9, _⟩ => ⟨S4226x1024, .f32⟩
  | .hbm, ⟨10, _⟩ => ⟨S1x1024, .f32⟩
  | .hbm, ⟨11, _⟩ => ⟨S1024, .f32⟩
  | .hbm, ⟨12, _⟩ => ⟨S4224x1024, .f32⟩
  | .hbm, ⟨13, _⟩ => ⟨S1x1024, .f32⟩
  | .hbm, ⟨14, _⟩ => ⟨S4224x1024, .f32⟩
  | .hbm, ⟨15, _⟩ => ⟨S4224x1024, .f32⟩
  | .hbm, ⟨16, _⟩ => ⟨S1x1024, .f32⟩
  | .hbm, ⟨17, _⟩ => ⟨S1024, .f32⟩
  | .hbm, ⟨18, _⟩ => ⟨S4224x1024, .f32⟩
  | .hbm, ⟨19, _⟩ => ⟨S1x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S1x1024, .f32⟩
  | .hbm, ⟨24, _⟩ => ⟨S1024, .f32⟩
  | .hbm, ⟨25, _⟩ => ⟨S4224x1024, .f32⟩
  | .hbm, ⟨26, _⟩ => ⟨S1x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x16x64, .f32⟩
  | .hbm, ⟨32, _⟩ => ⟨S4224x16x64, .f32⟩
  | .hbm, ⟨33, _⟩ => ⟨S_, .f32⟩
  | .hbm, ⟨34, _⟩ => ⟨S4224x16, .f32⟩
  | .hbm, ⟨35, _⟩ => ⟨S4224x16x1, .f32⟩
  | .hbm, ⟨36, _⟩ => ⟨S_, .f32⟩
  | .hbm, ⟨37, _⟩ => ⟨S4224x16x1, .f32⟩
  | .hbm, ⟨38, _⟩ => ⟨S4224x16x1, .f32⟩
  | .hbm, ⟨39, _⟩ => ⟨S_, .f32⟩
  | .hbm, ⟨40, _⟩ => ⟨S4224x16x1, .f32⟩
  | .hbm, ⟨41, _⟩ => ⟨S4224x16x1, .f32⟩
  | .hbm, ⟨42, _⟩ => ⟨S4224x16x1, .f32⟩
  | .hbm, ⟨43, _⟩ => ⟨S4224x16x64, .f32⟩
  | .hbm, ⟨44, _⟩ => ⟨S4224x16x64, .f32⟩
  | .hbm, ⟨45, _⟩ => ⟨S4224x1024, .f32⟩
  | .hbm, ⟨46, _⟩ => ⟨S1024, .f32⟩
  | .hbm, ⟨47, _⟩ => ⟨S1x1024, .f32⟩
  | .hbm, ⟨48, _⟩ => ⟨S4224x1024, .f32⟩
  | .hbm, ⟨49, _⟩ => ⟨S4224x1024, .f32⟩
  | .hbm, ⟨50, _⟩ => ⟨S4224x1024, .bf16⟩
  | _, _ => ⟨S4224x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_cst_1 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩

abbrev nD : Nat := 1
abbrev τ : Topo := Topo.v7x

variable {F : FTy → Type} [FloatOps F]
-- ==== CastPad.lean ====
abbrev S1376x2048 : Shape := ⟨2, ![1376, 2048]⟩
abbrev S_ : Shape := ⟨0, ![]⟩
abbrev S1 : Shape := ⟨1, ![1]⟩
abbrev S4x1408x2048 : Shape := ⟨3, ![4, 1408, 2048]⟩
abbrev S1x1408x2048 : Shape := ⟨3, ![1, 1408, 2048]⟩
abbrev S1408x2048 : Shape := ⟨2, ![1408, 2048]⟩
abbrev S1x1376x2048 : Shape := ⟨3, ![1, 1376, 2048]⟩

abbrev nBuf : Space → Nat
  | .hbm => 5
  | .vmem => 2
  | .smem => 1
  | _ => 0

abbrev bufTy : (tb : Table) → Fin (tcTables nBuf tb) → BufTy
  | .hbm, ⟨0, _⟩ => ⟨S1376x2048, .f32⟩
  | .hbm, ⟨1, _⟩ => ⟨S_, .i32⟩
  | .hbm, ⟨2, _⟩ => ⟨S4x1408x2048, .bf16⟩
  | .hbm, ⟨3, _⟩ => ⟨S1x1408x2048, .bf16⟩
  | .hbm, ⟨4, _⟩ => ⟨S1408x2048, .bf16⟩
  | .local _ .vmem, ⟨0, _⟩ => ⟨S1376x2048, .f32⟩
  | .local _ .vmem, ⟨1, _⟩ => ⟨S1x1408x2048, .bf16⟩
  | .local _ .smem, ⟨0, _⟩ => ⟨S1, .i32⟩
  | _, _ => ⟨S1376x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S1376x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1408x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== CastPadRefIdeal.lean ====
abbrev S1376x2048 : Shape := ⟨2, ![1376, 2048]⟩
abbrev S_ : Shape := ⟨0, ![]⟩
abbrev S32x2048 : Shape := ⟨2, ![32, 2048]⟩
abbrev S1408x2048 : Shape := ⟨2, ![1408, 2048]⟩

abbrev nBuf : Space → Nat
  | .hbm => 5
  | .vmem => 0
  | .smem => 0
  | _ => 0

abbrev bufTy : (tb : Table) → Fin (tcTables nBuf tb) → BufTy
  | .hbm, ⟨0, _⟩ => ⟨S1376x2048, .f32⟩
  | .hbm, ⟨1, _⟩ => ⟨S_, .f32⟩
  | .hbm, ⟨2, _⟩ => ⟨S32x2048, .f32⟩
  | .hbm, ⟨3, _⟩ => ⟨S1408x2048, .f32⟩
  | .hbm, ⟨4, _⟩ => ⟨S1408x2048, .bf16⟩
  | _, _ => ⟨S1376x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== CastIn.lean ====
abbrev S2048x1280 : Shape := ⟨2, ![2048, 1280]⟩
abbrev S_ : Shape := ⟨0, ![]⟩
abbrev S1 : Shape := ⟨1, ![1]⟩
abbrev S4x2048x1280 : Shape := ⟨3, ![4, 2048, 1280]⟩
abbrev S1x2048x1280 : Shape := ⟨3, ![1, 2048, 1280]⟩

abbrev nBuf : Space → Nat
  | .hbm => 20
  | .vmem => 2
  | .smem => 1
  | _ => 0

abbrev bufTy : (tb : Table) → Fin (tcTables nBuf tb) → BufTy
  | .hbm, ⟨0, _⟩ => ⟨S2048x1280, .f32⟩
  | .hbm, ⟨1, _⟩ => ⟨S_, .i32⟩
  | .hbm, ⟨2, _⟩ => ⟨S4x2048x1280, .bf16⟩
  | .hbm, ⟨3, _⟩ => ⟨S_, .i32⟩
  | .hbm, ⟨4, _⟩ => ⟨S_, .i1⟩
  | .hbm, ⟨5, _⟩ => ⟨S1x2048x1280, .bf16⟩
  | .hbm, ⟨6, _⟩ => ⟨S2048x1280, .bf16⟩
  | .hbm, ⟨7, _⟩ => ⟨S_, .i32⟩
  | .hbm, ⟨8, _⟩ => ⟨S_, .i1⟩
  | .hbm, ⟨9, _⟩ => ⟨S1x2048x1280, .bf16⟩
  | .hbm, ⟨10, _⟩ => ⟨S2048x1280, .bf16⟩
  | .hbm, ⟨11, _⟩ => ⟨S_, .i32⟩
  | .hbm, ⟨12, _⟩ => ⟨S_, .i1⟩
  | .hbm, ⟨13, _⟩ => ⟨S1x2048x1280, .bf16⟩
  | .hbm, ⟨14, _⟩ => ⟨S2048x1280, .bf16⟩
  | .hbm, ⟨15, _⟩ => ⟨S1x2048x1280, .bf16⟩
  | .hbm, ⟨16, _⟩ => ⟨S2048x1280, .bf16⟩
  | .hbm, ⟨17, _⟩ => ⟨S2048x1280, .bf16⟩
  | .hbm, ⟨18, _⟩ => ⟨S2048x1280, .bf16⟩
  | .hbm, ⟨19, _⟩ => ⟨S2048x1280, .bf16⟩
  | .local _ .vmem, ⟨0, _⟩ => ⟨S2048x1280, .f32⟩
  | .local _ .vmem, ⟨1, _⟩ => ⟨S1x2048x1280, .bf16⟩
  | .local _ .smem, ⟨0, _⟩ => ⟨S1, .i32⟩
  | _, _ => ⟨S2048x1280, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  let c0_i32_1 : BitVec 32 := 0#32
  ![v0.toNat, c0_i32.toNat, c0_i32_0.toNat]

abbrev stage0_0 : Fin 1 → Memref sig .tc .vmem S2048x1280 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== CastInRefIdeal.lean ====
abbrev S2048x1280 : Shape := ⟨2, ![2048, 1280]⟩
abbrev S_ : Shape := ⟨0, ![]⟩

abbrev nBuf : Space → Nat
  | .hbm => 3
  | .vmem => 0
  | .smem => 0
  | _ => 0

abbrev bufTy : (tb : Table) → Fin (tcTables nBuf tb) → BufTy
  | .hbm, ⟨0, _⟩ => ⟨S2048x1280, .f32⟩
  | .hbm, ⟨1, _⟩ => ⟨S_, .i32⟩
  | .hbm, ⟨2, _⟩ => ⟨S2048x1280, .bf16⟩
  | _, _ => ⟨S2048x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Wgrad.lean ====
/-
  The gradient of a product with respect to its weight: what the grid of block products leaves in the result array is the
  transposed product that `jax.vjp` of the plain product writes.
-/
module

public import proofs.«01_k».proof.Defs
public import proofs.«01_k».proof.Proof.Gen.WgradIdeal.Value
public import proofs.«01_k».proof.Proof.Gen.WgradRefIdeal.Run
public import Idealize.ShloMosaic.Lib.Pipeline.Value
public import Idealize.ShloMosaic.Lib.Pointwise
public import Idealize.ShloMosaic.Lib.Quiescent

@[expose] public section

set_option maxRecDepth 16384

noncomputable section

namespace Cert.Proof.Wgrad

open Idealize.ShloMosaic Idealize.ShloMosaic.TcCoe Idealize.SL.Sem
open Idealize.ShloMosaic.Pipeline (Dat)
open Cert.WgradIdeal Cert.WgradIdeal.Gen

/-- Entry `(p, r, q)` of the weight gradient: the sum over the tokens of the activation in column `1408 p + r` times the
    cotangent in column `q`. -/
def wgrad (x : FVec Ideal S4224x5632 .bf16) (y : FVec Ideal S4224x2048 .bf16) : FVec Ideal S4x1408x2048 .bf16 := fun i =>
  ∑ k : Fin 4224, x (ix2 k ⟨(i 0).val * 1408 + (i 1).val, by
    have h0 : (i 0).val < 4 := (i 0).isLt
    have h1 : (i 1).val < 1408 := (i 1).isLt
    omega⟩) * y (ix2 k (i 2))

/-- The kernel body's block product, entry by entry. -/
theorem pay_apply (x : FVec Ideal S4224x1408 .bf16) (y : FVec Ideal S4224x512 .bf16) (i : S1x1408x512.Idx) :
    k0_pay1 x y i = ∑ k : Fin 4224, x (ix2 k (i 1)) * y (ix2 k (i 2)) := by
  idx_vars i
  pointwise [k0_pay1]

/-- The whole-buffer loads read the blocks and the one store leaves the product. -/
theorem out_eq {F : FTy → Type} [FloatOps F] (x0 : Vec F S4224x1408 .bf16) (x1 : Vec F S4224x512 .bf16) : out0_2 x0 x1 = k0_pay1 x0 x1 := by
  have hz2 : (![0, 0, 0] : Fin S1x1408x512.rank → Nat) = fun _ => 0 := funext fun a => by fin_cases a <;> rfl
  have hz0 : (![0, 0] : Fin S4224x1408.rank → Nat) = fun _ => 0 := funext fun a => by fin_cases a <;> rfl
  have hz1 : (![0, 0] : Fin S4224x512.rank → Nat) = fun _ => 0 := funext fun a => by fin_cases a <;> rfl
  unfold out0_2
  rw [View.canon_unit_zero hz2, View.ld_unit_zero hz0, View.ld_unit_zero hz1]

/-- Where the blocks sit: column block `t / 4` of the activations, column block `t % 4` of the cotangents. -/
theorem idx_facts : ∀ t : Fin grid0.N,
    win0_0.index t 0 = 0 ∧ win0_0.index t 1 = t.val / 4 ∧ win0_1.index t 0 = 0 ∧ win0_1.index t 1 = t.val % 4
    ∧ win0_2.index t 0 = t.val / 4 ∧ win0_2.index t 1 = 0 ∧ win0_2.index t 2 = t.val % 4 ∧ t.val < 16 := by
  decide +kernel

variable (m : (ℓ : Loc nD τ sig) → Buf (Elt Ideal) ℓ) (ρ : Dev nD → PrngReg)

/-- The result array the run is shown to leave. -/
abbrev G (c : Dev nD) : FVec Ideal S4x1408x2048 .bf16 :=
  wgrad (m ((c : Thread nD τ).loc main_arg0)) (m ((c : Thread nD τ).loc main_arg1))

/-- What point `t` writes back is block `t` of the weight gradient. -/
theorem flushed_eq (c : Dev nD) (t : Fin cfg0.N) :
    (dats m 0 c).flushed 2 t = (win0_2.blk t).view.read (Elt Ideal) (G m c) := by
  obtain ⟨h00, h01, h10, h11, h20, h21, h22, ht⟩ := idx_facts t
  rw [Value.flushed2, out_eq]
  funext y
  show k0_pay1 (iblk m c 0 t) (iblk m c 1 t) y = wgrad _ _ ((win0_2.rect t).emb y)
  rw [pay_apply]
  unfold wgrad
  have e0 := win0_2.rect_emb_val t y 0
  have e1 := win0_2.rect_emb_val t y 1
  have e2 := win0_2.rect_emb_val t y 2
  rw [h20] at e0
  rw [h21] at e1
  rw [h22] at e2
  have hs0 : win0_2.size 0 = 1 := rfl
  have hs1 : win0_2.size 1 = 1408 := rfl
  have hs2 : win0_2.size 2 = 512 := rfl
  rw [hs0] at e0
  rw [hs1] at e1
  rw [hs2] at e2
  have hy0 : (y 0).val < 1 := (y 0).isLt
  have hy1 : (y 1).val < 1408 := (y 1).isLt
  have hy2 : (y 2).val < 512 := (y 2).isLt
  refine Finset.sum_congr rfl fun k _ => ?_
  refine congrArg₂ (· * ·) ?_ ?_
  · show V m c main_arg0 ((win0_0.rect t).emb (ix2 k (y 1))) = _
    refine congrArg (V m c main_arg0) (Shape.idx_ext₂ ?_ ?_)
    · rw [win0_0.rect_emb_val, h00]; simp [ix2]
    · rw [win0_0.rect_emb_val, h01]; show _ = _ * 1408 + _; rw [e0, e1]; show _ * 1408 + (y 1).val = _; omega
  · show V m c main_arg1 ((win0_1.rect t).emb (ix2 k (y 2))) = _
    refine congrArg (V m c main_arg1) (Shape.idx_ext₂ ?_ ?_)
    · rw [win0_1.rect_emb_val, h10]; simp [ix2]
    · rw [win0_1.rect_emb_val, h11]; show _ = ((win0_2.rect t).emb y 2 : Nat); rw [e2]; rfl

/-- Every entry lies in the block of the point of its part and its column. -/
theorem cover (i : S4x1408x2048.Idx) :
    ∃ t : Fin cfg0.N, (cfg0.win 2).flush t = true ∧ i ∈ ((cfg0.win 2).blk t).view.set := by
  have h0 : (i 0).val < 4 := (i 0).isLt
  have h1 : (i 1).val < 1408 := (i 1).isLt
  have h2 : (i 2).val < 2048 := (i 2).isLt
  have hN : cfg0.N = 16 := N_0
  let t : Fin cfg0.N := ⟨(i 0).val * 4 + (i 2).val / 512, by omega⟩
  refine ⟨t, flush0_2 _, ?_⟩
  obtain ⟨-, -, -, -, e0, e1, e2, -⟩ := idx_facts t
  have hv : t.val = (i 0).val * 4 + (i 2).val / 512 := rfl
  show i ∈ ((View.whole main_v0).slice (win0_2.rect t)).set
  rw [View.set_slice_whole, Rect.mem_set_unit]
  intro a
  match a with
  | ⟨0, _⟩ => show win0_2.index t 0 * 1 ≤ (i 0).val ∧ (i 0).val < win0_2.index t 0 * 1 + 1; rw [e0]; omega
  | ⟨1, _⟩ => show win0_2.index t 1 * 1408 ≤ (i 1).val ∧ (i 1).val < win0_2.index t 1 * 1408 + 1408; rw [e1]; omega
  | ⟨2, _⟩ => show win0_2.index t 2 * 512 ≤ (i 2).val ∧ (i 2).val < win0_2.index t 2 * 512 + 512; rw [e2]; omega

/-- The result array ends holding the weight gradient. -/
theorem final (c : Dev nD) : (dats m 0 c).arrAt 2 cfg0.N = G m c :=
  (dats m 0 c).arrAt_eq_of_cover 2 (G m c) (fun t _ => flushed_eq m c t) cover

theorem algebraic : Cert.algebraic_WgradIdeal_WgradRefIdeal := by
  intro m ρ m' ρ' _ hagree
  refine ⟨fun c => G m c, ?_, ?_⟩
  · exact (θ_run Cert.WgradIdeal.defs _ _).mono (fun _ h c => ⟨(h c).1.trans (final m c), (h c).2⟩)
      (Cert.WgradIdeal.Value.run_blocks (F := Ideal) m ρ)
  · refine (θ_run Cert.WgradRefIdeal.defs _ _).mono (fun _ h c => ⟨(h c).1.trans ?_, (h c).2⟩)
      (Cert.WgradRefIdeal.Value.run (F := Ideal) m' ρ')
    show _ = wgrad _ _
    rw [← (hagree c).1, ← (hagree c).2]
    funext i
    idx_vars i
    pointwise [wgrad]
    exact Finset.sum_congr rfl fun k _ => mul_comm _ _

theorem frame_ideal : Cert.quiescent_WgradIdeal := fun m ρ _ => Cert.WgradIdeal.Gen.frame m ρ

theorem frame_ref : Cert.quiescent_WgradRefIdeal := fun m ρ _ =>
  (θ_run Cert.WgradRefIdeal.defs _ _).mono (fun r h => ⟨fun c => (h c).2, sem_eq_zero_of_no_sems (by decide) r.2⟩)
    (Cert.WgradRefIdeal.Value.run (F := Ideal) m ρ)

end Cert.Proof.Wgrad

end
-- ==== Proof.UpBwd.lean ====
/-
  The gradient through the two up projections: the rows of the result collect four partial products of each projection, and
  their sum is the two whole products that `jax.vjp` writes.
-/
module

public import proofs.«01_k».proof.Defs
public import proofs.«01_k».proof.Proof.Gen.UpBwdIdeal.Value
public import proofs.«01_k».proof.Proof.Gen.UpBwdRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.UpBwd

open Idealize.ShloMosaic Idealize.ShloMosaic.TcCoe Idealize.SL.Sem
open Idealize.ShloMosaic.Pipeline (Dat)
open Cert.UpBwdIdeal Cert.UpBwdIdeal.Gen

/-- Entry `(r, q)` of one projection's gradient: row `r` against column `q` of the weight, whose 5632 rows are kept in four
    groups. -/
def proj (d : FVec Ideal S4224x5632 .bf16) (w : FVec Ideal S4x1408x2048 .bf16) (i : S4224x2048.Idx) : EReal :=
  ∑ l : Fin 5632, d (ix2 (i 0) l) * w (ix3 ⟨l.val / 1408, by omega⟩ ⟨l.val % 1408, Nat.mod_lt _ (by omega)⟩ (i 1))

/-- One point's contribution: the two block products, added. -/
theorem pay1_apply (x0 : FVec Ideal S528x1408 .bf16) (x1 : FVec Ideal S1x1408x2048 .bf16) (x2 : FVec Ideal S528x1408 .bf16)
    (x3 : FVec Ideal S1x1408x2048 .bf16) (j : S528x2048.Idx) :
    k0_pay1 (F := Ideal) x0 x1 x2 x3 j = (show EReal from ∑ k : Fin 1408, x0 (ix2 (j 0) k) * x1 (ix3 0 k (j 1))) + ∑ k : Fin 1408, x2 (ix2 (j 0) k) * x3 (ix3 0 k (j 1)) := by
  pointwise [k0_pay1]

/-- A later point adds its contribution to what the buffer held. -/
theorem pay2_apply (x0 : FVec Ideal S528x1408 .bf16) (x1 : FVec Ideal S1x1408x2048 .bf16) (x2 : FVec Ideal S528x1408 .bf16)
    (x3 : FVec Ideal S1x1408x2048 .bf16) (a : FVec Ideal S528x2048 .f32) (j : S528x2048.Idx) :
    k0_pay2 x0 x1 x2 x3 a j = a j + k0_pay1 x0 x1 x2 x3 j := by
  pointwise [k0_pay2]

/-- Where the blocks sit. -/
theorem idx : ∀ t : Fin cfg0.N, win0_0.index t = ![t.val / 4, t.val % 4] ∧ win0_1.index t = ![t.val % 4, 0, 0]
    ∧ win0_2.index t = ![t.val / 4, t.val % 4] ∧ win0_3.index t = ![t.val % 4, 0, 0]
    ∧ win0_4.index t = ![t.val / 4, 0] ∧ t.val < 32 :=
  (by decide +kernel : ∀ t : Fin grid0.N, _)

/-- The reference's product with the transposed, joined weight, entry by entry. -/
theorem ref_proj (hb : FTy.bits .bf16 < FTy.bits .f32) (hs : Cert.UpBwdRefIdeal.S4x1408x2048.ShapeCasts Cert.UpBwdRefIdeal.S5632x2048)
    (ht : Cert.UpBwdRefIdeal.S5632x2048.Transposes [1, 0] Cert.UpBwdRefIdeal.S2048x5632)
    (d : FVec Ideal Cert.UpBwdRefIdeal.S4224x5632 .bf16) (w : FVec Ideal Cert.UpBwdRefIdeal.S4x1408x2048 .bf16) (i : Cert.UpBwdRefIdeal.S4224x2048.Idx) :
    Host.dotGeneral Cert.UpBwdRefIdeal.dot_S4224x5632_S2048x5632_S4224x2048_1_1_0_0_n_n none (extf .f32 d hb)
      (transpose Cert.UpBwdRefIdeal.S2048x5632 [1, 0] (extf .f32 (shapeCast Cert.UpBwdRefIdeal.S5632x2048 w hs) hb) ht) i = (show EReal from proj d w i) := by
  idx_vars i
  pointwise [proj]

/-- Four partial sums of two products are the two whole sums. -/
theorem parts_sum {f g : Fin 4 → Fin 1408 → EReal} {p q : Fin 5632 → EReal}
    (hf : ∀ (s : Fin 4) (k : Fin 1408) (h : s.val * 1408 + k.val < 5632), f s k = p ⟨s.val * 1408 + k.val, h⟩)
    (hg : ∀ (s : Fin 4) (k : Fin 1408) (h : s.val * 1408 + k.val < 5632), g s k = q ⟨s.val * 1408 + k.val, h⟩) :
    ∑ s, ((∑ k, f s k) + ∑ k, g s k) = (∑ l, p l) + ∑ l, q l := by
  rw [Finset.sum_add_distrib]
  exact congrArg₂ (fun a b : EReal => a + b) (Fin.sum_mul_add_congr hf) (Fin.sum_mul_add_congr hg)

variable (m : (ℓ : Loc nD τ sig) → Buf (Elt Ideal) ℓ) (ρ : Dev nD → PrngReg)

/-- The result as one array over the arguments. -/
abbrev G (c : Dev nD) : FVec Ideal S4224x2048 .f32 := fun i =>
  proj (m ((c : Thread nD τ).loc main_arg0)) (m ((c : Thread nD τ).loc main_arg1)) i
    + proj (m ((c : Thread nD τ).loc main_arg2)) (m ((c : Thread nD τ).loc main_arg3)) i

/-- The result array after the run. -/
theorem final (c : Dev nD) : (dats m 0 c).arrAt 4 (cfgs 0).N = G m c := by
  refine (dats m 0 c).arrAt_eq_of_covers 4 _ (by decide +kernel) fun t hf y => ?_
  blk_simp
  rw [after0_4, Pipeline.eq_sum_fin_of_reset_step_apply_of_flush (fun n h => outsAt0 m c n h) 4 (fun _ => 0)
    (fun p j => k0_pay1 (F := Ideal) (iblk m c 0 p) (iblk m c 1 p) (iblk m c 2 p) (iblk m c 3 p) j)
    (fun t h j => by rw [outsAt0_A m c t h (by omega)]; frame_out; exact (zero_add _).symm)
    (fun t h j => by rw [outsAt0_B m c t h (by omega)]; frame_out; rw [pay2_apply])
    t ((flush0_4 t).mp hf) _, zero_add]
  refine Eq.trans (Fin.sum_fin_congr fun s => pay1_apply _ _ _ _ y) (parts_sum (fun s k hl => ?_) fun s k hl => ?_)
  · blk_point [iblk, V, idx t, idx ⟨_, Pipeline.run_point_lt_of_flush t ((flush0_4 t).mp hf) s⟩]
  · blk_point [iblk, V, idx t, idx ⟨_, Pipeline.run_point_lt_of_flush t ((flush0_4 t).mp hf) s⟩]

/-- The result array is the reference's. -/
theorem algebraic : Cert.algebraic_UpBwdIdeal_UpBwdRefIdeal (hUpBwdIdeal := Cert.UpBwdIdeal.Gen.facts) (hUpBwdRefIdeal := Cert.UpBwdRefIdeal.Gen.facts) := by
  intro m ρ m' ρ' _ hagree
  refine ⟨fun c => G m c, ?_, ?_⟩
  · exact (θ_run Cert.UpBwdIdeal.defs _ _).mono (fun _ h c => ⟨(h c).1.trans (final m c), (h c).2⟩)
      (Cert.UpBwdIdeal.Value.run_blocks (F := Ideal) m ρ)
  · refine (θ_run Cert.UpBwdRefIdeal.defs _ _).mono (fun _ h c => ⟨(h c).1.trans ?_, (h c).2⟩)
      (Cert.UpBwdRefIdeal.Value.run (F := Ideal) m' ρ')
    obtain ⟨h0, h1, h2, h3⟩ := hagree c
    rw [h0, h1, h2, h3]
    funext i
    exact (congrArg₂ (fun a b : EReal => a + b) (ref_proj _ _ _ _ _ i) (ref_proj _ _ _ _ _ i)).trans (add_comm _ _)

theorem frame_ideal : Cert.quiescent_UpBwdIdeal (hUpBwdIdeal := Cert.UpBwdIdeal.Gen.facts) := fun m ρ _ => Cert.UpBwdIdeal.Gen.frame m ρ

theorem frame_ref : Cert.quiescent_UpBwdRefIdeal (hUpBwdRefIdeal := Cert.UpBwdRefIdeal.Gen.facts) := fun m ρ _ =>
  (θ_run Cert.UpBwdRefIdeal.defs _ _).mono (fun r h => ⟨fun c => (h c).2, sem_eq_zero_of_no_sems (by decide) r.2⟩)
    (Cert.UpBwdRefIdeal.Value.run (F := Ideal) m ρ)

end Cert.Proof.UpBwd

end
-- ==== Proof.Act.lean ====
/-
  The gated unit's backward call: what the grid of column blocks leaves in the two result arrays, entry by entry.
-/
module

public import proofs.«01_k».proof.Defs
public import proofs.«01_k».proof.Proof.Gen.ActIdeal.Value
public import Idealize.ShloMosaic.Lib.Pipeline.ValueKit

@[expose] public section

set_option maxRecDepth 16384

noncomputable section

namespace Cert.Proof.Act

open Idealize.ShloMosaic Idealize.ShloMosaic.TcCoe Idealize.SL.Sem
open Idealize.ShloMosaic.Pipeline (Dat)
open Cert.ActIdeal Cert.ActIdeal.Gen

/-- The gradient arriving at hidden entry `(r, q)`: row `r` of the cotangent against row `q` of the down projection, whose
    rows are kept in four groups of 1408. -/
def hid (d : FVec Ideal S4224x2048 .bf16) (w : FVec Ideal S4x1408x2048 .bf16) (i : S4224x5632.Idx) : EReal :=
  ∑ k : Fin 2048, d (ix2 (i 0) k) * w (ix3 ⟨(i 1).val / 1408, by have h : (i 1).val < 5632 := (i 1).isLt; omega⟩
    ⟨(i 1).val % 1408, Nat.mod_lt _ (by omega)⟩ k)

/-- The constant one half, as the body writes it. -/
abbrev half : EReal := Ideal.ofBits .f32 0x3F000000#32

/-- The sigmoid as the body computes it, through the hyperbolic tangent. -/
def sg (x : EReal) : EReal := half * Ideal.tanh (half * x) + half

/-- What the body leaves for the gate's input at one entry: `h` the hidden gradient, `a` the gate's input, `b` the other factor. -/
def dgate (h a b : EReal) : EReal := h * b * sg a * (1 + a * (1 - sg a))

/-- What the body leaves for the other factor at one entry. -/
def dup (h a : EReal) : EReal := h * a * sg a

/-- Where the blocks sit. -/
theorem idx : ∀ t : Fin cfg0.N, win0_0.index t = ![t.val % 6, 0] ∧ win0_1.index t = ![t.val / 6, 0, 0]
    ∧ win0_2.index t = ![t.val % 6, t.val / 6] ∧ win0_3.index t = ![t.val % 6, t.val / 6]
    ∧ win0_4.index t = ![t.val % 6, t.val / 6] ∧ win0_5.index t = ![t.val % 6, t.val / 6] ∧ t.val < 24 :=
  (by decide +kernel : ∀ t : Fin grid0.N, _)

variable (m : (ℓ : Loc nD τ sig) → Buf (Elt Ideal) ℓ) (ρ : Dev nD → PrngReg)

/-- The gate input's gradient as one array over the arguments. -/
abbrev GA (c : Dev nD) : FVec Ideal S4224x5632 .bf16 := fun i =>
  dgate (hid (m ((c : Thread nD τ).loc main_arg0)) (m ((c : Thread nD τ).loc main_arg1)) i)
    ((m ((c : Thread nD τ).loc main_arg2) : FVec Ideal S4224x5632 .bf16) i) ((m ((c : Thread nD τ).loc main_arg3) : FVec Ideal S4224x5632 .bf16) i)

/-- The other factor's gradient as one array over the arguments. -/
abbrev GB (c : Dev nD) : FVec Ideal S4224x5632 .bf16 := fun i =>
  dup (hid (m ((c : Thread nD τ).loc main_arg0)) (m ((c : Thread nD τ).loc main_arg1)) i)
    ((m ((c : Thread nD τ).loc main_arg2) : FVec Ideal S4224x5632 .bf16) i)

end Cert.Proof.Act

end
-- ==== Proof.ActGate.lean ====
/-
  The gradient at the gate's input: the six column blocks that each grid point stores.
-/
module

public import proofs.«01_k».proof.Proof.Act

@[expose] public section

set_option maxRecDepth 16384

noncomputable section

namespace Cert.Proof.Act

open Idealize.ShloMosaic Idealize.ShloMosaic.TcCoe Idealize.SL.Sem
open Idealize.ShloMosaic.Pipeline (Dat)
open Cert.ActIdeal Cert.ActIdeal.Gen

variable (m : (ℓ : Loc nD τ sig) → Buf (Elt Ideal) ℓ) (ρ : Dev nD → PrngReg)

/-- The first result array after the run. -/
theorem finalA (c : Dev nD) : (dats m 0 c).arrAt 4 (cfgs 0).N = GA m c := by
  refine (dats m 0 c).arrAt_eq_of_covers 4 _ (by decide +kernel) fun t hf y => ?_
  blk_simp
  rw [after0_4]
  unfold outsAt0
  frame_out
  canon_tiles x h using View.cover_of_tiledBy _ ![704, 128] (by sl_kernel_rfl) y
  all_goals
    open_payloads
    pointwise [GA, hid, dgate, sg, half]
    blk_point [iblk, V, idx t]

end Cert.Proof.Act

end
-- ==== Proof.ActFactor.lean ====
/-
  The gradient at the other factor: the six column blocks that each grid point stores.
-/
module

public import proofs.«01_k».proof.Proof.Act

@[expose] public section

set_option maxRecDepth 16384

noncomputable section

namespace Cert.Proof.Act

open Idealize.ShloMosaic Idealize.ShloMosaic.TcCoe Idealize.SL.Sem
open Idealize.ShloMosaic.Pipeline (Dat)
open Cert.ActIdeal Cert.ActIdeal.Gen

variable (m : (ℓ : Loc nD τ sig) → Buf (Elt Ideal) ℓ) (ρ : Dev nD → PrngReg)

/-- The second result array after the run. -/
theorem finalB (c : Dev nD) : (dats m 0 c).arrAt 5 (cfgs 0).N = GB m c := by
  refine (dats m 0 c).arrAt_eq_of_covers 5 _ (by decide +kernel) fun t hf y => ?_
  blk_simp
  rw [after0_5]
  unfold outsAt0
  frame_out
  canon_tiles x h using View.cover_of_tiledBy _ ![704, 128] (by sl_kernel_rfl) y
  all_goals
    open_payloads
    pointwise [GB, hid, dup, sg, half]
    blk_point [iblk, V, idx t]

end Cert.Proof.Act

end
-- ==== Proof.Reals.lean ====
/-
  Extended reals that are real numbers: the arithmetic of the claims takes place among them once the arguments are finite.
-/
module

public import Idealize.ShloMosaic.PureOps.Ideal
public import Idealize.ShloMosaic.PureOps.Ideal.Laws
public import Idealize.ShloMosaic.Lib.IdealHost
public import Mathlib.Analysis.SpecialFunctions.Trigonometric.DerivHyp

@[expose] public section

noncomputable section

namespace Cert.Proof

open Idealize.ShloMosaic

/-- `x` is a real number. -/
def IsReal (x : EReal) : Prop := ∃ r : ℝ, x = (r : EReal)

namespace IsReal

theorem coe (r : ℝ) : IsReal (r : EReal) := ⟨r, rfl⟩

theorem zero : IsReal 0 := ⟨0, by simp⟩

theorem one : IsReal 1 := ⟨1, by simp⟩

theorem add {x y : EReal} : IsReal x → IsReal y → IsReal (x + y) := by
  rintro ⟨a, rfl⟩ ⟨b, rfl⟩; exact ⟨a + b, by norm_cast⟩

theorem mul {x y : EReal} : IsReal x → IsReal y → IsReal (x * y) := by
  rintro ⟨a, rfl⟩ ⟨b, rfl⟩; exact ⟨a * b, by norm_cast⟩

theorem sub {x y : EReal} : IsReal x → IsReal y → IsReal (x - y) := by
  rintro ⟨a, rfl⟩ ⟨b, rfl⟩; exact ⟨a - b, by norm_cast⟩

theorem neg {x : EReal} : IsReal x → IsReal (-x) := by
  rintro ⟨a, rfl⟩; exact ⟨-a, by norm_cast⟩

theorem sum {ι : Type} (s : Finset ι) {f : ι → EReal} (h : ∀ i ∈ s, IsReal (f i)) : IsReal (∑ i ∈ s, f i) := by
  classical
  induction s using Finset.induction_on with
  | empty => simpa using zero
  | insert a s ha ih =>
    rw [Finset.sum_insert ha]
    exact (h a (Finset.mem_insert_self a s)).add (ih fun i hi => h i (Finset.mem_insert_of_mem hi))

/-- A number whose absolute value is below infinity is real. -/
theorem of_abs_lt {x : EReal} (h : max x (-x) < ⊤) : IsReal x := by
  induction x using EReal.rec with
  | bot => simp at h
  | top => simp at h
  | coe r => exact ⟨r, rfl⟩

end IsReal

/-- The comparison the preconditions make says that a number is real. -/
theorem isReal_of_mask {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  refine IsReal.of_abs_lt ?_
  by_contra hn
  simp [Ideal.cmp, hn] at h

/-- The f32 pattern of one half. -/
theorem ofBits_half : Ideal.ofBits .f32 0x3F000000#32 = ((1 / 2 : ℝ) : EReal) := by
  simp [Ideal.ofBits, Ideal.ieee, -EReal.coe_mul]; norm_num

/-- The sigmoid through the hyperbolic tangent of half the argument. -/
theorem half_tanh_half (r : ℝ) : 1 / 2 * Real.tanh (1 / 2 * r) + 1 / 2 = (1 + Real.exp (-r))⁻¹ := by
  rw [Real.tanh_eq_sinh_div_cosh, Real.sinh_eq, Real.cosh_eq]
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [h1]
  set u := Real.exp (1 / 2 * r)
  set v := Real.exp (-(1 / 2 * r))
  have hd : 1 + v * v ≠ 0 := by positivity
  have hd2 : u + v ≠ 0 := by positivity
  field_simp
  nlinarith

/-- The sigmoid as the kernels compute it is the sigmoid as the references write it, on real numbers. -/
theorem sigmoid_eq (r : ℝ) : Ideal.ofBits .f32 0x3F000000#32 * Ideal.tanh (Ideal.ofBits .f32 0x3F000000#32 * (r : EReal)) + Ideal.ofBits .f32 0x3F000000#32
    = (((1 + Real.exp (-r))⁻¹ : ℝ) : EReal) := by
  rw [ofBits_half, ← half_tanh_half]
  rw [← EReal.coe_mul]
  show ((1 / 2 : ℝ) : EReal) * ((Real.tanh (1 / 2 * r) : ℝ) : EReal) + _ = _
  norm_cast

/-- The references' quotient is that sigmoid as well. -/
theorem div_exp_eq (r : ℝ) : Ideal.div 1 (1 + Ideal.exp (-(r : EReal))) = (((1 + Real.exp (-r))⁻¹ : ℝ) : EReal) := by
  have e : (1 : EReal) + Ideal.exp (-(r : EReal)) = ((1 + Real.exp (-r) : ℝ) : EReal) := by
    rw [← EReal.coe_neg]
    show (1 : EReal) + ((Real.exp (-r) : ℝ) : EReal) = _
    norm_cast
  rw [e]
  have hp : (1 + Real.exp (-r) : ℝ) ≠ 0 := by have := Real.exp_pos (-r); positivity
  unfold Ideal.div
  rw [if_neg (by exact_mod_cast hp), one_mul, EReal.coe_inv]

end Cert.Proof

end
-- ==== Proof.ActClaim.lean ====
/-
  The gated unit's backward call against the gradient that `jax.vjp` of the unit writes: the two arrays agree where the
  arguments are finite.
-/
module

public import proofs.«01_k».proof.Proof.ActGate
public import proofs.«01_k».proof.Proof.ActFactor
public import proofs.«01_k».proof.Proof.Reals
public import proofs.«01_k».proof.Proof.Gen.ActRefIdeal.Run
public import proofs.«01_k».proof.Proof.Gen.Pre_act_finite
public import Idealize.ShloMosaic.Lib.Pointwise
public import Idealize.ShloMosaic.Lib.Quiescent

@[expose] public section

set_option maxRecDepth 16384

noncomputable section

namespace Cert.Proof.Act

open Idealize.ShloMosaic Idealize.ShloMosaic.TcCoe Idealize.SL.Sem
open Idealize.ShloMosaic.Pipeline (Dat)
open Cert.ActIdeal Cert.ActIdeal.Gen

variable (m : (ℓ : Loc nD τ sig) → Buf (Elt Ideal) ℓ) (ρ : Dev nD → PrngReg)

/-- The two ways of writing the gradient at the gate's input agree on real numbers. -/
theorem dgate_eq {h a b : EReal} (hh : IsReal h) (ha : IsReal a) (hb : IsReal b) :
    dgate h a b = h * b * Ideal.div 1 (1 + Ideal.exp (-a))
      + a * (h * b) * (Ideal.div 1 (1 + Ideal.exp (-a)) * (1 - Ideal.div 1 (1 + Ideal.exp (-a)))) := by
  obtain ⟨h, rfl⟩ := hh; obtain ⟨a, rfl⟩ := ha; obtain ⟨b, rfl⟩ := hb
  unfold dgate sg half
  rw [sigmoid_eq, div_exp_eq]
  generalize (1 + Real.exp (-a))⁻¹ = s
  norm_cast
  ring

/-- The two ways of writing the gradient at the other factor agree on real numbers. -/
theorem dup_eq {h a : EReal} (ha : IsReal a) : dup h a = a * Ideal.div 1 (1 + Ideal.exp (-a)) * h := by
  obtain ⟨a, rfl⟩ := ha
  unfold dup sg half
  rw [sigmoid_eq, div_exp_eq]
  rw [mul_comm h, mul_assoc, mul_comm h, ← mul_assoc]

/-- The precondition makes every argument entry real. -/
theorem finite (hm : Pre_ActIdeal_act_finite (hPre_act_finite := Cert.Pre_act_finite.Gen.facts) m) (c : Dev nD) :
    (∀ i, IsReal ((m ((c : Thread nD τ).loc main_arg0) : FVec Ideal S4224x2048 .bf16) i))
    ∧ (∀ i, IsReal ((m ((c : Thread nD τ).loc main_arg1) : FVec Ideal S4x1408x2048 .bf16) i))
    ∧ (∀ i, IsReal ((m ((c : Thread nD τ).loc main_arg2) : FVec Ideal S4224x5632 .bf16) i))
    ∧ (∀ i, IsReal ((m ((c : Thread nD τ).loc main_arg3) : FVec Ideal S4224x5632 .bf16) i)) := by
  obtain ⟨h0, h1, h2, h3⟩ := hm c
  refine ⟨fun i => ?_, fun i => ?_, fun i => ?_, fun i => ?_⟩
  · exact isReal_of_mask (congrFun h0 i)
  · exact isReal_of_mask (congrFun h1 i)
  · exact isReal_of_mask (congrFun h2 i)
  · exact isReal_of_mask (congrFun h3 i)

/-- The hidden gradient of finite arguments is real. -/
theorem hid_real {d : FVec Ideal S4224x2048 .bf16} {w : FVec Ideal S4x1408x2048 .bf16} (hd : ∀ i, IsReal (d i)) (hw : ∀ i, IsReal (w i))
    (i : S4224x5632.Idx) : IsReal (hid d w i) :=
  IsReal.sum _ fun k _ => (hd _).mul (hw _)

section reference

variable (hb : FTy.bits .bf16 < FTy.bits .f32) (hs : S4x1408x2048.ShapeCasts Cert.ActRefIdeal.S5632x2048)
  (hc : Cert.ActRefIdeal.S_.BroadcastsInDim S4224x5632 (![] : Fin 0 → Fin S4224x5632.rank))
  (d : FVec Ideal S4224x2048 .bf16) (w : FVec Ideal S4x1408x2048 .bf16) (M : FVec Ideal S4224x5632 .f32) (a b : FVec Ideal S4224x5632 .bf16)

/-- The reference's product with the joined weight, entry by entry. -/
theorem ref_hid (i : S4224x5632.Idx) :
    Host.dotGeneral Cert.ActRefIdeal.dot_S4224x2048_S5632x2048_S4224x5632_1_1_0_0_n_n none (extf .f32 d hb)
      (extf .f32 (shapeCast Cert.ActRefIdeal.S5632x2048 w hs) hb) i = (show EReal from hid d w i) := by
  idx_vars i
  pointwise [hid]

/-- The reference's sigmoid. -/
abbrev refSig : FVec Ideal S4224x5632 .f32 :=
  Host.divf (broadcastInDim S4224x5632 ![] hc (constant Cert.ActRefIdeal.S_ .f32 0x3F800000#32))
    (addf (broadcastInDim S4224x5632 ![] hc (constant Cert.ActRefIdeal.S_ .f32 0x3F800000#32)) (Host.exp (Host.negf (extf .f32 a hb))))

/-- The reference's gradient at the gate's input, entry by entry. -/
theorem ref_gate (i : S4224x5632.Idx) (h : EReal) (hM : M i = h) :
    truncf .bf16 (addf (mulf (mulf M (extf .f32 b hb)) (refSig hb hc a)) (mulf (mulf (extf .f32 a hb) (mulf M (extf .f32 b hb)))
      (mulf (refSig hb hc a) (subf (broadcastInDim S4224x5632 ![] hc (constant Cert.ActRefIdeal.S_ .f32 0x3F800000#32)) (refSig hb hc a))))) hb i
    = (show EReal from h * b i * Ideal.div 1 (1 + Ideal.exp (-(a i)))
      + a i * (h * b i) * (Ideal.div 1 (1 + Ideal.exp (-(a i))) * (1 - Ideal.div 1 (1 + Ideal.exp (-(a i)))))) := by
  subst hM
  pointwise [refSig]

/-- The reference's gradient at the other factor, entry by entry. -/
theorem ref_factor (i : S4224x5632.Idx) (h : EReal) (hM : M i = h) :
    truncf .bf16 (mulf (mulf (extf .f32 a hb) (refSig hb hc a)) M) hb i
    = (show EReal from a i * Ideal.div 1 (1 + Ideal.exp (-(a i))) * h) := by
  subst hM
  pointwise [refSig]

end reference

/-- Both results of the backward call are the reference's. -/
theorem algebraic : Cert.algebraic_ActIdeal_ActRefIdeal_pre_act_finite (hActIdeal := Cert.ActIdeal.Gen.facts) (hActRefIdeal := Cert.ActRefIdeal.Gen.facts) (hPre_act_finite := Cert.Pre_act_finite.Gen.facts) := by
  intro m g m' g' hm hagree
  refine ⟨fun c => GA m c, fun c => GB m c, ?_, ?_⟩
  · exact (θ_run Cert.ActIdeal.defs _ _).mono (fun _ h c => ⟨(h c).1.trans (finalA m c), (h c).2.1.trans (finalB m c), (h c).2.2⟩)
      (Cert.ActIdeal.Value.run_blocks (F := Ideal) m g)
  · refine (θ_run Cert.ActRefIdeal.defs _ _).mono (fun _ h c => ⟨(h c).1.trans ?_, (h c).2.1.trans ?_, (h c).2.2⟩)
      (Cert.ActRefIdeal.Value.run (F := Ideal) m' g')
    all_goals
      obtain ⟨h0, h1, h2, h3⟩ := hagree c
      obtain ⟨r0, r1, r2, r3⟩ := finite m hm c
      simp only [h0, h1, h2, h3]
    · show _ = GA m c
      funext i
      refine Eq.trans ?_ (dgate_eq (hid_real r0 r1 i) (r2 i) (r3 i)).symm
      exact ref_gate _ Cert.ActRefIdeal.Gen.bcast_S_S4224x5632 _ _ _ i _ (ref_hid _ _ _ _ i)
    · show _ = GB m c
      funext i
      refine Eq.trans ?_ (dup_eq (r2 i)).symm
      exact ref_factor _ Cert.ActRefIdeal.Gen.bcast_S_S4224x5632 _ _ i _ (ref_hid _ _ _ _ i)

theorem frame_ideal : Cert.quiescent_ActIdeal (hActIdeal := Cert.ActIdeal.Gen.facts) := fun m ρ _ => Cert.ActIdeal.Gen.frame m ρ

theorem frame_ideal_pre : Cert.quiescent_ActIdeal_pre_act_finite (hActIdeal := Cert.ActIdeal.Gen.facts) (hPre_act_finite := Cert.Pre_act_finite.Gen.facts) :=
  fun m ρ _ => Cert.ActIdeal.Gen.frame m ρ

theorem frame_ref : Cert.quiescent_ActRefIdeal (hActRefIdeal := Cert.ActRefIdeal.Gen.facts) := fun m ρ _ =>
  (θ_run Cert.ActRefIdeal.defs _ _).mono (fun r h => ⟨fun c => (h c).2.2, sem_eq_zero_of_no_sems (by decide) r.2⟩)
    (Cert.ActRefIdeal.Value.run (F := Ideal) m ρ)

theorem frame_ref_pre : Cert.quiescent_ActRefIdeal_pre_act_finite (hActRefIdeal := Cert.ActRefIdeal.Gen.facts) (hPre_act_finite := Cert.Pre_act_finite.Gen.facts) :=
  fun m ρ _ => frame_ref m ρ trivial

end Cert.Proof.Act

end
-- ==== Proof.NormMath.lean ====
/-
  The gradient of the root mean square norm over 2048 columns, as the call writes it and as `jax.vjp` writes it, on real rows.
-/
module

public import proofs.«01_k».proof.Proof.Reals

@[expose] public section

noncomputable section

namespace Cert.Proof

open Idealize.ShloMosaic

/-- The number of columns and the norm's small constant, as the programs spell them. -/
abbrev cols : EReal := Ideal.ofBits .f32 0x45000000#32
abbrev eps : EReal := Ideal.ofBits .f32 0x358637BD#32

theorem cols_eq : cols = ((2048 : ℝ) : EReal) := by
  simp [cols, Ideal.ofBits, Ideal.ieee, -EReal.coe_mul]; norm_num

theorem eps_eq : eps = ((8796093 / 2 ^ 43 : ℝ) : EReal) := by
  simp [eps, Ideal.ofBits, Ideal.ieee, -EReal.coe_mul]; norm_num

/-- The reciprocal root of a row's mean square. -/
def rinv (h : Fin 2048 → EReal) : EReal := Ideal.rsqrt (Ideal.div (∑ k, h k * h k) cols + eps)

/-- The gradient at a row `h` of the norm for the weighted cotangent `q`, as the call writes it. -/
def normGrad (q h : Fin 2048 → EReal) (k : Fin 2048) : EReal :=
  rinv h * (q k - h k * rinv h * Ideal.div (∑ l, q l * (h l * rinv h)) cols)

/-- The factor of `h` that the differentiated mean square contributes, as `jax.vjp` writes it. -/
def meanPart (q h : Fin 2048 → EReal) : EReal :=
  Ideal.div ((∑ l, h l * q l) * (Ideal.ofBits .f32 0xBF000000#32 * Ideal.div (rinv h) (Ideal.div (∑ k, h k * h k) cols + eps))) cols

theorem ofBits_neg_half : Ideal.ofBits .f32 0xBF000000#32 = ((-(1 / 2) : ℝ) : EReal) := by
  simp [Ideal.ofBits, Ideal.ieee, -EReal.coe_mul]; norm_num

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- On real rows the mean square plus the constant is a positive real, and the reciprocal root is that of the reals. -/
theorem rinv_coe (h : Fin 2048 → ℝ) : ∃ v : ℝ, 0 < v ∧ Ideal.div (∑ k, (h k : EReal) * (h k : EReal)) cols + eps = (v : EReal)
    ∧ rinv (fun k => (h k : EReal)) = ((√v)⁻¹ : ℝ) := by
  have heq := eps_eq
  have he : (0 : ℝ) < 8796093 / 2 ^ 43 := by norm_num
  generalize (8796093 / 2 ^ 43 : ℝ) = e at heq he
  have hs : (∑ k, (h k : EReal) * (h k : EReal)) = ((∑ k, h k * h k : ℝ) : EReal) := by
    rw [← coe_sum]; simp only [EReal.coe_mul]
  have hv : Ideal.div (∑ k, (h k : EReal) * (h k : EReal)) cols + eps = (((∑ k, h k * h k) * (1 / 2048) + e : ℝ) : EReal) := by
    rw [hs, cols_eq, heq, Ideal.div_coe (by norm_num), ← EReal.coe_mul, ← EReal.coe_add]
  have hp : 0 < (∑ k, h k * h k) * (1 / 2048) + e := by
    have : 0 ≤ ∑ k, h k * h k := Finset.sum_nonneg fun k _ => mul_self_nonneg _
    positivity
  refine ⟨_, hp, hv, ?_⟩
  rw [rinv, hv, Ideal.rsqrt_coe, if_neg (by linarith), if_neg hp.ne']

theorem rinv_real {h : Fin 2048 → EReal} (hh : ∀ k, IsReal (h k)) : IsReal (rinv h) := by
  choose r hr using hh
  obtain rfl : h = fun k => (r k : EReal) := funext fun k => (hr k)
  obtain ⟨v, -, -, hv⟩ := rinv_coe r
  exact hv ▸ IsReal.coe _

theorem div_cols {x : EReal} (hx : IsReal x) : IsReal (Ideal.div x cols) := by
  rw [cols_eq, Ideal.div_coe (by norm_num)]; exact hx.mul (IsReal.coe _)

theorem normGrad_real {q h : Fin 2048 → EReal} (hq : ∀ k, IsReal (q k)) (hh : ∀ k, IsReal (h k)) (k : Fin 2048) : IsReal (normGrad q h k) :=
  (rinv_real hh).mul ((hq k).sub (((hh k).mul (rinv_real hh)).mul
    (div_cols (IsReal.sum _ fun l _ => (hq l).mul ((hh l).mul (rinv_real hh))))))

/-- The two forms of the gradient agree on real rows. -/
theorem normGrad_eq {q h : Fin 2048 → EReal} (hq : ∀ k, IsReal (q k)) (hh : ∀ k, IsReal (h k)) (k : Fin 2048) :
    normGrad q h k = q k * rinv h + (h k * meanPart q h + meanPart q h * h k) := by
  choose r hr using hh
  obtain rfl : h = fun k => (r k : EReal) := funext fun k => (hr k)
  choose p hp using hq
  obtain rfl : q = fun k => (p k : EReal) := funext fun k => (hp k)
  obtain ⟨v, hv, he, hi⟩ := rinv_coe r
  have h1 : (∑ l, (p l : EReal) * ((r l : EReal) * (((√v)⁻¹ : ℝ) : EReal))) = (((∑ l, r l * p l) * (√v)⁻¹ : ℝ) : EReal) := by
    rw [Finset.sum_mul, ← coe_sum]
    refine Finset.sum_congr rfl fun l _ => ?_
    norm_cast; ring
  have h2 : (∑ l, (r l : EReal) * (p l : EReal)) = ((∑ l, r l * p l : ℝ) : EReal) := by
    rw [← coe_sum]; simp only [EReal.coe_mul]
  have hm : meanPart (fun k => (p k : EReal)) (fun k => (r k : EReal)) = (((∑ l, r l * p l) * (-(1 / 2) * ((√v)⁻¹ * (1 / v))) * (1 / 2048) : ℝ) : EReal) := by
    rw [meanPart, hi, he, h2, ofBits_neg_half, cols_eq, Ideal.div_coe hv.ne', Ideal.div_coe (by norm_num)]
    simp only [← EReal.coe_mul]
  rw [hm, normGrad, hi, h1, cols_eq, Ideal.div_coe (by norm_num)]
  simp only [← EReal.coe_mul, ← EReal.coe_sub, ← EReal.coe_add]
  refine congrArg _ ?_
  generalize ∑ l, r l * p l = S
  have hsq : √v * √v = v := Real.mul_self_sqrt hv.le
  have hs : √v ≠ 0 := (Real.sqrt_pos.mpr hv).ne'
  generalize √v = s at *
  subst hsq
  field_simp
  ring

end Cert.Proof

end
-- ==== Proof.NormRow.lean ====
/-
  The norms' backward call, point by point: each point writes a block of rows of the two gradients and adds the block's part of
  the two gain gradients.
-/
module

public import proofs.«01_k».proof.Defs
public import proofs.«01_k».proof.Proof.NormMath
public import proofs.«01_k».proof.Proof.Gen.NormBwdIdeal.Value
public import Idealize.ShloMosaic.Lib.Pipeline.ValueKit
public import Idealize.ShloMosaic.Lib.Pointwise

@[expose] public section

set_option maxRecDepth 16384

noncomputable section

namespace Cert.Proof.NormBwd

open Idealize.ShloMosaic Idealize.ShloMosaic.TcCoe Idealize.SL.Sem
open Idealize.ShloMosaic.Pipeline (Dat)
open Cert.NormBwdIdeal Cert.NormBwdIdeal.Gen

/-- The gradient at the input of a norm with gains `g`, for the cotangent `d`. -/
def gradAt (d h : FVec Ideal S4224x2048 .f32) (g : FVec Ideal S1x2048 .f32) (i : S4224x2048.Idx) : EReal :=
  normGrad (fun k => d (ix2 (i 0) k) * g (ix2 0 k)) (fun k => h (ix2 (i 0) k)) (i 1)

/-- The gradient at a gain: over the rows, the cotangent times the normalised entry. -/
def gainAt (d h : FVec Ideal S4224x2048 .f32) (i : S1x2048.Idx) : EReal :=
  ∑ r : Fin 4224, d (ix2 r (i 1)) * (h (ix2 r (i 1)) * rinv fun k => h (ix2 r k))

/-- One block's part of a gain gradient. -/
def gainBlk (d h : FVec Ideal S352x2048 .f32) (j : S1x2048.Idx) : EReal :=
  ∑ r : Fin 352, d (ix2 r (j 1)) * (h (ix2 r (j 1)) * rinv fun k => h (ix2 r k))

theorem pay8_apply (h : FVec Ideal S352x2048 .f32) (j : S352x1.Idx) : k0_pay8 (F := Ideal) h j = (show EReal from rinv fun k => h (ix2 (j 0) k)) := by
  pointwise [k0_pay8, rinv]

theorem pay2_apply (h : FVec Ideal S352x2048 .f32) (j : S352x1.Idx) : k0_pay2 (F := Ideal) h j = (show EReal from rinv fun k => h (ix2 (j 0) k)) := by
  pointwise [k0_pay2, rinv]

theorem pay10_apply (h : FVec Ideal S352x2048 .f32) (g : FVec Ideal S1x2048 .f32) (d e : FVec Ideal S352x2048 .f32) (j : S352x2048.Idx) :
    k0_pay10 (F := Ideal) h g d e j
      = (show EReal from e j + normGrad (fun k => d (ix2 (j 0) k) * g (ix2 0 k)) (fun k => h (ix2 (j 0) k)) (j 1)) := by
  idx_vars j
  pointwise [k0_pay10, k0_pay9, k0_pay8, normGrad, rinv]

theorem pay4_apply (d h : FVec Ideal S352x2048 .f32) (g : FVec Ideal S1x2048 .f32) (j : S352x2048.Idx) :
    k0_pay4 (F := Ideal) d h g j
      = (show EReal from normGrad (fun k => d (ix2 (j 0) k) * g (ix2 0 k)) (fun k => h (ix2 (j 0) k)) (j 1)) := by
  idx_vars j
  pointwise [k0_pay4, k0_pay3, k0_pay2, k0_pay1, normGrad, rinv]

theorem pay11_apply (h d : FVec Ideal S352x2048 .f32) (a : FVec Ideal S1x2048 .f32) (j : S1x2048.Idx) :
    k0_pay11 (F := Ideal) h d a j = (show EReal from a j + gainBlk d h j) := by
  idx_vars j
  pointwise [k0_pay11, k0_pay9, k0_pay8, gainBlk, rinv]

theorem pay5_apply (d h : FVec Ideal S352x2048 .f32) (a : FVec Ideal S1x2048 .f32) (j : S1x2048.Idx) :
    k0_pay5 (F := Ideal) d h a j = (show EReal from a j + gainBlk d h j) := by
  idx_vars j
  pointwise [k0_pay5, k0_pay3, k0_pay2, k0_pay1, gainBlk, rinv]

theorem pay6_apply (j : S1x2048.Idx) : k0_pay6 (F := Ideal) j = (show EReal from 0) := by
  pointwise [k0_pay6]

theorem pay7_apply (j : S1x2048.Idx) : k0_pay7 (F := Ideal) j = (show EReal from 0) := by
  pointwise [k0_pay7]

/-- Where the blocks sit. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![t.val, 0] ∧ win0_7.index t = ![t.val, 0] ∧ win0_8.index t = ![0, 0] ∧ win0_9.index t = ![0, 0] ∧ t.val < 12 :=
  (by decide +kernel : ∀ t : Fin grid0.N, _)

end Cert.Proof.NormBwd

end
-- ==== Proof.NormVal.lean ====
/-
  The norms' backward call: its four result arrays as functions of its arguments.
-/
module

public import proofs.«01_k».proof.Proof.NormRow

@[expose] public section

set_option maxRecDepth 16384

noncomputable section

namespace Cert.Proof.NormBwd

open Idealize.ShloMosaic Idealize.ShloMosaic.TcCoe Idealize.SL.Sem
open Idealize.ShloMosaic.Pipeline (Dat)
open Cert.NormBwdIdeal Cert.NormBwdIdeal.Gen

variable (m : (ℓ : Loc nD τ sig) → Buf (Elt Ideal) ℓ) (ρ : Dev nD → PrngReg)

/-- The gradient at the residual stream: what arrives from above plus the gradient through the following norm. -/
abbrev G0 (c : Dev nD) : FVec Ideal S4224x2048 .f32 := fun i =>
  (show FVec Ideal S4224x2048 .f32 from m ((c : Thread nD τ).loc main_arg2)) i
    + gradAt (m ((c : Thread nD τ).loc main_arg0)) (m ((c : Thread nD τ).loc main_arg1)) (m ((c : Thread nD τ).loc main_arg3)) i

/-- The gradient at the norm before it. -/
abbrev G1 (c : Dev nD) : FVec Ideal S4224x2048 .bf16 := fun i =>
  gradAt (G0 m c) (m ((c : Thread nD τ).loc main_arg4)) (m ((c : Thread nD τ).loc main_arg5)) i

/-- The two gain gradients. -/
abbrev G2 (c : Dev nD) : FVec Ideal S1x2048 .f32 := fun i =>
  gainAt (m ((c : Thread nD τ).loc main_arg0)) (m ((c : Thread nD τ).loc main_arg1)) i

abbrev G3 (c : Dev nD) : FVec Ideal S1x2048 .f32 := fun i =>
  gainAt (G0 m c) (m ((c : Thread nD τ).loc main_arg4)) i

/-- The block of the first gradient that a point writes. -/
abbrev dh2 (c : Dev nD) (t : Fin cfg0.N) : FVec Ideal S352x2048 .f32 :=
  k0_pay10 (iblk m c 1 t) (iblk m c 4 t) (iblk m c 0 t) (iblk m c 2 t)

theorem out6 (c : Dev nD) (t : Fin cfg0.N) : (outsAt0 m c t.val t.isLt).1 = dh2 m c t := by
  by_cases h : t.val % 12 = 0
  · rw [outsAt0_A m c t h]; frame_out
  · rw [outsAt0_B m c t h]; frame_out

theorem out7 (c : Dev nD) (t : Fin cfg0.N) : (outsAt0 m c t.val t.isLt).2.1 = k0_pay4 (dh2 m c t) (iblk m c 3 t) (iblk m c 5 t) := by
  by_cases h : t.val % 12 = 0
  · rw [outsAt0_A m c t h]; frame_out
  · rw [outsAt0_B m c t h]; frame_out

/-- An entry of the block is an entry of the whole gradient. -/
theorem dh2_apply (c : Dev nD) (t : Fin cfg0.N) (j : S352x2048.Idx) (hr : 352 * t.val + (j 0).val < 4224) :
    dh2 m c t j = G0 m c (ix2 ⟨352 * t.val + (j 0).val, hr⟩ (j 1)) := by
  refine (pay10_apply _ _ _ _ j).trans ?_
  dsimp only [G0, gradAt]
  blk_point [iblk, V, idx t]

theorem final6 (c : Dev nD) : (dats m 0 c).arrAt 6 (cfgs 0).N = G0 m c := by
  refine (dats m 0 c).arrAt_eq_of_covers 6 _ (by decide +kernel) fun t hf y => ?_
  blk_simp
  rw [after0_6, out6, dh2_apply m c t y (by have := (idx t).2.2.2.2.2.2.2.2.2.2; have : (y 0).val < 352 := (y 0).isLt; omega)]
  blk_point [iblk, V, idx t]

theorem final7 (c : Dev nD) : (dats m 0 c).arrAt 7 (cfgs 0).N = G1 m c := by
  refine (dats m 0 c).arrAt_eq_of_covers 7 _ (by decide +kernel) fun t hf y => ?_
  blk_simp
  rw [after0_7, out7]
  refine (pay4_apply _ _ _ y).trans ?_
  have hlt : ∀ r : Fin 352, 352 * t.val + r.val < 4224 := fun r => by have := (idx t).2.2.2.2.2.2.2.2.2.2; omega
  have hd : ∀ k, dh2 m c t (ix2 (y 0) k) = G0 m c (ix2 ⟨352 * t.val + (y 0).val, hlt (y 0)⟩ k) := fun k => dh2_apply m c t (ix2 (y 0) k) (hlt _)
  simp only [hd]
  dsimp only [G1, gradAt]
  generalize G0 m c = D
  blk_point [iblk, V, idx t]

end Cert.Proof.NormBwd

end
-- ==== Proof.NormGain.lean ====
/-
  The norms' backward call: the two gain gradients collect every block's part over the run.
-/
module

public import proofs.«01_k».proof.Proof.NormVal

@[expose] public section

set_option maxRecDepth 16384

noncomputable section

namespace Cert.Proof.NormBwd

open Idealize.ShloMosaic Idealize.ShloMosaic.TcCoe Idealize.SL.Sem
open Idealize.ShloMosaic.Pipeline (Dat)
open Cert.NormBwdIdeal Cert.NormBwdIdeal.Gen

/-- Twelve blocks of 352 rows are the 4224 rows. -/
theorem rows_sum {f : Fin 12 → Fin 352 → EReal} {p : Fin 4224 → EReal}
    (hf : ∀ (s : Fin 12) (k : Fin 352) (h : s.val * 352 + k.val < 4224), f s k = p ⟨s.val * 352 + k.val, h⟩) :
    ∑ s, ∑ k, f s k = ∑ l, p l := Fin.sum_mul_add_congr hf

theorem row_lt (t : Fin cfg0.N) (k : Fin 352) : 352 * t.val + k.val < 4224 := by
  have := (idx t).2.2.2.2.2.2.2.2.2.2
  omega

variable (m : (ℓ : Loc nD τ sig) → Buf (Elt Ideal) ℓ) (ρ : Dev nD → PrngReg)

theorem final8 (c : Dev nD) : (dats m 0 c).arrAt 8 (cfgs 0).N = G2 m c := by
  refine (dats m 0 c).arrAt_eq_of_covers 8 _ (by decide +kernel) fun t hf y => ?_
  blk_simp
  rw [after0_8, Pipeline.eq_sum_fin_of_reset_step_apply_of_flush (fun n h => (outsAt0 m c n h).2.2.1) 12 (fun _ => 0)
    (fun p j => gainBlk (iblk m c 0 p) (iblk m c 1 p) j)
    (fun t h j => by rw [outsAt0_A m c t h]; frame_out; exact (pay11_apply _ _ _ j).trans (congrArg (fun x : EReal => x + _) (pay6_apply j)))
    (fun t h j => by rw [outsAt0_B m c t h]; frame_out; exact pay11_apply _ _ _ j)
    t ((flush0_8 t).mp hf) _, zero_add]
  refine Eq.trans (Fin.sum_fin_congr fun s => rfl) (rows_sum (fun s k hl => ?_))
  blk_point [iblk, V, idx t, idx ⟨_, Pipeline.run_point_lt_of_flush t ((flush0_8 t).mp hf) s⟩]

theorem final9 (c : Dev nD) : (dats m 0 c).arrAt 9 (cfgs 0).N = G3 m c := by
  refine (dats m 0 c).arrAt_eq_of_covers 9 _ (by decide +kernel) fun t hf y => ?_
  blk_simp
  rw [after0_9, Pipeline.eq_sum_fin_of_reset_step_apply_of_flush (fun n h => (outsAt0 m c n h).2.2.2) 12 (fun _ => 0)
    (fun p j => gainBlk (dh2 m c p) (iblk m c 3 p) j)
    (fun t h j => by rw [outsAt0_A m c t h]; frame_out; exact (pay5_apply _ _ _ j).trans (congrArg (fun x : EReal => x + _) (pay7_apply j)))
    (fun t h j => by rw [outsAt0_B m c t h]; frame_out; exact pay5_apply _ _ _ j)
    t ((flush0_9 t).mp hf) _, zero_add]
  refine Eq.trans (Fin.sum_fin_congr fun s => rfl) (rows_sum (fun s k hl => ?_))
  rw [dh2_apply m c _ _ (row_lt _ _)]
  generalize G0 m c = D
  blk_point [iblk, V, idx t, idx ⟨_, Pipeline.run_point_lt_of_flush t ((flush0_9 t).mp hf) s⟩]

end Cert.Proof.NormBwd

end
-- ==== Proof.NormClaim.lean ====
/-
  The norms' backward call against the gradients that `jax.vjp` of the two norms writes: the four arrays agree where the
  arguments are finite.
-/
module

public import proofs.«01_k».proof.Proof.NormGain
public import proofs.«01_k».proof.Proof.Gen.NormBwdRefIdeal.Run
public import proofs.«01_k».proof.Proof.Gen.Pre_pre_finite
public import Idealize.ShloMosaic.Lib.Quiescent

@[expose] public section

set_option maxRecDepth 16384

noncomputable section

namespace Cert.Proof.NormBwd

open Idealize.ShloMosaic Idealize.ShloMosaic.TcCoe Idealize.SL.Sem

section reference

open Cert.NormBwdRefIdeal Cert.NormBwdRefIdeal.Gen

/-- The reference's mean square plus the constant, a row at a time. -/
def refMean (h : FVec Ideal S4224x2048 .f32) : FVec Ideal S4224x1 .f32 :=
  addf (Host.divf (broadcastInDim S4224x1 ![0] bcast_S4224_S4224x1_0
      (Host.reduceAdd (mulf h h) (constant S_ .f32 0x00000000#32) reducesTo_S4224x2048_S4224_d1 h_S_))
    (broadcastInDim S4224x1 ![] bcast_S_S4224x1 (constant S_ .f32 0x45000000#32))) (broadcastInDim S4224x1 ![] bcast_S_S4224x1 (constant S_ .f32 0x358637BD#32))

/-- The reference's weighted cotangent. -/
def refCot (d : FVec Ideal S4224x2048 .f32) (g : FVec Ideal S1x2048 .f32) : FVec Ideal S4224x2048 .f32 :=
  mulf d (broadcastInDim S4224x2048 ![0, 1] bcast_S1x2048_S4224x2048_0_1 g)

/-- The reference's factor from the differentiated mean square. -/
def refPart (d h : FVec Ideal S4224x2048 .f32) (g : FVec Ideal S1x2048 .f32) : FVec Ideal S4224x2048 .f32 :=
  broadcastInDim S4224x2048 ![0] bcast_S4224_S4224x2048_0 (Host.reduceAdd (Host.divf (mulf (shapeCast _
      (Host.reduceAdd (mulf h (refCot d g)) (constant S_ .f32 0x00000000#32) reducesTo_S4224x2048_S4224_d1 h_S_) shapeCasts_S4224_S4224x1)
    (mulf (broadcastInDim S4224x1 ![] bcast_S_S4224x1 (constant S_ .f32 0xBF000000#32)) (Host.divf (Host.rsqrt (refMean h)) (refMean h))))
    (broadcastInDim S4224x1 ![] bcast_S_S4224x1 (constant S_ .f32 0x45000000#32))) (constant S_ .f32 0x00000000#32) reducesTo_S4224x1_S4224_d1 h_S_)

/-- The reference's gradient at the norm's input. -/
def refGrad (d h : FVec Ideal S4224x2048 .f32) (g : FVec Ideal S1x2048 .f32) : FVec Ideal S4224x2048 .f32 :=
  addf (addf (mulf (refCot d g) (broadcastInDim S4224x2048 ![0, 1] bcast_S4224x1_S4224x2048_0_1 (Host.rsqrt (refMean h))))
    (mulf h (refPart d h g))) (mulf (refPart d h g) h)

/-- The reference's gradient at the gains. -/
def refGain (d h : FVec Ideal S4224x2048 .f32) : FVec Ideal S1x2048 .f32 :=
  shapeCast _ (Host.reduceAdd (mulf (mulf h (broadcastInDim S4224x2048 ![0, 1] bcast_S4224x1_S4224x2048_0_1 (Host.rsqrt (refMean h)))) d)
    (constant S_ .f32 0x00000000#32) reducesTo_S4224x2048_S2048_d0 h_S_) shapeCasts_S2048_S1x2048

theorem refMean_apply (h : FVec Ideal S4224x2048 .f32) (i : S4224x1.Idx) :
    refMean h i = (show EReal from Ideal.div (∑ k, h (ix2 (i 0) k) * h (ix2 (i 0) k)) cols + eps) := by
  idx_vars i
  pointwise [refMean]

theorem refPart_apply (d h : FVec Ideal S4224x2048 .f32) (g : FVec Ideal S1x2048 .f32) (i : S4224x2048.Idx) :
    refPart d h g i = (show EReal from meanPart (fun k => d (ix2 (i 0) k) * g (ix2 0 k)) (fun k => h (ix2 (i 0) k))) := by
  idx_vars i
  pointwise [refPart, refCot, refMean, meanPart, rinv]
  exact Fin.sum_univ_one _

theorem refGrad_apply (d h : FVec Ideal S4224x2048 .f32) (g : FVec Ideal S1x2048 .f32) (i : S4224x2048.Idx) (P : EReal) (hP : refPart d h g i = P) :
    refGrad d h g i = (show EReal from d i * g (ix2 0 (i 1)) * rinv (fun k => h (ix2 (i 0) k)) + (h i * P + P * h i)) := by
  subst hP
  generalize hR : refPart d h g = R
  unfold refGrad
  rw [hR]
  idx_vars i
  pointwise [refCot, refMean, rinv, add_assoc]

theorem refGain_apply (d h : FVec Ideal S4224x2048 .f32) (i : S1x2048.Idx) : refGain d h i = (show EReal from gainAt d h i) := by
  idx_vars i
  pointwise [refGain, refMean, gainAt, rinv, mul_comm]

end reference

open Cert.NormBwdIdeal Cert.NormBwdIdeal.Gen

variable (m : (ℓ : Loc nD τ sig) → Buf (Elt Ideal) ℓ) (ρ : Dev nD → PrngReg)

/-- The precondition makes every argument entry real. -/
theorem finite (hm : Pre_NormBwdIdeal_pre_finite (hPre_pre_finite := Cert.Pre_pre_finite.Gen.facts) m) (c : Dev nD) :
    (∀ i, IsReal ((m ((c : Thread nD τ).loc main_arg0) : FVec Ideal S4224x2048 .f32) i))
    ∧ (∀ i, IsReal ((m ((c : Thread nD τ).loc main_arg1) : FVec Ideal S4224x2048 .f32) i))
    ∧ (∀ i, IsReal ((m ((c : Thread nD τ).loc main_arg2) : FVec Ideal S4224x2048 .f32) i))
    ∧ (∀ i, IsReal ((m ((c : Thread nD τ).loc main_arg3) : FVec Ideal S1x2048 .f32) i))
    ∧ (∀ i, IsReal ((m ((c : Thread nD τ).loc main_arg4) : FVec Ideal S4224x2048 .f32) i))
    ∧ (∀ i, IsReal ((m ((c : Thread nD τ).loc main_arg5) : FVec Ideal S1x2048 .f32) i)) := by
  obtain ⟨h0, h1, h2, h3, h4, h5⟩ := hm c
  exact ⟨fun i => isReal_of_mask (congrFun h0 i), fun i => isReal_of_mask (congrFun h1 i), fun i => isReal_of_mask (congrFun h2 i),
    fun i => isReal_of_mask (congrFun h3 i), fun i => isReal_of_mask (congrFun h4 i), fun i => isReal_of_mask (congrFun h5 i)⟩

/-- On real arguments the reference's gradient is the call's. -/
theorem refGrad_eq {d h : FVec Ideal S4224x2048 .f32} {g : FVec Ideal S1x2048 .f32} (hd : ∀ i, IsReal (d i)) (hh : ∀ i, IsReal (h i))
    (hg : ∀ i, IsReal (g i)) (i : S4224x2048.Idx) : refGrad d h g i = (show EReal from gradAt d h g i) := by
  refine (refGrad_apply d h g i _ (refPart_apply d h g i)).trans ?_
  idx_vars i
  exact (normGrad_eq (fun k => (hd _).mul (hg _)) (fun k => hh _) _).symm

theorem gradAt_real {d h : FVec Ideal S4224x2048 .f32} {g : FVec Ideal S1x2048 .f32} (hd : ∀ i, IsReal (d i)) (hh : ∀ i, IsReal (h i))
    (hg : ∀ i, IsReal (g i)) (i : S4224x2048.Idx) : IsReal (gradAt d h g i) :=
  normGrad_real (fun k => (hd _).mul (hg _)) (fun k => hh _) _

/-- The four results of the backward call are the reference's. -/
theorem algebraic : Cert.algebraic_NormBwdIdeal_NormBwdRefIdeal_pre_pre_finite (hNormBwdIdeal := Cert.NormBwdIdeal.Gen.facts) (hNormBwdRefIdeal := Cert.NormBwdRefIdeal.Gen.facts) (hPre_pre_finite := Cert.Pre_pre_finite.Gen.facts) := by
  intro m g m' g' hm hagree
  refine ⟨fun c => G0 m c, fun c => G1 m c, fun c => G2 m c, fun c => G3 m c, ?_, ?_⟩
  · exact (θ_run Cert.NormBwdIdeal.defs _ _).mono (fun _ h c => ⟨(h c).1.trans (final6 m c), (h c).2.1.trans (final7 m c),
        (h c).2.2.1.trans (final8 m c), (h c).2.2.2.1.trans (final9 m c), (h c).2.2.2.2⟩)
      (Cert.NormBwdIdeal.Value.run_blocks (F := Ideal) m g)
  · have key : ∀ c : Dev nD, refGrad (m ((c : Thread nD τ).loc main_arg0)) (m ((c : Thread nD τ).loc main_arg1)) (m ((c : Thread nD τ).loc main_arg3))
        = gradAt (m ((c : Thread nD τ).loc main_arg0)) (m ((c : Thread nD τ).loc main_arg1)) (m ((c : Thread nD τ).loc main_arg3)) := fun c => by
      obtain ⟨r0, r1, r2, r3, r4, r5⟩ := finite m hm c
      funext i
      exact refGrad_eq r0 r1 r3 i
    have key2 : ∀ c : Dev nD, addf (m ((c : Thread nD τ).loc main_arg2)) (refGrad (m ((c : Thread nD τ).loc main_arg0)) (m ((c : Thread nD τ).loc main_arg1)) (m ((c : Thread nD τ).loc main_arg3)))
        = G0 m c := fun c => by rw [key c]; rfl
    refine (θ_run Cert.NormBwdRefIdeal.defs _ _).mono (fun _ h c => ⟨(h c).1.trans ?_, (h c).2.1.trans ?_, (h c).2.2.1.trans ?_, (h c).2.2.2.1.trans ?_, (h c).2.2.2.2⟩)
      (Cert.NormBwdRefIdeal.Value.run (F := Ideal) m' g')
    · obtain ⟨h0, h1, h2, h3, h4, h5⟩ := hagree c
      simp only [h0, h1, h2, h3]
      exact key2 c
    · obtain ⟨h0, h1, h2, h3, h4, h5⟩ := hagree c
      obtain ⟨r0, r1, r2, r3, r4, r5⟩ := finite m hm c
      have hr : ∀ i, IsReal (G0 m c i) := fun i => (r2 i).add (gradAt_real r0 r1 r3 i)
      unfold Cert.NormBwdRefIdeal.Value.res_main_v69
      simp only [h0, h1, h2, h3, h4, h5]
      refine Eq.trans (congrArg (fun D => truncf .bf16 (refGrad D _ _) Cert.NormBwdRefIdeal.Gen.bitsLt_bf16_f32) (key2 c)) ?_
      funext i
      exact refGrad_eq hr r4 r5 i
    · obtain ⟨h0, h1, h2, h3, h4, h5⟩ := hagree c
      simp only [h0, h1]
      funext i
      exact refGain_apply _ _ i
    · obtain ⟨h0, h1, h2, h3, h4, h5⟩ := hagree c
      unfold Cert.NormBwdRefIdeal.Value.res_main_v52
      simp only [h0, h1, h2, h3, h4, h5]
      refine Eq.trans (congrArg (fun D => refGain D _) (key2 c)) ?_
      funext i
      exact refGain_apply _ _ i

theorem frame_ref : Cert.quiescent_NormBwdRefIdeal (hNormBwdRefIdeal := Cert.NormBwdRefIdeal.Gen.facts) := fun m ρ _ =>
  (θ_run Cert.NormBwdRefIdeal.defs _ _).mono (fun r h => ⟨fun c => (h c).2.2.2.2, sem_eq_zero_of_no_sems (by decide) r.2⟩)
    (Cert.NormBwdRefIdeal.Value.run (F := Ideal) m ρ)

theorem frame_ref_pre : Cert.quiescent_NormBwdRefIdeal_pre_pre_finite (hNormBwdRefIdeal := Cert.NormBwdRefIdeal.Gen.facts) (hPre_pre_finite := Cert.Pre_pre_finite.Gen.facts) :=
  fun m ρ _ => frame_ref m ρ trivial

end Cert.Proof.NormBwd

end
-- ==== Proof.InBwd.lean ====
/-
  The gradient through the projection into the mixer's parts: the rows of the result collect four partial products, and their
  sum is the whole product that `jax.vjp` writes.
-/
module

public import proofs.«01_k».proof.Defs
public import proofs.«01_k».proof.Proof.Gen.InBwdIdeal.Value
public import proofs.«01_k».proof.Proof.Gen.InBwdRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.InBwd

open Idealize.ShloMosaic Idealize.ShloMosaic.TcCoe Idealize.SL.Sem
open Idealize.ShloMosaic.Pipeline (Dat)
open Cert.InBwdIdeal Cert.InBwdIdeal.Gen

/-- Entry `(r, q)` of the gradient: row `r` against row `q` of the weight, whose 5120 columns are kept in four groups. -/
def prod (d : FVec Ideal S4224x5120 .bf16) (w : FVec Ideal S4x2048x1280 .bf16) (i : S4224x2048.Idx) : EReal :=
  ∑ l : Fin 5120, d (ix2 (i 0) l) * w (ix3 ⟨l.val / 1280, by omega⟩ (i 1) ⟨l.val % 1280, Nat.mod_lt _ (by omega)⟩)

/-- One point's contribution: a block product. -/
theorem pay1_apply (x0 : FVec Ideal S1056x1280 .bf16) (x1 : FVec Ideal S1x2048x1280 .bf16) (j : S1056x2048.Idx) :
    k0_pay1 (F := Ideal) x0 x1 j = (show EReal from ∑ k : Fin 1280, x0 (ix2 (j 0) k) * x1 (ix3 0 (j 1) k)) := by
  pointwise [k0_pay1]

/-- A later point adds its contribution to what the buffer held. -/
theorem pay2_apply (x0 : FVec Ideal S1056x1280 .bf16) (x1 : FVec Ideal S1x2048x1280 .bf16) (a : FVec Ideal S1056x2048 .f32) (j : S1056x2048.Idx) :
    k0_pay2 x0 x1 a j = a j + k0_pay1 x0 x1 j := by
  pointwise [k0_pay2]

/-- Where the blocks sit. -/
theorem idx : ∀ t : Fin cfg0.N, win0_0.index t = ![t.val / 4, t.val % 4] ∧ win0_1.index t = ![t.val % 4, 0, 0]
    ∧ win0_2.index t = ![t.val / 4, 0] ∧ t.val < 16 :=
  (by decide +kernel : ∀ t : Fin grid0.N, _)

/-- The reference's product with the joined weight, entry by entry. -/
theorem ref_prod (hb : FTy.bits .bf16 < FTy.bits .f32) (ht : Cert.InBwdRefIdeal.S4x2048x1280.Transposes [1, 0, 2] Cert.InBwdRefIdeal.S2048x4x1280)
    (hs : Cert.InBwdRefIdeal.S2048x4x1280.ShapeCasts Cert.InBwdRefIdeal.S2048x5120)
    (d : FVec Ideal Cert.InBwdRefIdeal.S4224x5120 .bf16) (w : FVec Ideal Cert.InBwdRefIdeal.S4x2048x1280 .bf16) (i : Cert.InBwdRefIdeal.S4224x2048.Idx) :
    Host.dotGeneral Cert.InBwdRefIdeal.dot_S4224x5120_S2048x5120_S4224x2048_1_1_0_0_n_n none (extf .f32 d hb)
      (shapeCast Cert.InBwdRefIdeal.S2048x5120 (transpose Cert.InBwdRefIdeal.S2048x4x1280 [1, 0, 2] (extf .f32 w hb) ht) hs) i
    = (show EReal from prod d w i) := by
  idx_vars i
  pointwise [prod]

/-- Four partial sums are the whole sum. -/
theorem parts_sum {f : Fin 4 → Fin 1280 → EReal} {p : Fin 5120 → EReal}
    (hf : ∀ (s : Fin 4) (k : Fin 1280) (h : s.val * 1280 + k.val < 5120), f s k = p ⟨s.val * 1280 + k.val, h⟩) :
    ∑ s, ∑ k, f s k = ∑ l, p l :=
  Fin.sum_mul_add_congr hf

variable (m : (ℓ : Loc nD τ sig) → Buf (Elt Ideal) ℓ) (ρ : Dev nD → PrngReg)

/-- The result as one array over the arguments. -/
abbrev G (c : Dev nD) : FVec Ideal S4224x2048 .f32 :=
  fun i => prod (m ((c : Thread nD τ).loc main_arg0)) (m ((c : Thread nD τ).loc main_arg1)) i

/-- The result array after the run. -/
theorem final (c : Dev nD) : (dats m 0 c).arrAt 2 (cfgs 0).N = G m c := by
  refine (dats m 0 c).arrAt_eq_of_covers 2 _ (by decide +kernel) fun t hf y => ?_
  blk_simp
  rw [after0_2, Pipeline.eq_sum_fin_of_reset_step_apply_of_flush (fun n h => outsAt0 m c n h) 4 (fun _ => 0)
    (fun p j => k0_pay1 (F := Ideal) (iblk m c 0 p) (iblk m c 1 p) j)
    (fun t h j => by rw [outsAt0_A m c t h (by omega)]; frame_out; exact (zero_add _).symm)
    (fun t h j => by rw [outsAt0_B m c t h (by omega)]; frame_out; rw [pay2_apply])
    t ((flush0_2 t).mp hf) _, zero_add]
  refine Eq.trans (Fin.sum_fin_congr fun s => pay1_apply _ _ y) (parts_sum fun s k hl => ?_)
  blk_point [iblk, V, idx t, idx ⟨_, Pipeline.run_point_lt_of_flush t ((flush0_2 t).mp hf) s⟩]

/-- The result array is the reference's. -/
theorem algebraic : Cert.algebraic_InBwdIdeal_InBwdRefIdeal (hInBwdIdeal := Cert.InBwdIdeal.Gen.facts) (hInBwdRefIdeal := Cert.InBwdRefIdeal.Gen.facts) := by
  intro m ρ m' ρ' _ hagree
  refine ⟨fun c => G m c, ?_, ?_⟩
  · exact (θ_run Cert.InBwdIdeal.defs _ _).mono (fun _ h c => ⟨(h c).1.trans (final m c), (h c).2⟩)
      (Cert.InBwdIdeal.Value.run_blocks (F := Ideal) m ρ)
  · refine (θ_run Cert.InBwdRefIdeal.defs _ _).mono (fun _ h c => ⟨(h c).1.trans ?_, (h c).2⟩)
      (Cert.InBwdRefIdeal.Value.run (F := Ideal) m' ρ')
    obtain ⟨h0, h1⟩ := hagree c
    rw [h0, h1]
    funext i
    exact ref_prod _ _ _ _ _ i

theorem frame_ref : Cert.quiescent_InBwdRefIdeal (hInBwdRefIdeal := Cert.InBwdRefIdeal.Gen.facts) := fun m ρ _ =>
  (θ_run Cert.InBwdRefIdeal.defs _ _).mono (fun r h => ⟨fun c => (h c).2, sem_eq_zero_of_no_sems (by decide) r.2⟩)
    (Cert.InBwdRefIdeal.Value.run (F := Ideal) m ρ)

end Cert.Proof.InBwd

end
-- ==== Proof.InWgrad.lean ====
/-
  The gradient with respect to the weight of the projection into the mixer's parts: what the grid of block products leaves is
  the transposed product that `jax.vjp` writes, parted into the weight's four groups of columns.
-/
module

public import proofs.«01_k».proof.Defs
public import proofs.«01_k».proof.Proof.Gen.InWgradIdeal.Value
public import proofs.«01_k».proof.Proof.Gen.InWgradRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.InWgrad

open Idealize.ShloMosaic Idealize.ShloMosaic.TcCoe Idealize.SL.Sem
open Idealize.ShloMosaic.Pipeline (Dat)
open Cert.InWgradIdeal Cert.InWgradIdeal.Gen

/-- Entry `(p, r, q)` of the weight gradient: the sum over the tokens of the activation in column `r` times the cotangent in
    column `1280 p + q`. -/
def wgrad (x : FVec Ideal S4224x2048 .bf16) (y : FVec Ideal S4224x5120 .bf16) (i : S4x2048x1280.Idx) : EReal :=
  ∑ k : Fin 4224, x (ix2 k (i 1)) * y (ix2 k ⟨(i 0).val * 1280 + (i 2).val, by
    have h0 : (i 0).val < 4 := (i 0).isLt
    have h2 : (i 2).val < 1280 := (i 2).isLt
    omega⟩)

/-- The body's block product, entry by entry. -/
theorem pay_apply (x : FVec Ideal S4224x512 .bf16) (y : FVec Ideal S4224x1280 .bf16) (j : S1x512x1280.Idx) :
    k0_pay1 (F := Ideal) x y j = (show EReal from ∑ k : Fin 4224, x (ix2 k (j 1)) * y (ix2 k (j 2))) := by
  idx_vars j
  pointwise [k0_pay1]

/-- The loads read the whole blocks and the store leaves the product. -/
theorem out_eq {F : FTy → Type} [FloatOps F] (x0 : Vec F S4224x512 .bf16) (x1 : Vec F S4224x1280 .bf16) : out0_2 x0 x1 = k0_pay1 x0 x1 := by
  have h2 : (![0, 0] : Fin 2 → Nat) = fun _ => 0 := funext fun a => by fin_cases a <;> rfl
  have h3 : (![0, 0, 0] : Fin 3 → Nat) = fun _ => 0 := funext fun a => by fin_cases a <;> rfl
  unfold out0_2
  rw [View.canon_unit_zero h3, View.ld_unit_zero h2, View.ld_unit_zero h2]

/-- Where the blocks sit. -/
theorem idx : ∀ t : Fin cfg0.N, win0_0.index t = ![0, t.val % 4] ∧ win0_1.index t = ![0, t.val / 4]
    ∧ win0_2.index t = ![t.val / 4, t.val % 4, 0] ∧ t.val < 16 :=
  (by decide +kernel : ∀ t : Fin grid0.N, _)

variable (m : (ℓ : Loc nD τ sig) → Buf (Elt Ideal) ℓ) (ρ : Dev nD → PrngReg)

/-- The result as one array over the arguments. -/
abbrev G (c : Dev nD) : FVec Ideal S4x2048x1280 .bf16 :=
  fun i => wgrad (m ((c : Thread nD τ).loc main_arg0)) (m ((c : Thread nD τ).loc main_arg1)) i

/-- The result array after the run. -/
theorem final (c : Dev nD) : (dats m 0 c).arrAt 2 (cfgs 0).N = G m c := by
  refine (dats m 0 c).arrAt_eq_of_covers 2 _ (by decide +kernel) fun t hf y => ?_
  blk_simp
  rw [after0_2, out_eq]
  refine (pay_apply _ _ y).trans ?_
  dsimp only [G, wgrad]
  blk_point [iblk, V, idx t]

/-- The result array is the reference's. -/
theorem algebraic : Cert.algebraic_InWgradIdeal_InWgradRefIdeal (hInWgradIdeal := Cert.InWgradIdeal.Gen.facts) (hInWgradRefIdeal := Cert.InWgradRefIdeal.Gen.facts) := by
  intro m ρ m' ρ' _ hagree
  refine ⟨fun c => G m c, ?_, ?_⟩
  · exact (θ_run Cert.InWgradIdeal.defs _ _).mono (fun _ h c => ⟨(h c).1.trans (final m c), (h c).2⟩)
      (Cert.InWgradIdeal.Value.run_blocks (F := Ideal) m ρ)
  · refine (θ_run Cert.InWgradRefIdeal.defs _ _).mono (fun _ h c => ⟨(h c).1.trans ?_, (h c).2⟩)
      (Cert.InWgradRefIdeal.Value.run (F := Ideal) m' ρ')
    obtain ⟨h0, h1⟩ := hagree c
    rw [h0, h1]
    funext i
    idx_vars i
    pointwise [G, wgrad]
    exact Finset.sum_congr rfl fun k _ => mul_comm _ _

theorem frame_ref : Cert.quiescent_InWgradRefIdeal (hInWgradRefIdeal := Cert.InWgradRefIdeal.Gen.facts) := fun m ρ _ =>
  (θ_run Cert.InWgradRefIdeal.defs _ _).mono (fun r h => ⟨fun c => (h c).2, sem_eq_zero_of_no_sems (by decide) r.2⟩)
    (Cert.InWgradRefIdeal.Value.run (F := Ideal) m ρ)

end Cert.Proof.InWgrad

end
-- ==== Proof.OutBwd.lean ====
/-
  The gradient through the projection out of the mixer: every column block of the result is one block product with the rows of
  one group of the weight, and the array they leave is the product that `jax.vjp` writes.
-/
module

public import proofs.«01_k».proof.Defs
public import proofs.«01_k».proof.Proof.Gen.OutBwdIdeal.Value
public import proofs.«01_k».proof.Proof.Gen.OutBwdRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.OutBwd

open Idealize.ShloMosaic Idealize.ShloMosaic.TcCoe Idealize.SL.Sem
open Idealize.ShloMosaic.Pipeline (Dat)
open Cert.OutBwdIdeal Cert.OutBwdIdeal.Gen

/-- Entry `(r, q)` of the product: row `r` against row `q` of the weight, whose 2048 rows are kept in four groups. -/
def prod (d : FVec Ideal S4224x2048 .bf16) (w : FVec Ideal S4x512x2048 .bf16) (i : S4224x2048.Idx) : EReal :=
  ∑ k : Fin 2048, d (ix2 (i 0) k) * w (ix3 ⟨(i 1).val / 512, by have h : (i 1).val < 2048 := (i 1).isLt; omega⟩
    ⟨(i 1).val % 512, Nat.mod_lt _ (by omega)⟩ k)

/-- The body's block product, entry by entry. -/
theorem pay_apply (x : FVec Ideal S1056x2048 .bf16) (y : FVec Ideal S1x512x2048 .bf16) (j : S1056x512.Idx) :
    k0_pay1 (F := Ideal) x y j = (show EReal from ∑ k : Fin 2048, x (ix2 (j 0) k) * y (ix3 0 (j 1) k)) := by
  pointwise [k0_pay1]

/-- The loads read the whole blocks and the store leaves the product. -/
theorem out_eq {F : FTy → Type} [FloatOps F] (x0 : Vec F S1056x2048 .bf16) (x1 : Vec F S1x512x2048 .bf16) : out0_2 x0 x1 = k0_pay1 x0 x1 := by
  have h2 : (![0, 0] : Fin 2 → Nat) = fun _ => 0 := funext fun a => by fin_cases a <;> rfl
  have h3 : (![0, 0, 0] : Fin 3 → Nat) = fun _ => 0 := funext fun a => by fin_cases a <;> rfl
  unfold out0_2
  rw [View.canon_unit_zero h2, View.ld_unit_zero h2, View.ld_unit_zero h3]

/-- Where the blocks sit. -/
theorem idx : ∀ t : Fin cfg0.N, win0_0.index t = ![t.val % 4, 0] ∧ win0_1.index t = ![t.val / 4, 0, 0]
    ∧ win0_2.index t = ![t.val % 4, t.val / 4] ∧ t.val < 16 :=
  (by decide +kernel : ∀ t : Fin grid0.N, _)

/-- The reference's product with the joined weight, entry by entry. -/
theorem ref_prod (hb : FTy.bits .bf16 < FTy.bits .f32) (hs : Cert.OutBwdRefIdeal.S4x512x2048.ShapeCasts Cert.OutBwdRefIdeal.S2048x2048)
    (d : FVec Ideal Cert.OutBwdRefIdeal.S4224x2048 .bf16) (w : FVec Ideal Cert.OutBwdRefIdeal.S4x512x2048 .bf16) (i : Cert.OutBwdRefIdeal.S4224x2048.Idx) :
    Host.dotGeneral Cert.OutBwdRefIdeal.dot_S4224x2048_S2048x2048_S4224x2048_1_1_0_0_n_n none (extf .f32 d hb)
      (shapeCast Cert.OutBwdRefIdeal.S2048x2048 (extf .f32 w hb) hs) i
    = (show EReal from prod d w i) := by
  idx_vars i
  pointwise [prod]

variable (m : (ℓ : Loc nD τ sig) → Buf (Elt Ideal) ℓ) (ρ : Dev nD → PrngReg)

/-- The result as one array over the arguments. -/
abbrev G (c : Dev nD) : FVec Ideal S4224x2048 .f32 :=
  fun i => prod (m ((c : Thread nD τ).loc main_arg0)) (m ((c : Thread nD τ).loc main_arg1)) i

/-- The result array after the run. -/
theorem final (c : Dev nD) : (dats m 0 c).arrAt 2 (cfgs 0).N = G m c := by
  refine (dats m 0 c).arrAt_eq_of_covers 2 _ (by decide +kernel) fun t hf y => ?_
  blk_simp
  rw [after0_2, out_eq]
  refine (pay_apply _ _ y).trans ?_
  dsimp only [G, prod]
  blk_point [iblk, V, idx t]

/-- The result array is the reference's. -/
theorem algebraic : Cert.algebraic_OutBwdIdeal_OutBwdRefIdeal (hOutBwdIdeal := Cert.OutBwdIdeal.Gen.facts) (hOutBwdRefIdeal := Cert.OutBwdRefIdeal.Gen.facts) := by
  intro m ρ m' ρ' _ hagree
  refine ⟨fun c => G m c, ?_, ?_⟩
  · exact (θ_run Cert.OutBwdIdeal.defs _ _).mono (fun _ h c => ⟨(h c).1.trans (final m c), (h c).2⟩)
      (Cert.OutBwdIdeal.Value.run_blocks (F := Ideal) m ρ)
  · refine (θ_run Cert.OutBwdRefIdeal.defs _ _).mono (fun _ h c => ⟨(h c).1.trans ?_, (h c).2⟩)
      (Cert.OutBwdRefIdeal.Value.run (F := Ideal) m' ρ')
    obtain ⟨h0, h1⟩ := hagree c
    rw [h0, h1]
    funext i
    exact ref_prod _ _ _ _ i

theorem frame_ref : Cert.quiescent_OutBwdRefIdeal (hOutBwdRefIdeal := Cert.OutBwdRefIdeal.Gen.facts) := fun m ρ _ =>
  (θ_run Cert.OutBwdRefIdeal.defs _ _).mono (fun r h => ⟨fun c => (h c).2, sem_eq_zero_of_no_sems (by decide) r.2⟩)
    (Cert.OutBwdRefIdeal.Value.run (F := Ideal) m ρ)

end Cert.Proof.OutBwd

end
-- ==== Proof.OutWgrad.lean ====
/-
  The gradient with respect to the weight of the projection out of the mixer: what the grid of block products leaves is the
  transposed product that `jax.vjp` writes, parted into the weight's four groups of rows.
-/
module

public import proofs.«01_k».proof.Defs
public import proofs.«01_k».proof.Proof.Gen.OutWgradIdeal.Value
public import proofs.«01_k».proof.Proof.Gen.OutWgradRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.OutWgrad

open Idealize.ShloMosaic Idealize.ShloMosaic.TcCoe Idealize.SL.Sem
open Idealize.ShloMosaic.Pipeline (Dat)
open Cert.OutWgradIdeal Cert.OutWgradIdeal.Gen

/-- Entry `(p, r, q)` of the weight gradient: the sum over the tokens of the activation in column `512 p + r` times the
    cotangent in column `q`. -/
def wgrad (x : FVec Ideal S4224x2048 .bf16) (y : FVec Ideal S4224x2048 .bf16) (i : S4x512x2048.Idx) : EReal :=
  ∑ k : Fin 4224, x (ix2 k ⟨(i 0).val * 512 + (i 1).val, by
    have h0 : (i 0).val < 4 := (i 0).isLt
    have h1 : (i 1).val < 512 := (i 1).isLt
    omega⟩) * y (ix2 k (i 2))

/-- The body's block product, entry by entry. -/
theorem pay_apply (x : FVec Ideal S4224x512 .bf16) (y : FVec Ideal S4224x512 .bf16) (j : S1x512x512.Idx) :
    k0_pay1 (F := Ideal) x y j = (show EReal from ∑ k : Fin 4224, x (ix2 k (j 1)) * y (ix2 k (j 2))) := by
  idx_vars j
  pointwise [k0_pay1]

/-- The loads read the whole blocks and the store leaves the product. -/
theorem out_eq {F : FTy → Type} [FloatOps F] (x0 : Vec F S4224x512 .bf16) (x1 : Vec F S4224x512 .bf16) : out0_2 x0 x1 = k0_pay1 x0 x1 := by
  have h2 : (![0, 0] : Fin 2 → Nat) = fun _ => 0 := funext fun a => by fin_cases a <;> rfl
  have h3 : (![0, 0, 0] : Fin 3 → Nat) = fun _ => 0 := funext fun a => by fin_cases a <;> rfl
  unfold out0_2
  rw [View.canon_unit_zero h3, View.ld_unit_zero h2, View.ld_unit_zero h2]

/-- Where the blocks sit. -/
theorem idx : ∀ t : Fin cfg0.N, win0_0.index t = ![0, t.val / 4] ∧ win0_1.index t = ![0, t.val % 4]
    ∧ win0_2.index t = ![t.val / 4, 0, t.val % 4] ∧ t.val < 16 :=
  (by decide +kernel : ∀ t : Fin grid0.N, _)

variable (m : (ℓ : Loc nD τ sig) → Buf (Elt Ideal) ℓ) (ρ : Dev nD → PrngReg)

/-- The result as one array over the arguments. -/
abbrev G (c : Dev nD) : FVec Ideal S4x512x2048 .bf16 :=
  fun i => wgrad (m ((c : Thread nD τ).loc main_arg0)) (m ((c : Thread nD τ).loc main_arg1)) i

/-- The result array after the run. -/
theorem final (c : Dev nD) : (dats m 0 c).arrAt 2 (cfgs 0).N = G m c := by
  refine (dats m 0 c).arrAt_eq_of_covers 2 _ (by decide +kernel) fun t hf y => ?_
  blk_simp
  rw [after0_2, out_eq]
  refine (pay_apply _ _ y).trans ?_
  dsimp only [G, wgrad]
  blk_point [iblk, V, idx t]

/-- The result array is the reference's. -/
theorem algebraic : Cert.algebraic_OutWgradIdeal_OutWgradRefIdeal (hOutWgradIdeal := Cert.OutWgradIdeal.Gen.facts) (hOutWgradRefIdeal := Cert.OutWgradRefIdeal.Gen.facts) := by
  intro m ρ m' ρ' _ hagree
  refine ⟨fun c => G m c, ?_, ?_⟩
  · exact (θ_run Cert.OutWgradIdeal.defs _ _).mono (fun _ h c => ⟨(h c).1.trans (final m c), (h c).2⟩)
      (Cert.OutWgradIdeal.Value.run_blocks (F := Ideal) m ρ)
  · refine (θ_run Cert.OutWgradRefIdeal.defs _ _).mono (fun _ h c => ⟨(h c).1.trans ?_, (h c).2⟩)
      (Cert.OutWgradRefIdeal.Value.run (F := Ideal) m' ρ')
    obtain ⟨h0, h1⟩ := hagree c
    rw [h0, h1]
    funext i
    idx_vars i
    pointwise [G, wgrad]
    exact Finset.sum_congr rfl fun k _ => mul_comm _ _

theorem frame_ref : Cert.quiescent_OutWgradRefIdeal (hOutWgradRefIdeal := Cert.OutWgradRefIdeal.Gen.facts) := fun m ρ _ =>
  (θ_run Cert.OutWgradRefIdeal.defs _ _).mono (fun r h => ⟨fun c => (h c).2, sem_eq_zero_of_no_sems (by decide) r.2⟩)
    (Cert.OutWgradRefIdeal.Value.run (F := Ideal) m ρ)

end Cert.Proof.OutWgrad

end
-- ==== Proof.FfnUp.lean ====
/-
  The gated unit's forward call: the two up projections and the gated product, as arrays over the arguments.
-/
module

public import proofs.«01_k».proof.Defs
public import proofs.«01_k».proof.Proof.Gen.FfnUpIdeal.Value
public import Idealize.ShloMosaic.Lib.Pipeline.ValueKit

@[expose] public section

set_option maxRecDepth 16384

noncomputable section

namespace Cert.Proof.FfnUp

open Idealize.ShloMosaic Idealize.ShloMosaic.TcCoe Idealize.SL.Sem
open Idealize.ShloMosaic.Pipeline (Dat)
open Cert.FfnUpIdeal Cert.FfnUpIdeal.Gen

/-- Entry `(r, q)` of an up projection: row `r` of the input against row `q` of the weight, whose rows are kept in four
    groups of 1408. -/
def up (n : FVec Ideal S4224x2048 .bf16) (w : FVec Ideal S4x1408x2048 .bf16) (i : S4224x5632.Idx) : EReal :=
  ∑ k : Fin 2048, n (ix2 (i 0) k) * w (ix3 ⟨(i 1).val / 1408, by have h : (i 1).val < 5632 := (i 1).isLt; omega⟩
    ⟨(i 1).val % 1408, Nat.mod_lt _ (by omega)⟩ k)

/-- The constant one half, as the body writes it. -/
abbrev half : EReal := Ideal.ofBits .f32 0x3F000000#32

/-- What the body leaves for the gated product at one entry: `a` the gate's input, `b` the other factor, the sigmoid taken
    through the hyperbolic tangent. -/
def gated (a b : EReal) : EReal := a * (half * Ideal.tanh (half * a) + half) * b

/-- Where the blocks sit. -/
theorem idx : ∀ t : Fin cfg0.N, win0_0.index t = ![t.val % 6, 0] ∧ win0_1.index t = ![t.val / 6, 0, 0]
    ∧ win0_2.index t = ![t.val / 6, 0, 0] ∧ win0_3.index t = ![t.val % 6, t.val / 6]
    ∧ win0_4.index t = ![t.val % 6, t.val / 6] ∧ win0_5.index t = ![t.val % 6, t.val / 6] ∧ t.val < 24 :=
  (by decide +kernel : ∀ t : Fin grid0.N, _)

variable (m : (ℓ : Loc nD τ sig) → Buf (Elt Ideal) ℓ) (ρ : Dev nD → PrngReg)

/-- The gate's input as one array over the arguments. -/
abbrev GA (c : Dev nD) : FVec Ideal S4224x5632 .bf16 := fun i =>
  up (m ((c : Thread nD τ).loc main_arg0)) (m ((c : Thread nD τ).loc main_arg1)) i

/-- The other factor as one array over the arguments. -/
abbrev GB (c : Dev nD) : FVec Ideal S4224x5632 .bf16 := fun i =>
  up (m ((c : Thread nD τ).loc main_arg0)) (m ((c : Thread nD τ).loc main_arg2)) i

/-- The gated product as one array over the arguments. -/
abbrev GS (c : Dev nD) : FVec Ideal S4224x5632 .bf16 := fun i =>
  gated (up (m ((c : Thread nD τ).loc main_arg0)) (m ((c : Thread nD τ).loc main_arg1)) i)
    (up (m ((c : Thread nD τ).loc main_arg0)) (m ((c : Thread nD τ).loc main_arg2)) i)

end Cert.Proof.FfnUp

end
-- ==== Proof.FfnUpParts.lean ====
/-
  The gated unit's forward call: the six column blocks of the two up projections that each grid point stores.
-/
module

public import proofs.«01_k».proof.Proof.FfnUp

@[expose] public section

set_option maxRecDepth 16384

noncomputable section

namespace Cert.Proof.FfnUp

open Idealize.ShloMosaic Idealize.ShloMosaic.TcCoe Idealize.SL.Sem
open Idealize.ShloMosaic.Pipeline (Dat)
open Cert.FfnUpIdeal Cert.FfnUpIdeal.Gen

variable (m : (ℓ : Loc nD τ sig) → Buf (Elt Ideal) ℓ) (ρ : Dev nD → PrngReg)

/-- The first result array after the run. -/
theorem finalA (c : Dev nD) : (dats m 0 c).arrAt 3 (cfgs 0).N = GA m c := by
  refine (dats m 0 c).arrAt_eq_of_covers 3 _ (by decide +kernel) fun t hf y => ?_
  blk_simp
  rw [after0_3]
  unfold outsAt0
  frame_out
  canon_tiles x h using View.cover_of_tiledBy _ ![704, 128] (by sl_kernel_rfl) y
  all_goals
    open_payloads
    pointwise [GA, up]
    blk_point [iblk, V, idx t]

/-- The second result array after the run. -/
theorem finalB (c : Dev nD) : (dats m 0 c).arrAt 4 (cfgs 0).N = GB m c := by
  refine (dats m 0 c).arrAt_eq_of_covers 4 _ (by decide +kernel) fun t hf y => ?_
  blk_simp
  rw [after0_4]
  unfold outsAt0
  frame_out
  canon_tiles x h using View.cover_of_tiledBy _ ![704, 128] (by sl_kernel_rfl) y
  all_goals
    open_payloads
    pointwise [GB, up]
    blk_point [iblk, V, idx t]

end Cert.Proof.FfnUp

end
-- ==== Proof.FfnUpGated.lean ====
/-
  The gated unit's forward call: the six column blocks of the gated product that each grid point stores.
-/
module

public import proofs.«01_k».proof.Proof.FfnUp

@[expose] public section

set_option maxRecDepth 16384

noncomputable section

namespace Cert.Proof.FfnUp

open Idealize.ShloMosaic Idealize.ShloMosaic.TcCoe Idealize.SL.Sem
open Idealize.ShloMosaic.Pipeline (Dat)
open Cert.FfnUpIdeal Cert.FfnUpIdeal.Gen

variable (m : (ℓ : Loc nD τ sig) → Buf (Elt Ideal) ℓ) (ρ : Dev nD → PrngReg)

/-- The third result array after the run. -/
theorem finalS (c : Dev nD) : (dats m 0 c).arrAt 5 (cfgs 0).N = GS m c := by
  refine (dats m 0 c).arrAt_eq_of_covers 5 _ (by decide +kernel) fun t hf y => ?_
  blk_simp
  rw [after0_5]
  unfold outsAt0
  frame_out
  canon_tiles x h using View.cover_of_tiledBy _ ![704, 128] (by sl_kernel_rfl) y
  all_goals
    open_payloads
    pointwise [GS, gated, up, half]
    blk_point [iblk, V, idx t]

end Cert.Proof.FfnUp

end
-- ==== Proof.FfnUpClaim.lean ====
/-
  The gated unit's forward call against the plain unit: the projections agree as they stand, the gated product where the
  arguments are finite.
-/
module

public import proofs.«01_k».proof.Proof.FfnUpParts
public import proofs.«01_k».proof.Proof.FfnUpGated
public import proofs.«01_k».proof.Proof.Reals
public import proofs.«01_k».proof.Proof.Gen.FfnUpRefIdeal.Run
public import proofs.«01_k».proof.Proof.Gen.Pre_ffn_up_finite
public import Idealize.ShloMosaic.Lib.Pointwise
public import Idealize.ShloMosaic.Lib.Quiescent

@[expose] public section

set_option maxRecDepth 16384

noncomputable section

namespace Cert.Proof.FfnUp

open Idealize.ShloMosaic Idealize.ShloMosaic.TcCoe Idealize.SL.Sem
open Idealize.ShloMosaic.Pipeline (Dat)
open Cert.FfnUpIdeal Cert.FfnUpIdeal.Gen

variable (m : (ℓ : Loc nD τ sig) → Buf (Elt Ideal) ℓ) (ρ : Dev nD → PrngReg)

/-- The two ways of writing the gated product agree on real numbers. -/
theorem gated_eq {a b : EReal} (ha : IsReal a) : gated a b = a * Ideal.div 1 (1 + Ideal.exp (-a)) * b := by
  obtain ⟨a, rfl⟩ := ha
  unfold gated half
  rw [sigmoid_eq, div_exp_eq]

/-- The projection of finite arguments is real. -/
theorem up_real {n : FVec Ideal S4224x2048 .bf16} {w : FVec Ideal S4x1408x2048 .bf16} (hn : ∀ i, IsReal (n i)) (hw : ∀ i, IsReal (w i))
    (i : S4224x5632.Idx) : IsReal (up n w i) :=
  IsReal.sum _ fun k _ => (hn _).mul (hw _)

/-- The precondition makes every entry of the input and of the gate's weight real. -/
theorem finite (hm : Pre_FfnUpIdeal_ffn_up_finite (hPre_ffn_up_finite := Cert.Pre_ffn_up_finite.Gen.facts) m) (c : Dev nD) :
    (∀ i, IsReal ((m ((c : Thread nD τ).loc main_arg0) : FVec Ideal S4224x2048 .bf16) i))
    ∧ (∀ i, IsReal ((m ((c : Thread nD τ).loc main_arg1) : FVec Ideal S4x1408x2048 .bf16) i)) := by
  obtain ⟨h0, h1, -⟩ := hm c
  refine ⟨fun i => ?_, fun i => ?_⟩
  · exact isReal_of_mask (congrFun h0 i)
  · exact isReal_of_mask (congrFun h1 i)

section reference

variable (hb : FTy.bits .bf16 < FTy.bits .f32) (hs : S4x1408x2048.ShapeCasts Cert.FfnUpRefIdeal.S5632x2048)
  (ht : Cert.FfnUpRefIdeal.S5632x2048.Transposes [1, 0] Cert.FfnUpRefIdeal.S2048x5632)
  (hc : Cert.FfnUpRefIdeal.S_.BroadcastsInDim S4224x5632 (![] : Fin 0 → Fin S4224x5632.rank))
  (n : FVec Ideal S4224x2048 .bf16) (w : FVec Ideal S4x1408x2048 .bf16) (A B : FVec Ideal S4224x5632 .f32)

/-- The reference's product with the joined weight, entry by entry. -/
theorem ref_up (i : S4224x5632.Idx) :
    Host.dotGeneral Cert.FfnUpRefIdeal.dot_S4224x2048_S2048x5632_S4224x5632_1_0_0_1_n_n none (extf .f32 n hb)
      (transpose Cert.FfnUpRefIdeal.S2048x5632 [1, 0] (extf .f32 (shapeCast Cert.FfnUpRefIdeal.S5632x2048 w hs) hb) ht) i
    = (show EReal from up n w i) := by
  idx_vars i
  pointwise [up]

/-- The reference's gated product, entry by entry. -/
theorem ref_gated (i : S4224x5632.Idx) (a b : EReal) (hA : A i = a) (hB : B i = b) :
    truncf .bf16 (mulf (mulf A (Host.divf (broadcastInDim S4224x5632 ![] hc (constant Cert.FfnUpRefIdeal.S_ .f32 0x3F800000#32))
      (addf (broadcastInDim S4224x5632 ![] hc (constant Cert.FfnUpRefIdeal.S_ .f32 0x3F800000#32)) (Host.exp (Host.negf A))))) B) hb i
    = (show EReal from a * Ideal.div 1 (1 + Ideal.exp (-a)) * b) := by
  subst hA hB
  pointwise

end reference

/-- The three results of the forward call are the reference's. -/
theorem algebraic : Cert.algebraic_FfnUpIdeal_FfnUpRefIdeal_pre_ffn_up_finite (hFfnUpIdeal := Cert.FfnUpIdeal.Gen.facts) (hFfnUpRefIdeal := Cert.FfnUpRefIdeal.Gen.facts) (hPre_ffn_up_finite := Cert.Pre_ffn_up_finite.Gen.facts) := by
  intro m g m' g' hm hagree
  refine ⟨fun c => GA m c, fun c => GB m c, fun c => GS m c, ?_, ?_⟩
  · exact (θ_run Cert.FfnUpIdeal.defs _ _).mono (fun _ h c => ⟨(h c).1.trans (finalA m c), (h c).2.1.trans (finalB m c), (h c).2.2.1.trans (finalS m c), (h c).2.2.2⟩)
      (Cert.FfnUpIdeal.Value.run_blocks (F := Ideal) m g)
  · refine (θ_run Cert.FfnUpRefIdeal.defs _ _).mono (fun _ h c => ⟨(h c).1.trans ?_, (h c).2.1.trans ?_, (h c).2.2.1.trans ?_, (h c).2.2.2⟩)
      (Cert.FfnUpRefIdeal.Value.run (F := Ideal) m' g')
    all_goals
      obtain ⟨h0, h1, h2⟩ := hagree c
      obtain ⟨r0, r1⟩ := finite m hm c
      simp only [h0, h1, h2]
    · show _ = GA m c
      funext i
      exact ref_up _ _ _ _ _ i
    · show _ = GB m c
      funext i
      exact ref_up _ _ _ _ _ i
    · show _ = GS m c
      funext i
      refine Eq.trans ?_ (gated_eq (up_real r0 r1 i)).symm
      exact ref_gated _ Cert.FfnUpRefIdeal.Gen.bcast_S_S4224x5632 _ _ i _ _ (ref_up _ _ _ _ _ i) (ref_up _ _ _ _ _ i)

theorem frame_ref : Cert.quiescent_FfnUpRefIdeal (hFfnUpRefIdeal := Cert.FfnUpRefIdeal.Gen.facts) := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

theorem frame_ref_pre : Cert.quiescent_FfnUpRefIdeal_pre_ffn_up_finite (hFfnUpRefIdeal := Cert.FfnUpRefIdeal.Gen.facts) (hPre_ffn_up_finite := Cert.Pre_ffn_up_finite.Gen.facts) :=
  fun m ρ _ => frame_ref m ρ trivial

end Cert.Proof.FfnUp

end
-- ==== Proof.FfnDown.lean ====
/-
  The feed-forward unit's down projection, on the joined weight that the host hands over: what the grid of column blocks leaves
  is the plain product.
-/
module

public import proofs.«01_k».proof.Defs
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.FfnDown

open Idealize.ShloMosaic Idealize.ShloMosaic.TcCoe Idealize.SL.Sem
open Idealize.ShloMosaic.Pipeline (Dat)
open Cert.FfnDownIdeal Cert.FfnDownIdeal.Gen

/-- Entry `(r, q)` of the product: row `r` against column `q` of the weight, whose 5632 rows are kept in four groups. -/
def prod (s : FVec Ideal S4224x5632 .bf16) (w : FVec Ideal S4x1408x2048 .bf16) (i : S4224x2048.Idx) : EReal :=
  ∑ l : Fin 5632, s (ix2 (i 0) l) * w (ix3 ⟨l.val / 1408, by omega⟩ ⟨l.val % 1408, Nat.mod_lt _ (by omega)⟩ (i 1))

/-- The body's block product, entry by entry. -/
theorem pay_apply (x : FVec Ideal S1056x5632 .bf16) (y : FVec Ideal S5632x512 .bf16) (j : S1056x512.Idx) :
    k0_pay1 (F := Ideal) x y j = (show EReal from ∑ k : Fin 5632, x (ix2 (j 0) k) * y (ix2 k (j 1))) := by
  pointwise [k0_pay1]

/-- The loads read the whole blocks and the store leaves the product. -/
theorem out_eq {F : FTy → Type} [FloatOps F] (x0 : Vec F S1056x5632 .bf16) (x1 : Vec F S5632x512 .bf16) : out0_2 x0 x1 = k0_pay1 x0 x1 := by
  have h2 : (![0, 0] : Fin 2 → Nat) = fun _ => 0 := funext fun a => by fin_cases a <;> rfl
  unfold out0_2
  rw [View.canon_unit_zero h2, View.ld_unit_zero h2, View.ld_unit_zero h2]

/-- Where the blocks sit. -/
theorem idx : ∀ t : Fin cfg0.N, win0_0.index t = ![t.val % 4, 0] ∧ win0_1.index t = ![0, t.val / 4]
    ∧ win0_2.index t = ![t.val % 4, t.val / 4] ∧ t.val < 16 :=
  (by decide +kernel : ∀ t : Fin grid0.N, _)

/-- The joined weight, entry by entry. -/
theorem joined_apply (w : FVec Ideal S4x1408x2048 .bf16) (h : S4x1408x2048.ShapeCasts S5632x2048) (i : S5632x2048.Idx) :
    shapeCast S5632x2048 w h i = w (ix3 ⟨(i 0).val / 1408, by have h : (i 0).val < 5632 := (i 0).isLt; omega⟩ ⟨(i 0).val % 1408, Nat.mod_lt _ (by omega)⟩ (i 1)) := by
  idx_vars i
  pointwise

/-- The reference's product with the joined weight, entry by entry. -/
theorem ref_prod (hb : FTy.bits .bf16 < FTy.bits .f32) (hs : Cert.FfnDownRefIdeal.S4x1408x2048.ShapeCasts Cert.FfnDownRefIdeal.S5632x2048)
    (s : FVec Ideal Cert.FfnDownRefIdeal.S4224x5632 .bf16) (w : FVec Ideal Cert.FfnDownRefIdeal.S4x1408x2048 .bf16) (i : Cert.FfnDownRefIdeal.S4224x2048.Idx) :
    Host.dotGeneral Cert.FfnDownRefIdeal.dot_S4224x5632_S5632x2048_S4224x2048_1_0_0_1_n_n none (extf .f32 s hb)
      (extf .f32 (shapeCast Cert.FfnDownRefIdeal.S5632x2048 w hs) hb) i = (show EReal from prod s w i) := by
  idx_vars i
  pointwise [prod]

variable (m : (ℓ : Loc nD τ sig) → Buf (Elt Ideal) ℓ) (ρ : Dev nD → PrngReg)

/-- The result as one array over the arguments. -/
abbrev G (c : Dev nD) : FVec Ideal S4224x2048 .f32 :=
  fun i => prod (m ((c : Thread nD τ).loc main_arg0)) (m ((c : Thread nD τ).loc main_arg1)) i

/-- The joined weight as the grid finds it. -/
theorem V_joined (c : Dev nD) : V m c main_v0 = shapeCast S5632x2048 (m ((c : Thread nD τ).loc main_arg1)) shapeCasts_S4x1408x2048_S5632x2048 := rfl

/-- The result array after the run. -/
theorem final (c : Dev nD) : (dats m 0 c).arrAt 2 (cfgs 0).N = G m c := by
  refine (dats m 0 c).arrAt_eq_of_covers 2 _ (by decide +kernel) fun t hf y => ?_
  blk_simp
  rw [after0_2, out_eq]
  refine (pay_apply _ _ y).trans ?_
  dsimp only [G, prod]
  blk_point [iblk, V_joined, V_main_arg0, joined_apply, idx t]

/-- The result array is the reference's. -/
theorem algebraic : Cert.algebraic_FfnDownIdeal_FfnDownRefIdeal (hFfnDownIdeal := Cert.FfnDownIdeal.Gen.facts) (hFfnDownRefIdeal := Cert.FfnDownRefIdeal.Gen.facts) := by
  intro m ρ m' ρ' _ hagree
  refine ⟨fun c => G m c, ?_, ?_⟩
  · exact (θ_run Cert.FfnDownIdeal.defs _ _).mono (fun _ h c => ⟨(h c).1.trans (final m c), (h c).2⟩)
      (Cert.FfnDownIdeal.Value.run_blocks (F := Ideal) m ρ)
  · refine (θ_run Cert.FfnDownRefIdeal.defs _ _).mono (fun _ h c => ⟨(h c).1.trans ?_, (h c).2⟩)
      (Cert.FfnDownRefIdeal.Value.run (F := Ideal) m' ρ')
    obtain ⟨h0, h1⟩ := hagree c
    rw [h0, h1]
    funext i
    exact ref_prod _ _ _ _ i

theorem frame_ref : Cert.quiescent_FfnDownRefIdeal (hFfnDownRefIdeal := Cert.FfnDownRefIdeal.Gen.facts) := fun m ρ _ =>
  (θ_run Cert.FfnDownRefIdeal.defs _ _).mono (fun r h => ⟨fun c => (h c).2, sem_eq_zero_of_no_sems (by decide) r.2⟩)
    (Cert.FfnDownRefIdeal.Value.run (F := Ideal) m ρ)

end Cert.Proof.FfnDown

end
-- ==== Proof.InProj.lean ====
/-
  The projection into the mixer's parts: every column block of the result is one block product, and the array they leave is
  the plain product with the joined weight.
-/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.InProj

open Idealize.ShloMosaic Idealize.ShloMosaic.TcCoe Idealize.SL.Sem
open Idealize.ShloMosaic.Pipeline (Dat)
open Cert.InProjIdeal Cert.InProjIdeal.Gen

/-- Entry `(r, q)` of the product: row `r` against column `q` of the weight, whose 5120 columns are kept in four groups. -/
def prod (u : FVec Ideal S4224x2048 .bf16) (w : FVec Ideal S4x2048x1280 .bf16) (i : S4224x5120.Idx) : EReal :=
  ∑ k : Fin 2048, u (ix2 (i 0) k) * w (ix3 ⟨(i 1).val / 1280, by have h : (i 1).val < 5120 := (i 1).isLt; omega⟩ k
    ⟨(i 1).val % 1280, Nat.mod_lt _ (by omega)⟩)

/-- The body's block product, entry by entry. -/
theorem pay_apply (x : FVec Ideal S1056x2048 .bf16) (y : FVec Ideal S1x2048x1280 .bf16) (j : S1056x1280.Idx) :
    k0_pay1 (F := Ideal) x y j = (show EReal from ∑ k : Fin 2048, x (ix2 (j 0) k) * y (ix3 0 k (j 1))) := by
  pointwise [k0_pay1]

/-- The loads read the whole blocks and the store leaves the product. -/
theorem out_eq {F : FTy → Type} [FloatOps F] (x0 : Vec F S1056x2048 .bf16) (x1 : Vec F S1x2048x1280 .bf16) : out0_2 x0 x1 = k0_pay1 x0 x1 := by
  have h2 : (![0, 0] : Fin 2 → Nat) = fun _ => 0 := funext fun a => by fin_cases a <;> rfl
  have h3 : (![0, 0, 0] : Fin 3 → Nat) = fun _ => 0 := funext fun a => by fin_cases a <;> rfl
  unfold out0_2
  rw [View.canon_unit_zero h2, View.ld_unit_zero h2, View.ld_unit_zero h3]

/-- Where the blocks sit. -/
theorem idx : ∀ t : Fin cfg0.N, win0_0.index t = ![t.val % 4, 0] ∧ win0_1.index t = ![t.val / 4, 0, 0]
    ∧ win0_2.index t = ![t.val % 4, t.val / 4] ∧ t.val < 16 :=
  (by decide +kernel : ∀ t : Fin grid0.N, _)

/-- The reference's product with the joined weight, entry by entry. -/
theorem ref_prod (hb : FTy.bits .bf16 < FTy.bits .f32) (ht : Cert.InProjRefIdeal.S4x2048x1280.Transposes [1, 0, 2] Cert.InProjRefIdeal.S2048x4x1280)
    (hs : Cert.InProjRefIdeal.S2048x4x1280.ShapeCasts Cert.InProjRefIdeal.S2048x5120)
    (u : FVec Ideal Cert.InProjRefIdeal.S4224x2048 .bf16) (w : FVec Ideal Cert.InProjRefIdeal.S4x2048x1280 .bf16) (i : Cert.InProjRefIdeal.S4224x5120.Idx) :
    Host.dotGeneral Cert.InProjRefIdeal.dot_S4224x2048_S2048x5120_S4224x5120_1_0_0_1_n_n none (extf .f32 u hb)
      (shapeCast Cert.InProjRefIdeal.S2048x5120 (transpose Cert.InProjRefIdeal.S2048x4x1280 [1, 0, 2] (extf .f32 w hb) ht) hs) i
    = (show EReal from prod u w i) := by
  idx_vars i
  pointwise [prod]

variable (m : (ℓ : Loc nD τ sig) → Buf (Elt Ideal) ℓ) (ρ : Dev nD → PrngReg)

/-- The result as one array over the arguments. -/
abbrev G (c : Dev nD) : FVec Ideal S4224x5120 .f32 :=
  fun i => prod (m ((c : Thread nD τ).loc main_arg0)) (m ((c : Thread nD τ).loc main_arg1)) i

/-- The result array after the run. -/
theorem final (c : Dev nD) : (dats m 0 c).arrAt 2 (cfgs 0).N = G m c := by
  refine (dats m 0 c).arrAt_eq_of_covers 2 _ (by decide +kernel) fun t hf y => ?_
  blk_simp
  rw [after0_2, out_eq]
  refine (pay_apply _ _ y).trans ?_
  dsimp only [G, prod]
  blk_point [iblk, V, idx t]

/-- The result array is the reference's. -/
theorem algebraic : Cert.algebraic_InProjIdeal_InProjRefIdeal (hInProjIdeal := Cert.InProjIdeal.Gen.facts) (hInProjRefIdeal := Cert.InProjRefIdeal.Gen.facts) := by
  intro m ρ m' ρ' _ hagree
  refine ⟨fun c => G m c, ?_, ?_⟩
  · exact (θ_run Cert.InProjIdeal.defs _ _).mono (fun _ h c => ⟨(h c).1.trans (final m c), (h c).2⟩)
      (Cert.InProjIdeal.Value.run_blocks (F := Ideal) m ρ)
  · refine (θ_run Cert.InProjRefIdeal.defs _ _).mono (fun _ h c => ⟨(h c).1.trans ?_, (h c).2⟩)
      (Cert.InProjRefIdeal.Value.run (F := Ideal) m' ρ')
    obtain ⟨h0, h1⟩ := hagree c
    rw [h0, h1]
    funext i
    exact ref_prod _ _ _ _ _ i

theorem frame_ref : Cert.quiescent_InProjRefIdeal (hInProjRefIdeal := Cert.InProjRefIdeal.Gen.facts) := fun m ρ _ =>
  (θ_run Cert.InProjRefIdeal.defs _ _).mono (fun r h => ⟨fun c => (h c).2, sem_eq_zero_of_no_sems (by decide) r.2⟩)
    (Cert.InProjRefIdeal.Value.run (F := Ideal) m ρ)

end Cert.Proof.InProj

end
-- ==== Proof.OutProj.lean ====
/-
  The projection out of the mixer, on the joined weight that the host hands over: what the grid of column blocks leaves is
  the plain product.
-/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.OutProj

open Idealize.ShloMosaic Idealize.ShloMosaic.TcCoe Idealize.SL.Sem
open Idealize.ShloMosaic.Pipeline (Dat)
open Cert.OutProjIdeal Cert.OutProjIdeal.Gen

/-- Entry `(r, q)` of the product: row `r` against column `q` of the weight, whose 2048 rows are kept in four groups. -/
def prod (s : FVec Ideal S4224x2048 .bf16) (w : FVec Ideal S4x512x2048 .bf16) (i : S4224x2048.Idx) : EReal :=
  ∑ l : Fin 2048, s (ix2 (i 0) l) * w (ix3 ⟨l.val / 512, by omega⟩ ⟨l.val % 512, Nat.mod_lt _ (by omega)⟩ (i 1))

/-- The body's block product, entry by entry. -/
theorem pay_apply (x : FVec Ideal S1056x2048 .bf16) (y : FVec Ideal S2048x512 .bf16) (j : S1056x512.Idx) :
    k0_pay1 (F := Ideal) x y j = (show EReal from ∑ k : Fin 2048, x (ix2 (j 0) k) * y (ix2 k (j 1))) := by
  pointwise [k0_pay1]

/-- The loads read the whole blocks and the store leaves the product. -/
theorem out_eq {F : FTy → Type} [FloatOps F] (x0 : Vec F S1056x2048 .bf16) (x1 : Vec F S2048x512 .bf16) : out0_2 x0 x1 = k0_pay1 x0 x1 := by
  have h2 : (![0, 0] : Fin 2 → Nat) = fun _ => 0 := funext fun a => by fin_cases a <;> rfl
  unfold out0_2
  rw [View.canon_unit_zero h2, View.ld_unit_zero h2, View.ld_unit_zero h2]

/-- Where the blocks sit. -/
theorem idx : ∀ t : Fin cfg0.N, win0_0.index t = ![t.val % 4, 0] ∧ win0_1.index t = ![0, t.val / 4]
    ∧ win0_2.index t = ![t.val % 4, t.val / 4] ∧ t.val < 16 :=
  (by decide +kernel : ∀ t : Fin grid0.N, _)

/-- The joined weight, entry by entry. -/
theorem joined_apply (w : FVec Ideal S4x512x2048 .bf16) (h : S4x512x2048.ShapeCasts S2048x2048) (i : S2048x2048.Idx) :
    shapeCast S2048x2048 w h i = w (ix3 ⟨(i 0).val / 512, by have h : (i 0).val < 2048 := (i 0).isLt; omega⟩ ⟨(i 0).val % 512, Nat.mod_lt _ (by omega)⟩ (i 1)) := by
  idx_vars i
  pointwise

/-- The reference's product with the joined weight, entry by entry. -/
theorem ref_prod (hb : FTy.bits .bf16 < FTy.bits .f32) (hs : Cert.OutProjRefIdeal.S4x512x2048.ShapeCasts Cert.OutProjRefIdeal.S2048x2048)
    (s : FVec Ideal Cert.OutProjRefIdeal.S4224x2048 .bf16) (w : FVec Ideal Cert.OutProjRefIdeal.S4x512x2048 .bf16) (i : Cert.OutProjRefIdeal.S4224x2048.Idx) :
    Host.dotGeneral Cert.OutProjRefIdeal.dot_S4224x2048_S2048x2048_S4224x2048_1_0_0_1_n_n none (extf .f32 s hb)
      (extf .f32 (shapeCast Cert.OutProjRefIdeal.S2048x2048 w hs) hb) i = (show EReal from prod s w i) := by
  idx_vars i
  pointwise [prod]

variable (m : (ℓ : Loc nD τ sig) → Buf (Elt Ideal) ℓ) (ρ : Dev nD → PrngReg)

/-- The result as one array over the arguments. -/
abbrev G (c : Dev nD) : FVec Ideal S4224x2048 .f32 :=
  fun i => prod (m ((c : Thread nD τ).loc main_arg0)) (m ((c : Thread nD τ).loc main_arg1)) i

/-- The joined weight as the grid finds it. -/
theorem V_joined (c : Dev nD) : V m c main_v0 = shapeCast S2048x2048 (m ((c : Thread nD τ).loc main_arg1)) shapeCasts_S4x512x2048_S2048x2048 := rfl

/-- The result array after the run. -/
theorem final (c : Dev nD) : (dats m 0 c).arrAt 2 (cfgs 0).N = G m c := by
  refine (dats m 0 c).arrAt_eq_of_covers 2 _ (by decide +kernel) fun t hf y => ?_
  blk_simp
  rw [after0_2, out_eq]
  refine (pay_apply _ _ y).trans ?_
  dsimp only [G, prod]
  blk_point [iblk, V_joined, V_main_arg0, joined_apply, idx t]

/-- The result array is the reference's. -/
theorem algebraic : Cert.algebraic_OutProjIdeal_OutProjRefIdeal (hOutProjIdeal := Cert.OutProjIdeal.Gen.facts) (hOutProjRefIdeal := Cert.OutProjRefIdeal.Gen.facts) := by
  intro m ρ m' ρ' _ hagree
  refine ⟨fun c => G m c, ?_, ?_⟩
  · exact (θ_run Cert.OutProjIdeal.defs _ _).mono (fun _ h c => ⟨(h c).1.trans (final m c), (h c).2⟩)
      (Cert.OutProjIdeal.Value.run_blocks (F := Ideal) m ρ)
  · refine (θ_run Cert.OutProjRefIdeal.defs _ _).mono (fun _ h c => ⟨(h c).1.trans ?_, (h c).2⟩)
      (Cert.OutProjRefIdeal.Value.run (F := Ideal) m' ρ')
    obtain ⟨h0, h1⟩ := hagree c
    rw [h0, h1]
    funext i
    exact ref_prod _ _ _ _ i

theorem frame_ref : Cert.quiescent_OutProjRefIdeal (hOutProjRefIdeal := Cert.OutProjRefIdeal.Gen.facts) := fun m ρ _ =>
  (θ_run Cert.OutProjRefIdeal.defs _ _).mono (fun r h => ⟨fun c => (h c).2, sem_eq_zero_of_no_sems (by decide) r.2⟩)
    (Cert.OutProjRefIdeal.Value.run (F := Ideal) m ρ)

end Cert.Proof.OutProj

end
-- ==== Proof.Adam.lean ====
/-
  The AdamW step on one entry, on the extended reals, and the plain step on whole arrays read entry by entry.
-/
module

public import Idealize.ShloMosaic.Lib.Pointwise

@[expose] public section

noncomputable section

namespace Cert.Proof.Adam

open Idealize.ShloMosaic

/-- The new first moment of an entry: `0.9 m + 0.1 g`. -/
def first (g m : EReal) : EReal := Ideal.ofBits .f32 0x3F666666#32 * m + Ideal.ofBits .f32 0x3DCCCCCD#32 * g

/-- The new second moment of an entry: `0.999 v + 0.001 g²`. -/
def second (g v : EReal) : EReal := Ideal.ofBits .f32 0x3F7FBE77#32 * v + Ideal.ofBits .f32 0x3A83126F#32 * (g * g)

/-- The step of an entry: `-0.001 (m̂ / (√v̂ + 1e-8) + 0.01 w)` with the moments corrected for ten steps. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

variable {s₀ s : Shape} {dims : Fin s₀.rank → Fin s.rank} (hc : s₀.BroadcastsInDim s dims) (w g m v : FVec Ideal s .f32) (i : s.Idx)

/-- A constant spread over an array. -/
abbrev spread (b : BitVec 32) : FVec Ideal s .f32 := broadcastInDim s dims hc (constant s₀ .f32 b)

theorem ref_first : addf (mulf (spread hc 0x3F666666#32) m) (mulf (spread hc 0x3DCCCCCD#32) g) i = first (g i) (m i) := rfl

theorem ref_second : addf (mulf (spread hc 0x3F7FBE77#32) v) (mulf (spread hc 0x3A83126F#32) (mulf g g)) i = second (g i) (v i) := rfl

theorem ref_delta : mulf (spread hc 0xBA83126F#32)
    (addf (Host.divf (Host.divf (addf (mulf (spread hc 0x3F666666#32) m) (mulf (spread hc 0x3DCCCCCD#32) g)) (spread hc 0x3F26BD02#32))
      (addf (Host.sqrt (Host.divf (addf (mulf (spread hc 0x3F7FBE77#32) v) (mulf (spread hc 0x3A83126F#32) (mulf g g))) (spread hc 0x3C231ACC#32)))
        (spread hc 0x322BCC77#32)))
      (mulf (spread hc 0x3C23D70A#32) w)) i = delta (w i) (g i) (m i) (v i) := rfl

end Cert.Proof.Adam

end
-- ==== Proof.AdamFfn.lean ====
/-
  The AdamW call on a feed-forward weight, whose gradient comes with 32 rows of padding: what the grid of blocks leaves is
  the plain step on the rows without the padding.
-/
module

public import proofs.«01_k».proof.Defs
public import proofs.«01_k».proof.Proof.Adam
public import proofs.«01_k».proof.Proof.Gen.AdamFfnIdeal.Value
public import proofs.«01_k».proof.Proof.Gen.AdamFfnRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.AdamFfn

open Idealize.ShloMosaic Idealize.ShloMosaic.TcCoe Idealize.SL.Sem
open Idealize.ShloMosaic.Pipeline (Dat)
open Cert.AdamFfnIdeal Cert.AdamFfnIdeal.Gen

theorem pay1_apply (g m : FVec Ideal S344x1024 .f32) (j : S344x1024.Idx) : k0_pay1 (F := Ideal) g m j = Adam.first (g j) (m j) := rfl

theorem pay2_apply (g v : FVec Ideal S344x1024 .f32) (j : S344x1024.Idx) : k0_pay2 (F := Ideal) g v j = Adam.second (g j) (v j) := rfl

theorem pay3_apply (g w m v : FVec Ideal S344x1024 .f32) (j : S344x1024.Idx) :
    k0_pay3 (F := Ideal) g w m v j = Adam.delta (w j) (g j) (m j) (v j) := rfl

/-- Where the blocks sit. -/
theorem idx : ∀ t : Fin cfg0.N, win0_0.index t = ![t.val / 2, t.val % 2] ∧ win0_1.index t = ![t.val / 2, t.val % 2] ∧ win0_2.index t = ![t.val / 2, t.val % 2]
    ∧ win0_3.index t = ![t.val / 2, t.val % 2] ∧ win0_4.index t = ![t.val / 2, t.val % 2] ∧ win0_5.index t = ![t.val / 2, t.val % 2]
    ∧ win0_6.index t = ![t.val / 2, t.val % 2] ∧ win0_7.index t = ![t.val / 2, t.val % 2] ∧ t.val < 8 :=
  (by decide +kernel : ∀ t : Fin grid0.N, _)

variable (m : (ℓ : Loc nD τ sig) → Buf (Elt Ideal) ℓ) (ρ : Dev nD → PrngReg)

/-- The weight, its gradient without the padding, and its moments. -/
abbrev w (c : Dev nD) : FVec Ideal S1376x2048 .f32 := m ((c : Thread nD τ).loc main_arg0)
abbrev g (c : Dev nD) : FVec Ideal S1376x2048 .f32 := extractStridedSlice S1376x2048 ![0, 0] (m ((c : Thread nD τ).loc main_arg1)) Cert.AdamFfnRefIdeal.Gen.slices_S1408x2048_S1376x2048_0_0
abbrev m₁ (c : Dev nD) : FVec Ideal S1376x2048 .f32 := m ((c : Thread nD τ).loc main_arg2)
abbrev m₂ (c : Dev nD) : FVec Ideal S1376x2048 .f32 := m ((c : Thread nD τ).loc main_arg3)

/-- The results after the gradient, each as one array over the arguments. -/
abbrev GD (c : Dev nD) : FVec Ideal S1376x2048 .f32 := fun i => Adam.delta (w m c i) (g m c i) (m₁ m c i) (m₂ m c i)
abbrev GM (c : Dev nD) : FVec Ideal S1376x2048 .f32 := fun i => Adam.first (g m c i) (m₁ m c i)
abbrev GV (c : Dev nD) : FVec Ideal S1376x2048 .f32 := fun i => Adam.second (g m c i) (m₂ m c i)

/-- Every block of the gradient lies inside its array, so the staged block is the array's. -/
theorem staged (c : Dev nD) (t : Fin cfg0.N) (y : S344x1024.Idx) : X0_1 m c t y
    = (show EReal from (m ((c : Thread nD τ).loc main_arg1) : FVec Ideal S1408x2048 .f32)
      (ix2 ⟨t.val / 2 * 344 + (y 0).val, by have h : (y 0).val < 344 := (y 0).isLt; have := (idx t).2.2.2.2.2.2.2.2; omega⟩
        ⟨t.val % 2 * 1024 + (y 1).val, by have h : (y 1).val < 1024 := (y 1).isLt; omega⟩)) := by
  unfold X0_1 Pipeline.Window.fill
  rw [dif_pos (moved0_1 t y)]
  blk_point [iblk, V, idx t]

/-- The result arrays after the run. -/
theorem finalG (c : Dev nD) : (dats m 0 c).arrAt 4 (cfgs 0).N = g m c := by
  refine (dats m 0 c).arrAt_eq_of_covers 4 _ (by decide +kernel) fun t hf y => ?_
  blk_simp
  rw [after0_4]
  unfold outsAt0
  frame_out
  refine (staged m c t y).trans ?_
  dsimp only [g]
  blk_point [idx t] <;> rfl

theorem finalD (c : Dev nD) : (dats m 0 c).arrAt 5 (cfgs 0).N = GD m c := by
  refine (dats m 0 c).arrAt_eq_of_covers 5 _ (by decide +kernel) fun t hf y => ?_
  blk_simp
  rw [after0_5]
  unfold outsAt0
  frame_out
  refine (pay3_apply _ _ _ _ y).trans ?_
  rw [staged]
  dsimp only [GD, g, w, m₁, m₂]
  blk_point [iblk, V, idx t] <;> rfl

theorem finalM (c : Dev nD) : (dats m 0 c).arrAt 6 (cfgs 0).N = GM m c := by
  refine (dats m 0 c).arrAt_eq_of_covers 6 _ (by decide +kernel) fun t hf y => ?_
  blk_simp
  rw [after0_6]
  unfold outsAt0
  frame_out
  refine (pay1_apply _ _ y).trans ?_
  rw [staged]
  dsimp only [GM, g, m₁]
  blk_point [iblk, V, idx t] <;> rfl

theorem finalV (c : Dev nD) : (dats m 0 c).arrAt 7 (cfgs 0).N = GV m c := by
  refine (dats m 0 c).arrAt_eq_of_covers 7 _ (by decide +kernel) fun t hf y => ?_
  blk_simp
  rw [after0_7]
  unfold outsAt0
  frame_out
  refine (pay2_apply _ _ y).trans ?_
  rw [staged]
  dsimp only [GV, g, m₂]
  blk_point [iblk, V, idx t] <;> rfl

/-- The four result arrays are the reference's. -/
theorem algebraic : Cert.algebraic_AdamFfnIdeal_AdamFfnRefIdeal (hAdamFfnIdeal := Cert.AdamFfnIdeal.Gen.facts) (hAdamFfnRefIdeal := Cert.AdamFfnRefIdeal.Gen.facts) := by
  intro m ρ m' ρ' _ hagree
  refine ⟨fun c => g m c, fun c => GD m c, fun c => GM m c, fun c => GV m c, ?_, ?_⟩
  · exact (θ_run Cert.AdamFfnIdeal.defs _ _).mono (fun _ h c => ⟨(h c).1.trans (finalG m c), (h c).2.1.trans (finalD m c),
      (h c).2.2.1.trans (finalM m c), (h c).2.2.2.1.trans (finalV m c), (h c).2.2.2.2⟩) (Cert.AdamFfnIdeal.Value.run_blocks (F := Ideal) m ρ)
  · refine (θ_run Cert.AdamFfnRefIdeal.defs _ _).mono (fun _ h c => ⟨(h c).1.trans ?_, (h c).2.1.trans ?_, (h c).2.2.1.trans ?_, (h c).2.2.2.1.trans ?_, (h c).2.2.2.2⟩)
      (Cert.AdamFfnRefIdeal.Value.run (F := Ideal) m' ρ')
    all_goals
      obtain ⟨h0, h1, h2, h3⟩ := hagree c
      simp only [h0, h1, h2, h3]
    · exact funext fun i => Adam.ref_delta Cert.AdamFfnRefIdeal.Gen.bcast_S_S1376x2048 _ _ _ _ i
    · exact funext fun i => Adam.ref_first Cert.AdamFfnRefIdeal.Gen.bcast_S_S1376x2048 _ _ i
    · exact funext fun i => Adam.ref_second Cert.AdamFfnRefIdeal.Gen.bcast_S_S1376x2048 _ _ i

theorem frame_ref : Cert.quiescent_AdamFfnRefIdeal (hAdamFfnRefIdeal := Cert.AdamFfnRefIdeal.Gen.facts) := fun m ρ _ =>
  (θ_run Cert.AdamFfnRefIdeal.defs _ _).mono (fun r h => ⟨fun c => (h c).2.2.2.2, sem_eq_zero_of_no_sems (by decide) r.2⟩)
    (Cert.AdamFfnRefIdeal.Value.run (F := Ideal) m ρ)

end Cert.Proof.AdamFfn

end
-- ==== Proof.AdamIn.lean ====
/-
  The AdamW call on the mixers' input weight: what the grid of row blocks leaves is the plain step.
-/
module

public import proofs.«01_k».proof.Defs
public import proofs.«01_k».proof.Proof.Adam
public import proofs.«01_k».proof.Proof.Gen.AdamInIdeal.Value
public import proofs.«01_k».proof.Proof.Gen.AdamInRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.AdamIn

open Idealize.ShloMosaic Idealize.ShloMosaic.TcCoe Idealize.SL.Sem
open Idealize.ShloMosaic.Pipeline (Dat)
open Cert.AdamInIdeal Cert.AdamInIdeal.Gen

theorem pay1_apply (g m : FVec Ideal S256x1280 .f32) (j : S256x1280.Idx) : k0_pay1 (F := Ideal) g m j = Adam.first (g j) (m j) := rfl

theorem pay2_apply (g v : FVec Ideal S256x1280 .f32) (j : S256x1280.Idx) : k0_pay2 (F := Ideal) g v j = Adam.second (g j) (v j) := rfl

theorem pay3_apply (g w m v : FVec Ideal S256x1280 .f32) (j : S256x1280.Idx) :
    k0_pay3 (F := Ideal) g w m v j = Adam.delta (w j) (g j) (m j) (v j) := rfl

section blocks

variable {F : FTy → Type} [FloatOps F] (x0 x1 x2 x3 : Vec F S256x1280 .f32)

theorem zero : (![0, 0] : Fin 2 → Nat) = fun _ => 0 := funext fun a => by fin_cases a <;> rfl

/-- The loads read the whole blocks and each store leaves its payload. -/
theorem out4_eq : out0_4 x0 x1 x2 x3 = x1 := by
  unfold out0_4
  rw [View.canon_unit_zero zero, View.ld_unit_zero zero]

theorem out5_eq : out0_5 x0 x1 x2 x3 = k0_pay3 x1 x0 x2 x3 := by
  unfold out0_5
  rw [View.canon_unit_zero zero, View.ld_unit_zero zero, View.ld_unit_zero zero, View.ld_unit_zero zero, View.ld_unit_zero zero]

theorem out6_eq : out0_6 x0 x1 x2 x3 = k0_pay1 x1 x2 := by
  unfold out0_6
  rw [View.canon_unit_zero zero, View.ld_unit_zero zero, View.ld_unit_zero zero]

theorem out7_eq : out0_7 x0 x1 x2 x3 = k0_pay2 x1 x3 := by
  unfold out0_7
  rw [View.canon_unit_zero zero, View.ld_unit_zero zero, View.ld_unit_zero zero]

end blocks

/-- Where the blocks sit. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 8 :=
  (by decide +kernel : ∀ t : Fin grid0.N, _)

variable (m : (ℓ : Loc nD τ sig) → Buf (Elt Ideal) ℓ) (ρ : Dev nD → PrngReg)

/-- The weight, its gradient and its moments. -/
abbrev w (c : Dev nD) : FVec Ideal S2048x1280 .f32 := m ((c : Thread nD τ).loc main_arg0)
abbrev g (c : Dev nD) : FVec Ideal S2048x1280 .f32 := m ((c : Thread nD τ).loc main_arg1)
abbrev m₁ (c : Dev nD) : FVec Ideal S2048x1280 .f32 := m ((c : Thread nD τ).loc main_arg2)
abbrev m₂ (c : Dev nD) : FVec Ideal S2048x1280 .f32 := m ((c : Thread nD τ).loc main_arg3)

/-- The results after the gradient, each as one array over the arguments. -/
abbrev GD (c : Dev nD) : FVec Ideal S2048x1280 .f32 := fun i => Adam.delta (w m c i) (g m c i) (m₁ m c i) (m₂ m c i)
abbrev GM (c : Dev nD) : FVec Ideal S2048x1280 .f32 := fun i => Adam.first (g m c i) (m₁ m c i)
abbrev GV (c : Dev nD) : FVec Ideal S2048x1280 .f32 := fun i => Adam.second (g m c i) (m₂ m c i)

/-- The result arrays after the run. -/
theorem finalG (c : Dev nD) : (dats m 0 c).arrAt 4 (cfgs 0).N = g m c := by
  refine (dats m 0 c).arrAt_eq_of_covers 4 _ (by decide +kernel) fun t hf y => ?_
  blk_simp
  rw [after0_4, out4_eq]
  blk_point [iblk, V, idx t]

theorem finalD (c : Dev nD) : (dats m 0 c).arrAt 5 (cfgs 0).N = GD m c := by
  refine (dats m 0 c).arrAt_eq_of_covers 5 _ (by decide +kernel) fun t hf y => ?_
  blk_simp
  rw [after0_5, out5_eq]
  refine (pay3_apply _ _ _ _ y).trans ?_
  dsimp only [GD]
  blk_point [iblk, V, idx t]

theorem finalM (c : Dev nD) : (dats m 0 c).arrAt 6 (cfgs 0).N = GM m c := by
  refine (dats m 0 c).arrAt_eq_of_covers 6 _ (by decide +kernel) fun t hf y => ?_
  blk_simp
  rw [after0_6, out6_eq]
  refine (pay1_apply _ _ y).trans ?_
  dsimp only [GM]
  blk_point [iblk, V, idx t]

theorem finalV (c : Dev nD) : (dats m 0 c).arrAt 7 (cfgs 0).N = GV m c := by
  refine (dats m 0 c).arrAt_eq_of_covers 7 _ (by decide +kernel) fun t hf y => ?_
  blk_simp
  rw [after0_7, out7_eq]
  refine (pay2_apply _ _ y).trans ?_
  dsimp only [GV]
  blk_point [iblk, V, idx t]

/-- The four result arrays are the reference's. -/
theorem algebraic : Cert.algebraic_AdamInIdeal_AdamInRefIdeal (hAdamInIdeal := Cert.AdamInIdeal.Gen.facts) (hAdamInRefIdeal := Cert.AdamInRefIdeal.Gen.facts) := by
  intro m ρ m' ρ' _ hagree
  refine ⟨fun c => g m c, fun c => GD m c, fun c => GM m c, fun c => GV m c, ?_, ?_⟩
  · exact (θ_run Cert.AdamInIdeal.defs _ _).mono (fun _ h c => ⟨(h c).1.trans (finalG m c), (h c).2.1.trans (finalD m c),
      (h c).2.2.1.trans (finalM m c), (h c).2.2.2.1.trans (finalV m c), (h c).2.2.2.2⟩) (Cert.AdamInIdeal.Value.run_blocks (F := Ideal) m ρ)
  · refine (θ_run Cert.AdamInRefIdeal.defs _ _).mono (fun _ h c => ⟨(h c).1.trans ?_, (h c).2.1.trans ?_, (h c).2.2.1.trans ?_, (h c).2.2.2.1.trans ?_, (h c).2.2.2.2⟩)
      (Cert.AdamInRefIdeal.Value.run (F := Ideal) m' ρ')
    all_goals
      obtain ⟨h0, h1, h2, h3⟩ := hagree c
      simp only [h0, h1, h2, h3]
    · exact funext fun i => Adam.ref_delta Cert.AdamInRefIdeal.Gen.bcast_S_S2048x1280 _ _ _ _ i
    · exact funext fun i => Adam.ref_first Cert.AdamInRefIdeal.Gen.bcast_S_S2048x1280 _ _ i
    · exact funext fun i => Adam.ref_second Cert.AdamInRefIdeal.Gen.bcast_S_S2048x1280 _ _ i

theorem frame_ref : Cert.quiescent_AdamInRefIdeal (hAdamInRefIdeal := Cert.AdamInRefIdeal.Gen.facts) := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

end Cert.Proof.AdamIn

end
-- ==== Proof.AdamOut.lean ====
/-
  The AdamW call on the mixers' output weight: what the grid of row blocks leaves is the plain step.
-/
module

public import proofs.«01_k».proof.Defs
public import proofs.«01_k».proof.Proof.Adam
public import proofs.«01_k».proof.Proof.Gen.AdamOutIdeal.Value
public import proofs.«01_k».proof.Proof.Gen.AdamOutRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.AdamOut

open Idealize.ShloMosaic Idealize.ShloMosaic.TcCoe Idealize.SL.Sem
open Idealize.ShloMosaic.Pipeline (Dat)
open Cert.AdamOutIdeal Cert.AdamOutIdeal.Gen

theorem pay1_apply (g m : FVec Ideal S64x2048 .f32) (j : S64x2048.Idx) : k0_pay1 (F := Ideal) g m j = Adam.first (g j) (m j) := rfl

theorem pay2_apply (g v : FVec Ideal S64x2048 .f32) (j : S64x2048.Idx) : k0_pay2 (F := Ideal) g v j = Adam.second (g j) (v j) := rfl

theorem pay3_apply (g w m v : FVec Ideal S64x2048 .f32) (j : S64x2048.Idx) :
    k0_pay3 (F := Ideal) g w m v j = Adam.delta (w j) (g j) (m j) (v j) := rfl

section blocks

variable {F : FTy → Type} [FloatOps F] (x0 x1 x2 x3 : Vec F S64x2048 .f32)

theorem zero : (![0, 0] : Fin 2 → Nat) = fun _ => 0 := funext fun a => by fin_cases a <;> rfl

/-- The loads read the whole blocks and each store leaves its payload. -/
theorem out4_eq : out0_4 x0 x1 x2 x3 = x1 := by
  unfold out0_4
  rw [View.canon_unit_zero zero, View.ld_unit_zero zero]

theorem out5_eq : out0_5 x0 x1 x2 x3 = k0_pay3 x1 x0 x2 x3 := by
  unfold out0_5
  rw [View.canon_unit_zero zero, View.ld_unit_zero zero, View.ld_unit_zero zero, View.ld_unit_zero zero, View.ld_unit_zero zero]

theorem out6_eq : out0_6 x0 x1 x2 x3 = k0_pay1 x1 x2 := by
  unfold out0_6
  rw [View.canon_unit_zero zero, View.ld_unit_zero zero, View.ld_unit_zero zero]

theorem out7_eq : out0_7 x0 x1 x2 x3 = k0_pay2 x1 x3 := by
  unfold out0_7
  rw [View.canon_unit_zero zero, View.ld_unit_zero zero, View.ld_unit_zero zero]

end blocks

/-- Where the blocks sit. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] ∧ t.val < 8 :=
  (by decide +kernel : ∀ t : Fin grid0.N, _)

variable (m : (ℓ : Loc nD τ sig) → Buf (Elt Ideal) ℓ) (ρ : Dev nD → PrngReg)

/-- The weight, its gradient and its moments. -/
abbrev w (c : Dev nD) : FVec Ideal S512x2048 .f32 := m ((c : Thread nD τ).loc main_arg0)
abbrev g (c : Dev nD) : FVec Ideal S512x2048 .f32 := m ((c : Thread nD τ).loc main_arg1)
abbrev m₁ (c : Dev nD) : FVec Ideal S512x2048 .f32 := m ((c : Thread nD τ).loc main_arg2)
abbrev m₂ (c : Dev nD) : FVec Ideal S512x2048 .f32 := m ((c : Thread nD τ).loc main_arg3)

/-- The results after the gradient, each as one array over the arguments. -/
abbrev GD (c : Dev nD) : FVec Ideal S512x2048 .f32 := fun i => Adam.delta (w m c i) (g m c i) (m₁ m c i) (m₂ m c i)
abbrev GM (c : Dev nD) : FVec Ideal S512x2048 .f32 := fun i => Adam.first (g m c i) (m₁ m c i)
abbrev GV (c : Dev nD) : FVec Ideal S512x2048 .f32 := fun i => Adam.second (g m c i) (m₂ m c i)

/-- The result arrays after the run. -/
theorem finalG (c : Dev nD) : (dats m 0 c).arrAt 4 (cfgs 0).N = g m c := by
  refine (dats m 0 c).arrAt_eq_of_covers 4 _ (by decide +kernel) fun t hf y => ?_
  blk_simp
  rw [after0_4, out4_eq]
  blk_point [iblk, V, idx t]

theorem finalD (c : Dev nD) : (dats m 0 c).arrAt 5 (cfgs 0).N = GD m c := by
  refine (dats m 0 c).arrAt_eq_of_covers 5 _ (by decide +kernel) fun t hf y => ?_
  blk_simp
  rw [after0_5, out5_eq]
  refine (pay3_apply _ _ _ _ y).trans ?_
  dsimp only [GD]
  blk_point [iblk, V, idx t]

theorem finalM (c : Dev nD) : (dats m 0 c).arrAt 6 (cfgs 0).N = GM m c := by
  refine (dats m 0 c).arrAt_eq_of_covers 6 _ (by decide +kernel) fun t hf y => ?_
  blk_simp
  rw [after0_6, out6_eq]
  refine (pay1_apply _ _ y).trans ?_
  dsimp only [GM]
  blk_point [iblk, V, idx t]

theorem finalV (c : Dev nD) : (dats m 0 c).arrAt 7 (cfgs 0).N = GV m c := by
  refine (dats m 0 c).arrAt_eq_of_covers 7 _ (by decide +kernel) fun t hf y => ?_
  blk_simp
  rw [after0_7, out7_eq]
  refine (pay2_apply _ _ y).trans ?_
  dsimp only [GV]
  blk_point [iblk, V, idx t]

/-- The four result arrays are the reference's. -/
theorem algebraic : Cert.algebraic_AdamOutIdeal_AdamOutRefIdeal (hAdamOutIdeal := Cert.AdamOutIdeal.Gen.facts) (hAdamOutRefIdeal := Cert.AdamOutRefIdeal.Gen.facts) := by
  intro m ρ m' ρ' _ hagree
  refine ⟨fun c => g m c, fun c => GD m c, fun c => GM m c, fun c => GV m c, ?_, ?_⟩
  · exact (θ_run Cert.AdamOutIdeal.defs _ _).mono (fun _ h c => ⟨(h c).1.trans (finalG m c), (h c).2.1.trans (finalD m c),
      (h c).2.2.1.trans (finalM m c), (h c).2.2.2.1.trans (finalV m c), (h c).2.2.2.2⟩) (Cert.AdamOutIdeal.Value.run_blocks (F := Ideal) m ρ)
  · refine (θ_run Cert.AdamOutRefIdeal.defs _ _).mono (fun _ h c => ⟨(h c).1.trans ?_, (h c).2.1.trans ?_, (h c).2.2.1.trans ?_, (h c).2.2.2.1.trans ?_, (h c).2.2.2.2⟩)
      (Cert.AdamOutRefIdeal.Value.run (F := Ideal) m' ρ')
    all_goals
      obtain ⟨h0, h1, h2, h3⟩ := hagree c
      simp only [h0, h1, h2, h3]
    · exact funext fun i => Adam.ref_delta Cert.AdamOutRefIdeal.Gen.bcast_S_S512x2048 _ _ _ _ i
    · exact funext fun i => Adam.ref_first Cert.AdamOutRefIdeal.Gen.bcast_S_S512x2048 _ _ i
    · exact funext fun i => Adam.ref_second Cert.AdamOutRefIdeal.Gen.bcast_S_S512x2048 _ _ i

theorem frame_ref : Cert.quiescent_AdamOutRefIdeal (hAdamOutRefIdeal := Cert.AdamOutRefIdeal.Gen.facts) := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

end Cert.Proof.AdamOut

end
-- ==== Proof.FirstBwd.lean ====
/-
  The first norm's backward call: the gradient at the step's input and the gain gradient, against what `jax.vjp` of the norm
  writes, where the arguments are finite. The row and block arithmetic is that of the other norms.
-/
module

public import proofs.«01_k».proof.Proof.NormClaim
public import proofs.«01_k».proof.Proof.Gen.FirstBwdIdeal.Value
public import proofs.«01_k».proof.Proof.Gen.FirstBwdRefIdeal.Run
public import proofs.«01_k».proof.Proof.Gen.Pre_first_finite

@[expose] public section

set_option maxRecDepth 16384

noncomputable section

namespace Cert.Proof.FirstBwd

open Idealize.ShloMosaic Idealize.ShloMosaic.TcCoe Idealize.SL.Sem
open Idealize.ShloMosaic.Pipeline (Dat)
open Cert.FirstBwdIdeal Cert.FirstBwdIdeal.Gen
open Cert.Proof.NormBwd (gradAt gainAt gainBlk)

/-- The block of gradients, entry by entry, over what arrives from above. -/
theorem pay4_apply (h : FVec Ideal S352x2048 .f32) (g : FVec Ideal S1x2048 .f32) (d e : FVec Ideal S352x2048 .f32) (j : S352x2048.Idx) :
    k0_pay4 (F := Ideal) h g d e j
      = (show EReal from e j + normGrad (fun k => d (ix2 (j 0) k) * g (ix2 0 k)) (fun k => h (ix2 (j 0) k)) (j 1)) :=
  NormBwd.pay10_apply h g d e j

theorem pay5_apply (h d : FVec Ideal S352x2048 .f32) (a : FVec Ideal S1x2048 .f32) (j : S1x2048.Idx) :
    k0_pay5 (F := Ideal) h d a j = (show EReal from a j + gainBlk d h j) :=
  NormBwd.pay11_apply h d a j

theorem pay1_apply (j : S1x2048.Idx) : k0_pay1 (F := Ideal) j = (show EReal from 0) := NormBwd.pay6_apply j

/-- Where the blocks sit. -/
theorem idx : ∀ t : Fin cfg0.N, win0_0.index t = ![t.val, 0] ∧ win0_1.index t = ![t.val, 0]
    ∧ win0_2.index t = ![t.val, 0] ∧ win0_3.index t = ![0, 0] ∧ win0_4.index t = ![t.val, 0] ∧ win0_5.index t = ![0, 0] ∧ t.val < 12 :=
  (by decide +kernel : ∀ t : Fin grid0.N, _)

variable (m : (ℓ : Loc nD τ sig) → Buf (Elt Ideal) ℓ) (ρ : Dev nD → PrngReg)

/-- The gradient at the residual stream, and at the gains. -/
abbrev G0 (c : Dev nD) : FVec Ideal S4224x2048 .f32 := fun i =>
  (show FVec Ideal S4224x2048 .f32 from m ((c : Thread nD τ).loc main_arg2)) i
    + gradAt (m ((c : Thread nD τ).loc main_arg0)) (m ((c : Thread nD τ).loc main_arg1)) (m ((c : Thread nD τ).loc main_arg3)) i

abbrev G1 (c : Dev nD) : FVec Ideal S1x2048 .f32 := fun i =>
  gainAt (m ((c : Thread nD τ).loc main_arg0)) (m ((c : Thread nD τ).loc main_arg1)) i

theorem out4 (c : Dev nD) (t : Fin cfg0.N) : (outsAt0 m c t.val t.isLt).1 = k0_pay4 (iblk m c 1 t) (iblk m c 3 t) (iblk m c 0 t) (iblk m c 2 t) := by
  by_cases h : t.val % 12 = 0
  · rw [outsAt0_A m c t h]; frame_out
  · rw [outsAt0_B m c t h]; frame_out

theorem final4 (c : Dev nD) : (dats m 0 c).arrAt 4 (cfgs 0).N = G0 m c := by
  refine (dats m 0 c).arrAt_eq_of_covers 4 _ (by decide +kernel) fun t hf y => ?_
  blk_simp
  rw [after0_4, out4]
  refine (pay4_apply _ _ _ _ y).trans ?_
  dsimp only [G0, gradAt]
  blk_point [iblk, V, idx t]

theorem final5 (c : Dev nD) : (dats m 0 c).arrAt 5 (cfgs 0).N = G1 m c := by
  refine (dats m 0 c).arrAt_eq_of_covers 5 _ (by decide +kernel) fun t hf y => ?_
  blk_simp
  rw [after0_5, Pipeline.eq_sum_fin_of_reset_step_apply_of_flush (fun n h => (outsAt0 m c n h).2) 12 (fun _ => 0)
    (fun p j => gainBlk (iblk m c 0 p) (iblk m c 1 p) j)
    (fun t h j => by rw [outsAt0_A m c t h]; frame_out; exact (pay5_apply _ _ _ j).trans (congrArg (fun x : EReal => x + _) (pay1_apply j)))
    (fun t h j => by rw [outsAt0_B m c t h]; frame_out; exact pay5_apply _ _ _ j)
    t ((flush0_5 t).mp hf) _, zero_add]
  refine Eq.trans (Fin.sum_fin_congr fun s => rfl) (NormBwd.rows_sum (fun s k hl => ?_))
  blk_point [iblk, V, idx t, idx ⟨_, Pipeline.run_point_lt_of_flush t ((flush0_5 t).mp hf) s⟩]

/-- The precondition makes every argument entry real. -/
theorem finite (hm : Pre_FirstBwdIdeal_first_finite (hPre_first_finite := Cert.Pre_first_finite.Gen.facts) m) (c : Dev nD) :
    (∀ i, IsReal ((m ((c : Thread nD τ).loc main_arg0) : FVec Ideal S4224x2048 .f32) i))
    ∧ (∀ i, IsReal ((m ((c : Thread nD τ).loc main_arg1) : FVec Ideal S4224x2048 .f32) i))
    ∧ (∀ i, IsReal ((m ((c : Thread nD τ).loc main_arg3) : FVec Ideal S1x2048 .f32) i)) := by
  obtain ⟨h0, h1, h2, h3⟩ := hm c
  exact ⟨fun i => isReal_of_mask (congrFun h0 i), fun i => isReal_of_mask (congrFun h1 i), fun i => isReal_of_mask (congrFun h3 i)⟩

/-- The two results of the backward call are the reference's. -/
theorem algebraic : Cert.algebraic_FirstBwdIdeal_FirstBwdRefIdeal_pre_first_finite (hFirstBwdIdeal := Cert.FirstBwdIdeal.Gen.facts) (hFirstBwdRefIdeal := Cert.FirstBwdRefIdeal.Gen.facts) (hPre_first_finite := Cert.Pre_first_finite.Gen.facts) := by
  intro m g m' g' hm hagree
  refine ⟨fun c => G0 m c, fun c => G1 m c, ?_, ?_⟩
  · exact (θ_run Cert.FirstBwdIdeal.defs _ _).mono (fun _ h c => ⟨(h c).1.trans (final4 m c), (h c).2.1.trans (final5 m c), (h c).2.2⟩)
      (Cert.FirstBwdIdeal.Value.run_blocks (F := Ideal) m g)
  · refine (θ_run Cert.FirstBwdRefIdeal.defs _ _).mono (fun _ h c => ⟨(h c).1.trans ?_, (h c).2.1.trans ?_, (h c).2.2⟩)
      (Cert.FirstBwdRefIdeal.Value.run (F := Ideal) m' g')
    all_goals
      obtain ⟨h0, h1, h2, h3⟩ := hagree c
      obtain ⟨r0, r1, r3⟩ := finite m hm c
    · simp only [h0, h1, h2, h3]
      funext i
      exact congrArg (fun x : EReal => _ + x) (NormBwd.refGrad_eq r0 r1 r3 i)
    · simp only [h0, h1]
      funext i
      exact NormBwd.refGain_apply _ _ i

theorem frame_ref : Cert.quiescent_FirstBwdRefIdeal (hFirstBwdRefIdeal := Cert.FirstBwdRefIdeal.Gen.facts) := fun m ρ _ =>
  (θ_run Cert.FirstBwdRefIdeal.defs _ _).mono (fun r h => ⟨fun c => (h c).2.2, sem_eq_zero_of_no_sems (by decide) r.2⟩)
    (Cert.FirstBwdRefIdeal.Value.run (F := Ideal) m ρ)

theorem frame_ref_pre : Cert.quiescent_FirstBwdRefIdeal_pre_first_finite (hFirstBwdRefIdeal := Cert.FirstBwdRefIdeal.Gen.facts) (hPre_first_finite := Cert.Pre_first_finite.Gen.facts) :=
  fun m ρ _ => frame_ref m ρ trivial

end Cert.Proof.FirstBwd

end
-- ==== Proof.PostFwd.lean ====
/-
  The forward call between two units: the residual sum with the unit's normed output, and the next norm's output, row block by
  row block, are the plain norms.
-/
module

public import proofs.«01_k».proof.Defs
public import proofs.«01_k».proof.Proof.NormMath
public import proofs.«01_k».proof.Proof.Gen.PostFwdIdeal.Value
public import proofs.«01_k».proof.Proof.Gen.PostFwdRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.PostFwd

open Idealize.ShloMosaic Idealize.ShloMosaic.TcCoe Idealize.SL.Sem
open Idealize.ShloMosaic.Pipeline (Dat)
open Cert.PostFwdIdeal Cert.PostFwdIdeal.Gen

/-- A row's norm with gains `g`. -/
def normRow (h g : Fin 2048 → EReal) (k : Fin 2048) : EReal := h k * rinv h * g k

/-- The residual sum on a row. -/
def sumRow (f h g : Fin 2048 → EReal) (k : Fin 2048) : EReal := h k + Ideal.ofBits .f32 0x3F000000#32 * normRow f g k

theorem pay1_apply (h f : FVec Ideal S352x2048 .f32) (g : FVec Ideal S1x2048 .f32) (j : S352x2048.Idx) :
    k0_pay1 (F := Ideal) h f g j
      = (show EReal from sumRow (fun k => f (ix2 (j 0) k)) (fun k => h (ix2 (j 0) k)) (fun k => g (ix2 0 k)) (j 1)) := by
  idx_vars j
  pointwise [k0_pay1, sumRow, normRow, rinv]

theorem pay2_apply (h f : FVec Ideal S352x2048 .f32) (g n : FVec Ideal S1x2048 .f32) (j : S352x2048.Idx) :
    k0_pay2 (F := Ideal) h f g n j = (show EReal from normRow (fun k => k0_pay1 (F := Ideal) h f g (ix2 (j 0) k)) (fun k => n (ix2 0 k)) (j 1)) := by
  unfold k0_pay2
  generalize k0_pay1 (F := Ideal) h f g = H
  idx_vars j
  pointwise [normRow, rinv]

section blocks

variable {F : FTy → Type} [FloatOps F] (x0 x1 : Vec F S352x2048 .f32) (x2 x3 : Vec F S1x2048 .f32)

theorem zero : (![0, 0] : Fin 2 → Nat) = fun _ => 0 := funext fun a => by fin_cases a <;> rfl

/-- The loads read the whole blocks and each store leaves its payload. -/
theorem out4_eq : out0_4 x0 x1 x2 x3 = k0_pay1 x1 x0 x2 := by
  unfold out0_4
  rw [View.canon_unit_zero zero, View.ld_unit_zero zero, View.ld_unit_zero zero, View.ld_unit_zero zero]

theorem out5_eq : out0_5 x0 x1 x2 x3 = k0_pay2 x1 x0 x2 x3 := by
  unfold out0_5
  rw [View.canon_unit_zero zero, View.ld_unit_zero zero, View.ld_unit_zero zero, View.ld_unit_zero zero, View.ld_unit_zero zero]

end blocks

/-- Where the blocks sit. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 12 :=
  (by decide +kernel : ∀ t : Fin grid0.N, _)

section reference

open Cert.PostFwdRefIdeal Cert.PostFwdRefIdeal.Gen

variable (f h : FVec Ideal Cert.PostFwdRefIdeal.S4224x2048 .f32) (g : FVec Ideal Cert.PostFwdRefIdeal.S1x2048 .f32)

/-- The reference's norm. -/
def refNorm : FVec Ideal Cert.PostFwdRefIdeal.S4224x2048 .f32 :=
  mulf (mulf h (broadcastInDim Cert.PostFwdRefIdeal.S4224x2048 ![0, 1] bcast_S4224x1_S4224x2048_0_1 (Host.rsqrt (addf (Host.divf
    (broadcastInDim S4224x1 ![0] bcast_S4224_S4224x1_0 (Host.reduceAdd (mulf h h) (constant S_ .f32 0x00000000#32) reducesTo_S4224x2048_S4224_d1 h_S_))
      (broadcastInDim S4224x1 ![] bcast_S_S4224x1 (constant S_ .f32 0x45000000#32))) (broadcastInDim S4224x1 ![] bcast_S_S4224x1 (constant S_ .f32 0x358637BD#32))))))
    (broadcastInDim Cert.PostFwdRefIdeal.S4224x2048 ![0, 1] bcast_S1x2048_S4224x2048_0_1 g)

/-- The reference's residual sum. -/
def refSum : FVec Ideal Cert.PostFwdRefIdeal.S4224x2048 .f32 :=
  addf h (mulf (broadcastInDim Cert.PostFwdRefIdeal.S4224x2048 ![] bcast_S_S4224x2048 (constant S_ .f32 0x3F000000#32)) (refNorm f g))

theorem refNorm_apply (i : Cert.PostFwdRefIdeal.S4224x2048.Idx) :
    refNorm h g i = (show EReal from normRow (fun k => h (ix2 (i 0) k)) (fun k => g (ix2 0 k)) (i 1)) := by
  idx_vars i
  pointwise [refNorm, normRow, rinv]

theorem refSum_apply (i : Cert.PostFwdRefIdeal.S4224x2048.Idx) :
    refSum f h g i = (show EReal from sumRow (fun k => f (ix2 (i 0) k)) (fun k => h (ix2 (i 0) k)) (fun k => g (ix2 0 k)) (i 1)) := by
  have e : refSum f h g i = (show EReal from h i + Ideal.ofBits .f32 0x3F000000#32 * refNorm f g i) := rfl
  rw [e, refNorm_apply]
  idx_vars i
  rfl

end reference

variable (m : (ℓ : Loc nD τ sig) → Buf (Elt Ideal) ℓ) (ρ : Dev nD → PrngReg)

/-- The residual sum and the normed sum over the arguments. -/
abbrev G0 (c : Dev nD) : FVec Ideal S4224x2048 .f32 := fun i =>
  sumRow (fun k => (show FVec Ideal S4224x2048 .f32 from m ((c : Thread nD τ).loc main_arg0)) (ix2 (i 0) k))
    (fun k => (show FVec Ideal S4224x2048 .f32 from m ((c : Thread nD τ).loc main_arg1)) (ix2 (i 0) k))
    (fun k => (show FVec Ideal S1x2048 .f32 from m ((c : Thread nD τ).loc main_arg2)) (ix2 0 k)) (i 1)

abbrev G1 (c : Dev nD) : FVec Ideal S4224x2048 .bf16 := fun i =>
  normRow (fun k => G0 m c (ix2 (i 0) k)) (fun k => (show FVec Ideal S1x2048 .f32 from m ((c : Thread nD τ).loc main_arg3)) (ix2 0 k)) (i 1)

/-- An entry of a block of the sum is an entry of the whole. -/
theorem sum_apply (c : Dev nD) (t : Fin cfg0.N) (j : S352x2048.Idx) (hr : 352 * t.val + (j 0).val < 4224) :
    k0_pay1 (F := Ideal) (iblk m c 1 t) (iblk m c 0 t) (iblk m c 2 t) j = G0 m c (ix2 ⟨352 * t.val + (j 0).val, hr⟩ (j 1)) := by
  refine (pay1_apply _ _ _ j).trans ?_
  dsimp only [G0]
  blk_point [iblk, V, idx t]

theorem row_lt (t : Fin cfg0.N) (r : Fin 352) : 352 * t.val + r.val < 4224 := by
  have := (idx t).2.2.2.2.2.2
  omega

/-- The result arrays after the run. -/
theorem final4 (c : Dev nD) : (dats m 0 c).arrAt 4 (cfgs 0).N = G0 m c := by
  refine (dats m 0 c).arrAt_eq_of_covers 4 _ (by decide +kernel) fun t hf y => ?_
  blk_simp
  rw [after0_4, out4_eq, sum_apply m c t y (row_lt t (y 0))]
  blk_point [iblk, V, idx t]

theorem final5 (c : Dev nD) : (dats m 0 c).arrAt 5 (cfgs 0).N = G1 m c := by
  refine (dats m 0 c).arrAt_eq_of_covers 5 _ (by decide +kernel) fun t hf y => ?_
  blk_simp
  rw [after0_5, out5_eq]
  refine (pay2_apply _ _ _ _ y).trans ?_
  have hd : ∀ k, k0_pay1 (F := Ideal) (iblk m c 1 t) (iblk m c 0 t) (iblk m c 2 t) (ix2 (y 0) k) = G0 m c (ix2 ⟨352 * t.val + (y 0).val, row_lt t (y 0)⟩ k) :=
    fun k => sum_apply m c t (ix2 (y 0) k) (row_lt t (y 0))
  simp only [hd]
  dsimp only [G1]
  generalize G0 m c = D
  blk_point [iblk, V, idx t]

/-- The two results of the forward call are the reference's. -/
theorem algebraic : Cert.algebraic_PostFwdIdeal_PostFwdRefIdeal (hPostFwdIdeal := Cert.PostFwdIdeal.Gen.facts) (hPostFwdRefIdeal := Cert.PostFwdRefIdeal.Gen.facts) := by
  intro m ρ m' ρ' _ hagree
  refine ⟨fun c => G0 m c, fun c => G1 m c, ?_, ?_⟩
  · exact (θ_run Cert.PostFwdIdeal.defs _ _).mono (fun _ h c => ⟨(h c).1.trans (final4 m c), (h c).2.1.trans (final5 m c), (h c).2.2⟩)
      (Cert.PostFwdIdeal.Value.run_blocks (F := Ideal) m ρ)
  · have key : ∀ c : Dev nD, refSum (m ((c : Thread nD τ).loc main_arg0)) (m ((c : Thread nD τ).loc main_arg1)) (m ((c : Thread nD τ).loc main_arg2)) = G0 m c :=
      fun c => funext fun i => refSum_apply _ _ _ i
    refine (θ_run Cert.PostFwdRefIdeal.defs _ _).mono (fun _ h c => ⟨(h c).1.trans ?_, (h c).2.1.trans ?_, (h c).2.2⟩)
      (Cert.PostFwdRefIdeal.Value.run (F := Ideal) m' ρ')
    all_goals
      obtain ⟨h0, h1, h2, h3⟩ := hagree c
      simp only [h0, h1, h2, h3]
    · exact key c
    · refine Eq.trans (congrArg (fun D => truncf .bf16 (refNorm D _) Cert.PostFwdRefIdeal.Gen.bitsLt_bf16_f32) (key c)) ?_
      funext i
      exact refNorm_apply _ _ i

theorem frame_ref : Cert.quiescent_PostFwdRefIdeal (hPostFwdRefIdeal := Cert.PostFwdRefIdeal.Gen.facts) := fun m ρ _ =>
  (θ_run Cert.PostFwdRefIdeal.defs _ _).mono (fun r h => ⟨fun c => (h c).2.2, sem_eq_zero_of_no_sems (by decide) r.2⟩)
    (Cert.PostFwdRefIdeal.Value.run (F := Ideal) m ρ)

end Cert.Proof.PostFwd

end
-- ==== Proof.NormFwd.lean ====
/-
  The step's first norm, row block by row block, is the plain norm.
-/
module

public import proofs.«01_k».proof.Proof.PostFwd
public import proofs.«01_k».proof.Proof.Gen.NormFwdIdeal.Value
public import proofs.«01_k».proof.Proof.Gen.NormFwdRefIdeal.Run

@[expose] public section

set_option maxRecDepth 16384

noncomputable section

namespace Cert.Proof.NormFwd

open Idealize.ShloMosaic Idealize.ShloMosaic.TcCoe Idealize.SL.Sem
open Idealize.ShloMosaic.Pipeline (Dat)
open Cert.NormFwdIdeal Cert.NormFwdIdeal.Gen
open Cert.Proof.PostFwd (normRow refNorm refNorm_apply)

theorem pay1_apply (h : FVec Ideal S352x2048 .f32) (g : FVec Ideal S1x2048 .f32) (j : S352x2048.Idx) :
    k0_pay1 (F := Ideal) h g j = (show EReal from normRow (fun k => h (ix2 (j 0) k)) (fun k => g (ix2 0 k)) (j 1)) := by
  idx_vars j
  pointwise [k0_pay1, normRow, rinv]

/-- The loads read the whole blocks and the store leaves its payload. -/
theorem out_eq {F : FTy → Type} [FloatOps F] (x0 : Vec F S352x2048 .f32) (x1 : Vec F S1x2048 .f32) : out0_2 x0 x1 = k0_pay1 x0 x1 := by
  unfold out0_2
  rw [View.canon_unit_zero PostFwd.zero, View.ld_unit_zero PostFwd.zero, View.ld_unit_zero PostFwd.zero]

/-- Where the blocks sit. -/
theorem idx : ∀ t : Fin cfg0.N, win0_0.index t = ![t.val, 0] ∧ win0_1.index t = ![0, 0] ∧ win0_2.index t = ![t.val, 0] ∧ t.val < 12 :=
  (by decide +kernel : ∀ t : Fin grid0.N, _)

variable (m : (ℓ : Loc nD τ sig) → Buf (Elt Ideal) ℓ) (ρ : Dev nD → PrngReg)

/-- The normed array over the arguments. -/
abbrev G (c : Dev nD) : FVec Ideal S4224x2048 .bf16 := fun i =>
  normRow (fun k => (show FVec Ideal S4224x2048 .f32 from m ((c : Thread nD τ).loc main_arg0)) (ix2 (i 0) k))
    (fun k => (show FVec Ideal S1x2048 .f32 from m ((c : Thread nD τ).loc main_arg1)) (ix2 0 k)) (i 1)

/-- The result array after the run. -/
theorem final (c : Dev nD) : (dats m 0 c).arrAt 2 (cfgs 0).N = G m c := by
  refine (dats m 0 c).arrAt_eq_of_covers 2 _ (by decide +kernel) fun t hf y => ?_
  blk_simp
  rw [after0_2, out_eq]
  refine (pay1_apply _ _ y).trans ?_
  dsimp only [G]
  blk_point [iblk, V, idx t]

/-- The result array is the reference's. -/
theorem algebraic : Cert.algebraic_NormFwdIdeal_NormFwdRefIdeal (hNormFwdIdeal := Cert.NormFwdIdeal.Gen.facts) (hNormFwdRefIdeal := Cert.NormFwdRefIdeal.Gen.facts) := by
  intro m ρ m' ρ' _ hagree
  refine ⟨fun c => G m c, ?_, ?_⟩
  · exact (θ_run Cert.NormFwdIdeal.defs _ _).mono (fun _ h c => ⟨(h c).1.trans (final m c), (h c).2⟩)
      (Cert.NormFwdIdeal.Value.run_blocks (F := Ideal) m ρ)
  · refine (θ_run Cert.NormFwdRefIdeal.defs _ _).mono (fun _ h c => ⟨(h c).1.trans ?_, (h c).2⟩)
      (Cert.NormFwdRefIdeal.Value.run (F := Ideal) m' ρ')
    obtain ⟨h0, h1⟩ := hagree c
    simp only [h0, h1]
    exact funext fun i => refNorm_apply _ _ i

theorem frame_ref : Cert.quiescent_NormFwdRefIdeal (hNormFwdRefIdeal := Cert.NormFwdRefIdeal.Gen.facts) := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

end Cert.Proof.NormFwd

end
-- ==== Proof.LossHead.lean ====
/-
  The loss call: the loss over the rows that hold positions, its gradient at the residual stream, and the last norm's gradients.
-/
module

public import proofs.«01_k».proof.Proof.NormClaim
public import proofs.«01_k».proof.Proof.PostFwd
public import proofs.«01_k».proof.Proof.Gen.LossHeadIdeal.Value
public import proofs.«01_k».proof.Proof.Gen.LossHeadRefIdeal.Run
public import proofs.«01_k».proof.Proof.Gen.Pre_loss_finite
public import Idealize.ShloMosaic.Lib.WordCmp

@[expose] public section

set_option maxRecDepth 16384

noncomputable section

namespace Cert.Proof.LossHead

open Idealize.ShloMosaic Idealize.ShloMosaic.TcCoe Idealize.SL.Sem
open Idealize.ShloMosaic.Pipeline (Dat)
open Cert.Proof.NormBwd (gradAt gainAt gainBlk)
open Cert.Proof.PostFwd (sumRow normRow refNorm refSum refSum_apply)

/-- The f32 pattern of one half. -/
abbrev half : EReal := Ideal.ofBits .f32 0x3F000000#32

theorem two_eq : Ideal.ofBits .f32 0x40000000#32 = ((2 : ℝ) : EReal) := by
  simp [Ideal.ofBits, Ideal.ieee, -EReal.coe_mul]; norm_num

theorem one_eq : Ideal.ofBits .f32 0x3F800000#32 = ((1 : ℝ) : EReal) := by
  simp [Ideal.ofBits, Ideal.ieee, -EReal.coe_mul]; norm_num

/-- The factor that differentiating the mean of squares leaves, times twice the difference, is the difference over the columns. -/
theorem twice {x : EReal} (hx : IsReal x) :
    Ideal.div (half * Ideal.ofBits .f32 0x3F800000#32) cols * (Ideal.ofBits .f32 0x40000000#32 * x) = Ideal.div x cols := by
  obtain ⟨r, rfl⟩ := hx
  rw [half, ofBits_half, one_eq, two_eq, cols_eq, ← EReal.coe_mul, Ideal.div_coe (by norm_num), Ideal.div_coe (by norm_num)]
  simp only [← EReal.coe_mul]
  exact congrArg _ (by ring)

/-- A block's part of the loss, row by row. -/
theorem part_eq (s : Fin 352 → ℝ) : Ideal.div (half * ∑ r, (s r : EReal)) cols = ∑ r, ((1 / 2 * (s r * (1 / 2048)) : ℝ) : EReal) := by
  rw [half, ofBits_half, cols_eq, coe_sum, coe_sum, ← EReal.coe_mul, Ideal.div_coe (by norm_num), ← EReal.coe_mul, Finset.sum_congr rfl fun r _ => (by ring : 1 / 2 * (s r * (1 / 2048)) = 1 / 2 * (1 / 2048) * s r), ← Finset.mul_sum]
  exact congrArg _ (by ring)

/-- The rows that hold positions are all that count when the others are zero. -/
theorem rows_inner (s : Fin 4224 → ℝ) (h : ∀ l : Fin 4224, ¬(16 ≤ l.val ∧ l.val < 4112) → s l = 0) :
    ∑ l, s l = ∑ r : Fin 4096, s ⟨16 + r.val, by omega⟩ := by
  refine (Finset.sum_of_injOn (fun r : Fin 4096 => (⟨16 + r.val, by omega⟩ : Fin 4224)) (fun a _ b _ e => ?_) (fun _ _ => Finset.mem_coe.mpr (Finset.mem_univ _)) (fun l _ hl => ?_) fun _ _ => rfl).symm
  · have := congrArg Fin.val e
    exact Fin.ext (by dsimp only at this; omega)
  · refine h l fun hc => hl ⟨⟨l.val - 16, by omega⟩, by simp, Fin.ext ?_⟩
    dsimp only
    omega

section kernel

open Cert.LossHeadIdeal Cert.LossHeadIdeal.Gen

/-- The difference on the rows that hold positions, zero on the others. -/
def diffRow (l : Nat) (f h g t : Fin 2048 → EReal) (k : Fin 2048) : EReal := if 16 ≤ l ∧ l < 4112 then sumRow f h g k - t k else 0

theorem point : ∀ t : Fin cfg0.N, ((grid0.coords t) 0).val = t.val := (by decide +kernel : ∀ t : Fin grid0.N, _)

/-- The comparisons of the row's number. -/
theorem mask : ∀ (t : Fin 12) (r : Fin 352),
    IntOp.andi (Scalar.cmpi .sge (Scalar.addi (Scalar.muli (BitVec.ofNat 32 t.val) 352#32) (BitVec.ofNat 32 r.val)) 16#32)
      (Scalar.cmpi .slt (Scalar.addi (Scalar.muli (BitVec.ofNat 32 t.val) 352#32) (BitVec.ofNat 32 r.val)) 4112#32)
      = BitVec.ofBool (decide (16 ≤ 352 * t.val + r.val ∧ 352 * t.val + r.val < 4112)) := by
  decide +kernel

theorem pay4_apply (i : grid0.Coords) (f : FVec Ideal S352x2048 .f32) (g : FVec Ideal S1x2048 .f32) (h t : FVec Ideal S352x2048 .f32) (j : S352x2048.Idx) :
    k0_pay4 (F := Ideal) i f g h t j
      = (show EReal from diffRow (352 * (i 0).val + (j 0).val) (fun k => f (ix2 (j 0) k)) (fun k => h (ix2 (j 0) k)) (fun k => g (ix2 0 k)) (fun k => t (ix2 (j 0) k)) (j 1)) := by
  idx_vars j
  pointwise [k0_pay4, diffRow, sumRow, normRow, rinv]
  exact (congrArg (fun b => Scalar.select b _ _) (mask (i 0) j0)).trans (WordCmp.select_decide _ _ _)

theorem pay6_apply (d : FVec Ideal S352x2048 .f32) (a : FVec Ideal S1x1 .f32) (j : S1x1.Idx) :
    k0_pay6 (F := Ideal) d (k0_pay5 a) j = (show EReal from a j + Ideal.div (half * ∑ r, ∑ k, d (ix2 r k) * d (ix2 r k)) cols) := by
  idx_vars j
  pointwise [k0_pay6, k0_pay5]

theorem pay3_apply (j : S1x1.Idx) : k0_pay3 (F := Ideal) j = (show EReal from 0) := by
  pointwise [k0_pay3]

theorem pay2_apply (j : S1x2048.Idx) : k0_pay2 (F := Ideal) j = (show EReal from 0) := by
  pointwise [k0_pay2]

theorem pay8_apply (d : FVec Ideal S352x2048 .f32) (j : S352x2048.Idx) : k0_pay8 (F := Ideal) d j = (show EReal from half * Ideal.div (d j) cols) := rfl

theorem pay12_apply (f : FVec Ideal S352x2048 .f32) (g : FVec Ideal S1x2048 .f32) (d : FVec Ideal S352x2048 .f32) (j : S352x2048.Idx) :
    k0_pay12 (F := Ideal) f g d j
      = (show EReal from normGrad (fun k => half * Ideal.div (d (ix2 (j 0) k)) cols * g (ix2 0 k)) (fun k => f (ix2 (j 0) k)) (j 1)) := by
  idx_vars j
  pointwise [k0_pay12, k0_pay10, k0_pay9, k0_pay8, k0_pay7, normGrad, rinv]

theorem pay1_apply (f d : FVec Ideal S352x2048 .f32) (a : FVec Ideal S1x2048 .f32) (j : S1x2048.Idx) :
    k0_pay1 (F := Ideal) (k0_pay11 f d) a j = (show EReal from a j + gainBlk (fun i => half * Ideal.div (d i) cols) f j) := by
  idx_vars j
  pointwise [k0_pay1, k0_pay11, k0_pay10, k0_pay9, k0_pay8, k0_pay7, gainBlk, rinv]

end kernel

section reference

open Cert.LossHeadRefIdeal Cert.LossHeadRefIdeal.Gen

/-- The reference's differences over the rows that hold positions. -/
def refDiff (f h t : FVec Ideal S4224x2048 .f32) (g : FVec Ideal S1x2048 .f32) : FVec Ideal S4096x2048 .f32 :=
  subf (extractStridedSlice S4096x2048 ![16, 0] (refSum f h g) slices_S4224x2048_S4096x2048_16_0)
    (extractStridedSlice S4096x2048 ![16, 0] t slices_S4224x2048_S4096x2048_16_0)

/-- The reference's gradient at the residual stream, over the differences. -/
def refTop (d : FVec Ideal S4096x2048 .f32) : FVec Ideal S4224x2048 .f32 :=
  pad S4224x2048 ![16, 0] ![112, 0] ![0, 0] (mulf (broadcastInDim S4096x2048 ![0] bcast_S4096_S4096x2048_0 (Host.divf
      (broadcastInDim S4096 ![] bcast_S_S4096 (mulf (constant S_ .f32 0x3F000000#32) (constant S_ .f32 0x3F800000#32)))
      (broadcastInDim S4096 ![] bcast_S_S4096 (constant S_ .f32 0x45000000#32))))
    (mulf (broadcastInDim S4096x2048 ![] bcast_S_S4096x2048 (constant S_ .f32 0x40000000#32)) d)) (constant S_ .f32 0x00000000#32) pads_S4096x2048_S4224x2048_161120_000 h_S_

/-- The reference's loss, over the differences. -/
def refLoss (d : FVec Ideal S4096x2048 .f32) : FVec Ideal S1x1 .f32 :=
  shapeCast _ (mulf (constant S_ .f32 0x3F000000#32) (Host.reduceAdd (Host.divf
      (Host.reduceAdd (mulf d d) (constant S_ .f32 0x00000000#32) reducesTo_S4096x2048_S4096_d1 h_S_)
      (broadcastInDim S4096 ![] bcast_S_S4096 (constant S_ .f32 0x45000000#32))) (constant S_ .f32 0x00000000#32) reducesTo_S4096_S_d0 h_S_)) shapeCasts_S_S1x1

theorem refDiff_apply (f h t : FVec Ideal S4224x2048 .f32) (g : FVec Ideal S1x2048 .f32) (r : Fin 4096) (k : Fin 2048) :
    refDiff f h t g (ix2 r k) = (show EReal from refSum f h g (ix2 ⟨16 + r.val, by omega⟩ k) - t (ix2 ⟨16 + r.val, by omega⟩ k)) := by
  unfold refDiff
  generalize refSum f h g = H
  pointwise []

theorem refTop_apply (d : FVec Ideal S4096x2048 .f32) (i : S4224x2048.Idx) :
    refTop d i = (show EReal from if h : 16 ≤ (i 0).val ∧ (i 0).val < 4112 then
      Ideal.div (half * Ideal.ofBits .f32 0x3F800000#32) cols * (Ideal.ofBits .f32 0x40000000#32 * d (ix2 ⟨(i 0).val - 16, by omega⟩ (i 1))) else 0) := by
  idx_vars i
  pointwise [refTop]
  by_cases h : 16 ≤ i0.val ∧ i0.val < 4112
  · rw [dif_pos h, dif_pos ⟨h.1, by omega⟩]
  · rw [dif_neg h, dif_neg (fun hc => h ⟨hc.1, by omega⟩)]

theorem refLoss_apply (d : FVec Ideal S4096x2048 .f32) (i : S1x1.Idx) :
    refLoss d i = (show EReal from half * ∑ r : Fin 4096, Ideal.div (∑ k, d (ix2 r k) * d (ix2 r k)) cols) := by
  idx_vars i
  pointwise [refLoss]

end reference

open Cert.LossHeadIdeal Cert.LossHeadIdeal.Gen

/-- Where the blocks sit. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![t.val, 0] ∧ win0_6.index t = ![0, 0]
    ∧ win0_7.index t = ![0, 0] ∧ t.val < 12 :=
  (by decide +kernel : ∀ t : Fin grid0.N, _)

theorem row_lt (t : Fin cfg0.N) (r : Fin 352) : 352 * t.val + r.val < 4224 := by
  have := (idx t).2.2.2.2.2.2.2.2
  omega

variable (m : (ℓ : Loc nD τ sig) → Buf (Elt Ideal) ℓ) (ρ : Dev nD → PrngReg)

/-- The differences over all rows. -/
def D (c : Dev nD) : FVec Ideal S4224x2048 .f32 := fun i =>
  diffRow (i 0).val (fun k => (show FVec Ideal S4224x2048 .f32 from m ((c : Thread nD τ).loc main_arg0)) (ix2 (i 0) k))
    (fun k => (show FVec Ideal S4224x2048 .f32 from m ((c : Thread nD τ).loc main_arg1)) (ix2 (i 0) k))
    (fun k => (show FVec Ideal S1x2048 .f32 from m ((c : Thread nD τ).loc main_arg3)) (ix2 0 k))
    (fun k => (show FVec Ideal S4224x2048 .f32 from m ((c : Thread nD τ).loc main_arg2)) (ix2 (i 0) k)) (i 1)

/-- A block of the differences. -/
def blk (c : Dev nD) (t : Fin cfg0.N) : FVec Ideal S352x2048 .f32 :=
  k0_pay4 (F := Ideal) (grid0.coords t) (iblk m c 0 t) (iblk m c 3 t) (iblk m c 1 t) (iblk m c 2 t)

theorem blk_apply (c : Dev nD) (t : Fin cfg0.N) (j : S352x2048.Idx) (hr : 352 * t.val + (j 0).val < 4224) :
    blk m c t j = D m c (ix2 ⟨352 * t.val + (j 0).val, hr⟩ (j 1)) := by
  refine (pay4_apply _ _ _ _ _ j).trans ?_
  rw [point t]
  dsimp only [D]
  blk_point [iblk, V, idx t]

/-- The gradient at the residual stream, the cotangent of the last norm, and that norm's two gradients. -/
abbrev G0 (c : Dev nD) : FVec Ideal S4224x2048 .f32 := fun i => Ideal.div (D m c i) cols
abbrev cot (c : Dev nD) : FVec Ideal S4224x2048 .f32 := fun i => half * Ideal.div (D m c i) cols
abbrev G1 (c : Dev nD) : FVec Ideal S4224x2048 .bf16 := fun i =>
  gradAt (cot m c) (m ((c : Thread nD τ).loc main_arg0)) (m ((c : Thread nD τ).loc main_arg3)) i
abbrev G2 (c : Dev nD) : FVec Ideal S1x2048 .f32 := fun i => gainAt (cot m c) (m ((c : Thread nD τ).loc main_arg0)) i

/-- The loss, block by block. -/
abbrev G3 (c : Dev nD) : FVec Ideal S1x1 .f32 := fun _ =>
  ∑ s : Fin 12, Ideal.div (half * ∑ r : Fin 352, ∑ k, D m c (ix2 ⟨352 * s.val + r.val, by omega⟩ k) * D m c (ix2 ⟨352 * s.val + r.val, by omega⟩ k)) cols

/-- Equal entries leave equal parts of the loss. -/
theorem blocks_sum {f : Fin 12 → Fin 352 → Fin 2048 → EReal} {p : Fin 4224 → Fin 2048 → EReal}
    (hf : ∀ (s : Fin 12) (r : Fin 352) (k : Fin 2048) (h : 352 * s.val + r.val < 4224), f s r k = p ⟨352 * s.val + r.val, h⟩ k) :
    ∑ s, Ideal.div (half * ∑ r, ∑ k, f s r k * f s r k) cols
      = ∑ s : Fin 12, Ideal.div (half * ∑ r : Fin 352, ∑ k, p ⟨352 * s.val + r.val, by omega⟩ k * p ⟨352 * s.val + r.val, by omega⟩ k) cols :=
  Finset.sum_congr rfl fun s _ => by
    have e : ∀ (r : Fin 352) k, f s r k = p ⟨352 * s.val + r.val, by omega⟩ k := fun r k => hf s r k _
    simp only [e]

theorem out4 (c : Dev nD) (t : Fin cfg0.N) : (outsAt0 m c t.val t.isLt).1 = k0_pay7 (blk m c t) := by
  by_cases h : t.val % 12 = 0
  · rw [outsAt0_A m c t h]; frame_out; rfl
  · rw [outsAt0_B m c t h]; frame_out; rfl

theorem out5 (c : Dev nD) (t : Fin cfg0.N) : (outsAt0 m c t.val t.isLt).2.1 = k0_pay12 (iblk m c 0 t) (iblk m c 3 t) (blk m c t) := by
  by_cases h : t.val % 12 = 0
  · rw [outsAt0_A m c t h]; frame_out; rfl
  · rw [outsAt0_B m c t h]; frame_out; rfl

theorem final4 (c : Dev nD) : (dats m 0 c).arrAt 4 (cfgs 0).N = G0 m c := by
  refine (dats m 0 c).arrAt_eq_of_covers 4 _ (by decide +kernel) fun t hf y => ?_
  blk_simp
  rw [after0_4, out4]
  refine (congrArg (fun x : EReal => Ideal.div x cols) (blk_apply m c t y (row_lt t (y 0)))).trans ?_
  dsimp only [G0]
  generalize D m c = d
  blk_point [iblk, V, idx t]

theorem final5 (c : Dev nD) : (dats m 0 c).arrAt 5 (cfgs 0).N = G1 m c := by
  refine (dats m 0 c).arrAt_eq_of_covers 5 _ (by decide +kernel) fun t hf y => ?_
  blk_simp
  rw [after0_5, out5]
  refine (pay12_apply _ _ _ y).trans ?_
  have hd : ∀ k, blk m c t (ix2 (y 0) k) = D m c (ix2 ⟨352 * t.val + (y 0).val, row_lt t (y 0)⟩ k) :=
    fun k => blk_apply m c t (ix2 (y 0) k) (row_lt t (y 0))
  simp only [hd]
  dsimp only [G1, gradAt, cot]
  generalize D m c = d
  blk_point [iblk, V, idx t]

theorem final6 (c : Dev nD) : (dats m 0 c).arrAt 6 (cfgs 0).N = G2 m c := by
  refine (dats m 0 c).arrAt_eq_of_covers 6 _ (by decide +kernel) fun t hf y => ?_
  blk_simp
  rw [after0_6, Pipeline.eq_sum_fin_of_reset_step_apply_of_flush (fun n h => (outsAt0 m c n h).2.2.1) 12 (fun _ => 0)
    (fun p j => gainBlk (fun i => half * Ideal.div (blk m c p i) cols) (iblk m c 0 p) j)
    (fun t h j => by rw [outsAt0_A m c t h]; frame_out; exact (pay1_apply _ (blk m c t) _ j).trans (congrArg (fun x : EReal => x + _) (pay2_apply j)))
    (fun t h j => by rw [outsAt0_B m c t h]; frame_out; exact pay1_apply _ (blk m c t) _ j)
    t ((flush0_6 t).mp hf) _, zero_add]
  refine Eq.trans (Fin.sum_fin_congr fun s => rfl) (NormBwd.rows_sum (fun s k hl => ?_))
  dsimp only [cot]
  rw [blk_apply m c _ _ (row_lt _ _)]
  generalize D m c = d
  blk_point [iblk, V, idx t, idx ⟨_, Pipeline.run_point_lt_of_flush t ((flush0_6 t).mp hf) s⟩]

theorem final7 (c : Dev nD) : (dats m 0 c).arrAt 7 (cfgs 0).N = G3 m c := by
  refine (dats m 0 c).arrAt_eq_of_covers 7 _ (by decide +kernel) fun t hf y => ?_
  blk_simp
  rw [after0_7, Pipeline.eq_sum_fin_of_reset_step_apply_of_flush (fun n h => (outsAt0 m c n h).2.2.2) 12 (fun _ => 0)
    (fun p j => Ideal.div (half * ∑ r, ∑ k, blk m c p (ix2 r k) * blk m c p (ix2 r k)) cols)
    (fun t h j => by rw [outsAt0_A m c t h]; frame_out; exact (pay6_apply (blk m c t) _ j).trans (congrArg (fun x : EReal => x + _) (pay3_apply j)))
    (fun t h j => by rw [outsAt0_B m c t h]; frame_out; exact pay6_apply (blk m c t) _ j)
    t ((flush0_7 t).mp hf) _, zero_add]
  refine Eq.trans (Fin.sum_fin_congr fun s => rfl) (blocks_sum (f := fun s r k => blk m c ⟨_, Pipeline.run_point_lt_of_flush t ((flush0_7 t).mp hf) s⟩ (ix2 r k))
    (p := fun l k => D m c (ix2 l k)) (fun s r k hl => ?_))
  refine (blk_apply m c _ (ix2 r k) (row_lt _ r)).trans (congrArg (fun l => D m c (ix2 l k)) (Fin.ext ?_))
  have := (idx t).2.2.2.2.2.2.2.2
  show 352 * (12 * (t.val / 12) + s.val) + r.val = 352 * s.val + r.val
  omega

/-- The precondition makes every argument entry real. -/
theorem finite (hm : Pre_LossHeadIdeal_loss_finite (hPre_loss_finite := Cert.Pre_loss_finite.Gen.facts) m) (c : Dev nD) :
    (∀ i, IsReal ((m ((c : Thread nD τ).loc main_arg0) : FVec Ideal S4224x2048 .f32) i))
    ∧ (∀ i, IsReal ((m ((c : Thread nD τ).loc main_arg1) : FVec Ideal S4224x2048 .f32) i))
    ∧ (∀ i, IsReal ((m ((c : Thread nD τ).loc main_arg2) : FVec Ideal S4224x2048 .f32) i))
    ∧ (∀ i, IsReal ((m ((c : Thread nD τ).loc main_arg3) : FVec Ideal S1x2048 .f32) i)) := by
  obtain ⟨h0, h1, h2, h3⟩ := hm c
  exact ⟨fun i => isReal_of_mask (congrFun h0 i), fun i => isReal_of_mask (congrFun h1 i), fun i => isReal_of_mask (congrFun h2 i), fun i => isReal_of_mask (congrFun h3 i)⟩

theorem half_real : IsReal half := ⟨_, ofBits_half⟩

/-- The differences are real. -/
theorem D_real (hm : Pre_LossHeadIdeal_loss_finite (hPre_loss_finite := Cert.Pre_loss_finite.Gen.facts) m) (c : Dev nD) (i : S4224x2048.Idx) :
    IsReal (D m c i) := by
  obtain ⟨r0, r1, r2, r3⟩ := finite m hm c
  unfold D diffRow
  split
  · exact ((r1 _).add (half_real.mul (((r0 _).mul (rinv_real fun k => r0 _)).mul (r3 _)))).sub (r2 _)
  · exact IsReal.zero

/-- The rows without positions hold zero. -/
theorem D_zero (c : Dev nD) (i : S4224x2048.Idx) (h : ¬(16 ≤ (i 0).val ∧ (i 0).val < 4112)) : D m c i = 0 := if_neg h

/-- The reference's differences are the kernel's on the rows that hold positions. -/
theorem refDiff_eq (c : Dev nD) (r : Fin 4096) (k : Fin 2048) :
    refDiff (m ((c : Thread nD τ).loc main_arg0)) (m ((c : Thread nD τ).loc main_arg1)) (m ((c : Thread nD τ).loc main_arg2)) (m ((c : Thread nD τ).loc main_arg3)) (ix2 r k)
      = D m c (ix2 ⟨16 + r.val, by omega⟩ k) := by
  refine (refDiff_apply _ _ _ _ r k).trans ?_
  rw [refSum_apply]
  exact (if_pos (show 16 ≤ 16 + r.val ∧ 16 + r.val < 4112 from ⟨by omega, by omega⟩)).symm

/-- So is its gradient at the residual stream. -/
theorem refTop_eq (hm : Pre_LossHeadIdeal_loss_finite (hPre_loss_finite := Cert.Pre_loss_finite.Gen.facts) m) (c : Dev nD) :
    refTop (refDiff (m ((c : Thread nD τ).loc main_arg0)) (m ((c : Thread nD τ).loc main_arg1)) (m ((c : Thread nD τ).loc main_arg2)) (m ((c : Thread nD τ).loc main_arg3))) = G0 m c := by
  funext i
  refine (refTop_apply _ i).trans ?_
  by_cases h : 16 ≤ (i 0).val ∧ (i 0).val < 4112
  · rw [dif_pos h, refDiff_eq m c ⟨(i 0).val - 16, by omega⟩ (i 1)]
    refine (twice (D_real m hm c _)).trans (congrArg (fun j => Ideal.div (D m c j) cols) ?_)
    idx_vars i
    exact congrArg (fun r => ix2 r i1) (Fin.ext (show 16 + (i0.val - 16) = i0.val by have := h.1; dsimp at this; omega))
  · rw [dif_neg h]
    show _ = Ideal.div (D m c i) cols
    rw [D_zero m c i h, cols_eq, Ideal.div_coe (by norm_num), zero_mul]

/-- And the loss. -/
theorem refLoss_eq (hm : Pre_LossHeadIdeal_loss_finite (hPre_loss_finite := Cert.Pre_loss_finite.Gen.facts) m) (c : Dev nD) :
    refLoss (refDiff (m ((c : Thread nD τ).loc main_arg0)) (m ((c : Thread nD τ).loc main_arg1)) (m ((c : Thread nD τ).loc main_arg2)) (m ((c : Thread nD τ).loc main_arg3))) = G3 m c := by
  funext i
  refine (refLoss_apply _ i).trans ?_
  simp only [refDiff_eq m c]
  have hr := D_real m hm c
  have hz := D_zero m c
  dsimp only [G3]
  generalize D m c = d at hr hz
  choose q hq using hr
  obtain rfl : d = fun i => (q i : EReal) := funext hq
  have hs : ∀ l : Fin 4224, ∑ k : Fin 2048, (q (ix2 l k) : EReal) * (q (ix2 l k) : EReal) = ((∑ k : Fin 2048, q (ix2 l k) * q (ix2 l k) : ℝ) : EReal) := fun l => by
    rw [← coe_sum]; simp only [EReal.coe_mul]
  have h0 : ∀ l : Fin 4224, ¬(16 ≤ l.val ∧ l.val < 4112) → 1 / 2 * ((∑ k : Fin 2048, q (ix2 l k) * q (ix2 l k)) * (1 / 2048)) = 0 := fun l h => by
    have : ∀ k : Fin 2048, q (ix2 l k) = 0 := fun k => EReal.coe_eq_zero.mp (hz (ix2 l k) h)
    simp [this]
  obtain ⟨p, hp⟩ : ∃ p : Fin 4224 → ℝ, ∀ l, ∑ k : Fin 2048, q (ix2 l k) * q (ix2 l k) = p l := ⟨_, fun _ => rfl⟩
  simp only [hs, hp] at h0 ⊢
  refine Eq.trans ?_ (Finset.sum_congr rfl fun x _ => (part_eq fun r : Fin 352 => p ⟨352 * x.val + r.val, by omega⟩)).symm
  rw [NormBwd.rows_sum (p := fun l => ((1 / 2 * (p l * (1 / 2048)) : ℝ) : EReal)) (fun s k h => by simp only [mul_comm 352]), coe_sum, rows_inner _ h0,
    half, ofBits_half, cols_eq]
  simp only [Ideal.div_coe (by norm_num : (2048 : ℝ) ≠ 0), ← EReal.coe_mul]
  rw [coe_sum, ← EReal.coe_mul, Finset.mul_sum]

/-- The four results of the loss call are the reference's. -/
theorem algebraic : Cert.algebraic_LossHeadIdeal_LossHeadRefIdeal_pre_loss_finite (hLossHeadIdeal := Cert.LossHeadIdeal.Gen.facts) (hLossHeadRefIdeal := Cert.LossHeadRefIdeal.Gen.facts) (hPre_loss_finite := Cert.Pre_loss_finite.Gen.facts) := by
  intro m g m' g' hm hagree
  refine ⟨fun c => G0 m c, fun c => G1 m c, fun c => G2 m c, fun c => G3 m c, ?_, ?_⟩
  · exact (θ_run Cert.LossHeadIdeal.defs _ _).mono (fun _ h c => ⟨(h c).1.trans (final4 m c), (h c).2.1.trans (final5 m c),
        (h c).2.2.1.trans (final6 m c), (h c).2.2.2.1.trans (final7 m c), (h c).2.2.2.2⟩)
      (Cert.LossHeadIdeal.Value.run_blocks (F := Ideal) m g)
  · have key : ∀ c : Dev nD, mulf (broadcastInDim Cert.LossHeadRefIdeal.S4224x2048 ![] Cert.LossHeadRefIdeal.Gen.bcast_S_S4224x2048 (constant Cert.LossHeadRefIdeal.S_ .f32 0x3F000000#32))
        (refTop (refDiff (m ((c : Thread nD τ).loc main_arg0)) (m ((c : Thread nD τ).loc main_arg1)) (m ((c : Thread nD τ).loc main_arg2)) (m ((c : Thread nD τ).loc main_arg3)))) = cot m c :=
      fun c => by rw [refTop_eq m hm c]; rfl
    have real : ∀ c i, IsReal (cot m c i) := fun c i => half_real.mul (div_cols (D_real m hm c i))
    refine (θ_run Cert.LossHeadRefIdeal.defs _ _).mono (fun _ h c => ⟨(h c).1.trans ?_, (h c).2.1.trans ?_, (h c).2.2.1.trans ?_, (h c).2.2.2.1.trans ?_, (h c).2.2.2.2⟩)
      (Cert.LossHeadRefIdeal.Value.run (F := Ideal) m' g')
    all_goals
      obtain ⟨h0, h1, h2, h3⟩ := hagree c
      obtain ⟨r0, r1, r2, r3⟩ := finite m hm c
    · simp only [h0, h1, h2, h3]
      exact refTop_eq m hm c
    · unfold Cert.LossHeadRefIdeal.Value.res_main_v57
      simp only [h0, h1, h2, h3]
      refine Eq.trans (congrArg (fun d => truncf .bf16 (NormBwd.refGrad d _ _) Cert.LossHeadRefIdeal.Gen.bitsLt_bf16_f32) (key c)) ?_
      funext i
      exact NormBwd.refGrad_eq (real c) r0 r3 i
    · simp only [h0, h1, h2, h3]
      refine Eq.trans (congrArg (fun d => NormBwd.refGain d _) (key c)) ?_
      funext i
      exact NormBwd.refGain_apply _ _ i
    · simp only [h0, h1, h2, h3]
      exact refLoss_eq m hm c

theorem frame_ref : Cert.quiescent_LossHeadRefIdeal (hLossHeadRefIdeal := Cert.LossHeadRefIdeal.Gen.facts) := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

theorem frame_ref_pre : Cert.quiescent_LossHeadRefIdeal_pre_loss_finite (hLossHeadRefIdeal := Cert.LossHeadRefIdeal.Gen.facts) (hPre_loss_finite := Cert.Pre_loss_finite.Gen.facts) :=
  fun m ρ _ => frame_ref m ρ trivial

end Cert.Proof.LossHead

end
-- ==== Proof.AdamSmall.lean ====
/-
  The AdamW call on the packed small parameters: it joins the two packs of gradients, summing the second over its four parts,
  and leaves the plain step.
-/
module

public import proofs.«01_k».proof.Defs
public import proofs.«01_k».proof.Proof.Adam
public import proofs.«01_k».proof.Proof.Gen.AdamSmallIdeal.Value
public import proofs.«01_k».proof.Proof.Gen.AdamSmallRefIdeal.Run
public import Idealize.ShloMosaic.Lib.Pipeline.ValueKit
public import Idealize.ShloMosaic.Lib.Pointwise
public import Idealize.ShloMosaic.Lib.Quiescent

@[expose] public section

set_option maxRecDepth 16384

noncomputable section

namespace Cert.Proof.AdamSmall

open Idealize.ShloMosaic Idealize.ShloMosaic.TcCoe Idealize.SL.Sem
open Idealize.ShloMosaic.Pipeline (Dat)

/-- The reference's gradient: the first pack, then the second summed over its parts. -/
abbrev cat (a : FVec Ideal Cert.AdamSmallRefIdeal.S24x2048 .f32) (b : FVec Ideal Cert.AdamSmallRefIdeal.S4x152x2048 .f32) :
    FVec Ideal Cert.AdamSmallRefIdeal.S176x2048 .f32 :=
  concatenate Cert.AdamSmallRefIdeal.S176x2048 0 [⟨Cert.AdamSmallRefIdeal.S24x2048, a⟩, ⟨Cert.AdamSmallRefIdeal.S152x2048,
    (Host.reduceAdd b (constant Cert.AdamSmallRefIdeal.S_ .f32 0x00000000#32) Cert.AdamSmallRefIdeal.Gen.reducesTo_S4x152x2048_S152x2048_d0 Cert.AdamSmallRefIdeal.Gen.h_S_)⟩]
    Cert.AdamSmallRefIdeal.Gen.concatenates_S24x2048_S152x2048_S176x2048_d0

open Cert.AdamSmallIdeal Cert.AdamSmallIdeal.Gen

/-- The four parts added in pairs are their sum. -/
theorem parts (b : Vec Ideal S4x152x2048 .f32) :
    (addf (addf (shapeCast S152x2048 (View.ld (Val := Elt Ideal) (e' := .f32) b r0_1) shapeCasts_S1x152x2048_S152x2048) (shapeCast S152x2048 (View.ld (Val := Elt Ideal) (e' := .f32) b r0_2) shapeCasts_S1x152x2048_S152x2048))
      (addf (shapeCast S152x2048 (View.ld (Val := Elt Ideal) (e' := .f32) b r0_3) shapeCasts_S1x152x2048_S152x2048) (shapeCast S152x2048 (View.ld (Val := Elt Ideal) (e' := .f32) b r0_4) shapeCasts_S1x152x2048_S152x2048)) : FVec Ideal S152x2048 .f32)
      = Host.reduceAdd b (constant Cert.AdamSmallRefIdeal.S_ .f32 0x00000000#32) Cert.AdamSmallRefIdeal.Gen.reducesTo_S4x152x2048_S152x2048_d0 Cert.AdamSmallRefIdeal.Gen.h_S_ := by
  funext j
  idx_vars j
  pointwise []
  rw [Fin.sum_univ_four, add_assoc, add_assoc, add_assoc]

section blocks

variable (x0 : FVec Ideal S176x2048 .f32) (x1 : FVec Ideal S24x2048 .f32) (x2 : FVec Ideal S4x152x2048 .f32) (x3 x4 : FVec Ideal S176x2048 .f32)

theorem zero : (![0, 0] : Fin 2 → Nat) = fun _ => 0 := funext fun a => by fin_cases a <;> rfl

theorem cat_eq : k0_pay2 (F := Ideal) x1 (View.ld x2 r0_1) (View.ld x2 r0_2) (View.ld x2 r0_3) (View.ld x2 r0_4) = cat x1 x2 :=
  congrArg (fun p : FVec Ideal S152x2048 .f32 => concatenate S176x2048 0 [⟨S24x2048, x1⟩, ⟨S152x2048, p⟩] concatenates_S24x2048_S152x2048_S176x2048_d0) (parts x2)

/-- The loads read the whole blocks and each store leaves its payload. -/
theorem out5_eq : out0_5 (F := Ideal) x0 x1 x2 x3 x4 = cat x1 x2 := by
  unfold out0_5
  rw [View.canon_unit_zero zero, View.ld_unit_zero zero, cat_eq]

theorem out6_eq (j : S176x2048.Idx) : out0_6 (F := Ideal) x0 x1 x2 x3 x4 j = Adam.delta (x0 j) (cat x1 x2 j) (x3 j) (x4 j) := by
  unfold out0_6
  rw [View.canon_unit_zero zero, View.ld_unit_zero zero, View.ld_unit_zero zero, View.ld_unit_zero zero, View.ld_unit_zero zero]
  unfold k0_pay5 k0_pay6 k0_pay3 k0_pay4
  rw [cat_eq]
  rfl

theorem out7_eq (j : S176x2048.Idx) : out0_7 (F := Ideal) x0 x1 x2 x3 x4 j = Adam.first (cat x1 x2 j) (x3 j) := by
  unfold out0_7
  rw [View.canon_unit_zero zero, View.ld_unit_zero zero, View.ld_unit_zero zero]
  unfold k0_pay3
  rw [cat_eq]
  rfl

theorem out8_eq (j : S176x2048.Idx) : out0_8 (F := Ideal) x0 x1 x2 x3 x4 j = Adam.second (cat x1 x2 j) (x4 j) := by
  unfold out0_8
  rw [View.canon_unit_zero zero, View.ld_unit_zero zero, View.ld_unit_zero zero]
  unfold k0_pay4
  rw [cat_eq]
  rfl

end blocks

variable (m : (ℓ : Loc nD τ sig) → Buf (Elt Ideal) ℓ) (ρ : Dev nD → PrngReg)

/-- Every block is the whole array. -/
theorem idx : ∀ t : Fin cfg0.N, win0_0.index t = ![0, 0] ∧ win0_1.index t = ![0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem blk0 (c : Dev nD) (t : Fin cfg0.N) : (iblk m c 0 t : FVec Ideal S176x2048 .f32) = m ((c : Thread nD τ).loc main_arg0) := by
  funext y; blk_point [iblk, V, idx t]

theorem blk1 (c : Dev nD) (t : Fin cfg0.N) : (iblk m c 1 t : FVec Ideal S24x2048 .f32) = m ((c : Thread nD τ).loc main_arg1) := by
  funext y; blk_point [iblk, V, idx t]

theorem blk2 (c : Dev nD) (t : Fin cfg0.N) : (iblk m c 2 t : FVec Ideal S4x152x2048 .f32) = m ((c : Thread nD τ).loc main_arg2) := by
  funext y; blk_point [iblk, V, idx t]

theorem blk3 (c : Dev nD) (t : Fin cfg0.N) : (iblk m c 3 t : FVec Ideal S176x2048 .f32) = m ((c : Thread nD τ).loc main_arg3) := by
  funext y; blk_point [iblk, V, idx t]

theorem blk4 (c : Dev nD) (t : Fin cfg0.N) : (iblk m c 4 t : FVec Ideal S176x2048 .f32) = m ((c : Thread nD τ).loc main_arg4) := by
  funext y; blk_point [iblk, V, idx t]

/-- The parameters, their gradient and their moments. -/
abbrev w (c : Dev nD) : FVec Ideal S176x2048 .f32 := m ((c : Thread nD τ).loc main_arg0)
abbrev g (c : Dev nD) : FVec Ideal S176x2048 .f32 := cat (m ((c : Thread nD τ).loc main_arg1)) (m ((c : Thread nD τ).loc main_arg2))
abbrev m₁ (c : Dev nD) : FVec Ideal S176x2048 .f32 := m ((c : Thread nD τ).loc main_arg3)
abbrev m₂ (c : Dev nD) : FVec Ideal S176x2048 .f32 := m ((c : Thread nD τ).loc main_arg4)

/-- The results after the gradient, each as one array over the arguments. -/
abbrev GD (c : Dev nD) : FVec Ideal S176x2048 .f32 := fun i => Adam.delta (w m c i) (g m c i) (m₁ m c i) (m₂ m c i)
abbrev GM (c : Dev nD) : FVec Ideal S176x2048 .f32 := fun i => Adam.first (g m c i) (m₁ m c i)
abbrev GV (c : Dev nD) : FVec Ideal S176x2048 .f32 := fun i => Adam.second (g m c i) (m₂ m c i)

/-- The result arrays after the run. -/
theorem finalG (c : Dev nD) : (dats m 0 c).arrAt 5 (cfgs 0).N = g m c := by
  refine (dats m 0 c).arrAt_eq_of_covers 5 _ (by decide +kernel) fun t hf y => ?_
  blk_simp
  rw [after0_5, out5_eq, blk1, blk2]
  unfold g
  generalize cat _ _ = D
  blk_point [idx t]

theorem finalD (c : Dev nD) : (dats m 0 c).arrAt 6 (cfgs 0).N = GD m c := by
  refine (dats m 0 c).arrAt_eq_of_covers 6 _ (by decide +kernel) fun t hf y => ?_
  blk_simp
  rw [after0_6, out6_eq, blk0, blk1, blk2, blk3, blk4]
  unfold GD g
  generalize cat _ _ = D
  blk_point [idx t]

theorem finalM (c : Dev nD) : (dats m 0 c).arrAt 7 (cfgs 0).N = GM m c := by
  refine (dats m 0 c).arrAt_eq_of_covers 7 _ (by decide +kernel) fun t hf y => ?_
  blk_simp
  rw [after0_7, out7_eq, blk1, blk2, blk3]
  unfold GM g
  generalize cat _ _ = D
  blk_point [idx t]

theorem finalV (c : Dev nD) : (dats m 0 c).arrAt 8 (cfgs 0).N = GV m c := by
  refine (dats m 0 c).arrAt_eq_of_covers 8 _ (by decide +kernel) fun t hf y => ?_
  blk_simp
  rw [after0_8, out8_eq, blk1, blk2, blk4]
  unfold GV g
  generalize cat _ _ = D
  blk_point [idx t]

/-- The four result arrays are the reference's. -/
theorem algebraic : Cert.algebraic_AdamSmallIdeal_AdamSmallRefIdeal (hAdamSmallIdeal := Cert.AdamSmallIdeal.Gen.facts) (hAdamSmallRefIdeal := Cert.AdamSmallRefIdeal.Gen.facts) := by
  intro m ρ m' ρ' _ hagree
  refine ⟨fun c => g m c, fun c => GD m c, fun c => GM m c, fun c => GV m c, ?_, ?_⟩
  · exact (θ_run Cert.AdamSmallIdeal.defs _ _).mono (fun _ h c => ⟨(h c).1.trans (finalG m c), (h c).2.1.trans (finalD m c),
      (h c).2.2.1.trans (finalM m c), (h c).2.2.2.1.trans (finalV m c), (h c).2.2.2.2⟩) (Cert.AdamSmallIdeal.Value.run_blocks (F := Ideal) m ρ)
  · refine (θ_run Cert.AdamSmallRefIdeal.defs _ _).mono (fun _ h c => ⟨(h c).1.trans ?_, (h c).2.1.trans ?_, (h c).2.2.1.trans ?_, (h c).2.2.2.1.trans ?_, (h c).2.2.2.2⟩)
      (Cert.AdamSmallRefIdeal.Value.run (F := Ideal) m' ρ')
    all_goals obtain ⟨h0, h1, h2, h3, h4⟩ := hagree c
    · exact congrArg₂ cat h1 h2
    · refine Eq.trans (funext fun i => Adam.ref_delta Cert.AdamSmallRefIdeal.Gen.bcast_S_S176x2048 _ (cat _ _) _ _ i) ?_
      rw [h0, h1, h2, h3, h4]
    · refine Eq.trans (funext fun i => Adam.ref_first Cert.AdamSmallRefIdeal.Gen.bcast_S_S176x2048 (cat _ _) _ i) ?_
      rw [h1, h2, h3]
    · refine Eq.trans (funext fun i => Adam.ref_second Cert.AdamSmallRefIdeal.Gen.bcast_S_S176x2048 (cat _ _) _ i) ?_
      rw [h1, h2, h4]

theorem frame_ref : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2.2, sem_eq_zero_of_no_sems (by decide) r.2⟩)
    (Cert.AdamSmallRefIdeal.Value.run (F := Ideal) m ρ)

end Cert.Proof.AdamSmall

end
-- ==== Proof.MidBwd.lean ====
/-
  The backward call over the norm before the mixer and the one after the first feed-forward block, whose output enters the
  residual stream at one half. The row and block arithmetic is that of the other norms.
-/
module

public import proofs.«01_k».proof.Proof.NormClaim
public import proofs.«01_k».proof.Proof.Gen.MidBwdIdeal.Value
public import proofs.«01_k».proof.Proof.Gen.MidBwdRefIdeal.Run
public import proofs.«01_k».proof.Proof.Gen.Pre_mid_finite

@[expose] public section

set_option maxRecDepth 16384

noncomputable section

namespace Cert.Proof.MidBwd

open Idealize.ShloMosaic Idealize.ShloMosaic.TcCoe Idealize.SL.Sem
open Idealize.ShloMosaic.Pipeline (Dat)
open Cert.MidBwdIdeal Cert.MidBwdIdeal.Gen
open Cert.Proof.NormBwd (gradAt gainAt gainBlk gradAt_real)

/-- The f32 pattern of one half. -/
abbrev half : EReal := Ideal.ofBits .f32 0x3F000000#32

theorem half_real : IsReal half := ⟨_, ofBits_half⟩

/-- The gradient through the second norm, whose cotangent is half of the first's gradient. -/
theorem pay4_apply (d h : FVec Ideal S352x2048 .f32) (g : FVec Ideal S1x2048 .f32) (j : S352x2048.Idx) :
    k0_pay4 (F := Ideal) d h g j
      = (show EReal from normGrad (fun k => half * d (ix2 (j 0) k) * g (ix2 0 k)) (fun k => h (ix2 (j 0) k)) (j 1)) := by
  idx_vars j
  pointwise [k0_pay4, k0_pay3, k0_pay2, k0_pay1, normGrad, rinv]

theorem pay5_apply (d h : FVec Ideal S352x2048 .f32) (a : FVec Ideal S1x2048 .f32) (j : S1x2048.Idx) :
    k0_pay5 (F := Ideal) d h a j = (show EReal from a j + gainBlk (fun i => half * d i) h j) := by
  idx_vars j
  pointwise [k0_pay5, k0_pay3, k0_pay2, k0_pay1, gainBlk, rinv]

/-- Where the blocks sit. -/
theorem idx : ∀ t : Fin cfg0.N, win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![t.val, 0] ∧ win0_7.index t = ![t.val, 0] ∧ win0_8.index t = ![0, 0] ∧ win0_9.index t = ![0, 0] ∧ t.val < 12 :=
  (by decide +kernel : ∀ t : Fin grid0.N, _)

theorem row_lt (t : Fin cfg0.N) (k : Fin 352) : 352 * t.val + k.val < 4224 := by
  have := (idx t).2.2.2.2.2.2.2.2.2.2
  omega

variable (m : (ℓ : Loc nD τ sig) → Buf (Elt Ideal) ℓ) (ρ : Dev nD → PrngReg)

/-- The gradient at the residual stream, the second norm's cotangent, its gradient, and the two gain gradients. -/
abbrev G0 (c : Dev nD) : FVec Ideal S4224x2048 .f32 := fun i =>
  (show FVec Ideal S4224x2048 .f32 from m ((c : Thread nD τ).loc main_arg2)) i
    + gradAt (m ((c : Thread nD τ).loc main_arg0)) (m ((c : Thread nD τ).loc main_arg1)) (m ((c : Thread nD τ).loc main_arg3)) i
abbrev cot (c : Dev nD) : FVec Ideal S4224x2048 .f32 := fun i => half * G0 m c i
abbrev G1 (c : Dev nD) : FVec Ideal S4224x2048 .bf16 := fun i =>
  gradAt (cot m c) (m ((c : Thread nD τ).loc main_arg4)) (m ((c : Thread nD τ).loc main_arg5)) i
abbrev G2 (c : Dev nD) : FVec Ideal S1x2048 .f32 := fun i =>
  gainAt (m ((c : Thread nD τ).loc main_arg0)) (m ((c : Thread nD τ).loc main_arg1)) i
abbrev G3 (c : Dev nD) : FVec Ideal S1x2048 .f32 := fun i => gainAt (cot m c) (m ((c : Thread nD τ).loc main_arg4)) i

/-- The block of the first gradient that a point writes. -/
abbrev top (c : Dev nD) (t : Fin cfg0.N) : FVec Ideal S352x2048 .f32 :=
  k0_pay10 (iblk m c 1 t) (iblk m c 4 t) (iblk m c 0 t) (iblk m c 2 t)

theorem out6 (c : Dev nD) (t : Fin cfg0.N) : (outsAt0 m c t.val t.isLt).1 = top m c t := by
  by_cases h : t.val % 12 = 0
  · rw [outsAt0_A m c t h]; frame_out
  · rw [outsAt0_B m c t h]; frame_out

theorem out7 (c : Dev nD) (t : Fin cfg0.N) : (outsAt0 m c t.val t.isLt).2.1 = k0_pay4 (top m c t) (iblk m c 3 t) (iblk m c 5 t) := by
  by_cases h : t.val % 12 = 0
  · rw [outsAt0_A m c t h]; frame_out
  · rw [outsAt0_B m c t h]; frame_out

/-- An entry of the block is an entry of the whole gradient. -/
theorem top_apply (c : Dev nD) (t : Fin cfg0.N) (j : S352x2048.Idx) (hr : 352 * t.val + (j 0).val < 4224) :
    top m c t j = G0 m c (ix2 ⟨352 * t.val + (j 0).val, hr⟩ (j 1)) := by
  refine (NormBwd.pay10_apply (iblk m c 1 t) (iblk m c 4 t) (iblk m c 0 t) (iblk m c 2 t) j).trans ?_
  dsimp only [G0, gradAt]
  blk_point [iblk, V, idx t]

theorem final6 (c : Dev nD) : (dats m 0 c).arrAt 6 (cfgs 0).N = G0 m c := by
  refine (dats m 0 c).arrAt_eq_of_covers 6 _ (by decide +kernel) fun t hf y => ?_
  blk_simp
  rw [after0_6, out6, top_apply m c t y (row_lt t (y 0))]
  blk_point [iblk, V, idx t]

theorem final7 (c : Dev nD) : (dats m 0 c).arrAt 7 (cfgs 0).N = G1 m c := by
  refine (dats m 0 c).arrAt_eq_of_covers 7 _ (by decide +kernel) fun t hf y => ?_
  blk_simp
  rw [after0_7, out7]
  refine (pay4_apply _ _ _ y).trans ?_
  have hd : ∀ k, top m c t (ix2 (y 0) k) = G0 m c (ix2 ⟨352 * t.val + (y 0).val, row_lt t (y 0)⟩ k) := fun k => top_apply m c t (ix2 (y 0) k) (row_lt _ _)
  simp only [hd]
  dsimp only [G1, gradAt, cot]
  generalize G0 m c = D
  blk_point [iblk, V, idx t]

theorem final8 (c : Dev nD) : (dats m 0 c).arrAt 8 (cfgs 0).N = G2 m c := by
  refine (dats m 0 c).arrAt_eq_of_covers 8 _ (by decide +kernel) fun t hf y => ?_
  blk_simp
  rw [after0_8, Pipeline.eq_sum_fin_of_reset_step_apply_of_flush (fun n h => (outsAt0 m c n h).2.2.1) 12 (fun _ => 0)
    (fun p j => gainBlk (iblk m c 0 p) (iblk m c 1 p) j)
    (fun t h j => by rw [outsAt0_A m c t h]; frame_out; exact (NormBwd.pay11_apply _ _ _ j).trans (congrArg (fun x : EReal => x + _) (NormBwd.pay6_apply j)))
    (fun t h j => by rw [outsAt0_B m c t h]; frame_out; exact NormBwd.pay11_apply _ _ _ j)
    t ((flush0_8 t).mp hf) _, zero_add]
  refine Eq.trans (Fin.sum_fin_congr fun s => rfl) (NormBwd.rows_sum (fun s k hl => ?_))
  blk_point [iblk, V, idx t, idx ⟨_, Pipeline.run_point_lt_of_flush t ((flush0_8 t).mp hf) s⟩]

theorem final9 (c : Dev nD) : (dats m 0 c).arrAt 9 (cfgs 0).N = G3 m c := by
  refine (dats m 0 c).arrAt_eq_of_covers 9 _ (by decide +kernel) fun t hf y => ?_
  blk_simp
  rw [after0_9, Pipeline.eq_sum_fin_of_reset_step_apply_of_flush (fun n h => (outsAt0 m c n h).2.2.2) 12 (fun _ => 0)
    (fun p j => gainBlk (fun i => half * top m c p i) (iblk m c 3 p) j)
    (fun t h j => by rw [outsAt0_A m c t h]; frame_out; exact (pay5_apply _ _ _ j).trans (congrArg (fun x : EReal => x + _) (NormBwd.pay7_apply j)))
    (fun t h j => by rw [outsAt0_B m c t h]; frame_out; exact pay5_apply _ _ _ j)
    t ((flush0_9 t).mp hf) _, zero_add]
  refine Eq.trans (Fin.sum_fin_congr fun s => rfl) (NormBwd.rows_sum (fun s k hl => ?_))
  dsimp only [cot]
  rw [top_apply m c _ _ (row_lt _ _)]
  generalize G0 m c = D
  blk_point [iblk, V, idx t, idx ⟨_, Pipeline.run_point_lt_of_flush t ((flush0_9 t).mp hf) s⟩]

/-- The precondition makes every argument entry real. -/
theorem finite (hm : Pre_MidBwdIdeal_mid_finite (hPre_mid_finite := Cert.Pre_mid_finite.Gen.facts) m) (c : Dev nD) :
    (∀ i, IsReal ((m ((c : Thread nD τ).loc main_arg0) : FVec Ideal S4224x2048 .f32) i))
    ∧ (∀ i, IsReal ((m ((c : Thread nD τ).loc main_arg1) : FVec Ideal S4224x2048 .f32) i))
    ∧ (∀ i, IsReal ((m ((c : Thread nD τ).loc main_arg2) : FVec Ideal S4224x2048 .f32) i))
    ∧ (∀ i, IsReal ((m ((c : Thread nD τ).loc main_arg3) : FVec Ideal S1x2048 .f32) i))
    ∧ (∀ i, IsReal ((m ((c : Thread nD τ).loc main_arg4) : FVec Ideal S4224x2048 .f32) i))
    ∧ (∀ i, IsReal ((m ((c : Thread nD τ).loc main_arg5) : FVec Ideal S1x2048 .f32) i)) := by
  obtain ⟨h0, h1, h2, h3, h4, h5⟩ := hm c
  exact ⟨fun i => isReal_of_mask (congrFun h0 i), fun i => isReal_of_mask (congrFun h1 i), fun i => isReal_of_mask (congrFun h2 i),
    fun i => isReal_of_mask (congrFun h3 i), fun i => isReal_of_mask (congrFun h4 i), fun i => isReal_of_mask (congrFun h5 i)⟩

/-- The four results of the backward call are the reference's. -/
theorem algebraic : Cert.algebraic_MidBwdIdeal_MidBwdRefIdeal_pre_mid_finite (hMidBwdIdeal := Cert.MidBwdIdeal.Gen.facts) (hMidBwdRefIdeal := Cert.MidBwdRefIdeal.Gen.facts) (hPre_mid_finite := Cert.Pre_mid_finite.Gen.facts) := by
  intro m g m' g' hm hagree
  refine ⟨fun c => G0 m c, fun c => G1 m c, fun c => G2 m c, fun c => G3 m c, ?_, ?_⟩
  · exact (θ_run Cert.MidBwdIdeal.defs _ _).mono (fun _ h c => ⟨(h c).1.trans (final6 m c), (h c).2.1.trans (final7 m c),
        (h c).2.2.1.trans (final8 m c), (h c).2.2.2.1.trans (final9 m c), (h c).2.2.2.2⟩)
      (Cert.MidBwdIdeal.Value.run_blocks (F := Ideal) m g)
  · have key : ∀ c : Dev nD, addf (m ((c : Thread nD τ).loc main_arg2)) (NormBwd.refGrad (m ((c : Thread nD τ).loc main_arg0)) (m ((c : Thread nD τ).loc main_arg1)) (m ((c : Thread nD τ).loc main_arg3)))
        = G0 m c := fun c => by
      obtain ⟨r0, r1, r2, r3, r4, r5⟩ := finite m hm c
      exact funext fun i => congrArg (fun x : EReal => _ + x) (NormBwd.refGrad_eq r0 r1 r3 i)
    have key2 : ∀ c : Dev nD, mulf (broadcastInDim Cert.MidBwdRefIdeal.S4224x2048 ![] Cert.MidBwdRefIdeal.Gen.bcast_S_S4224x2048 (constant Cert.MidBwdRefIdeal.S_ .f32 0x3F000000#32))
        (addf (m ((c : Thread nD τ).loc main_arg2)) (NormBwd.refGrad (m ((c : Thread nD τ).loc main_arg0)) (m ((c : Thread nD τ).loc main_arg1)) (m ((c : Thread nD τ).loc main_arg3)))) = cot m c :=
      fun c => by rw [key c]; rfl
    refine (θ_run Cert.MidBwdRefIdeal.defs _ _).mono (fun _ h c => ⟨(h c).1.trans ?_, (h c).2.1.trans ?_, (h c).2.2.1.trans ?_, (h c).2.2.2.1.trans ?_, (h c).2.2.2.2⟩)
      (Cert.MidBwdRefIdeal.Value.run (F := Ideal) m' g')
    all_goals
      obtain ⟨h0, h1, h2, h3, h4, h5⟩ := hagree c
      obtain ⟨r0, r1, r2, r3, r4, r5⟩ := finite m hm c
    · simp only [h0, h1, h2, h3]
      exact key c
    · have hr : ∀ i, IsReal (cot m c i) := fun i => half_real.mul ((r2 i).add (gradAt_real r0 r1 r3 i))
      unfold Cert.MidBwdRefIdeal.Value.res_main_v73
      simp only [h0, h1, h2, h3, h4, h5]
      refine Eq.trans (congrArg (fun D => truncf .bf16 (NormBwd.refGrad D _ _) Cert.MidBwdRefIdeal.Gen.bitsLt_bf16_f32) (key2 c)) ?_
      exact funext fun i => NormBwd.refGrad_eq hr r4 r5 i
    · simp only [h0, h1]
      exact funext fun i => NormBwd.refGain_apply _ _ i
    · unfold Cert.MidBwdRefIdeal.Value.res_main_v56
      simp only [h0, h1, h2, h3, h4, h5]
      refine Eq.trans (congrArg (fun D => NormBwd.refGain D _) (key2 c)) ?_
      exact funext fun i => NormBwd.refGain_apply _ _ i

theorem frame_ref : Cert.quiescent_MidBwdRefIdeal (hMidBwdRefIdeal := Cert.MidBwdRefIdeal.Gen.facts) := fun m ρ _ =>
  (θ_run Cert.MidBwdRefIdeal.defs _ _).mono (fun r h => ⟨fun c => (h c).2.2.2.2, sem_eq_zero_of_no_sems (by decide) r.2⟩)
    (Cert.MidBwdRefIdeal.Value.run (F := Ideal) m ρ)

theorem frame_ref_pre : Cert.quiescent_MidBwdRefIdeal_pre_mid_finite (hMidBwdRefIdeal := Cert.MidBwdRefIdeal.Gen.facts) (hPre_mid_finite := Cert.Pre_mid_finite.Gen.facts) :=
  fun m ρ _ => frame_ref m ρ trivial

end Cert.Proof.MidBwd

end
-- ==== Proof.MixPost.lean ====
/-
  The forward call after the mixer: the residual sum with the mixer's normed output, unscaled, and the next norm's output.
-/
module

public import proofs.«01_k».proof.Proof.PostFwd
public import proofs.«01_k».proof.Proof.Gen.MixPostIdeal.Value
public import proofs.«01_k».proof.Proof.Gen.MixPostRefIdeal.Run

@[expose] public section

set_option maxRecDepth 16384

noncomputable section

namespace Cert.Proof.MixPost

open Idealize.ShloMosaic Idealize.ShloMosaic.TcCoe Idealize.SL.Sem
open Idealize.ShloMosaic.Pipeline (Dat)
open Cert.MixPostIdeal Cert.MixPostIdeal.Gen
open Cert.Proof.PostFwd (normRow refNorm refNorm_apply zero)

theorem pay1_apply (h f : FVec Ideal S352x2048 .f32) (g : FVec Ideal S1x2048 .f32) (j : S352x2048.Idx) :
    k0_pay1 (F := Ideal) h f g j
      = (show EReal from h j + normRow (fun k => f (ix2 (j 0) k)) (fun k => g (ix2 0 k)) (j 1)) := by
  idx_vars j
  pointwise [k0_pay1, normRow, rinv]

theorem pay2_apply (h f : FVec Ideal S352x2048 .f32) (g n : FVec Ideal S1x2048 .f32) (j : S352x2048.Idx) :
    k0_pay2 (F := Ideal) h f g n j = (show EReal from normRow (fun k => k0_pay1 (F := Ideal) h f g (ix2 (j 0) k)) (fun k => n (ix2 0 k)) (j 1)) := by
  unfold k0_pay2
  generalize k0_pay1 (F := Ideal) h f g = H
  idx_vars j
  pointwise [normRow, rinv]

section blocks

variable {F : FTy → Type} [FloatOps F] (x0 x1 : Vec F S352x2048 .f32) (x2 x3 : Vec F S1x2048 .f32)

theorem out4_eq : out0_4 x0 x1 x2 x3 = k0_pay1 x1 x0 x2 := by
  unfold out0_4
  rw [View.canon_unit_zero zero, View.ld_unit_zero zero, View.ld_unit_zero zero, View.ld_unit_zero zero]

theorem out5_eq : out0_5 x0 x1 x2 x3 = k0_pay2 x1 x0 x2 x3 := by
  unfold out0_5
  rw [View.canon_unit_zero zero, View.ld_unit_zero zero, View.ld_unit_zero zero, View.ld_unit_zero zero, View.ld_unit_zero zero]

end blocks

/-- Where the blocks sit. -/
theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] ∧ t.val < 12 :=
  (by decide +kernel : ∀ t : Fin grid0.N, _)

theorem row_lt (t : Fin cfg0.N) (r : Fin 352) : 352 * t.val + r.val < 4224 := by
  have := (idx t).2.2.2.2.2.2
  omega

variable (m : (ℓ : Loc nD τ sig) → Buf (Elt Ideal) ℓ) (ρ : Dev nD → PrngReg)

/-- The residual sum and the normed sum over the arguments. -/
abbrev G0 (c : Dev nD) : FVec Ideal S4224x2048 .f32 := fun i =>
  (show FVec Ideal S4224x2048 .f32 from m ((c : Thread nD τ).loc main_arg1)) i
    + normRow (fun k => (show FVec Ideal S4224x2048 .f32 from m ((c : Thread nD τ).loc main_arg0)) (ix2 (i 0) k))
        (fun k => (show FVec Ideal S1x2048 .f32 from m ((c : Thread nD τ).loc main_arg2)) (ix2 0 k)) (i 1)

abbrev G1 (c : Dev nD) : FVec Ideal S4224x2048 .bf16 := fun i =>
  normRow (fun k => G0 m c (ix2 (i 0) k)) (fun k => (show FVec Ideal S1x2048 .f32 from m ((c : Thread nD τ).loc main_arg3)) (ix2 0 k)) (i 1)

/-- An entry of a block of the sum is an entry of the whole. -/
theorem sum_apply (c : Dev nD) (t : Fin cfg0.N) (j : S352x2048.Idx) (hr : 352 * t.val + (j 0).val < 4224) :
    k0_pay1 (F := Ideal) (iblk m c 1 t) (iblk m c 0 t) (iblk m c 2 t) j = G0 m c (ix2 ⟨352 * t.val + (j 0).val, hr⟩ (j 1)) := by
  refine (pay1_apply _ _ _ j).trans ?_
  dsimp only [G0]
  blk_point [iblk, V, idx t]

/-- The result arrays after the run. -/
theorem final4 (c : Dev nD) : (dats m 0 c).arrAt 4 (cfgs 0).N = G0 m c := by
  refine (dats m 0 c).arrAt_eq_of_covers 4 _ (by decide +kernel) fun t hf y => ?_
  blk_simp
  rw [after0_4, out4_eq, sum_apply m c t y (row_lt t (y 0))]
  blk_point [iblk, V, idx t]

theorem final5 (c : Dev nD) : (dats m 0 c).arrAt 5 (cfgs 0).N = G1 m c := by
  refine (dats m 0 c).arrAt_eq_of_covers 5 _ (by decide +kernel) fun t hf y => ?_
  blk_simp
  rw [after0_5, out5_eq]
  refine (pay2_apply _ _ _ _ y).trans ?_
  have hd : ∀ k, k0_pay1 (F := Ideal) (iblk m c 1 t) (iblk m c 0 t) (iblk m c 2 t) (ix2 (y 0) k) = G0 m c (ix2 ⟨352 * t.val + (y 0).val, row_lt t (y 0)⟩ k) :=
    fun k => sum_apply m c t (ix2 (y 0) k) (row_lt t (y 0))
  simp only [hd]
  dsimp only [G1]
  generalize G0 m c = D
  blk_point [iblk, V, idx t]

/-- The two results of the forward call are the reference's. -/
theorem algebraic : Cert.algebraic_MixPostIdeal_MixPostRefIdeal (hMixPostIdeal := Cert.MixPostIdeal.Gen.facts) (hMixPostRefIdeal := Cert.MixPostRefIdeal.Gen.facts) := by
  intro m ρ m' ρ' _ hagree
  refine ⟨fun c => G0 m c, fun c => G1 m c, ?_, ?_⟩
  · exact (θ_run Cert.MixPostIdeal.defs _ _).mono (fun _ h c => ⟨(h c).1.trans (final4 m c), (h c).2.1.trans (final5 m c), (h c).2.2⟩)
      (Cert.MixPostIdeal.Value.run_blocks (F := Ideal) m ρ)
  · have key : ∀ c : Dev nD, addf (m ((c : Thread nD τ).loc main_arg1)) (refNorm (m ((c : Thread nD τ).loc main_arg0)) (m ((c : Thread nD τ).loc main_arg2))) = G0 m c :=
      fun c => funext fun i => congrArg (fun x : EReal => _ + x) (refNorm_apply _ _ i)
    refine (θ_run Cert.MixPostRefIdeal.defs _ _).mono (fun _ h c => ⟨(h c).1.trans ?_, (h c).2.1.trans ?_, (h c).2.2⟩)
      (Cert.MixPostRefIdeal.Value.run (F := Ideal) m' ρ')
    all_goals
      obtain ⟨h0, h1, h2, h3⟩ := hagree c
      simp only [h0, h1, h2, h3]
    · exact key c
    · refine Eq.trans (congrArg (fun D => truncf .bf16 (refNorm D _) Cert.MixPostRefIdeal.Gen.bitsLt_bf16_f32) (key c)) ?_
      funext i
      exact refNorm_apply _ _ i

theorem frame_ref : Cert.quiescent_MixPostRefIdeal (hMixPostRefIdeal := Cert.MixPostRefIdeal.Gen.facts) := fun m ρ _ =>
  (θ_run Cert.MixPostRefIdeal.defs _ _).mono (fun r h => ⟨fun c => (h c).2.2, sem_eq_zero_of_no_sems (by decide) r.2⟩)
    (Cert.MixPostRefIdeal.Value.run (F := Ideal) m ρ)

end Cert.Proof.MixPost

end
-- ==== Proof.ConvMath.lean ====
/-
  The short convolution mixer, forward: what the reference computes entry by entry, and the mean square of a head taken
  through a matrix of averages.
-/
module

public import proofs.«01_k».proof.Defs
public import proofs.«01_k».proof.Proof.NormMath
public import proofs.«01_k».proof.ConvFwdIdeal
public import proofs.«01_k».proof.Proof.Gen.ConvFwdRefIdeal.Run
public import Idealize.ShloMosaic.Lib.Pipeline.ValueKit
public import Idealize.ShloMosaic.Lib.Pointwise

@[expose] public section

set_option maxRecDepth 16384

noncomputable section

namespace Cert.Proof.ConvFwd

open Idealize.ShloMosaic Idealize.ShloMosaic.TcCoe Idealize.SL.Sem
open Idealize.ShloMosaic.Pipeline (Dat)

/-- An entry of the mixer before its norm: the gate times the weighted sum of three inputs. -/
def mixed (b w0 w1 w2 u0 u1 u2 : EReal) : EReal := b * (w2 * u0 + w1 * u1 + w0 * u2)

/-- The convolution's input in column `J`, its rows counted from two rows of zeros in front. -/
def inputAt (z : FVec Ideal Cert.ConvFwdIdeal.S4224x5120 .f32) (n : ℕ) (J : Fin 1024) : EReal :=
  if h : 2 ≤ n ∧ n < 4226 then
    z (ix2 ⟨n - 2, by omega⟩ ⟨3072 + J.val, by omega⟩) * z (ix2 ⟨n - 2, by omega⟩ ⟨4096 + J.val, by omega⟩)
  else 0

/-- The mixer before its norm. -/
def mixAt (z : FVec Ideal Cert.ConvFwdIdeal.S4224x5120 .f32) (w : FVec Ideal Cert.ConvFwdIdeal.S3x1024 .f32) (r : Fin 4224) (J : Fin 1024) : EReal :=
  mixed (z (ix2 r ⟨2048 + J.val, by omega⟩)) (w (ix2 0 J)) (w (ix2 1 J)) (w (ix2 2 J)) (inputAt z (r.val + 2) J) (inputAt z (r.val + 1) J) (inputAt z r.val J)

/-- Column `d` of the head that column `J` lies in. -/
abbrev headCol (J : Fin 1024) (d : Fin 64) : Fin 1024 := ⟨J.val / 64 * 64 + d.val, by omega⟩

/-- A row of the mixer, normed head by head. -/
def headNorm (s : Fin 1024 → EReal) (J : Fin 1024) (g : EReal) : EReal :=
  s J * Ideal.rsqrt (Ideal.div (∑ d, s (headCol J d) * s (headCol J d)) (Ideal.ofBits .f32 0x42800000#32) + Ideal.ofBits .f32 0x358637BD#32) * g

section math

theorem sum_heads {A : Type} [AddCommMonoid A] (f : Fin 128 → A) : ∑ l, f l = (∑ d : Fin 64, f ⟨d.val, by omega⟩) + ∑ d : Fin 64, f ⟨64 + d.val, by omega⟩ := by
  rw [← (finProdFinEquiv (m := 2) (n := 64)).sum_comp f, Fintype.sum_prod_type, Fin.sum_univ_two]
  refine congrArg₂ (· + ·) (Finset.sum_congr rfl fun d _ => congrArg f (Fin.ext (by simp [finProdFinEquiv]))) ?_
  exact Finset.sum_congr rfl fun d _ => congrArg f (Fin.ext (by simp [finProdFinEquiv]; omega))

theorem ofBits_64 : Ideal.ofBits .f32 0x42800000#32 = ((64 : ℝ) : EReal) := by
  simp [Ideal.ofBits, Ideal.ieee, -EReal.coe_mul]; norm_num

theorem ofBits_64th : Ideal.ofBits .f32 0x3C800000#32 = ((1 / 64 : ℝ) : EReal) := by
  simp [Ideal.ofBits, Ideal.ieee, -EReal.coe_mul]; norm_num

/-- On real numbers the product with the averaging matrix, of a square and of what its rounding leaves, is the head's mean square. -/
theorem mean_eq (s M : Fin 128 → EReal) (hs : ∀ l, IsReal (s l)) (q : Fin 128)
    (hM : ∀ l : Fin 128, M l = if l.val / 64 = q.val / 64 then Ideal.ofBits .f32 0x3C800000#32 else 0) :
    (∑ l, s l * s l * M l) + (∑ l, (s l * s l - s l * s l) * M l)
      = Ideal.div (∑ d : Fin 64, s ⟨q.val / 64 * 64 + d.val, by omega⟩ * s ⟨q.val / 64 * 64 + d.val, by omega⟩) (Ideal.ofBits .f32 0x42800000#32) := by
  choose r hr using hs
  have h0 : ∀ l, (s l * s l - s l * s l) * M l = 0 := fun l => by
    have e : s l * s l - s l * s l = 0 := by rw [hr l]; norm_cast; simp
    rw [e, zero_mul]
  simp only [h0, Finset.sum_const_zero, add_zero]
  have h1 : ∀ l : Fin 128, s l * s l * M l = (((if l.val / 64 = q.val / 64 then r l * r l * (1 / 64) else 0) : ℝ) : EReal) := fun l => by
    rw [hM l, hr l, ofBits_64th]
    split
    · norm_cast
    · simp
  rw [Finset.sum_congr rfl fun l _ => h1 l]
  simp only [hr]
  have hd : ∀ x : ℝ, Ideal.div (x : EReal) ((64 : ℝ) : EReal) = ((x * (1 / 64) : ℝ) : EReal) := fun x => by
    unfold Ideal.div
    rw [if_neg (by norm_num)]
    rw [← EReal.coe_inv, ← EReal.coe_mul, one_div]
  rw [ofBits_64]
  have hsum : ∀ f : Fin 64 → ℝ, (∑ d, ((f d : ℝ) : EReal) * ((f d : ℝ) : EReal)) = (((∑ d, f d * f d) : ℝ) : EReal) := fun f => by
    rw [← coe_sum]
    exact Finset.sum_congr rfl fun d _ => (EReal.coe_mul _ _).symm
  rw [hsum (fun d => r ⟨q.val / 64 * 64 + d.val, by omega⟩), hd, coe_sum, sum_heads, Finset.sum_mul]
  have hq : q.val / 64 = 0 ∨ q.val / 64 = 1 := by omega
  have a0 : ∀ d : Fin 64, d.val / 64 = 0 := fun d => by omega
  have a1 : ∀ d : Fin 64, (64 + d.val) / 64 = 1 := fun d => by omega
  refine congrArg _ ?_
  rcases hq with hq | hq
  · simp [hq, a0, a1]
  · simp [hq, a0, a1]

end math

section reference
open Cert.ConvFwdRefIdeal Cert.ConvFwdRefIdeal.Gen Cert.ConvFwdRefIdeal.Value
variable (z : FVec Ideal S4224x5120 .f32) (w : FVec Ideal S3x1024 .f32) (s : FVec Ideal S4224x1024 .f32) (g : FVec Ideal S1x1024 .f32)

/-- The convolution's input under two rows of zeros, as the reference writes it. -/
def refInput : FVec Ideal S4226x1024 .f32 :=
  concatenate S4226x1024 0 [⟨S2x1024, (broadcastInDim S2x1024 ![] bcast_S_S2x1024 (constant S_ .f32 0x00000000#32))⟩, ⟨S4224x1024, (mulf (extractStridedSlice S4224x1024 ![0, 3072] z slices_S4224x5120_S4224x1024_0_3072) (extractStridedSlice S4224x1024 ![0, 4096] z slices_S4224x5120_S4224x1024_0_4096))⟩] concatenates_S2x1024_S4224x1024_S4226x1024_d0

/-- The reference's mixer before its norm. -/
def refMix : FVec Ideal S4224x1024 .f32 :=
  mulf (extractStridedSlice S4224x1024 ![0, 2048] z slices_S4224x5120_S4224x1024_0_2048) (addf (addf
    (mulf (broadcastInDim S4224x1024 ![0, 1] bcast_S1x1024_S4224x1024_0_1 (broadcastInDim S1x1024 ![1] bcast_S1024_S1x1024_1 (shapeCast _ (extractStridedSlice S1x1024 ![0, 0] w slices_S3x1024_S1x1024_0_0) shapeCasts_S1x1024_S1024))) (extractStridedSlice S4224x1024 ![0, 0] (refInput z) slices_S4226x1024_S4224x1024_0_0))
    (mulf (broadcastInDim S4224x1024 ![0, 1] bcast_S1x1024_S4224x1024_0_1 (broadcastInDim S1x1024 ![1] bcast_S1024_S1x1024_1 (shapeCast _ (extractStridedSlice S1x1024 ![1, 0] w slices_S3x1024_S1x1024_1_0) shapeCasts_S1x1024_S1024))) (extractStridedSlice S4224x1024 ![1, 0] (refInput z) slices_S4226x1024_S4224x1024_1_0)))
    (mulf (broadcastInDim S4224x1024 ![0, 1] bcast_S1x1024_S4224x1024_0_1 (broadcastInDim S1x1024 ![1] bcast_S1024_S1x1024_1 (shapeCast _ (extractStridedSlice S1x1024 ![2, 0] w slices_S3x1024_S1x1024_2_0) shapeCasts_S1x1024_S1024))) (extractStridedSlice S4224x1024 ![2, 0] (refInput z) slices_S4226x1024_S4224x1024_2_0)))

/-- The reference's norm over the heads. -/
def refOut : FVec Ideal S4224x1024 .bf16 :=
  truncf .bf16 (mulf (shapeCast _ (mulf (shapeCast _ s shapeCasts_S4224x1024_S4224x16x64) (broadcastInDim S4224x16x64 ![0, 1, 2] bcast_S4224x16x1_S4224x16x64_0_1_2 (Host.rsqrt (addf (Host.divf (broadcastInDim S4224x16x1 ![0, 1] bcast_S4224x16_S4224x16x1_0_1 (Host.reduceAdd (mulf (shapeCast _ s shapeCasts_S4224x1024_S4224x16x64) (shapeCast _ s shapeCasts_S4224x1024_S4224x16x64)) (constant S_ .f32 0x00000000#32) reducesTo_S4224x16x64_S4224x16_d2 h_S_)) (broadcastInDim S4224x16x1 ![] bcast_S_S4224x16x1 (constant S_ .f32 0x42800000#32))) (broadcastInDim S4224x16x1 ![] bcast_S_S4224x16x1 (constant S_ .f32 0x358637BD#32)))))) shapeCasts_S4224x16x64_S4224x1024) (broadcastInDim S4224x1024 ![0, 1] bcast_S1x1024_S4224x1024_0_1 (broadcastInDim S1x1024 ![1] bcast_S1024_S1x1024_1 (shapeCast _ g shapeCasts_S1x1024_S1024)))) bitsLt_bf16_f32

theorem res_eq (m : (ℓ : Loc nD τ sig) → Buf (Elt Ideal) ℓ) (c : Dev nD) :
    res_main_v43 m c = refOut (refMix (m ((c.tc : Thread nD τ).loc main_arg0)) (m ((c.tc : Thread nD τ).loc main_arg1))) (m ((c.tc : Thread nD τ).loc main_arg2)) := by
  unfold res_main_v43 refOut refMix refInput
  rfl

theorem refInput_apply (n : Fin 4226) (J : Fin 1024) : refInput z (ix2 n J) = inputAt z n.val J := by
  pointwise [refInput, inputAt]
  by_cases h : n.val < 2
  · rw [dif_pos h, dif_neg (by omega)]
  · rw [dif_neg h, dif_pos (by omega)]

theorem refMix_apply (r : Fin 4224) (J : Fin 1024) : refMix z w (ix2 r J) = mixAt z w r J := by
  have hI := refInput_apply z
  unfold refMix
  generalize refInput z = U at hI ⊢
  pointwise [mixAt, mixed]
  simp only [hI, Nat.add_comm 1, Nat.add_comm 2]
  refine congrArg _ ?_
  abel

theorem refOut_apply (r : Fin 4224) (J : Fin 1024) : refOut s g (ix2 r J) = (show EReal from headNorm (fun k => s (ix2 r k)) J (g (ix2 0 J))) := by
  pointwise [refOut, headNorm, headCol]

end reference

end Cert.Proof.ConvFwd
end
-- ==== Proof.ConvFwd.lean ====
/-
  The short convolution mixer, forward: the call's result is the reference's. The body works through a column block in
  24 chunks of rows; each chunk reads a window that starts eight rows above it, the first chunk puts zeros there instead.
  The pieces written cover the block, and each is the mixer's rows, normed head by head.
-/
module

public import proofs.«01_k».proof.Defs
public import proofs.«01_k».proof.Proof.ConvMath
public import proofs.«01_k».proof.Proof.Gen.ConvFwdIdeal.Value
public import proofs.«01_k».proof.Proof.Gen.ConvFwdRefIdeal.Run
public import proofs.«01_k».proof.Proof.Gen.Pre_conv_finite
public import Idealize.ShloMosaic.Lib.Pipeline.ValueKit
public import Idealize.ShloMosaic.Lib.Pointwise
public import Idealize.ShloMosaic.Lib.Quiescent
public import Idealize.ShloMosaic.Lib.WholeRead

@[expose] public section

set_option maxRecDepth 16384

noncomputable section

namespace Cert.Proof.ConvFwd

open Idealize.ShloMosaic Idealize.ShloMosaic.TcCoe Idealize.SL.Sem
open Idealize.ShloMosaic.Pipeline (Dat)
open Cert.ConvFwdIdeal Cert.ConvFwdIdeal.Gen

/-- The norm of a block's row `s` at entry `q`, its mean taken through the matrix column `M`, of a number and of what its rounding leaves. -/
def normAt (s M : Fin 128 → EReal) (q : Fin 128) (g : EReal) : EReal :=
  s q * Ideal.rsqrt ((∑ l, s l * s l * M l) + (∑ l, (s l * s l - s l * s l) * M l) + Ideal.ofBits .f32 0x358637BD#32) * g

/-- A row of a block before its norm, over a window of rows that starts eight rows above. -/
abbrev winRow (w : FVec Ideal S8x128 .f32) (x y : FVec Ideal S184x128 .f32) (b : FVec Ideal S176x128 .f32) (r : Fin 176) (l : Fin 128) : EReal :=
  mixed (b (ix2 r l)) (w (ix2 0 l)) (w (ix2 1 l)) (w (ix2 2 l))
    (x (ix2 ⟨r.val + 8, by omega⟩ l) * y (ix2 ⟨r.val + 8, by omega⟩ l))
    (x (ix2 ⟨r.val + 7, by omega⟩ l) * y (ix2 ⟨r.val + 7, by omega⟩ l))
    (x (ix2 ⟨r.val + 6, by omega⟩ l) * y (ix2 ⟨r.val + 6, by omega⟩ l))

/-- A chunk's payload at an entry: its row over the window, normed through the matrix. -/
theorem pay2_apply (w : FVec Ideal S8x128 .f32) (g : FVec Ideal S1x128 .f32) (M : FVec Ideal S128x128 .bf16) (x y : FVec Ideal S184x128 .f32)
    (b : FVec Ideal S176x128 .f32) (j0 : Fin 176) (j1 : Fin 128) :
    k0_pay2 (F := Ideal) w g M x y b (ix2 j0 j1)
      = (show EReal from normAt (winRow w x y b j0) (fun l => M (ix2 l j1)) j1 (g (ix2 0 j1))) := by
  pointwise [k0_pay2, normAt, mixed, winRow]
  have e1 : ∀ h : 8 + j0.val < 184, (⟨8 + j0.val, h⟩ : Fin 184) = ⟨j0.val + 8, by omega⟩ := fun h => Fin.ext (by simp; omega)
  have e2 : ∀ h : (8 + j0.val + 184 - 1) % 184 < 184, (⟨(8 + j0.val + 184 - 1) % 184, h⟩ : Fin 184) = ⟨j0.val + 7, by omega⟩ := fun h => Fin.ext (by simp; omega)
  have e3 : ∀ h : (8 + j0.val + 184 - 2) % 184 < 184, (⟨(8 + j0.val + 184 - 2) % 184, h⟩ : Fin 184) = ⟨j0.val + 6, by omega⟩ := fun h => Fin.ext (by simp; omega)
  simp only [e1, e2, e3]

section first
variable {F : FTy → Type} [FloatOps F]

/-- A chunk's window with eight rows of zeros above, as the first chunk makes it. -/
def zeroAbove (v : Vec F S176x128 .f32) : FVec F S184x128 .f32 :=
  concatenate S184x128 0 [⟨S8x128, broadcast S8x128 (Scalar.ofBits .f32 0x00000000#32)⟩, ⟨S176x128, v⟩] concatenates_S8x128_S176x128_S184x128_d0

/-- The first chunk's payload is the loop's over such windows. -/
theorem first_eq (v0 : Vec F S8x128 .f32) (v2 : Vec F S1x128 .f32) (v3 : Vec F S128x128 .bf16) (v6 v9 v12 : Vec F S176x128 .f32) :
    k0_pay1 v2 (k0_pay5 v0 v6 v9 v12) (k0_pay6 v0 v3 v6 v9 v12)
      = k0_pay2 (k0_pay3 v0) v2 (k0_pay4 v3) (zeroAbove v6) (zeroAbove v9) v12 := rfl

/-- The two loads that only change shape to their own. -/
theorem pay3_eq (v0 : Vec F S8x128 .f32) : k0_pay3 v0 = v0 := by
  funext j
  idx_vars j
  pointwise [k0_pay3]

theorem pay4_eq (v0 : Vec F S128x128 .bf16) : k0_pay4 v0 = v0 := by
  funext j
  idx_vars j
  pointwise [k0_pay4]

/-- An entry of such a window: zero in the first eight rows, the chunk's below. -/
theorem zeroAbove_apply (v : Vec Ideal S176x128 .f32) (n : Fin 184) (l : Fin 128) :
    zeroAbove (F := Ideal) v (ix2 n l) = if h : n.val < 8 then (0 : EReal) else v (ix2 ⟨n.val - 8, by omega⟩ l) := by
  pointwise [zeroAbove]

end first

section pieces
variable {F : FTy → Type} [FloatOps F]
variable (𝒱 : Variants) (c : Dev nD) (bd : Option 𝒱.V) (i : grid0.Coords) (arg1 : Memref sig .tc .vmem S4224x128 .f32) (harg1 : arg1.IsWhole) (arg2 : Memref sig .tc .vmem S4224x128 .f32) (harg2 : arg2.IsWhole) (arg3 : Memref sig .tc .vmem S4224x128 .f32) (harg3 : arg3.IsWhole) (arg4 : Memref sig .tc .vmem S8x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S4224x128 .bf16) (harg7 : arg7.IsWhole)
  (v1 : FVec F S8x128 .f32) (v2 : Vec F S1x128 .f32) (v4 : FVec F S128x128 .bf16) (X1 : BufTy.Contents (Elt F) arg1.view.ty) (X2 : BufTy.Contents (Elt F) arg2.view.ty) (X3 : BufTy.Contents (Elt F) arg3.view.ty)

/-- What the loop writes, some trip wrote. -/
theorem mem_pb (p : View.Piece (Elt F) S4224x128 .bf16) : ∀ k : ℕ, k ≤ k0_t1_loop.trips →
    p ∈ pb_k0_t1 𝒱 c bd i arg1 harg1 arg2 harg2 arg3 harg3 arg4 harg4 arg5 harg5 arg6 harg6 arg7 harg7 v1 v2 v4 X1 X2 X3 k →
    ∃ n : Fin k0_t1_loop.trips, p ∈ tripL_k0_t1 𝒱 c bd i arg1 harg1 arg2 harg2 arg3 harg3 arg4 harg4 arg5 harg5 arg6 harg6 arg7 harg7 v1 v2 v4 X1 X2 X3 n
  | 0, _, h => by
      rw [pb_k0_t1.eq_1] at h
      exact absurd h List.not_mem_nil
  | k + 1, hk, h => by
      rw [pb_k0_t1_succ 𝒱 c bd i arg1 harg1 arg2 harg2 arg3 harg3 arg4 harg4 arg5 harg5 arg6 harg6 arg7 harg7 v1 v2 v4 X1 X2 X3 ⟨k, hk⟩] at h
      rcases List.mem_append.1 h with h | h
      · exact ⟨_, h⟩
      · exact mem_pb p k (Nat.le_of_succ_le hk) h

/-- What a trip writes: its chunk's payload over the windows it loads. -/
theorem trip_eq (k : Fin k0_t1_loop.trips) :
    tripL_k0_t1 𝒱 c bd i arg1 harg1 arg2 harg2 arg3 harg3 arg4 harg4 arg5 harg5 arg6 harg6 arg7 harg7 v1 v2 v4 X1 X2 X3 k
      = [⟨Rect.unit (k0_off2 k) S176x128.size (k0_off2_inb k), k0_pay2 v1 v2 v4
          (View.readAt (Elt F) arg2.view (Rect.unit (s := S4224x128) (k0_off1 k) S184x128.size (k0_off1_inb k)).toLoadRect X2)
          (View.readAt (Elt F) arg3.view (Rect.unit (s := S4224x128) (k0_off1 k) S184x128.size (k0_off1_inb k)).toLoadRect X3)
          (View.readAt (Elt F) arg1.view (Rect.unit (s := S4224x128) (k0_off2 k) S176x128.size (k0_off2_inb k)).toLoadRect X1)⟩] := by
  unfold tripL_k0_t1 trip_k0_t1
  dsimp only

variable (x0 x1 x2 : Vec F S4224x128 .f32) (x3 : Vec F S8x128 .f32) (x4 : Vec F S1x128 .f32) (x5 : Vec F S128x128 .bf16)

/-- What the body writes: the loop's pieces over the first chunk's. -/
theorem run_eq :
    (kernelRun0_A c i arg1 harg1 arg2 harg2 arg3 harg3 arg4 harg4 arg5 harg5 arg6 harg6 arg7 harg7 x0 x1 x2 x3 x4 x5).1
      = pb_k0_t1 Variants.none c none i arg1 harg1 arg2 harg2 arg3 harg3 arg4 harg4 arg5 harg5 arg6 harg6 arg7 harg7 (k0_pay3 x3) x4 (k0_pay4 x5)
          (harg1.unread x0) (harg2.unread x1) (harg3.unread x2) k0_t1_loop.trips
        ++ [⟨Rect.unit ![0, 0] S176x128.size inb_S4224x128_S176x128_0_0, k0_pay2 (k0_pay3 x3) x4 (k0_pay4 x5)
          (zeroAbove (View.readAt (Elt F) arg2.view (Rect.unit (s := S4224x128) ![0, 0] S176x128.size inb_S4224x128_S176x128_0_0).toLoadRect (harg2.unread x1)))
          (zeroAbove (View.readAt (Elt F) arg3.view (Rect.unit (s := S4224x128) ![0, 0] S176x128.size inb_S4224x128_S176x128_0_0).toLoadRect (harg3.unread x2)))
          (View.readAt (Elt F) arg1.view (Rect.unit (s := S4224x128) ![0, 0] S176x128.size inb_S4224x128_S176x128_0_0).toLoadRect (harg1.unread x0))⟩] := by
  have h4 : View.readAt (Elt F) arg4.view (Rect.unit ![0, 0] S8x128.size inb_S8x128_S8x128_0_0).toLoadRect (harg4.unread x3) = x3 := by
    funext x
    rw [harg4.readAt_unread]
    refine congrArg x3 (funext fun a => Fin.ext ?_)
    fin_cases a <;> simp
  have h5 : View.readAt (Elt F) arg5.view (Rect.unit ![0, 0] S1x128.size inb_S1x128_S1x128_0_0).toLoadRect (harg5.unread x4) = x4 := by
    funext x
    rw [harg5.readAt_unread]
    refine congrArg x4 (funext fun a => Fin.ext ?_)
    fin_cases a <;> simp
  have h6 : View.readAt (Elt F) arg6.view (Rect.unit ![0, 0] S128x128.size inb_S128x128_S128x128_0_0).toLoadRect (harg6.unread x5) = x5 := by
    funext x
    rw [harg6.readAt_unread]
    refine congrArg x5 (funext fun a => Fin.ext ?_)
    fin_cases a <;> simp
  unfold kernelRun0_A
  dsimp only
  sl_unfold_run_names
  rw [first_eq, h4, h5, h6]

end pieces

/-- The convolution's input in a column block, its rows counted from two rows of zeros in front. -/
def blkInput (x y : FVec Ideal S4224x128 .f32) (n : ℕ) (l : Fin 128) : EReal :=
  if h : 2 ≤ n ∧ n < 4226 then x (ix2 ⟨n - 2, by omega⟩ l) * y (ix2 ⟨n - 2, by omega⟩ l) else 0

/-- A row of a column block before its norm. -/
def blkRow (b x y : FVec Ideal S4224x128 .f32) (w : FVec Ideal S8x128 .f32) (r : Fin 4224) (l : Fin 128) : EReal :=
  mixed (b (ix2 r l)) (w (ix2 0 l)) (w (ix2 1 l)) (w (ix2 2 l)) (blkInput x y (r.val + 2) l) (blkInput x y (r.val + 1) l) (blkInput x y r.val l)

/-- An entry of what the body leaves in a column block. -/
def blkOut (b x y : FVec Ideal S4224x128 .f32) (w : FVec Ideal S8x128 .f32) (g : FVec Ideal S1x128 .f32) (M : FVec Ideal S128x128 .bf16) (j : S4224x128.Idx) : EReal :=
  normAt (blkRow b x y w (j 0)) (fun l => M (ix2 l (j 1))) (j 1) (g (ix2 0 (j 1)))

/-- A block of whole rows, from row `r` of the column block on, places its entries there. -/
theorem rows_emb (n : ℕ) (o : Fin 2 → ℕ) (r : ℕ) (ho : o = ![r, 0]) (h) (a : Fin n) (l : Fin 128) (hr : r + a.val < 4224) :
    (Rect.unit (s := S4224x128) o ![n, 128] h).emb (ix2 a l) = ix2 ⟨r + a.val, hr⟩ l := by
  subst ho
  refine funext fun d => Fin.ext ?_
  rw [ValueKit.rect_emb_unit_val]
  fin_cases d <;> simp

/-- A load of such a block reads the entries there. -/
theorem rows_load (A : Memref sig .tc .vmem S4224x128 .f32) (hA : A.IsWhole) (X : Vec Ideal S4224x128 .f32) (n : ℕ) (o : Fin 2 → ℕ) (r : ℕ)
    (ho : o = ![r, 0]) (h) (a : Fin n) (l : Fin 128) (hr : r + a.val < 4224) :
    View.readAt (Elt Ideal) A.view (Rect.unit (s := S4224x128) o ![n, 128] h).toLoadRect (hA.unread X) (ix2 a l) = X (ix2 ⟨r + a.val, hr⟩ l) := by
  rw [hA.readAt_unread]
  refine congrArg X ?_
  subst ho
  refine funext fun d => Fin.ext ?_
  rw [Rect.idx_unit_val]
  fin_cases d <;> simp

/-- A chunk's payload over windows that hold the column block's rows is the column block's entries. -/
theorem pay2_rows (x0 x1 x2 : FVec Ideal S4224x128 .f32) (w : FVec Ideal S8x128 .f32) (g : FVec Ideal S1x128 .f32) (M : FVec Ideal S128x128 .bf16)
    (X Y : FVec Ideal S184x128 .f32) (B : FVec Ideal S176x128 .f32) (R : ℕ) (hR : R + 176 ≤ 4224)
    (hB : ∀ (a : Fin 176) (l : Fin 128), B (ix2 a l) = x0 (ix2 ⟨R + a.val, by omega⟩ l))
    (hXY : ∀ (n : Fin 184) (l : Fin 128), 6 ≤ n.val → (show EReal from X (ix2 n l) * Y (ix2 n l)) = blkInput x1 x2 (R + n.val - 6) l)
    (a : Fin 176) (q : Fin 128) :
    k0_pay2 (F := Ideal) w g M X Y B (ix2 a q) = (show EReal from blkOut x0 x1 x2 w g M (ix2 ⟨R + a.val, by omega⟩ q)) := by
  rw [pay2_apply]
  have hrow : winRow w X Y B a = blkRow x0 x1 x2 w ⟨R + a.val, by omega⟩ := by
    funext l
    have h8 := hXY ⟨a.val + 8, by omega⟩ l (by simp)
    have h7 := hXY ⟨a.val + 7, by omega⟩ l (by simp)
    have h6 := hXY ⟨a.val + 6, by omega⟩ l (by simp)
    rw [show R + (a.val + 8) - 6 = R + a.val + 2 by omega] at h8
    rw [show R + (a.val + 7) - 6 = R + a.val + 1 by omega] at h7
    rw [show R + (a.val + 6) - 6 = R + a.val by omega] at h6
    unfold winRow blkRow
    rw [hB]
    exact congr (congr (congrArg (mixed _ _ _ _) h8) h7) h6
  rw [hrow]
  rfl

/-- What the body leaves in a column block. -/
theorem out_apply (c : Dev nD) (i : grid0.Coords) (arg1 : Memref sig .tc .vmem S4224x128 .f32) (harg1 : arg1.IsWhole) (arg2 : Memref sig .tc .vmem S4224x128 .f32) (harg2 : arg2.IsWhole) (arg3 : Memref sig .tc .vmem S4224x128 .f32) (harg3 : arg3.IsWhole) (arg4 : Memref sig .tc .vmem S8x128 .f32) (harg4 : arg4.IsWhole) (arg5 : Memref sig .tc .vmem S1x128 .f32) (harg5 : arg5.IsWhole) (arg6 : Memref sig .tc .vmem S128x128 .bf16) (harg6 : arg6.IsWhole) (arg7 : Memref sig .tc .vmem S4224x128 .bf16) (harg7 : arg7.IsWhole)
    (x0 x1 x2 : Vec Ideal S4224x128 .f32) (x3 : Vec Ideal S8x128 .f32) (x4 : Vec Ideal S1x128 .f32) (x5 : Vec Ideal S128x128 .bf16) (y : S4224x128.Idx) :
    out0_A_6 (F := Ideal) c i arg1 harg1 arg2 harg2 arg3 harg3 arg4 harg4 arg5 harg5 arg6 harg6 arg7 harg7 x0 x1 x2 x3 x4 x5 y = blkOut x0 x1 x2 x3 x4 x5 y := by
  unfold out0_A_6
  refine View.read_writes_apply_of_pieces _ _ (blkOut x0 x1 x2 x3 x4 x5) _ ?_ y (cover0_A_6 c i arg1 harg1 arg2 harg2 arg3 harg3 arg4 harg4 arg5 harg5 arg6 harg6 arg7 harg7 x0 x1 x2 x3 x4 x5 y)
  intro p hp
  rw [run_eq] at hp
  rcases List.mem_append.1 hp with hp | hp
  · obtain ⟨k, hk⟩ := mem_pb _ _ _ _ _ _ _ _ _ _ _ _ _ _ _ _ _ _ _ _ _ _ _ _ _ _ le_rfl hp
    rw [trip_eq, List.mem_singleton] at hk
    subst hk
    have hk23 : k.val < 23 := Nat.lt_of_lt_of_le k.isLt k0_t1_abs.2.1
    intro (i : S176x128.Idx)
    rw [pay3_eq, pay4_eq]
    idx_vars i
    refine (pay2_rows x0 x1 x2 x3 x4 x5 _ _ _ (176 * k.val + 176) (by omega) (fun a l => ?_) (fun n l hn => ?_) _ _).trans ?_
    · exact rows_load arg1 harg1 x0 176 _ _ (k0_off2_eq k) _ a l _
    · rw [blkInput, dif_pos (by omega)]
      refine congrArg₂ (fun u v : EReal => u * v) ?_ ?_
      · refine (rows_load arg2 harg2 x1 184 _ _ (k0_off1_eq k) _ n l (by omega)).trans (congrArg x1 (congrArg (ix2 · l) (Fin.ext ?_)))
        simp; omega
      · refine (rows_load arg3 harg3 x2 184 _ _ (k0_off1_eq k) _ n l (by omega)).trans (congrArg x2 (congrArg (ix2 · l) (Fin.ext ?_)))
        simp; omega
    · exact congrArg (blkOut x0 x1 x2 x3 x4 x5) (rows_emb 176 _ _ (k0_off2_eq k) _ _ _ _).symm
  · rw [List.mem_singleton] at hp
    subst hp
    intro (i : S176x128.Idx)
    rw [pay3_eq, pay4_eq]
    idx_vars i
    refine (pay2_rows x0 x1 x2 x3 x4 x5 _ _ _ 0 (by omega) (fun a l => ?_) (fun n l hn => ?_) _ _).trans ?_
    · exact rows_load arg1 harg1 x0 176 _ 0 rfl _ a l _
    · rw [zeroAbove_apply, zeroAbove_apply]
      by_cases h : n.val < 8
      · rw [dif_pos h, dif_pos h, blkInput, dif_neg (by omega)]
        exact mul_zero (0 : EReal)
      · rw [dif_neg h, dif_neg h, blkInput, dif_pos (by omega)]
        refine congrArg₂ (fun u v : EReal => u * v) ?_ ?_
        · refine (rows_load arg2 harg2 x1 176 _ 0 rfl _ _ l (by simp; omega)).trans (congrArg x1 (congrArg (ix2 · l) (Fin.ext ?_)))
          simp; omega
        · refine (rows_load arg3 harg3 x2 176 _ 0 rfl _ _ l (by simp; omega)).trans (congrArg x2 (congrArg (ix2 · l) (Fin.ext ?_)))
          simp; omega
    · exact congrArg (blkOut x0 x1 x2 x3 x4 x5) (rows_emb 176 _ 0 rfl _ _ _ _).symm

section value
variable (m : (ℓ : Loc nD τ sig) → Buf (Elt Ideal) ℓ) (c : Dev nD)

/-- The eight rows that hold the three filter rows. -/
theorem V_w_apply (t : Fin 8) (J : Fin 1024) (ht : t.val < 3) :
    V m c main_v10 (ix2 t J) = m ((c : Thread nD τ).loc main_arg1) (ix2 ⟨t.val, ht⟩ J) := by
  simp only [V, hostOps0, hostOps0_1, hostOps0_2, List.flatten_cons, List.flatten_nil, List.append_nil, List.cons_append, List.nil_append]
  after_results_simp
  pointwise
  exact dif_pos ht

/-- The matrix of averages over a head of 64 columns. -/
theorem V_gm_apply (l q : Fin 128) :
    V m c main_v8 (ix2 l q) = if l.val / 64 = q.val / 64 then Ideal.ofBits .f32 0x3C800000#32 else 0 := by
  simp only [V, hostOps0, hostOps0_1, hostOps0_2, List.flatten_cons, List.flatten_nil, List.append_nil, List.cons_append, List.nil_append]
  after_results_simp
  have hl : l.val / 64 = 0 ∨ l.val / 64 = 1 := by omega
  have hq : q.val / 64 = 0 ∨ q.val / 64 = 1 := by omega
  show (truncf .bf16 (shapeCast S128x128 (mulf (broadcastInDim S2x64x2x64 ![0,1,2,3] bcast_S2x1x2x1_S2x64x2x64_0_1_2_3 (broadcastInDim S2x1x2x1 ![0,2] bcast_S2x2_S2x1x2x1_0_2 (uitofp .f32 (cmpi .eq (addi (iotaInDim S2x2 32 0) (broadcastInDim S2x2 ![] bcast_S_S2x2 (constantI S_ 32 0#32))) (iotaInDim S2x2 32 1))))) (broadcastInDim S2x64x2x64 ![0,1,2,3] bcast_S1x64x1x64_S2x64x2x64_0_1_2_3 (broadcastInDim S1x64x1x64 ![1,3] bcast_S64x64_S1x64x1x64_1_3 (broadcastInDim S64x64 ![] bcast_S_S64x64 (constant S_ .f32 0x3C800000#32))))) shapeCasts_S2x64x2x64_S128x128) bitsLt_bf16_f32 : FVec Ideal S128x128 .bf16) (ix2 l q) = _
  pointwise
  rcases hl with hl | hl <;> rcases hq with hq | hq <;> rw [hl, hq]
  · rw [if_pos rfl]
    refine (congrArg (· * _) (?_ : (_ : EReal) = 1)).trans (one_mul _)
    simp [FloatOps.uitofp, IntOp.cmpi, IntOp.addi]
  · rw [if_neg (by decide)]
    refine (congrArg (· * _) (?_ : (_ : EReal) = 0)).trans (zero_mul _)
    simp [FloatOps.uitofp, IntOp.cmpi, IntOp.addi]
  · rw [if_neg (by decide)]
    refine (congrArg (· * _) (?_ : (_ : EReal) = 0)).trans (zero_mul _)
    simp [FloatOps.uitofp, IntOp.cmpi, IntOp.addi]
  · rw [if_pos rfl]
    refine (congrArg (· * _) (?_ : (_ : EReal) = 1)).trans (one_mul _)
    simp [FloatOps.uitofp, IntOp.cmpi, IntOp.addi]

/-- The windows' blocks: column blocks of the one argument, of the filter and the gain, the one matrix. -/
theorem idx (t : Fin cfg0.N) : win0_0.index t = ![0, 16 + t.val] ∧ win0_1.index t = ![0, 24 + t.val] ∧ win0_2.index t = ![0, 32 + t.val]
    ∧ win0_3.index t = ![0, t.val] ∧ win0_4.index t = ![0, t.val] ∧ win0_5.index t = ![0, 0] ∧ win0_6.index t = ![0, t.val] ∧ t.val < 8 := by
  revert t
  decide +kernel

/-- Column `l` of column block `t`. -/
abbrev col (t : Fin cfg0.N) (l : Fin 128) : Fin 1024 := ⟨128 * t.val + l.val, by have := (idx t).2.2.2.2.2.2.2; omega⟩

/-- The convolution's argument, and its filter and gain. -/
abbrev argZ : FVec Ideal S4224x5120 .f32 := m ((c : Thread nD τ).loc main_arg0)
abbrev argW : FVec Ideal S3x1024 .f32 := m ((c : Thread nD τ).loc main_arg1)
abbrev argG : FVec Ideal S1x1024 .f32 := m ((c : Thread nD τ).loc main_arg2)

/-- The input blocks' entries in the arguments. -/
theorem blk0 (t : Fin cfg0.N) (r : Fin 4224) (l : Fin 128) : iblk m c 0 t (ix2 r l) = argZ m c (ix2 r ⟨2048 + (col t l).val, by omega⟩) := by
  blk_point [iblk, V, idx t]

theorem blk1 (t : Fin cfg0.N) (r : Fin 4224) (l : Fin 128) : iblk m c 1 t (ix2 r l) = argZ m c (ix2 r ⟨3072 + (col t l).val, by omega⟩) := by
  blk_point [iblk, V, idx t]

theorem blk2 (t : Fin cfg0.N) (r : Fin 4224) (l : Fin 128) : iblk m c 2 t (ix2 r l) = argZ m c (ix2 r ⟨4096 + (col t l).val, by omega⟩) := by
  blk_point [iblk, V, idx t]

theorem blk3 (t : Fin cfg0.N) (a : Fin 8) (l : Fin 128) (ha : a.val < 3) : iblk m c 3 t (ix2 a l) = argW m c (ix2 ⟨a.val, ha⟩ (col t l)) := by
  refine Eq.trans ?_ (V_w_apply m c a (col t l) ha)
  generalize hV : V m c main_v10 = v
  blk_point [iblk, hV, idx t]

theorem blk4 (t : Fin cfg0.N) (l : Fin 128) : iblk m c 4 t (ix2 0 l) = argG m c (ix2 0 (col t l)) := by
  blk_point [iblk, V, idx t]

theorem blk5 (t : Fin cfg0.N) (l q : Fin 128) : iblk m c 5 t (ix2 l q) = if l.val / 64 = q.val / 64 then Ideal.ofBits .f32 0x3C800000#32 else 0 := by
  refine Eq.trans ?_ (V_gm_apply m c l q)
  generalize hV : V m c main_v8 = v
  blk_point [iblk, hV, idx t]

/-- A block's row before its norm is the mixer's. -/
theorem blkRow_eq (t : Fin cfg0.N) (r : Fin 4224) (l : Fin 128) :
    blkRow (iblk m c 0 t) (iblk m c 1 t) (iblk m c 2 t) (iblk m c 3 t) r l = mixAt (argZ m c) (argW m c) r (col t l) := by
  have hin : ∀ n, blkInput (iblk m c 1 t) (iblk m c 2 t) n l = inputAt (argZ m c) n (col t l) := by
    intro n
    unfold blkInput inputAt
    by_cases h : 2 ≤ n ∧ n < 4226
    · rw [dif_pos h, dif_pos h]
      exact congrArg₂ (fun u v : EReal => u * v) (blk1 m c t _ l) (blk2 m c t _ l)
    · rw [dif_neg h, dif_neg h]
  unfold blkRow mixAt
  rw [hin, hin, hin, blk0 m c t r l]
  exact congr (congr (congr (congr (congr (congrArg (mixed _) (blk3 m c t 0 l (by decide))) (blk3 m c t 1 l (by decide))) (blk3 m c t 2 l (by decide))) rfl) rfl) rfl

/-- The mixer's output. -/
abbrev G (i : S4224x1024.Idx) : EReal := headNorm (mixAt (argZ m c) (argW m c) (i 0)) (i 1) (argG m c (ix2 0 (i 1)))

/-- On real arguments the mixer is real. -/
theorem isReal_mix (hz : ∀ i, IsReal (argZ m c i)) (hw : ∀ i, IsReal (argW m c i)) (r : Fin 4224) (J : Fin 1024) : IsReal (mixAt (argZ m c) (argW m c) r J) := by
  have hin : ∀ n, IsReal (inputAt (argZ m c) n J) := by
    intro n
    unfold inputAt
    split
    · exact (hz _).mul (hz _)
    · exact IsReal.zero
  exact (hz _).mul ((((hw _).mul (hin _)).add ((hw _).mul (hin _))).add ((hw _).mul (hin _)))

/-- What the body leaves in a block is the mixer's output there. -/
theorem blkOut_eq (hz : ∀ i, IsReal (argZ m c i)) (hw : ∀ i, IsReal (argW m c i)) (t : Fin cfg0.N) (r : Fin 4224) (q : Fin 128) :
    blkOut (iblk m c 0 t) (iblk m c 1 t) (iblk m c 2 t) (iblk m c 3 t) (iblk m c 4 t) (iblk m c 5 t) (ix2 r q) = G m c (ix2 r (col t q)) := by
  have hrow : blkRow (iblk m c 0 t) (iblk m c 1 t) (iblk m c 2 t) (iblk m c 3 t) r = fun l => mixAt (argZ m c) (argW m c) r (col t l) :=
    funext fun l => blkRow_eq m c t r l
  have ht := (idx t).2.2.2.2.2.2.2
  show normAt (blkRow _ _ _ _ r) (fun l => iblk m c 5 t (ix2 l q)) q (iblk m c 4 t (ix2 0 q)) = _
  rw [hrow, blk4]
  unfold normAt
  rw [mean_eq _ _ (fun l => isReal_mix m c hz hw r (col t l)) q (fun l => blk5 m c t l q)]
  have hd : ∀ d : Fin 64, headCol (col t q) d = col t ⟨q.val / 64 * 64 + d.val, by omega⟩ := fun d => Fin.ext (by simp; omega)
  show _ = headNorm _ (col t q) _
  unfold headNorm
  simp only [hd]
  rfl

/-- The output array is the mixer's output. -/
theorem final6 (hz : ∀ i, IsReal (argZ m c i)) (hw : ∀ i, IsReal (argW m c i)) : (dats m 0 c).arrAt 6 (cfgs 0).N = (show FVec Ideal S4224x1024 .bf16 from G m c) := by
  refine (dats m 0 c).arrAt_eq_of_covers 6 _ (by decide +kernel) fun t hf y => ?_
  blk_simp
  rw [after0_6]
  unfold outsAt0
  refine (out_apply _ _ _ _ _ _ _ _ _ _ _ _ _ _ _ _ _ _ _ _ _ _ y).trans ?_
  idx_vars y
  refine (blkOut_eq m c hz hw t _ _).trans ?_
  blk_point [idx t]

/-- The precondition makes every entry of the argument and the filter real. -/
theorem finite (hm : Pre_ConvFwdIdeal_conv_finite (hPre_conv_finite := Cert.Pre_conv_finite.Gen.facts) m) (c : Dev nD) :
    (∀ i, IsReal (argZ m c i)) ∧ (∀ i, IsReal (argW m c i)) := by
  obtain ⟨h0, h1⟩ := hm c
  exact ⟨fun i => isReal_of_mask (congrFun h0 i), fun i => isReal_of_mask (congrFun h1 i)⟩

/-- The result of the short convolution's forward call is the reference's. -/
theorem algebraic : Cert.algebraic_ConvFwdIdeal_ConvFwdRefIdeal_pre_conv_finite (hConvFwdIdeal := Cert.ConvFwdIdeal.Gen.facts) (hConvFwdRefIdeal := Cert.ConvFwdRefIdeal.Gen.facts) (hPre_conv_finite := Cert.Pre_conv_finite.Gen.facts) := by
  intro m g m' g' hm hagree
  refine ⟨fun c => G m c, ?_, ?_⟩
  · exact (θ_run Cert.ConvFwdIdeal.defs _ _).mono (fun _ h c => ⟨(h c).1.trans (final6 m c (finite m hm c).1 (finite m hm c).2), (h c).2⟩)
      (Cert.ConvFwdIdeal.Value.run_blocks (F := Ideal) m g)
  · refine (θ_run Cert.ConvFwdRefIdeal.defs _ _).mono (fun _ h c => ⟨(h c).1.trans ?_, (h c).2⟩)
      (Cert.ConvFwdRefIdeal.Value.run (F := Ideal) m' g')
    obtain ⟨h0, h1, h2⟩ := hagree c
    rw [res_eq]
    simp only [h0, h1, h2]
    funext i
    idx_vars i
    refine (refOut_apply _ _ _ _).trans ?_
    simp only [refMix_apply]
    rfl

/-- The reference ends with its arguments unchanged. -/
theorem frame_ref : Cert.quiescent_ConvFwdRefIdeal (hConvFwdRefIdeal := Cert.ConvFwdRefIdeal.Gen.facts) := fun m ρ _ =>
  (θ_run Cert.ConvFwdRefIdeal.defs _ _).mono (fun r h => ⟨fun c => (h c).2, sem_eq_zero_of_no_sems (by decide) r.2⟩)
    (Cert.ConvFwdRefIdeal.Value.run (F := Ideal) m ρ)

theorem frame_ref_pre : Cert.quiescent_ConvFwdRefIdeal_pre_conv_finite (hConvFwdRefIdeal := Cert.ConvFwdRefIdeal.Gen.facts) (hPre_conv_finite := Cert.Pre_conv_finite.Gen.facts) :=
  fun m ρ _ => frame_ref m ρ trivial

end value

end Cert.Proof.ConvFwd
end
-- ==== Proof.CastPad.lean ====
/-
  The cast of a weight's shard: the call pads the shard's rows with zeros and writes the block into the slot that a word
  names; the word is zero, so the first slot of the result holds the padded shard, which is the reference's.
-/
module

public import proofs.«01_k».proof.Defs
public import proofs.«01_k».proof.Proof.Gen.CastPad.Frame
public import proofs.«01_k».proof.Proof.Gen.CastPadIdeal.Frame
public import proofs.«01_k».proof.Proof.Gen.CastPadRefIdeal.Run
public import Idealize.ShloMosaic.Lib.Pipeline.ValueKit
public import Idealize.ShloMosaic.Lib.Pointwise
public import Idealize.ShloMosaic.Lib.Quiescent
public import Idealize.ShloMosaic.Lib.WholeRead
public import Idealize.ShloMosaic.Lib.WritesUnit

@[expose] public section

set_option maxRecDepth 16384

noncomputable section

namespace Cert.Proof.CastPad

open Idealize.ShloMosaic Idealize.ShloMosaic.TcCoe Idealize.SL.Sem
open Idealize.ShloMosaic.Pipeline (Dat)

section slot
open Cert.CastPad Cert.CastPad.Gen

/-- The word that names the slot is zero, -/
theorem slot_bits {F : FTy → Type} [FloatOps F] (m : (ℓ : Loc nD τ sig) → Buf (Elt F) ℓ) : tbl m 0 = fun _ => (0#32 : BitVec 32) := by
  show V m (0 : Dev nD) main_v0 = _
  simp only [V, V0, hostOps0, List.flatten_cons, List.flatten_nil, List.append_nil]
  after_results_simp
  rfl

/-- so the block lies inside the result. -/
theorem ok_bits {F : FTy → Type} [FloatOps F] (m : (ℓ : Loc nD τ sig) → Buf (Elt F) ℓ) : Ok m := by
  intro i
  have h : cc0_transform_1 inb_S1_S1_0 numel1_S1 (tbl m) i = ![0, 0, 0] := by
    unfold cc0_transform_1 Pipeline.Prefetch.Contents.at
    rw [slot_bits]
    rfl
  rw [h]
  exact ⟨by decide, .inr (by decide)⟩

end slot

open Cert.CastPadIdeal Cert.CastPadIdeal.Gen

/-- The same of the idealized call. -/
theorem slot {F : FTy → Type} [FloatOps F] (m : (ℓ : Loc nD τ sig) → Buf (Elt F) ℓ) : tbl m 0 = fun _ => (0#32 : BitVec 32) := by
  show V m (0 : Dev nD) main_v0 = _
  simp only [V, V0, hostOps0, List.flatten_cons, List.flatten_nil, List.append_nil]
  after_results_simp
  rfl

/-- Its block is the result's first. -/
theorem index {F : FTy → Type} [FloatOps F] (m : (ℓ : Loc nD τ sig) → Buf (Elt F) ℓ) (i : grid0.Coords) : cc0_transform_1 inb_S1_S1_0 numel1_S1 (tbl m) i = ![0, 0, 0] := by
  unfold cc0_transform_1 Pipeline.Prefetch.Contents.at
  rw [slot]
  rfl

/-- So it lies inside the result. -/
theorem ok {F : FTy → Type} [FloatOps F] (m : (ℓ : Loc nD τ sig) → Buf (Elt F) ℓ) : Ok m := by
  intro i
  rw [index m i]
  exact ⟨by decide, .inr (by decide)⟩

section block
variable {F : FTy → Type} [FloatOps F]
variable (c : Dev nD) (i : grid0.Coords) (arg2 : Memref sig .tc .vmem S1376x2048 .f32) (harg2 : arg2.IsWhole)
  (arg3 : Memref sig .tc .vmem S1x1408x2048 .bf16) (harg3 : arg3.IsWhole) (x0 : Vec F S1376x2048 .f32) (xt0 : TbBuf0 (F := F) c tbM0_0)

/-- What the body writes: the cast shard over a block of zeros. -/
theorem run_eq : (kernelRun0_A c i arg2 harg2 arg3 harg3 x0 xt0).1
    = [⟨Rect.unit (s := S1x1408x2048) ![0, 0, 0] S1x1376x2048.size inb_S1x1408x2048_S1x1376x2048_0_0_0, k0_pay2 x0⟩,
       ⟨Rect.unit (s := S1x1408x2048) ![0, 0, 0] S1x1408x2048.size inb_S1x1408x2048_S1x1408x2048_0_0_0, k0_pay1⟩] := by
  have h : View.readAt (Elt F) arg2.view (Rect.unit (s := S1376x2048) ![0, 0] S1376x2048.size inb_S1376x2048_S1376x2048_0_0).toLoadRect (harg2.unread x0) = x0 := by
    funext x
    rw [harg2.readAt_unread]
    refine congrArg x0 (funext fun a => Fin.ext ?_)
    fin_cases a <;> simp
  unfold kernelRun0_A
  dsimp only
  rw [h]

end block

/-- A weight's shard in the shorter format, rows of zeros below it. -/
def padded (x : FVec Ideal S1376x2048 .f32) (r : Fin 1408) (k : Fin 2048) : EReal :=
  if h : r.val < 1376 then x (ix2 ⟨r.val, h⟩ k) else 0

/-- The block the body leaves, entry by entry. -/
theorem out_apply (c : Dev nD) (i : grid0.Coords) (arg2 : Memref sig .tc .vmem S1376x2048 .f32) (harg2 : arg2.IsWhole)
    (arg3 : Memref sig .tc .vmem S1x1408x2048 .bf16) (harg3 : arg3.IsWhole) (x0 : Vec Ideal S1376x2048 .f32) (xt0 : TbBuf0 (F := Ideal) c tbM0_0)
    (j0 : Fin 1) (j1 : Fin 1408) (j2 : Fin 2048) :
    out0_A_1 (F := Ideal) c i arg2 harg2 arg3 harg3 x0 xt0 (ix3 j0 j1 j2) = (show EReal from padded x0 j1 j2) := by
  unfold out0_A_1 padded
  rw [run_eq]
  by_cases h : j1.val < 1376
  · rw [dif_pos h]
    refine (View.read_writes_cons_unit_of_mem VO0_1 VO0_1.junk _ _ _ (ix3 j0 j1 j2) (ix3 j0 ⟨j1.val, h⟩ j2) rfl (fun (a : Fin 3) => by fin_cases a <;> simp)).trans ?_
    pointwise [k0_pay2]
  · rw [dif_neg h]
    refine (View.read_writes_cons_unit_of_not_mem VO0_1 VO0_1.junk _ _ _ (ix3 j0 j1 j2) rfl (1 : Fin 3) (Or.inr (by show 0 + 1376 ≤ j1.val; omega))).trans ?_
    refine (View.read_writes_cons_unit_of_mem VO0_1 VO0_1.junk _ _ _ (ix3 j0 j1 j2) (ix3 j0 j1 j2) rfl (fun (a : Fin 3) => by fin_cases a <;> simp)).trans ?_
    pointwise [k0_pay1]

/-- The input block is the whole argument. -/
theorem blk0 (m : (ℓ : Loc nD τ sig) → Buf (Elt Ideal) ℓ) (c : Dev nD) (t : Fin (cfgM m (ok m)).N) (r : Fin 1376) (k : Fin 2048) :
    iblk m (ok m) c 0 t (show S1376x2048.Idx from ix2 r k) = (show FVec Ideal S1376x2048 .f32 from m ((c, main_arg0) : Loc nD τ sig)) (ix2 r k) := by
  have hx0 : ((cfgM m (ok m)).win 0).index t = ![0, 0] := rfl
  have hV := V_main_arg0 m c
  have he : (((cfgM m (ok m)).win 0).blk t).view.emb (show S1376x2048.Idx from ix2 r k) = (show S1376x2048.Idx from ix2 r k) := by
    funext a
    refine Fin.ext ?_
    blk_simp
    rw [hx0]
    revert a
    intro (a : Fin 2)
    fin_cases a <;> simp
  show V m c main_arg0 ((((cfgM m (ok m)).win 0).blk t).view.emb (show S1376x2048.Idx from ix2 r k)) = _
  rw [he, hV]

/-- The result array's first slot after the call. -/
theorem final (m : (ℓ : Loc nD τ sig) → Buf (Elt Ideal) ℓ) (c : Dev nD) (r : Fin 1408) (k : Fin 2048) :
    (dats m (ok m) 0 c).arrAt 1 (cfgM m (ok m)).N (ix3 (0 : Fin 4) r k) = (show EReal from padded (m ((c, main_arg0) : Loc nD τ sig)) r k) := by
  have hf : ∀ t : Fin (cfgM m (ok m)).N, ((cfgM m (ok m)).win 1).flush t = true := by
    intro t
    unfold Pipeline.Window.flush
    rw [Bool.and_eq_true]
    refine ⟨rfl, ?_⟩
    rw [Bool.or_eq_true]
    refine Or.inl (decide_eq_true ?_)
    have := fin_N0 t
    subst this
    rfl
  have hx : ∀ t : Fin (cfgM m (ok m)).N, ((cfgM m (ok m)).win 1).index t = ![0, 0, 0] := fun t => index m (grid0.coords t)
  obtain ⟨t, _⟩ : ∃ t : Fin (cfgM m (ok m)).N, True := ⟨t0_0, trivial⟩
  have hd := (dats m (ok m) 0 c).arrAt_emb_eq_flushed 1 (fun t t' _ _ h => absurd ((fin_N0 t).trans (fin_N0 t').symm) h) t (hf t)
    (show S1x1408x2048.Idx from ix3 (0 : Fin 1) r k)
  have he : (((cfgM m (ok m)).win 1).blk t).view.emb (ix3 (0 : Fin 1) r k) = ix3 (0 : Fin 4) r k := by
    funext a
    refine Fin.ext ?_
    blk_simp
    rw [hx]
    revert a
    intro (a : Fin 3)
    fin_cases a <;> simp
  rw [he] at hd
  refine hd.trans ?_
  show (dats m (ok m) 0 c).after 1 t (ix3 (0 : Fin 1) r k) = _
  rw [after0_1]
  unfold outsAt0
  refine (out_apply _ _ _ _ _ _ _ _ _ _ _).trans ?_
  refine congrArg (fun x => padded x r k) ?_
  funext y
  change S1376x2048.Idx at y
  idx_vars y
  exact blk0 m c t _ _

/-- The result's first slot, read off the array and cut to its rows. -/
theorem result (m : (ℓ : Loc nD τ sig) → Buf (Elt Ideal) ℓ) (c : Dev nD) :
    Pipeline.afterTail pcfgs (fun _ => adm m (ok m)) (dats m (ok m)) 0 (V0 m) [hostOps1] c main_v3
      = (show FVec Ideal S1408x2048 .bf16 from fun i => padded (m ((c, main_arg0) : Loc nD τ sig)) (i 0) (i 1)) := by
  have hw := Pipeline.withArrays_arr spec0 winFacts0.arr_inj c (V0 m c) (fun w => (dats m (ok m) 0 c).arrAt w (cfgM m (ok m)).N) 1
  unfold Pipeline.afterTail
  simp only [hostOps1, List.flatten_cons, List.flatten_nil, List.append_nil]
  after_results_simp
  have hw' : Pipeline.withArrays (Pipeline.pin pcfgs (fun _ => adm m (ok m)) 0).spec c (V0 m c)
      (fun w => (dats m (ok m) 0 c).arrAt w (Pipeline.pin pcfgs (fun _ => adm m (ok m)) 0).N) (Proc.tc.devRef main_v1)
      = (dats m (ok m) 0 c).arrAt 1 (cfgM m (ok m)).N := hw
  rw [hw']
  have hf := final m c
  generalize (dats m (ok m) 0 c).arrAt 1 (cfgM m (ok m)).N = A at hf
  funext i
  change S1408x2048.Idx at i
  idx_vars i
  refine Eq.trans ?_ (hf _ _)
  change FVec Ideal S4x1408x2048 .bf16 at A
  show shapeCast S1408x2048 (extractStridedSlice S1x1408x2048 ![0, 0, 0] A slices_S4x1408x2048_S1x1408x2048_0_0_0) shapeCasts_S1x1408x2048_S1408x2048 (ix2 _ _) = _
  pointwise

/-- The result is no window's array. -/
theorem rest : main_v3 ∈ Pipeline.restRefs sig spec0 := by decide

/-- The call's result is the reference's. -/
theorem algebraic : Cert.algebraic_CastPadIdeal_CastPadRefIdeal (hCastPadIdeal := Cert.CastPadIdeal.Gen.facts) (hCastPadRefIdeal := Cert.CastPadRefIdeal.Gen.facts) := by
  intro m g m' g' _ hagree
  refine ⟨fun c => (show FVec Ideal S1408x2048 .bf16 from fun i => padded (m ((c, main_arg0) : Loc nD τ sig)) (i 0) (i 1)), ?_, ?_⟩
  · refine (θ_run Cert.CastPadIdeal.defs _ _).mono (fun _ h c => ⟨((h c).2 main_v3 rest).trans (result m c), ?_⟩) (run_main m g (ok m))
    exact ((h c).1 0).trans (((dats m (ok m) 0 c).arrAt_in 0 rfl _).trans ((A_eq m (ok m) c 0).trans (V_main_arg0 m c)))
  · refine (θ_run Cert.CastPadRefIdeal.defs _ _).mono (fun _ h c => ⟨(h c).1.trans ?_, (h c).2⟩)
      (Cert.CastPadRefIdeal.Value.run (F := Ideal) m' g')
    rw [hagree c]
    funext i
    change S1408x2048.Idx at i
    idx_vars i
    pointwise [padded]

/-- The reference ends with its argument unchanged. -/
theorem frame_ref : Cert.quiescent_CastPadRefIdeal (hCastPadRefIdeal := Cert.CastPadRefIdeal.Gen.facts) := fun m ρ _ =>
  (θ_run Cert.CastPadRefIdeal.defs _ _).mono (fun r h => ⟨fun c => (h c).2, sem_eq_zero_of_no_sems (by decide) r.2⟩)
    (Cert.CastPadRefIdeal.Value.run (F := Ideal) m ρ)

end Cert.Proof.CastPad
end
-- ==== Proof.CastIn.lean ====
/-
  The cast of a shard at the device's slot: the block goes into the slot that the argument's word names, and nothing is
  padded. Cut out of that slot again, the result is the shard in the shorter format, which is the reference's.
-/
module

public import proofs.«01_k».proof.Defs
public import proofs.«01_k».proof.Proof.Gen.CastIn.Frame
public import proofs.«01_k».proof.Proof.Gen.CastInIdeal.Frame
public import proofs.«01_k».proof.Proof.Gen.CastInRefIdeal.Run
public import proofs.«01_k».proof.Proof.Gen.Pre_slot_in_range
public import Idealize.ShloMosaic.Lib.Pipeline.ValueKit
public import Idealize.ShloMosaic.Lib.Pointwise
public import Idealize.ShloMosaic.Lib.Quiescent
public import Idealize.ShloMosaic.Lib.WholeRead
public import Idealize.ShloMosaic.Lib.WordCmp
public import Idealize.ShloMosaic.Lib.WritesUnit

@[expose] public section

set_option maxRecDepth 16384

noncomputable section

namespace Cert.Proof.CastIn

open Idealize.ShloMosaic Idealize.ShloMosaic.TcCoe Idealize.SL.Sem
open Idealize.ShloMosaic.Pipeline (Dat)

/-- The precondition says that the word is one of the four slots. -/
theorem word {F : FTy → Type} [FloatOps F] (x : FVec F ⟨2, ![2048, 1280]⟩ .f32) (w : IVec ⟨0, ![]⟩ 32)
    (h : letI := Cert.Pre_slot_in_range.Gen.facts; Cert.Pre_slot_in_range.fn x w = fun _ => 1#1) : ∃ s : Fin 4, w = fun _ => BitVec.ofNat 32 s.val := by
  have h0 : IntOp.andi (IntOp.cmpi .sge (w (fun a => a.elim0)) 0#32) (IntOp.cmpi .slt (w (fun a => a.elim0)) (BitVec.ofNat 32 4)) = 1#1 := congrFun h (fun a => a.elim0)
  rw [WordCmp.andi_sge_zero_slt_ofNat (by decide), WordCmp.ofBool_eq_one_iff] at h0
  have h1 : (w (fun a => a.elim0)).toNat < 4 := by simpa using h0
  refine ⟨⟨_, h1⟩, funext fun i => ?_⟩
  have hi : i = fun a => a.elim0 := funext fun a => a.elim0
  rw [hi]
  simp

section slot
open Cert.CastIn Cert.CastIn.Gen

/-- The word the call reads is the argument's, -/
theorem slot_bits {F : FTy → Type} [FloatOps F] (m : (ℓ : Loc nD τ sig) → Buf (Elt F) ℓ) (s : Fin 4)
    (h : m (((0 : Dev nD) : Thread nD τ).loc main_arg1) = fun _ => BitVec.ofNat 32 s.val) : tbl m 0 = fun _ => BitVec.ofNat 32 s.val := by
  show V m (0 : Dev nD) main_v0 = _
  simp only [V, V0, hostOps0, List.flatten_cons, List.flatten_nil, List.append_nil]
  after_results_simp
  funext i
  exact congrFun h _

/-- so the block lies inside the result. -/
theorem ok_bits {F : FTy → Type} [FloatOps F] (m : (ℓ : Loc nD τ sig) → Buf (Elt F) ℓ) (s : Fin 4)
    (hs : m (((0 : Dev nD) : Thread nD τ).loc main_arg1) = fun _ => BitVec.ofNat 32 s.val) : Ok m := by
  intro i
  have h : cc0_transform_1 inb_S1_S1_0 numel1_S1 (tbl m) i = ![s.val, 0, 0] := by
    unfold cc0_transform_1 Pipeline.Prefetch.Contents.at
    rw [slot_bits m s hs]
    fin_cases s <;> rfl
  rw [h]
  fin_cases s <;> exact ⟨by decide, .inr (by decide)⟩

/-- The call runs from every word in range. -/
theorem frame : Cert.quiescent_CastIn (hCastIn := Cert.CastIn.Gen.facts) (hPre_slot_in_range := Cert.Pre_slot_in_range.Gen.facts) := fun m ρ hm =>
  (word _ _ (hm 0)).elim fun s hs => Cert.CastIn.Gen.frame m ρ (ok_bits m s hs)

end slot

open Cert.CastInIdeal Cert.CastInIdeal.Gen

/-- The same of the idealized call. -/
theorem slot {F : FTy → Type} [FloatOps F] (m : (ℓ : Loc nD τ sig) → Buf (Elt F) ℓ) (s : Fin 4)
    (h : m (((0 : Dev nD) : Thread nD τ).loc main_arg1) = fun _ => BitVec.ofNat 32 s.val) : tbl m 0 = fun _ => BitVec.ofNat 32 s.val := by
  show V m (0 : Dev nD) main_v0 = _
  simp only [V, V0, hostOps0, List.flatten_cons, List.flatten_nil, List.append_nil]
  after_results_simp
  funext i
  exact congrFun h _

/-- Its block is the result's slot `s`. -/
theorem index {F : FTy → Type} [FloatOps F] (m : (ℓ : Loc nD τ sig) → Buf (Elt F) ℓ) (s : Fin 4)
    (h : m (((0 : Dev nD) : Thread nD τ).loc main_arg1) = fun _ => BitVec.ofNat 32 s.val) (i : grid0.Coords) :
    cc0_transform_1 inb_S1_S1_0 numel1_S1 (tbl m) i = ![s.val, 0, 0] := by
  unfold cc0_transform_1 Pipeline.Prefetch.Contents.at
  rw [slot m s h]
  fin_cases s <;> rfl

/-- So it lies inside the result. -/
theorem ok {F : FTy → Type} [FloatOps F] (m : (ℓ : Loc nD τ sig) → Buf (Elt F) ℓ) (s : Fin 4)
    (h : m (((0 : Dev nD) : Thread nD τ).loc main_arg1) = fun _ => BitVec.ofNat 32 s.val) : Ok m := by
  intro i
  rw [index m s h i]
  fin_cases s <;> exact ⟨by decide, .inr (by decide)⟩

/-- The idealized call runs from every word in range. -/
theorem frame_ideal : Cert.quiescent_CastInIdeal (hCastInIdeal := Cert.CastInIdeal.Gen.facts) (hPre_slot_in_range := Cert.Pre_slot_in_range.Gen.facts) := fun m ρ hm =>
  (word _ _ (hm 0)).elim fun s hs => Cert.CastInIdeal.Gen.frame m ρ (ok m s hs)

section block
variable {F : FTy → Type} [FloatOps F]
variable (c : Dev nD) (i : grid0.Coords) (arg2 : Memref sig .tc .vmem S2048x1280 .f32) (harg2 : arg2.IsWhole)
  (arg3 : Memref sig .tc .vmem S1x2048x1280 .bf16) (harg3 : arg3.IsWhole) (x0 : Vec F S2048x1280 .f32) (xt0 : TbBuf0 (F := F) c tbM0_0)

/-- What the body writes: the cast shard. -/
theorem run_eq : (kernelRun0_A c i arg2 harg2 arg3 harg3 x0 xt0).1
    = [⟨Rect.unit (s := S1x2048x1280) ![0, 0, 0] S1x2048x1280.size inb_S1x2048x1280_S1x2048x1280_0_0_0, k0_pay1 x0⟩] := by
  have h : View.readAt (Elt F) arg2.view (Rect.unit (s := S2048x1280) ![0, 0] S2048x1280.size inb_S2048x1280_S2048x1280_0_0).toLoadRect (harg2.unread x0) = x0 := by
    funext x
    rw [harg2.readAt_unread]
    refine congrArg x0 (funext fun a => Fin.ext ?_)
    fin_cases a <;> simp
  unfold kernelRun0_A
  dsimp only
  rw [h]

end block

/-- The block the body leaves, entry by entry. -/
theorem out_apply (c : Dev nD) (i : grid0.Coords) (arg2 : Memref sig .tc .vmem S2048x1280 .f32) (harg2 : arg2.IsWhole)
    (arg3 : Memref sig .tc .vmem S1x2048x1280 .bf16) (harg3 : arg3.IsWhole) (x0 : Vec Ideal S2048x1280 .f32) (xt0 : TbBuf0 (F := Ideal) c tbM0_0)
    (j0 : Fin 1) (j1 : Fin 2048) (j2 : Fin 1280) :
    out0_A_1 (F := Ideal) c i arg2 harg2 arg3 harg3 x0 xt0 (ix3 j0 j1 j2) = x0 (ix2 j1 j2) := by
  unfold out0_A_1
  rw [run_eq]
  refine (View.read_writes_cons_unit_of_mem VO0_1 VO0_1.junk _ _ _ (ix3 j0 j1 j2) (ix3 j0 j1 j2) rfl (fun (a : Fin 3) => by fin_cases a <;> simp)).trans ?_
  pointwise [k0_pay1]

/-- The program's choice among the four slots, by the word, is the word's slot. -/
theorem pick (s : Fin 4) (A : FVec Ideal S4x2048x1280 .bf16) (x : FVec Ideal S2048x1280 .bf16) (h : ∀ r k, A (ix3 s r k) = x (ix2 r k)) :
    select (broadcastInDim S2048x1280 ![] bcast_S_S2048x1280 (cmpi .eq (fun _ => BitVec.ofNat 32 s.val) (constantI S_ 32 0#32)))
      (shapeCast S2048x1280 (extractStridedSlice S1x2048x1280 ![0, 0, 0] A slices_S4x2048x1280_S1x2048x1280_0_0_0) shapeCasts_S1x2048x1280_S2048x1280)
      (select (broadcastInDim S2048x1280 ![] bcast_S_S2048x1280 (cmpi .eq (fun _ => BitVec.ofNat 32 s.val) (constantI S_ 32 1#32)))
        (shapeCast S2048x1280 (extractStridedSlice S1x2048x1280 ![1, 0, 0] A slices_S4x2048x1280_S1x2048x1280_1_0_0) shapeCasts_S1x2048x1280_S2048x1280)
        (select (broadcastInDim S2048x1280 ![] bcast_S_S2048x1280 (cmpi .eq (fun _ => BitVec.ofNat 32 s.val) (constantI S_ 32 2#32)))
          (shapeCast S2048x1280 (extractStridedSlice S1x2048x1280 ![2, 0, 0] A slices_S4x2048x1280_S1x2048x1280_2_0_0) shapeCasts_S1x2048x1280_S2048x1280)
          (shapeCast S2048x1280 (extractStridedSlice S1x2048x1280 ![3, 0, 0] A slices_S4x2048x1280_S1x2048x1280_3_0_0) shapeCasts_S1x2048x1280_S2048x1280))) = x := by
  funext i
  change S2048x1280.Idx at i
  idx_vars i
  rw [← h]
  fin_cases s
  · pointwise
  · pointwise
    rfl
  · pointwise
    rfl
  · pointwise
    rfl

section value
variable (m : (ℓ : Loc nD τ sig) → Buf (Elt Ideal) ℓ) (s : Fin 4) (hs : m (((0 : Dev nD) : Thread nD τ).loc main_arg1) = fun _ => BitVec.ofNat 32 s.val)

/-- The input block is the whole argument. -/
theorem blk0 (c : Dev nD) (t : Fin (cfgM m (ok m s hs)).N) (r : Fin 2048) (k : Fin 1280) :
    iblk m (ok m s hs) c 0 t (show S2048x1280.Idx from ix2 r k) = (show FVec Ideal S2048x1280 .f32 from m ((c, main_arg0) : Loc nD τ sig)) (ix2 r k) := by
  have hx0 : ((cfgM m (ok m s hs)).win 0).index t = ![0, 0] := rfl
  have hV := V_main_arg0 m c
  have he : (((cfgM m (ok m s hs)).win 0).blk t).view.emb (show S2048x1280.Idx from ix2 r k) = (show S2048x1280.Idx from ix2 r k) := by
    funext a
    refine Fin.ext ?_
    blk_simp
    rw [hx0]
    revert a
    intro (a : Fin 2)
    fin_cases a <;> simp
  show V m c main_arg0 ((((cfgM m (ok m s hs)).win 0).blk t).view.emb (show S2048x1280.Idx from ix2 r k)) = _
  rw [he, hV]

/-- The result array's slot `s` after the call. -/
theorem final (c : Dev nD) (r : Fin 2048) (k : Fin 1280) :
    (dats m (ok m s hs) 0 c).arrAt 1 (cfgM m (ok m s hs)).N (ix3 s r k) = (show FVec Ideal S2048x1280 .f32 from m ((c, main_arg0) : Loc nD τ sig)) (ix2 r k) := by
  have hf : ∀ t : Fin (cfgM m (ok m s hs)).N, ((cfgM m (ok m s hs)).win 1).flush t = true := by
    intro t
    unfold Pipeline.Window.flush
    rw [Bool.and_eq_true]
    refine ⟨rfl, ?_⟩
    rw [Bool.or_eq_true]
    refine Or.inl (decide_eq_true ?_)
    have := fin_N0 t
    subst this
    rfl
  have hx : ∀ t : Fin (cfgM m (ok m s hs)).N, ((cfgM m (ok m s hs)).win 1).index t = ![s.val, 0, 0] := fun t => index m s hs (grid0.coords t)
  obtain ⟨t, _⟩ : ∃ t : Fin (cfgM m (ok m s hs)).N, True := ⟨t0_0, trivial⟩
  have hd := (dats m (ok m s hs) 0 c).arrAt_emb_eq_flushed 1 (fun t t' _ _ h => absurd ((fin_N0 t).trans (fin_N0 t').symm) h) t (hf t)
    (show S1x2048x1280.Idx from ix3 (0 : Fin 1) r k)
  have he : (((cfgM m (ok m s hs)).win 1).blk t).view.emb (ix3 (0 : Fin 1) r k) = ix3 s r k := by
    funext a
    refine Fin.ext ?_
    blk_simp
    rw [hx]
    revert a
    intro (a : Fin 3)
    fin_cases a <;> simp
  rw [he] at hd
  refine hd.trans ?_
  show (dats m (ok m s hs) 0 c).after 1 t (ix3 (0 : Fin 1) r k) = _
  rw [after0_1]
  unfold outsAt0
  refine (out_apply _ _ _ _ _ _ _ _ _ _ _).trans ?_
  exact blk0 m s hs c t _ _

/-- The shard, read off the slot. -/
theorem result (c : Dev nD) :
    Pipeline.afterTail pcfgs (fun _ => adm m (ok m s hs)) (dats m (ok m s hs)) 0 (V0 m) [hostOps1, hostOps1_1, hostOps1_2, hostOps1_3] c main_v15
      = (show FVec Ideal S2048x1280 .bf16 from m ((c, main_arg0) : Loc nD τ sig)) := by
  have hw := Pipeline.withArrays_arr spec0 winFacts0.arr_inj c (V0 m c) (fun w => (dats m (ok m s hs) 0 c).arrAt w (cfgM m (ok m s hs)).N) 1
  have hn := Pipeline.withArrays_of_ne spec0 c (V0 m c) (fun w => (dats m (ok m s hs) 0 c).arrAt w (cfgM m (ok m s hs)).N) main_arg1 (by decide)
  have hc : c = 0 := Subsingleton.elim _ _
  have hn' := hn.trans ((V_main_arg1 m c).trans (hc ▸ hs))
  unfold Pipeline.afterTail
  simp only [hostOps1, hostOps1_1, hostOps1_2, hostOps1_3, List.flatten_cons, List.flatten_nil, List.append_nil, List.cons_append, List.nil_append]
  after_results_simp
  rw [show Pipeline.withArrays (Pipeline.pin pcfgs (fun _ => adm m (ok m s hs)) 0).spec c (V0 m c)
    (fun w => (dats m (ok m s hs) 0 c).arrAt w (Pipeline.pin pcfgs (fun _ => adm m (ok m s hs)) 0).N) (Proc.tc.devRef main_arg1) = _ from hn']
  rw [show Pipeline.withArrays (Pipeline.pin pcfgs (fun _ => adm m (ok m s hs)) 0).spec c (V0 m c)
    (fun w => (dats m (ok m s hs) 0 c).arrAt w (Pipeline.pin pcfgs (fun _ => adm m (ok m s hs)) 0).N) (Proc.tc.devRef main_v1) = _ from hw]
  have hf := final m s hs c
  clear hw hn hn'
  generalize (dats m (ok m s hs) 0 c).arrAt 1 (cfgM m (ok m s hs)).N = A at hf ⊢
  generalize m (c, Proc.tc.devRef main_arg0) = x at hf ⊢
  simp only [StableHlo.TRef.toBuf, StableHlo.TRef.ofBuf]
  exact pick s A x hf

/-- The result is no window's array. -/
theorem rest : main_v15 ∈ Pipeline.restRefs sig spec0 := by decide
/-- The same of the word. -/
theorem rest1 : main_arg1 ∈ Pipeline.restRefs sig spec0 := by decide

end value

/-- The call's result is the reference's. -/
theorem algebraic : Cert.algebraic_CastInIdeal_CastInRefIdeal (hCastInIdeal := Cert.CastInIdeal.Gen.facts) (hCastInRefIdeal := Cert.CastInRefIdeal.Gen.facts) (hPre_slot_in_range := Cert.Pre_slot_in_range.Gen.facts) := by
  intro m g m' g' hm hagree
  obtain ⟨s, hs⟩ := word _ _ (hm 0)
  refine ⟨fun c => (show FVec Ideal S2048x1280 .bf16 from m ((c, main_arg0) : Loc nD τ sig)), ?_, ?_⟩
  · refine (θ_run Cert.CastInIdeal.defs _ _).mono (fun _ h c => ⟨((h c).2 main_v15 rest).trans (result m s hs c), ?_, ?_⟩) (run_main m g (ok m s hs))
    · exact ((h c).1 0).trans (((dats m (ok m s hs) 0 c).arrAt_in 0 rfl _).trans ((A_eq m (ok m s hs) c 0).trans (V_main_arg0 m c)))
    · exact ((h c).2 main_arg1 rest1).trans (W_main_arg1 m (ok m s hs) (dats m (ok m s hs)) c)
  · refine (θ_run Cert.CastInRefIdeal.defs _ _).mono (fun _ h c => ⟨(h c).1.trans ?_, (h c).2⟩)
      (Cert.CastInRefIdeal.Value.run (F := Ideal) m' g')
    rw [(hagree c).1]
    funext i
    change S2048x1280.Idx at i
    idx_vars i
    pointwise

/-- The reference ends with its arguments unchanged. -/
theorem frame_ref : Cert.quiescent_CastInRefIdeal (hCastInRefIdeal := Cert.CastInRefIdeal.Gen.facts) := fun m ρ _ =>
  (θ_run Cert.CastInRefIdeal.defs _ _).mono (fun r h => ⟨fun c => (h c).2, sem_eq_zero_of_no_sems (by decide) r.2⟩)
    (Cert.CastInRefIdeal.Value.run (F := Ideal) m ρ)

/-- The same under the precondition. -/
theorem frame_ref_pre : Cert.quiescent_CastInRefIdeal_pre_slot_in_range (hCastInRefIdeal := Cert.CastInRefIdeal.Gen.facts) (hPre_slot_in_range := Cert.Pre_slot_in_range.Gen.facts) :=
  fun m ρ _ => frame_ref m ρ trivial

end Cert.Proof.CastIn
end
-- ==== Proof.lean ====
/- The claim: for each call its frames, and that over the extended reals it leaves what its reference leaves.
   Each part is proved in a module of its own. -/
module

public import proofs.«01_k».proof.Defs
public import proofs.«01_k».proof.Proof.Wgrad
public import proofs.«01_k».proof.Proof.UpBwd
public import proofs.«01_k».proof.Proof.ActClaim
public import proofs.«01_k».proof.Proof.NormClaim
public import proofs.«01_k».proof.Proof.InBwd
public import proofs.«01_k».proof.Proof.InWgrad
public import proofs.«01_k».proof.Proof.OutBwd
public import proofs.«01_k».proof.Proof.OutWgrad
public import proofs.«01_k».proof.Proof.FfnUpClaim
public import proofs.«01_k».proof.Proof.FfnDown
public import proofs.«01_k».proof.Proof.InProj
public import proofs.«01_k».proof.Proof.OutProj
public import proofs.«01_k».proof.Proof.AdamFfn
public import proofs.«01_k».proof.Proof.AdamIn
public import proofs.«01_k».proof.Proof.AdamOut
public import proofs.«01_k».proof.Proof.FirstBwd
public import proofs.«01_k».proof.Proof.PostFwd
public import proofs.«01_k».proof.Proof.NormFwd
public import proofs.«01_k».proof.Proof.LossHead
public import proofs.«01_k».proof.Proof.AdamSmall
public import proofs.«01_k».proof.Proof.MidBwd
public import proofs.«01_k».proof.Proof.MixPost
public import proofs.«01_k».proof.Proof.ConvFwd
public import proofs.«01_k».proof.Proof.CastPad
public import proofs.«01_k».proof.Proof.CastIn
public import proofs.«01_k».proof.Proof.Gen.Act
public import proofs.«01_k».proof.Proof.Gen.Act.Frame
public import proofs.«01_k».proof.Proof.Gen.ActIdeal
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.Wgrad
public import proofs.«01_k».proof.Proof.Gen.Wgrad.Frame
public import proofs.«01_k».proof.Proof.Gen.WgradIdeal
public import proofs.«01_k».proof.Proof.Gen.WgradIdeal.Frame
public import proofs.«01_k».proof.Proof.Gen.WgradIdeal.Value
public import proofs.«01_k».proof.Proof.Gen.WgradRefIdeal
public import proofs.«01_k».proof.Proof.Gen.WgradRefIdeal.Run
public import proofs.«01_k».proof.Proof.Gen.NormBwd
public import proofs.«01_k».proof.Proof.Gen.NormBwd.Frame
public import proofs.«01_k».proof.Proof.Gen.NormBwdIdeal
public import proofs.«01_k».proof.Proof.Gen.NormBwdIdeal.Frame
public import proofs.«01_k».proof.Proof.Gen.NormBwdIdeal.Value
public import proofs.«01_k».proof.Proof.Gen.NormBwdRefIdeal
public import proofs.«01_k».proof.Proof.Gen.NormBwdRefIdeal.Run
public import proofs.«01_k».proof.Proof.Gen.UpBwd
public import proofs.«01_k».proof.Proof.Gen.UpBwd.Frame
public import proofs.«01_k».proof.Proof.Gen.UpBwdIdeal
public import proofs.«01_k».proof.Proof.Gen.UpBwdIdeal.Frame
public import proofs.«01_k».proof.Proof.Gen.UpBwdIdeal.Value
public import proofs.«01_k».proof.Proof.Gen.UpBwdRefIdeal
public import proofs.«01_k».proof.Proof.Gen.UpBwdRefIdeal.Run
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InWgrad
public import proofs.«01_k».proof.Proof.Gen.InWgrad.Frame
public import proofs.«01_k».proof.Proof.Gen.InWgradIdeal
public import proofs.«01_k».proof.Proof.Gen.InWgradIdeal.Frame
public import proofs.«01_k».proof.Proof.Gen.InWgradIdeal.Value
public import proofs.«01_k».proof.Proof.Gen.InWgradRefIdeal
public import proofs.«01_k».proof.Proof.Gen.InWgradRefIdeal.Run
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutWgrad
public import proofs.«01_k».proof.Proof.Gen.OutWgrad.Frame
public import proofs.«01_k».proof.Proof.Gen.OutWgradIdeal
public import proofs.«01_k».proof.Proof.Gen.OutWgradIdeal.Frame
public import proofs.«01_k».proof.Proof.Gen.OutWgradIdeal.Value
public import proofs.«01_k».proof.Proof.Gen.OutWgradRefIdeal
public import proofs.«01_k».proof.Proof.Gen.OutWgradRefIdeal.Run
public import proofs.«01_k».proof.Proof.Gen.FfnUp
public import proofs.«01_k».proof.Proof.Gen.FfnUp.Frame
public import proofs.«01_k».proof.Proof.Gen.FfnUpIdeal
public import proofs.«01_k».proof.Proof.Gen.FfnUpIdeal.Frame
public import proofs.«01_k».proof.Proof.Gen.FfnUpIdeal.Value
public import proofs.«01_k».proof.Proof.Gen.FfnUpRefIdeal
public import proofs.«01_k».proof.Proof.Gen.FfnUpRefIdeal.Run
public import proofs.«01_k».proof.Proof.Gen.FfnDown
public import proofs.«01_k».proof.Proof.Gen.FfnDown.Frame
public import proofs.«01_k».proof.Proof.Gen.FfnDownIdeal
public import proofs.«01_k».proof.Proof.Gen.FfnDownIdeal.Frame
public import proofs.«01_k».proof.Proof.Gen.FfnDownIdeal.Value
public import proofs.«01_k».proof.Proof.Gen.FfnDownRefIdeal
public import proofs.«01_k».proof.Proof.Gen.FfnDownRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.AdamFfn
public import proofs.«01_k».proof.Proof.Gen.AdamFfn.Frame
public import proofs.«01_k».proof.Proof.Gen.AdamFfnIdeal
public import proofs.«01_k».proof.Proof.Gen.AdamFfnIdeal.Frame
public import proofs.«01_k».proof.Proof.Gen.AdamFfnIdeal.Value
public import proofs.«01_k».proof.Proof.Gen.AdamFfnRefIdeal
public import proofs.«01_k».proof.Proof.Gen.AdamFfnRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.FirstBwd
public import proofs.«01_k».proof.Proof.Gen.FirstBwd.Frame
public import proofs.«01_k».proof.Proof.Gen.FirstBwdIdeal
public import proofs.«01_k».proof.Proof.Gen.FirstBwdIdeal.Frame
public import proofs.«01_k».proof.Proof.Gen.FirstBwdIdeal.Value
public import proofs.«01_k».proof.Proof.Gen.FirstBwdRefIdeal
public import proofs.«01_k».proof.Proof.Gen.FirstBwdRefIdeal.Run
public import proofs.«01_k».proof.Proof.Gen.PostFwd
public import proofs.«01_k».proof.Proof.Gen.PostFwd.Frame
public import proofs.«01_k».proof.Proof.Gen.PostFwdIdeal
public import proofs.«01_k».proof.Proof.Gen.PostFwdIdeal.Frame
public import proofs.«01_k».proof.Proof.Gen.PostFwdIdeal.Value
public import proofs.«01_k».proof.Proof.Gen.PostFwdRefIdeal
public import proofs.«01_k».proof.Proof.Gen.PostFwdRefIdeal.Run
public import proofs.«01_k».proof.Proof.Gen.NormFwd
public import proofs.«01_k».proof.Proof.Gen.NormFwd.Frame
public import proofs.«01_k».proof.Proof.Gen.NormFwdIdeal
public import proofs.«01_k».proof.Proof.Gen.NormFwdIdeal.Frame
public import proofs.«01_k».proof.Proof.Gen.NormFwdIdeal.Value
public import proofs.«01_k».proof.Proof.Gen.NormFwdRefIdeal
public import proofs.«01_k».proof.Proof.Gen.NormFwdRefIdeal.Run
public import proofs.«01_k».proof.Proof.Gen.LossHead
public import proofs.«01_k».proof.Proof.Gen.LossHead.Frame
public import proofs.«01_k».proof.Proof.Gen.LossHeadIdeal
public import proofs.«01_k».proof.Proof.Gen.LossHeadIdeal.Frame
public import proofs.«01_k».proof.Proof.Gen.LossHeadIdeal.Value
public import proofs.«01_k».proof.Proof.Gen.LossHeadRefIdeal
public import proofs.«01_k».proof.Proof.Gen.LossHeadRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.MidBwd
public import proofs.«01_k».proof.Proof.Gen.MidBwd.Frame
public import proofs.«01_k».proof.Proof.Gen.MidBwdIdeal
public import proofs.«01_k».proof.Proof.Gen.MidBwdIdeal.Frame
public import proofs.«01_k».proof.Proof.Gen.MidBwdIdeal.Value
public import proofs.«01_k».proof.Proof.Gen.MidBwdRefIdeal
public import proofs.«01_k».proof.Proof.Gen.MidBwdRefIdeal.Run
public import proofs.«01_k».proof.Proof.Gen.MixPost
public import proofs.«01_k».proof.Proof.Gen.MixPost.Frame
public import proofs.«01_k».proof.Proof.Gen.MixPostIdeal
public import proofs.«01_k».proof.Proof.Gen.MixPostIdeal.Frame
public import proofs.«01_k».proof.Proof.Gen.MixPostIdeal.Value
public import proofs.«01_k».proof.Proof.Gen.MixPostRefIdeal
public import proofs.«01_k».proof.Proof.Gen.MixPostRefIdeal.Run
public import proofs.«01_k».proof.Proof.Gen.ConvFwd
public import proofs.«01_k».proof.Proof.Gen.ConvFwd.Frame
public import proofs.«01_k».proof.Proof.Gen.ConvFwdIdeal
public import proofs.«01_k».proof.Proof.Gen.ConvFwdIdeal.Frame
public import proofs.«01_k».proof.Proof.Gen.ConvFwdIdeal.Value
public import proofs.«01_k».proof.Proof.Gen.ConvFwdRefIdeal
public import proofs.«01_k».proof.Proof.Gen.ConvFwdRefIdeal.Run
public import proofs.«01_k».proof.Proof.Gen.CastPad
public import proofs.«01_k».proof.Proof.Gen.CastPad.Frame
public import proofs.«01_k».proof.Proof.Gen.CastPadIdeal
public import proofs.«01_k».proof.Proof.Gen.CastPadIdeal.Frame
public import proofs.«01_k».proof.Proof.Gen.CastPadRefIdeal
public import proofs.«01_k».proof.Proof.Gen.CastPadRefIdeal.Run
public import proofs.«01_k».proof.Proof.Gen.CastIn
public import proofs.«01_k».proof.Proof.Gen.CastIn.Frame
public import proofs.«01_k».proof.Proof.Gen.CastInIdeal
public import proofs.«01_k».proof.Proof.Gen.CastInIdeal.Frame
public import proofs.«01_k».proof.Proof.Gen.CastInRefIdeal
public import proofs.«01_k».proof.Proof.Gen.CastInRefIdeal.Run
public import proofs.«01_k».proof.Proof.Gen.Pre_act_finite
public import proofs.«01_k».proof.Proof.Gen.Pre_pre_finite
public import proofs.«01_k».proof.Proof.Gen.Pre_ffn_up_finite
public import proofs.«01_k».proof.Proof.Gen.Pre_first_finite
public import proofs.«01_k».proof.Proof.Gen.Pre_loss_finite
public import proofs.«01_k».proof.Proof.Gen.Pre_mid_finite
public import proofs.«01_k».proof.Proof.Gen.Pre_conv_finite
public import proofs.«01_k».proof.Proof.Gen.Pre_slot_in_range
public import Idealize.ShloMosaic.Adequacy
public import Idealize.ShloMosaic.Init

@[expose] public section

noncomputable section

namespace Cert.Proof

open Idealize.ShloMosaic Idealize.SL.Sem

theorem claim : Cert.Claim := ⟨Cert.Act.Gen.facts, Cert.ActIdeal.Gen.facts, Cert.ActRefIdeal.Gen.facts, Cert.Wgrad.Gen.facts, Cert.WgradIdeal.Gen.facts, Cert.WgradRefIdeal.Gen.facts, Cert.NormBwd.Gen.facts, Cert.NormBwdIdeal.Gen.facts, Cert.NormBwdRefIdeal.Gen.facts, Cert.UpBwd.Gen.facts, Cert.UpBwdIdeal.Gen.facts, Cert.UpBwdRefIdeal.Gen.facts, Cert.InBwd.Gen.facts, Cert.InBwdIdeal.Gen.facts, Cert.InBwdRefIdeal.Gen.facts, Cert.InWgrad.Gen.facts, Cert.InWgradIdeal.Gen.facts, Cert.InWgradRefIdeal.Gen.facts, Cert.OutBwd.Gen.facts, Cert.OutBwdIdeal.Gen.facts, Cert.OutBwdRefIdeal.Gen.facts, Cert.OutWgrad.Gen.facts, Cert.OutWgradIdeal.Gen.facts, Cert.OutWgradRefIdeal.Gen.facts, Cert.FfnUp.Gen.facts, Cert.FfnUpIdeal.Gen.facts, Cert.FfnUpRefIdeal.Gen.facts, Cert.FfnDown.Gen.facts, Cert.FfnDownIdeal.Gen.facts, Cert.FfnDownRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.AdamFfn.Gen.facts, Cert.AdamFfnIdeal.Gen.facts, Cert.AdamFfnRefIdeal.Gen.facts, Cert.AdamIn.Gen.facts, Cert.AdamInIdeal.Gen.facts, Cert.AdamInRefIdeal.Gen.facts, Cert.AdamOut.Gen.facts, Cert.AdamOutIdeal.Gen.facts, Cert.AdamOutRefIdeal.Gen.facts, Cert.FirstBwd.Gen.facts, Cert.FirstBwdIdeal.Gen.facts, Cert.FirstBwdRefIdeal.Gen.facts, Cert.PostFwd.Gen.facts, Cert.PostFwdIdeal.Gen.facts, Cert.PostFwdRefIdeal.Gen.facts, Cert.NormFwd.Gen.facts, Cert.NormFwdIdeal.Gen.facts, Cert.NormFwdRefIdeal.Gen.facts, Cert.LossHead.Gen.facts, Cert.LossHeadIdeal.Gen.facts, Cert.LossHeadRefIdeal.Gen.facts, Cert.AdamSmall.Gen.facts, Cert.AdamSmallIdeal.Gen.facts, Cert.AdamSmallRefIdeal.Gen.facts, Cert.MidBwd.Gen.facts, Cert.MidBwdIdeal.Gen.facts, Cert.MidBwdRefIdeal.Gen.facts, Cert.MixPost.Gen.facts, Cert.MixPostIdeal.Gen.facts, Cert.MixPostRefIdeal.Gen.facts, Cert.ConvFwd.Gen.facts, Cert.ConvFwdIdeal.Gen.facts, Cert.ConvFwdRefIdeal.Gen.facts, Cert.CastPad.Gen.facts, Cert.CastPadIdeal.Gen.facts, Cert.CastPadRefIdeal.Gen.facts, Cert.CastIn.Gen.facts, Cert.CastInIdeal.Gen.facts, Cert.CastInRefIdeal.Gen.facts, Cert.Pre_act_finite.Gen.facts, Cert.Pre_pre_finite.Gen.facts, Cert.Pre_ffn_up_finite.Gen.facts, Cert.Pre_first_finite.Gen.facts, Cert.Pre_loss_finite.Gen.facts, Cert.Pre_mid_finite.Gen.facts, Cert.Pre_conv_finite.Gen.facts, Cert.Pre_slot_in_range.Gen.facts,
  fun m ρ _ => Cert.Act.Gen.frame m ρ,
  fun m ρ _ => Cert.ActIdeal.Gen.frame m ρ,
  fun m ρ _ => Cert.ActIdeal.Gen.frame m ρ,
  Act.frame_ref,
  Act.frame_ref_pre,
  fun m ρ _ => Cert.Wgrad.Gen.frame m ρ,
  fun m ρ _ => Cert.WgradIdeal.Gen.frame m ρ,
  Wgrad.frame_ref,
  fun m ρ _ => Cert.NormBwd.Gen.frame m ρ,
  fun m ρ _ => Cert.NormBwdIdeal.Gen.frame m ρ,
  fun m ρ _ => Cert.NormBwdIdeal.Gen.frame m ρ,
  NormBwd.frame_ref,
  NormBwd.frame_ref_pre,
  fun m ρ _ => Cert.UpBwd.Gen.frame m ρ,
  fun m ρ _ => Cert.UpBwdIdeal.Gen.frame m ρ,
  UpBwd.frame_ref,
  fun m ρ _ => Cert.InBwd.Gen.frame m ρ,
  fun m ρ _ => Cert.InBwdIdeal.Gen.frame m ρ,
  InBwd.frame_ref,
  fun m ρ _ => Cert.InWgrad.Gen.frame m ρ,
  fun m ρ _ => Cert.InWgradIdeal.Gen.frame m ρ,
  InWgrad.frame_ref,
  fun m ρ _ => Cert.OutBwd.Gen.frame m ρ,
  fun m ρ _ => Cert.OutBwdIdeal.Gen.frame m ρ,
  OutBwd.frame_ref,
  fun m ρ _ => Cert.OutWgrad.Gen.frame m ρ,
  fun m ρ _ => Cert.OutWgradIdeal.Gen.frame m ρ,
  OutWgrad.frame_ref,
  fun m ρ _ => Cert.FfnUp.Gen.frame m ρ,
  fun m ρ _ => Cert.FfnUpIdeal.Gen.frame m ρ,
  fun m ρ _ => Cert.FfnUpIdeal.Gen.frame m ρ,
  FfnUp.frame_ref,
  FfnUp.frame_ref_pre,
  fun m ρ _ => Cert.FfnDown.Gen.frame m ρ,
  fun m ρ _ => Cert.FfnDownIdeal.Gen.frame m ρ,
  FfnDown.frame_ref,
  fun m ρ _ => Cert.InProj.Gen.frame m ρ,
  fun m ρ _ => Cert.InProjIdeal.Gen.frame m ρ,
  InProj.frame_ref,
  fun m ρ _ => Cert.OutProj.Gen.frame m ρ,
  fun m ρ _ => Cert.OutProjIdeal.Gen.frame m ρ,
  OutProj.frame_ref,
  fun m ρ _ => Cert.AdamFfn.Gen.frame m ρ,
  fun m ρ _ => Cert.AdamFfnIdeal.Gen.frame m ρ,
  AdamFfn.frame_ref,
  fun m ρ _ => Cert.AdamIn.Gen.frame m ρ,
  fun m ρ _ => Cert.AdamInIdeal.Gen.frame m ρ,
  AdamIn.frame_ref,
  fun m ρ _ => Cert.AdamOut.Gen.frame m ρ,
  fun m ρ _ => Cert.AdamOutIdeal.Gen.frame m ρ,
  AdamOut.frame_ref,
  fun m ρ _ => Cert.FirstBwd.Gen.frame m ρ,
  fun m ρ _ => Cert.FirstBwdIdeal.Gen.frame m ρ,
  fun m ρ _ => Cert.FirstBwdIdeal.Gen.frame m ρ,
  FirstBwd.frame_ref,
  FirstBwd.frame_ref_pre,
  fun m ρ _ => Cert.PostFwd.Gen.frame m ρ,
  fun m ρ _ => Cert.PostFwdIdeal.Gen.frame m ρ,
  PostFwd.frame_ref,
  fun m ρ _ => Cert.NormFwd.Gen.frame m ρ,
  fun m ρ _ => Cert.NormFwdIdeal.Gen.frame m ρ,
  NormFwd.frame_ref,
  fun m ρ _ => Cert.LossHead.Gen.frame m ρ,
  fun m ρ _ => Cert.LossHeadIdeal.Gen.frame m ρ,
  fun m ρ _ => Cert.LossHeadIdeal.Gen.frame m ρ,
  LossHead.frame_ref,
  LossHead.frame_ref_pre,
  fun m ρ _ => Cert.AdamSmall.Gen.frame m ρ,
  fun m ρ _ => Cert.AdamSmallIdeal.Gen.frame m ρ,
  AdamSmall.frame_ref,
  fun m ρ _ => Cert.MidBwd.Gen.frame m ρ,
  fun m ρ _ => Cert.MidBwdIdeal.Gen.frame m ρ,
  fun m ρ _ => Cert.MidBwdIdeal.Gen.frame m ρ,
  MidBwd.frame_ref,
  MidBwd.frame_ref_pre,
  fun m ρ _ => Cert.MixPost.Gen.frame m ρ,
  fun m ρ _ => Cert.MixPostIdeal.Gen.frame m ρ,
  MixPost.frame_ref,
  fun m ρ _ => Cert.ConvFwd.Gen.frame m ρ,
  fun m ρ _ => Cert.ConvFwdIdeal.Gen.frame m ρ,
  fun m ρ _ => Cert.ConvFwdIdeal.Gen.frame m ρ,
  ConvFwd.frame_ref,
  ConvFwd.frame_ref_pre,
  fun m ρ _ => Cert.CastPad.Gen.frame m ρ (CastPad.ok_bits m),
  fun m ρ _ => Cert.CastPadIdeal.Gen.frame m ρ (CastPad.ok m),
  CastPad.frame_ref,
  CastIn.frame,
  CastIn.frame_ideal,
  CastIn.frame_ref,
  CastIn.frame_ref_pre,
  trivial,
  Act.algebraic,
  trivial,
  Wgrad.algebraic,
  trivial,
  NormBwd.algebraic,
  trivial,
  UpBwd.algebraic,
  trivial,
  InBwd.algebraic,
  trivial,
  InWgrad.algebraic,
  trivial,
  OutBwd.algebraic,
  trivial,
  OutWgrad.algebraic,
  trivial,
  FfnUp.algebraic,
  trivial,
  FfnDown.algebraic,
  trivial,
  InProj.algebraic,
  trivial,
  OutProj.algebraic,
  trivial,
  AdamFfn.algebraic,
  trivial,
  AdamIn.algebraic,
  trivial,
  AdamOut.algebraic,
  trivial,
  FirstBwd.algebraic,
  trivial,
  PostFwd.algebraic,
  trivial,
  NormFwd.algebraic,
  trivial,
  LossHead.algebraic,
  trivial,
  AdamSmall.algebraic,
  trivial,
  MidBwd.algebraic,
  trivial,
  MixPost.algebraic,
  trivial,
  ConvFwd.algebraic,
  trivial,
  CastPad.algebraic,
  trivial,
  CastIn.algebraic⟩

end Cert.Proof

end
